-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_in_rows [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_q_k [hPre_finite_q_k : Cert.Pre_finite_q_k.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_q_k.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_q_k [hPre_finite_q_k : Cert.Pre_finite_q_k.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_q_k.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dest_in_rows [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_q_k [hKernel3Ideal : Cert.Kernel3Ideal.Facts] [hPre_finite_q_k : Cert.Pre_finite_q_k.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_q_k m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_q_k [hReference3Ideal : Cert.Reference3Ideal.Facts] [hPre_finite_q_k : Cert.Pre_finite_q_k.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_q_k m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v30_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite_q_k [hKernel3Ideal : Cert.Kernel3Ideal.Facts] [hReference3Ideal : Cert.Reference3Ideal.Facts] [hPre_finite_q_k : Cert.Pre_finite_q_k.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_q_k m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v19_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_3)) (v2 : (c : Dev Cert.Kernel5Ideal.nD) → Buf (Elt Ideal) ((c.tc : Thread Cert.Kernel5Ideal.nD Cert.Kernel5Ideal.τ).loc Cert.Kernel5Ideal.main_v11_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_3) = v1 c
          ∧ r.2.mem ((c.tc : Thread Cert.Kernel5Ideal.nD Cert.Kernel5Ideal.τ).loc Cert.Kernel5Ideal.main_v11_4) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_dest_in_rows : Cert.Pre_dest_in_rows.Facts) (hPre_finite_q_k : Cert.Pre_finite_q_k.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal)
    ∧ quiescent_ReferenceIdeal_pre_dest_in_rows (hReferenceIdeal := hReferenceIdeal) (hPre_dest_in_rows := hPre_dest_in_rows)
    ∧ quiescent_Reference (hReference := hReference) (hPre_dest_in_rows := hPre_dest_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_q_k (hKernel3Ideal := hKernel3Ideal) (hPre_finite_q_k := hPre_finite_q_k)
    ∧ quiescent_Reference3Ideal (hReference3Ideal := hReference3Ideal)
    ∧ quiescent_Reference3Ideal_pre_finite_q_k (hReference3Ideal := hReference3Ideal) (hPre_finite_q_k := hPre_finite_q_k)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_q_k (hKernel3Ideal := hKernel3Ideal) (hReference3Ideal := hReference3Ideal) (hPre_finite_q_k := hPre_finite_q_k)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_dest_in_rows.lean ====
abbrev S49152x512 : Shape := ⟨2, ![49152, 512]⟩
abbrev S2x16384 : Shape := ⟨2, ![2, 16384]⟩
abbrev S_ : Shape := ⟨0, ![]⟩

class Facts : Prop where
  bcast_S_S2x16384 : S_.BroadcastsInDim S2x16384 (![] : Fin 0 → Fin S2x16384.rank)

variable [Facts]

def fn {F : FTy → Type} [FloatOps F] (main_arg0 : IVec S49152x512 32) (main_arg1 : IVec S2x16384 32) : IVec S2x16384 1 :=
  let main_c : IVec S_ 32 := constantI S_ 32 0#32
  let main_v0 : IVec S2x16384 32 := broadcastInDim S2x16384 ![] bcast_S_S2x16384 main_c
  let main_v1 : IVec S2x16384 1 := cmpi .sge main_arg1 main_v0
  let main_c_0 : IVec S_ 32 := constantI S_ 32 49152#32
  let main_v2 : IVec S2x16384 32 := broadcastInDim S2x16384 ![] bcast_S_S2x16384 main_c_0
  let main_v3 : IVec S2x16384 1 := cmpi .slt main_arg1 main_v2
  let main_v4 : IVec S2x16384 1 := andi main_v1 main_v3
  main_v4
-- ==== Pre_finite_q_k.lean ====
abbrev S16384x2048 : Shape := ⟨2, ![16384, 2048]⟩
abbrev S64x2048x256 : Shape := ⟨3, ![64, 2048, 256]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048x256 : S_.BroadcastsInDim S64x2048x256 (![] : Fin 0 → Fin S64x2048x256.rank)
  reducesTo_S64x2048x256_S_d0_1_2 : S64x2048x256.ReducesTo [0, 1, 2] S_

variable [Facts]

def fn {F : FTy → Type} [FloatOps F] (main_arg0 : FVec F S16384x2048 .bf16) (main_arg1 : FVec F S64x2048x256 .bf16) (main_arg2 : FVec F S16384x1024 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S64x2048x256 .f32 := (extf .f32 · bitsLt_bf16_f32) main_arg1
  let main_v6 : FVec F S64x2048x256 .f32 := Host.absf main_v5
  let main_cst_0 : FVec F S_ .f32 := constant S_ .f32 0x7F800000#32
  let main_v7 : FVec F S64x2048x256 .f32 := broadcastInDim S64x2048x256 ![] bcast_S_S64x2048x256 main_cst_0
  let main_v8 : IVec S64x2048x256 1 := cmpf .olt main_v6 main_v7
  let main_c_1 : IVec S_ 1 := constantI S_ 1 1#1
  let main_v9 : IVec S_ 1 := (fun x v => Host.reduce IntOp.andi x v reducesTo_S64x2048x256_S_d0_1_2 h_S_) main_v8 main_c_1
  let main_v10 : IVec S_ 1 := andi main_v4 main_v9
  main_v10
-- ==== Kernel.lean ====
abbrev S49152x512 : Shape := ⟨2, ![49152, 512]⟩
abbrev S2x16384 : Shape := ⟨2, ![2, 16384]⟩
abbrev S1x32768 : Shape := ⟨2, ![1, 32768]⟩
abbrev S32768x512 : Shape := ⟨2, ![32768, 512]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S49152x128 : Shape := ⟨2, ![49152, 128]⟩
abbrev S2x16384x512 : Shape := ⟨3, ![2, 16384, 512]⟩

abbrev nBuf : Table → Nat
  | .hbm => 5
  | .local .scVector .vmem => 4
  | _ => 0

abbrev bufTy : (tb : Table) → Fin (nBuf tb) → BufTy
  | .hbm, ⟨0, _⟩ => ⟨S49152x512, .i32⟩
  | .hbm, ⟨1, _⟩ => ⟨S2x16384, .i32⟩
  | .hbm, ⟨2, _⟩ => ⟨S1x32768, .i32⟩
  | .hbm, ⟨3, _⟩ => ⟨S32768x512, .i32⟩
  | .hbm, ⟨4, _⟩ => ⟨S2x16384x512, .i32⟩
  | .local .scVector .vmem, ⟨0, _⟩ => ⟨S2x1x128, .i32⟩
  | .local .scVector .vmem, ⟨1, _⟩ => ⟨S2x128x256, .i32⟩
  | .local .scVector .vmem, ⟨2, _⟩ => ⟨S2x1x128, .i32⟩
  | .local .scVector .vmem, ⟨3, _⟩ => ⟨S2x128x256, .i32⟩
  | _, _ => ⟨S49152x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev cc0_scoped6 : Ref sig .scVector := ⟨.vmem, 2, rfl⟩
abbrev cc0_scoped8 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_17_r0 : BitVec 32 := 0#32
  let c2_i32_r0 : BitVec 32 := 2#32
  let v26_r0 : BitVec 32 := Scalar.remui c0_i32_17_r0 c2_i32_r0
  let c0_i32_18_r0 : BitVec 32 := 0#32
  let c0_i32_19_r0 : BitVec 32 := 0#32
  ![v26_r0.toNat, 0, 0]
def k0_off2 (i : grid0.Coords) : Fin 2 → Nat :=
  let c0_i32_20_r0 : BitVec 32 := 0#32
  let c128_i32_r0 : BitVec 32 := 128#32
  let c0_i32_5_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v12_r0 : BitVec 32 := Scalar.addi c0_i32_5_r0 v4
  let v27_r0 : BitVec 32 := Scalar.muli c128_i32_r0 v12_r0
  ![0, v27_r0.toNat]
def k0_off3 : Fin 1 → Nat :=
  let c0_i32_17_r0 : BitVec 32 := 0#32
  let c2_i32_r0 : BitVec 32 := 2#32
  let v26_r0 : BitVec 32 := Scalar.remui c0_i32_17_r0 c2_i32_r0
  ![v26_r0.toNat]
@[reducible] def k0_t1_loop : Scf.Loop 32 :=
  let c0_i32_30_r0 : BitVec 32 := 0#32
  let c8_i32_31_r0 : BitVec 32 := 8#32
  let v37_r0 : BitVec 32 := Scalar.addi c0_i32_30_r0 c8_i32_31_r0
  let c1_i32_32_r0 : BitVec 32 := 1#32
  ⟨c0_i32_30_r0, v37_r0, c1_i32_32_r0⟩
def k0_off4 (arg6_r0 : BitVec 32) : Fin 3 → Nat :=
  let c2_i32_104_r0 : BitVec 32 := 2#32
  let v149_r0 : BitVec 32 := Scalar.remui arg6_r0 c2_i32_104_r0
  let c0_i32_106_r0 : BitVec 32 := 0#32
  let c0_i32_107_r0 : BitVec 32 := 0#32
  ![v149_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi arg10_r0 v4
  let true_65_r0 : BitVec 1 := 1#1
  let c1_i32_64_r0 : BitVec 32 := 1#32
  let v77_r0 : BitVec 32 := Scalar.addi arg10_r0 c1_i32_64_r0
  let v78_r0 : BitVec 32 := Scalar.select true_65_r0 v77_r0 arg10_r0
  let c8_i32_66_r0 : BitVec 32 := 8#32
  let v79_r0 : BitVec 1 := Scalar.cmpi .eq v78_r0 c8_i32_66_r0
  let c0_i32_67_r0 : BitVec 32 := 0#32
  let v80_r0 : BitVec 32 := Scalar.select v79_r0 c0_i32_67_r0 v78_r0
  let v81_r0 : BitVec 32 := Scalar.addi v80_r0 v4
  let v87_r0 : BitVec 1 := Scalar.cmpi .ne v71_r0 v81_r0
  let c0_i32_30_r0 : BitVec 32 := 0#32
  let c1_i32_32_r0 : BitVec 32 := 1#32
  let arg5_r0 : BitVec 32 := Scf.iv c0_i32_30_r0 c1_i32_32_r0 k0_t1
  let c7_i32_72_r0 : BitVec 32 := 7#32
  let v88_r0 : BitVec 1 := Scalar.cmpi .sge arg5_r0 c7_i32_72_r0
  let true_73_r0 : BitVec 1 := 1#1
  let v89_r0 : BitVec 1 := Scalar.xori v88_r0 true_73_r0
  let v90_r0 : BitVec 1 := Scalar.andi v87_r0 v89_r0
  let true_74_r0 : BitVec 1 := 1#1
  let v91_r0 : BitVec 1 := Scalar.andi v90_r0 true_74_r0
  let v92_r0 : BitVec 32 := Scalar.extui v91_r0
  let c0_i32_75_r0 : BitVec 32 := 0#32
  let v93_r0 : BitVec 1 := Scalar.cmpi .ne v92_r0 c0_i32_75_r0
  v93_r0

def k0_off5 (i : grid0.Coords) (arg10_r0 : BitVec 32) : Fin 2 → Nat :=
  let c0_i32_108_r0 : BitVec 32 := 0#32
  let c128_i32_105_r0 : BitVec 32 := 128#32
  let true_65_r0 : BitVec 1 := 1#1
  let c1_i32_64_r0 : BitVec 32 := 1#32
  let v77_r0 : BitVec 32 := Scalar.addi arg10_r0 c1_i32_64_r0
  let v78_r0 : BitVec 32 := Scalar.select true_65_r0 v77_r0 arg10_r0
  let c8_i32_66_r0 : BitVec 32 := 8#32
  let v79_r0 : BitVec 1 := Scalar.cmpi .eq v78_r0 c8_i32_66_r0
  let c0_i32_67_r0 : BitVec 32 := 0#32
  let v80_r0 : BitVec 32 := Scalar.select v79_r0 c0_i32_67_r0 v78_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v81_r0 : BitVec 32 := Scalar.addi v80_r0 v4
  let v150_r0 : BitVec 32 := Scalar.muli c128_i32_105_r0 v81_r0
  ![0, v150_r0.toNat]
def k0_off6 (arg6_r0 : BitVec 32) : Fin 1 → Nat :=
  let c2_i32_104_r0 : BitVec 32 := 2#32
  let v149_r0 : BitVec 32 := Scalar.remui arg6_r0 c2_i32_104_r0
  ![v149_r0.toNat]
def k0_off7 (arg7_r0 : BitVec 32) : Fin 3 → Nat :=
  let c2_i32_105_r0 : BitVec 32 := 2#32
  let v150_r0 : BitVec 32 := Scalar.remui arg7_r0 c2_i32_105_r0
  let c0_i32_106_r0 : BitVec 32 := 0#32
  let c0_i32_107_r0 : BitVec 32 := 0#32
  ![v150_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi arg10_r0 v4
  let true_61_r0 : BitVec 1 := 1#1
  let c1_i32_60_r0 : BitVec 32 := 1#32
  let v72_r0 : BitVec 32 := Scalar.subi arg10_r0 c1_i32_60_r0
  let v73_r0 : BitVec 32 := Scalar.select true_61_r0 v72_r0 arg10_r0
  let c_m1_i32_62_r0 : BitVec 32 := 4294967295#32
  let v74_r0 : BitVec 1 := Scalar.cmpi .eq v73_r0 c_m1_i32_62_r0
  let c7_i32_63_r0 : BitVec 32 := 7#32
  let v75_r0 : BitVec 32 := Scalar.select v74_r0 c7_i32_63_r0 v73_r0
  let v76_r0 : BitVec 32 := Scalar.addi v75_r0 v4
  let v101_r0 : BitVec 1 := Scalar.cmpi .ne v71_r0 v76_r0
  let c0_i32_30_r0 : BitVec 32 := 0#32
  let c1_i32_32_r0 : BitVec 32 := 1#32
  let arg5_r0 : BitVec 32 := Scf.iv c0_i32_30_r0 c1_i32_32_r0 k0_t1
  let c0_i32_58_r0 : BitVec 32 := 0#32
  let v69_r0 : BitVec 1 := Scalar.cmpi .eq arg5_r0 c0_i32_58_r0
  let v102_r0 : BitVec 1 := Scalar.ori v101_r0 v69_r0
  let c0_i32_80_r0 : BitVec 32 := 0#32
  let v103_r0 : BitVec 1 := Scalar.cmpi .sge arg5_r0 c0_i32_80_r0
  let v104_r0 : BitVec 1 := Scalar.andi v102_r0 v103_r0
  let v105_r0 : BitVec 32 := Scalar.extui v104_r0
  let c0_i32_81_r0 : BitVec 32 := 0#32
  let v106_r0 : BitVec 1 := Scalar.cmpi .ne v105_r0 c0_i32_81_r0
  v106_r0

def k0_off8 (i : grid0.Coords) (arg10_r0 : BitVec 32) : Fin 2 → Nat :=
  let c0_i32_108_r0 : BitVec 32 := 0#32
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi arg10_r0 v4
  let v149_r0 : BitVec 32 := Scalar.muli c128_i32_104_r0 v71_r0
  ![0, v149_r0.toNat]
def k0_off9 (arg7_r0 : BitVec 32) : Fin 1 → Nat :=
  let c2_i32_105_r0 : BitVec 32 := 2#32
  let v150_r0 : BitVec 32 := Scalar.remui arg7_r0 c2_i32_105_r0
  ![v150_r0.toNat]
def k0_off10 (arg8_r0 : BitVec 32) : Fin 3 → Nat :=
  let c2_i32_85_r0 : BitVec 32 := 2#32
  let v114_r0 : BitVec 32 := Scalar.remui arg8_r0 c2_i32_85_r0
  let c0_i32_104_r1 : BitVec 32 := 0#32
  let c0_i32_105_r1 : BitVec 32 := 0#32
  ![v114_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_84_r0 : BitVec 32 := 2#32
  let v113_r0 : BitVec 32 := Scalar.remui arg7_r0 c2_i32_84_r0
  let c0_i32_108_r1 : BitVec 32 := 0#32
  let c0_i32_109_r1 : BitVec 32 := 0#32
  ![v113_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_104_r0 : BitVec 32 := 2#32
  let v149_r0 : BitVec 32 := Scalar.remui arg8_r0 c2_i32_104_r0
  let c0_i32_106_r0 : BitVec 32 := 0#32
  let c0_i32_107_r0 : BitVec 32 := 0#32
  ![v149_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi arg10_r0 v4
  let true_65_r0 : BitVec 1 := 1#1
  let c1_i32_64_r0 : BitVec 32 := 1#32
  let v77_r0 : BitVec 32 := Scalar.addi arg10_r0 c1_i32_64_r0
  let v78_r0 : BitVec 32 := Scalar.select true_65_r0 v77_r0 arg10_r0
  let c8_i32_66_r0 : BitVec 32 := 8#32
  let v79_r0 : BitVec 1 := Scalar.cmpi .eq v78_r0 c8_i32_66_r0
  let c0_i32_67_r0 : BitVec 32 := 0#32
  let v80_r0 : BitVec 32 := Scalar.select v79_r0 c0_i32_67_r0 v78_r0
  let v81_r0 : BitVec 32 := Scalar.addi v80_r0 v4
  let v120_r0 : BitVec 1 := Scalar.cmpi .ne v71_r0 v81_r0
  let c0_i32_30_r0 : BitVec 32 := 0#32
  let c1_i32_32_r0 : BitVec 32 := 1#32
  let arg5_r0 : BitVec 32 := Scf.iv c0_i32_30_r0 c1_i32_32_r0 k0_t1
  let c7_i32_59_r0 : BitVec 32 := 7#32
  let v70_r0 : BitVec 1 := Scalar.cmpi .eq arg5_r0 c7_i32_59_r0
  let v121_r0 : BitVec 1 := Scalar.ori v120_r0 v70_r0
  let v122_r0 : BitVec 32 := Scalar.extui v121_r0
  let c0_i32_89_r0 : BitVec 32 := 0#32
  let v123_r0 : BitVec 1 := Scalar.cmpi .ne v122_r0 c0_i32_89_r0
  v123_r0

def k0_off13 (i : grid0.Coords) (arg10_r0 : BitVec 32) : Fin 2 → Nat :=
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi arg10_r0 v4
  let v150_r0 : BitVec 32 := Scalar.muli c128_i32_105_r0 v71_r0
  let c0_i32_108_r0 : BitVec 32 := 0#32
  ![v150_r0.toNat, 0]
def k0_off14 (arg8_r0 : BitVec 32) : Fin 1 → Nat :=
  let c2_i32_104_r0 : BitVec 32 := 2#32
  let v149_r0 : BitVec 32 := Scalar.remui arg8_r0 c2_i32_104_r0
  ![v149_r0.toNat]
def k0_off15 (arg9_r0 : BitVec 32) : Fin 3 → Nat :=
  let c2_i32_104_r0 : BitVec 32 := 2#32
  let v149_r0 : BitVec 32 := Scalar.remui arg9_r0 c2_i32_104_r0
  let c0_i32_106_r0 : BitVec 32 := 0#32
  let c0_i32_107_r0 : BitVec 32 := 0#32
  ![v149_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi arg10_r0 v4
  let true_61_r0 : BitVec 1 := 1#1
  let c1_i32_60_r0 : BitVec 32 := 1#32
  let v72_r0 : BitVec 32 := Scalar.subi arg10_r0 c1_i32_60_r0
  let v73_r0 : BitVec 32 := Scalar.select true_61_r0 v72_r0 arg10_r0
  let c_m1_i32_62_r0 : BitVec 32 := 4294967295#32
  let v74_r0 : BitVec 1 := Scalar.cmpi .eq v73_r0 c_m1_i32_62_r0
  let c7_i32_63_r0 : BitVec 32 := 7#32
  let v75_r0 : BitVec 32 := Scalar.select v74_r0 c7_i32_63_r0 v73_r0
  let v76_r0 : BitVec 32 := Scalar.addi v75_r0 v4
  let v133_r0 : BitVec 1 := Scalar.cmpi .ne v71_r0 v76_r0
  let c0_i32_30_r0 : BitVec 32 := 0#32
  let c1_i32_32_r0 : BitVec 32 := 1#32
  let arg5_r0 : BitVec 32 := Scf.iv c0_i32_30_r0 c1_i32_32_r0 k0_t1
  let c0_i32_58_r0 : BitVec 32 := 0#32
  let v69_r0 : BitVec 1 := Scalar.cmpi .eq arg5_r0 c0_i32_58_r0
  let true_95_r0 : BitVec 1 := 1#1
  let v134_r0 : BitVec 1 := Scalar.xori v69_r0 true_95_r0
  let v135_r0 : BitVec 1 := Scalar.andi v133_r0 v134_r0
  let v136_r0 : BitVec 32 := Scalar.extui v135_r0
  let c0_i32_96_r0 : BitVec 32 := 0#32
  let v137_r0 : BitVec 1 := Scalar.cmpi .ne v136_r0 c0_i32_96_r0
  v137_r0

def k0_off16 (i : grid0.Coords) (arg10_r0 : BitVec 32) : Fin 2 → Nat :=
  let c128_i32_105_r0 : BitVec 32 := 128#32
  let true_61_r0 : BitVec 1 := 1#1
  let c1_i32_60_r0 : BitVec 32 := 1#32
  let v72_r0 : BitVec 32 := Scalar.subi arg10_r0 c1_i32_60_r0
  let v73_r0 : BitVec 32 := Scalar.select true_61_r0 v72_r0 arg10_r0
  let c_m1_i32_62_r0 : BitVec 32 := 4294967295#32
  let v74_r0 : BitVec 1 := Scalar.cmpi .eq v73_r0 c_m1_i32_62_r0
  let c7_i32_63_r0 : BitVec 32 := 7#32
  let v75_r0 : BitVec 32 := Scalar.select v74_r0 c7_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v150_r0 : BitVec 32 := Scalar.muli c128_i32_105_r0 v76_r0
  let c0_i32_108_r0 : BitVec 32 := 0#32
  ![v150_r0.toNat, 0]
def k0_off17 (arg9_r0 : BitVec 32) : Fin 1 → Nat :=
  let c2_i32_104_r0 : BitVec 32 := 2#32
  let v149_r0 : BitVec 32 := Scalar.remui arg9_r0 c2_i32_104_r0
  ![v149_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S32768x512.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S32768x512.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S32768x512.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S32768x512.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v38_3_r0 : BitVec 32) : Fin 3 → Nat :=
  let c2_i32_50_r0 : BitVec 32 := 2#32
  let v59_r0 : BitVec 32 := Scalar.remui v38_3_r0 c2_i32_50_r0
  let c0_i32_52_r0 : BitVec 32 := 0#32
  let c0_i32_53_r0 : BitVec 32 := 0#32
  ![v59_r0.toNat, 0, 0]

def k0_off19 (i : grid0.Coords) (v38_4_r0 : BitVec 32) : Fin 2 → Nat :=
  let c128_i32_51_r0 : BitVec 32 := 128#32
  let true_35_r0 : BitVec 1 := 1#1
  let c1_i32_34_r0 : BitVec 32 := 1#32
  let v39_r0 : BitVec 32 := Scalar.subi v38_4_r0 c1_i32_34_r0
  let v40_r0 : BitVec 32 := Scalar.select true_35_r0 v39_r0 v38_4_r0
  let c_m1_i32_36_r0 : BitVec 32 := 4294967295#32
  let v41_r0 : BitVec 1 := Scalar.cmpi .eq v40_r0 c_m1_i32_36_r0
  let c7_i32_37_r0 : BitVec 32 := 7#32
  let v42_r0 : BitVec 32 := Scalar.select v41_r0 c7_i32_37_r0 v40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v43_r0 : BitVec 32 := Scalar.addi v42_r0 v4
  let v60_r0 : BitVec 32 := Scalar.muli c128_i32_51_r0 v43_r0
  let c0_i32_54_r0 : BitVec 32 := 0#32
  ![v60_r0.toNat, 0]

def k0_chk5 (i : grid0.Coords) (v38_4_r0 : BitVec 32) : Prop :=
  (∀ a, (k0_off19 i v38_4_r0) a + S128x256.size a ≤ S32768x512.size a)
theorem k0_off19_inb : ∀ (i : grid0.Coords) (v38_4_r0 : BitVec 32) (k0_hw5 : k0_chk5 i v38_4_r0), ∀ a, (k0_off19 i v38_4_r0) a + S128x256.size a ≤ S32768x512.size a := fun i v38_4_r0 k0_hw5 => k0_hw5

def k0_off20 (v38_3_r0 : BitVec 32) : Fin 1 → Nat :=
  let c2_i32_50_r0 : BitVec 32 := 2#32
  let v59_r0 : BitVec 32 := Scalar.remui v38_3_r0 c2_i32_50_r0
  ![v59_r0.toNat]
def k0_off21 (v38_3_r0 : BitVec 32) : Fin 3 → Nat :=
  let c2_i32_50_r0 : BitVec 32 := 2#32
  let v59_r0 : BitVec 32 := Scalar.remui v38_3_r0 c2_i32_50_r0
  let c0_i32_56_r0 : BitVec 32 := 0#32
  let c0_i32_57_r0 : BitVec 32 := 0#32
  ![v59_r0.toNat, 0, 0]

def k0_chk4 (v38_3_r0 : BitVec 32) : Prop :=
  (∀ a, (k0_off18 v38_3_r0) a + S1x128x256.size a ≤ S2x128x256.size a) ∧
  (∀ a, (k0_off20 v38_3_r0) a + S1.size a ≤ S2.size a) ∧
  (∀ a, (k0_off21 v38_3_r0) a + S1x128x256.size a ≤ S2x128x256.size a)
theorem k0_off18_inb : ∀ (v38_3_r0 : BitVec 32) (k0_hw4 : k0_chk4 v38_3_r0), ∀ a, (k0_off18 v38_3_r0) a + S1x128x256.size a ≤ S2x128x256.size a := fun v38_3_r0 k0_hw4 => k0_hw4.1
theorem k0_off20_inb : ∀ (v38_3_r0 : BitVec 32) (k0_hw4 : k0_chk4 v38_3_r0), ∀ a, (k0_off20 v38_3_r0) a + S1.size a ≤ S2.size a := fun v38_3_r0 k0_hw4 => k0_hw4.2.1
theorem k0_off21_inb : ∀ (v38_3_r0 : BitVec 32) (k0_hw4 : k0_chk4 v38_3_r0), ∀ a, (k0_off21 v38_3_r0) a + S1x128x256.size a ≤ S2x128x256.size a := fun v38_3_r0 k0_hw4 => k0_hw4.2.2

def k0_off22 : Fin 3 → Nat :=
  let c0_i32_17_r3 : BitVec 32 := 0#32
  let c2_i32_r3 : BitVec 32 := 2#32
  let v26_r3 : BitVec 32 := Scalar.remui c0_i32_17_r3 c2_i32_r3
  let c0_i32_18_r3 : BitVec 32 := 0#32
  let c0_i32_19_r3 : BitVec 32 := 0#32
  ![v26_r3.toNat, 0, 0]
def k0_off23 (i : grid0.Coords) : Fin 2 → Nat :=
  let c0_i32_20_r3 : BitVec 32 := 0#32
  let c128_i32_r3 : BitVec 32 := 128#32
  let c0_i32_5_r3 : BitVec 32 := 0#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v12_r3 : BitVec 32 := Scalar.addi c0_i32_5_r3 v9
  let v27_r3 : BitVec 32 := Scalar.muli c128_i32_r3 v12_r3
  ![0, v27_r3.toNat]
def k0_off24 : Fin 1 → Nat :=
  let c0_i32_17_r3 : BitVec 32 := 0#32
  let c2_i32_r3 : BitVec 32 := 2#32
  let v26_r3 : BitVec 32 := Scalar.remui c0_i32_17_r3 c2_i32_r3
  ![v26_r3.toNat]
@[reducible] def k0_t2_loop : Scf.Loop 32 :=
  let c0_i32_30_r3 : BitVec 32 := 0#32
  let c8_i32_31_r3 : BitVec 32 := 8#32
  let v37_r3 : BitVec 32 := Scalar.addi c0_i32_30_r3 c8_i32_31_r3
  let c1_i32_32_r3 : BitVec 32 := 1#32
  ⟨c0_i32_30_r3, v37_r3, c1_i32_32_r3⟩
def k0_off25 (arg6_r3 : BitVec 32) : Fin 3 → Nat :=
  let c2_i32_103_r3 : BitVec 32 := 2#32
  let v149_r3 : BitVec 32 := Scalar.remui arg6_r3 c2_i32_103_r3
  let c0_i32_105_r3 : BitVec 32 := 0#32
  let c0_i32_106_r3 : BitVec 32 := 0#32
  ![v149_r3.toNat, 0, 0]
def k0_cond8 (i : grid0.Coords) (k0_t2 : Fin k0_t2_loop.trips) (arg10_r3 : BitVec 32) : BitVec 1 :=
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v71_r3 : BitVec 32 := Scalar.addi arg10_r3 v9
  let true_64_r3 : BitVec 1 := 1#1
  let c1_i32_63_r3 : BitVec 32 := 1#32
  let v77_r3 : BitVec 32 := Scalar.addi arg10_r3 c1_i32_63_r3
  let v78_r3 : BitVec 32 := Scalar.select true_64_r3 v77_r3 arg10_r3
  let c8_i32_65_r3 : BitVec 32 := 8#32
  let v79_r3 : BitVec 1 := Scalar.cmpi .eq v78_r3 c8_i32_65_r3
  let c0_i32_66_r3 : BitVec 32 := 0#32
  let v80_r3 : BitVec 32 := Scalar.select v79_r3 c0_i32_66_r3 v78_r3
  let v81_r3 : BitVec 32 := Scalar.addi v80_r3 v9
  let v87_r3 : BitVec 1 := Scalar.cmpi .ne v71_r3 v81_r3
  let c0_i32_30_r3 : BitVec 32 := 0#32
  let c1_i32_32_r3 : BitVec 32 := 1#32
  let arg5_r3 : BitVec 32 := Scf.iv c0_i32_30_r3 c1_i32_32_r3 k0_t2
  let c7_i32_71_r3 : BitVec 32 := 7#32
  let v88_r3 : BitVec 1 := Scalar.cmpi .sge arg5_r3 c7_i32_71_r3
  let true_72_r3 : BitVec 1 := 1#1
  let v89_r3 : BitVec 1 := Scalar.xori v88_r3 true_72_r3
  let v90_r3 : BitVec 1 := Scalar.andi v87_r3 v89_r3
  let true_73_r3 : BitVec 1 := 1#1
  let v91_r3 : BitVec 1 := Scalar.andi v90_r3 true_73_r3
  let v92_r3 : BitVec 32 := Scalar.extui v91_r3
  let c0_i32_74_r3 : BitVec 32 := 0#32
  let v93_r3 : BitVec 1 := Scalar.cmpi .ne v92_r3 c0_i32_74_r3
  v93_r3

def k0_off26 (i : grid0.Coords) (arg10_r3 : BitVec 32) : Fin 2 → Nat :=
  let c0_i32_107_r3 : BitVec 32 := 0#32
  let c128_i32_104_r3 : BitVec 32 := 128#32
  let true_64_r3 : BitVec 1 := 1#1
  let c1_i32_63_r3 : BitVec 32 := 1#32
  let v77_r3 : BitVec 32 := Scalar.addi arg10_r3 c1_i32_63_r3
  let v78_r3 : BitVec 32 := Scalar.select true_64_r3 v77_r3 arg10_r3
  let c8_i32_65_r3 : BitVec 32 := 8#32
  let v79_r3 : BitVec 1 := Scalar.cmpi .eq v78_r3 c8_i32_65_r3
  let c0_i32_66_r3 : BitVec 32 := 0#32
  let v80_r3 : BitVec 32 := Scalar.select v79_r3 c0_i32_66_r3 v78_r3
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v81_r3 : BitVec 32 := Scalar.addi v80_r3 v9
  let v150_r3 : BitVec 32 := Scalar.muli c128_i32_104_r3 v81_r3
  ![0, v150_r3.toNat]
def k0_off27 (arg6_r3 : BitVec 32) : Fin 1 → Nat :=
  let c2_i32_103_r3 : BitVec 32 := 2#32
  let v149_r3 : BitVec 32 := Scalar.remui arg6_r3 c2_i32_103_r3
  ![v149_r3.toNat]
def k0_off28 (arg7_r3 : BitVec 32) : Fin 3 → Nat :=
  let c2_i32_104_r3 : BitVec 32 := 2#32
  let v150_r3 : BitVec 32 := Scalar.remui arg7_r3 c2_i32_104_r3
  let c0_i32_105_r3 : BitVec 32 := 0#32
  let c0_i32_106_r3 : BitVec 32 := 0#32
  ![v150_r3.toNat, 0, 0]
def k0_cond9 (i : grid0.Coords) (k0_t2 : Fin k0_t2_loop.trips) (arg10_r3 : BitVec 32) : BitVec 1 :=
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v71_r3 : BitVec 32 := Scalar.addi arg10_r3 v9
  let true_60_r3 : BitVec 1 := 1#1
  let c1_i32_59_r3 : BitVec 32 := 1#32
  let v72_r3 : BitVec 32 := Scalar.subi arg10_r3 c1_i32_59_r3
  let v73_r3 : BitVec 32 := Scalar.select true_60_r3 v72_r3 arg10_r3
  let c_m1_i32_61_r3 : BitVec 32 := 4294967295#32
  let v74_r3 : BitVec 1 := Scalar.cmpi .eq v73_r3 c_m1_i32_61_r3
  let c7_i32_62_r3 : BitVec 32 := 7#32
  let v75_r3 : BitVec 32 := Scalar.select v74_r3 c7_i32_62_r3 v73_r3
  let v76_r3 : BitVec 32 := Scalar.addi v75_r3 v9
  let v101_r3 : BitVec 1 := Scalar.cmpi .ne v71_r3 v76_r3
  let c0_i32_30_r3 : BitVec 32 := 0#32
  let c1_i32_32_r3 : BitVec 32 := 1#32
  let arg5_r3 : BitVec 32 := Scf.iv c0_i32_30_r3 c1_i32_32_r3 k0_t2
  let c0_i32_57_r3 : BitVec 32 := 0#32
  let v69_r3 : BitVec 1 := Scalar.cmpi .eq arg5_r3 c0_i32_57_r3
  let v102_r3 : BitVec 1 := Scalar.ori v101_r3 v69_r3
  let c0_i32_79_r3 : BitVec 32 := 0#32
  let v103_r3 : BitVec 1 := Scalar.cmpi .sge arg5_r3 c0_i32_79_r3
  let v104_r3 : BitVec 1 := Scalar.andi v102_r3 v103_r3
  let v105_r3 : BitVec 32 := Scalar.extui v104_r3
  let c0_i32_80_r3 : BitVec 32 := 0#32
  let v106_r3 : BitVec 1 := Scalar.cmpi .ne v105_r3 c0_i32_80_r3
  v106_r3

def k0_off29 (i : grid0.Coords) (arg10_r3 : BitVec 32) : Fin 2 → Nat :=
  let c0_i32_107_r3 : BitVec 32 := 0#32
  let c128_i32_103_r3 : BitVec 32 := 128#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v71_r3 : BitVec 32 := Scalar.addi arg10_r3 v9
  let v149_r3 : BitVec 32 := Scalar.muli c128_i32_103_r3 v71_r3
  ![0, v149_r3.toNat]
def k0_off30 (arg7_r3 : BitVec 32) : Fin 1 → Nat :=
  let c2_i32_104_r3 : BitVec 32 := 2#32
  let v150_r3 : BitVec 32 := Scalar.remui arg7_r3 c2_i32_104_r3
  ![v150_r3.toNat]
def k0_off31 (arg8_r3 : BitVec 32) : Fin 3 → Nat :=
  let c2_i32_84_r3 : BitVec 32 := 2#32
  let v114_r3 : BitVec 32 := Scalar.remui arg8_r3 c2_i32_84_r3
  let c0_i32_103_r4 : BitVec 32 := 0#32
  let c0_i32_104_r4 : BitVec 32 := 0#32
  ![v114_r3.toNat, 0, 0]

def k0_chk7 (arg8_r3 : BitVec 32) : Prop :=
  (∀ a, (k0_off31 arg8_r3) a + S1x128x256.size a ≤ S2x128x256.size a)
theorem k0_off31_inb : ∀ (arg8_r3 : BitVec 32) (k0_hw7 : k0_chk7 arg8_r3), ∀ a, (k0_off31 arg8_r3) a + S1x128x256.size a ≤ S2x128x256.size a := fun arg8_r3 k0_hw7 => k0_hw7

def k0_off32 (arg7_r3 : BitVec 32) : Fin 3 → Nat :=
  let c2_i32_83_r3 : BitVec 32 := 2#32
  let v113_r3 : BitVec 32 := Scalar.remui arg7_r3 c2_i32_83_r3
  let c0_i32_107_r4 : BitVec 32 := 0#32
  let c0_i32_108_r4 : BitVec 32 := 0#32
  ![v113_r3.toNat, 0, 0]

def k0_chk8 (arg7_r3 : BitVec 32) : Prop :=
  (∀ a, (k0_off32 arg7_r3) a + S1x1x128.size a ≤ S2x1x128.size a)
theorem k0_off32_inb : ∀ (arg7_r3 : BitVec 32) (k0_hw8 : k0_chk8 arg7_r3), ∀ a, (k0_off32 arg7_r3) a + S1x1x128.size a ≤ S2x1x128.size a := fun arg7_r3 k0_hw8 => k0_hw8

def k0_off33 (arg8_r3 : BitVec 32) : Fin 3 → Nat :=
  let c2_i32_103_r3 : BitVec 32 := 2#32
  let v149_r3 : BitVec 32 := Scalar.remui arg8_r3 c2_i32_103_r3
  let c0_i32_105_r3 : BitVec 32 := 0#32
  let c0_i32_106_r3 : BitVec 32 := 0#32
  ![v149_r3.toNat, 0, 0]
def k0_cond12 (i : grid0.Coords) (k0_t2 : Fin k0_t2_loop.trips) (arg10_r3 : BitVec 32) : BitVec 1 :=
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v71_r3 : BitVec 32 := Scalar.addi arg10_r3 v9
  let true_64_r3 : BitVec 1 := 1#1
  let c1_i32_63_r3 : BitVec 32 := 1#32
  let v77_r3 : BitVec 32 := Scalar.addi arg10_r3 c1_i32_63_r3
  let v78_r3 : BitVec 32 := Scalar.select true_64_r3 v77_r3 arg10_r3
  let c8_i32_65_r3 : BitVec 32 := 8#32
  let v79_r3 : BitVec 1 := Scalar.cmpi .eq v78_r3 c8_i32_65_r3
  let c0_i32_66_r3 : BitVec 32 := 0#32
  let v80_r3 : BitVec 32 := Scalar.select v79_r3 c0_i32_66_r3 v78_r3
  let v81_r3 : BitVec 32 := Scalar.addi v80_r3 v9
  let v120_r3 : BitVec 1 := Scalar.cmpi .ne v71_r3 v81_r3
  let c0_i32_30_r3 : BitVec 32 := 0#32
  let c1_i32_32_r3 : BitVec 32 := 1#32
  let arg5_r3 : BitVec 32 := Scf.iv c0_i32_30_r3 c1_i32_32_r3 k0_t2
  let c7_i32_58_r3 : BitVec 32 := 7#32
  let v70_r3 : BitVec 1 := Scalar.cmpi .eq arg5_r3 c7_i32_58_r3
  let v121_r3 : BitVec 1 := Scalar.ori v120_r3 v70_r3
  let v122_r3 : BitVec 32 := Scalar.extui v121_r3
  let c0_i32_88_r3 : BitVec 32 := 0#32
  let v123_r3 : BitVec 1 := Scalar.cmpi .ne v122_r3 c0_i32_88_r3
  v123_r3

def k0_off34 (i : grid0.Coords) (arg10_r3 : BitVec 32) : Fin 2 → Nat :=
  let c128_i32_104_r3 : BitVec 32 := 128#32
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v71_r3 : BitVec 32 := Scalar.addi arg10_r3 v9
  let v150_r3 : BitVec 32 := Scalar.muli c128_i32_104_r3 v71_r3
  let c256_i32_107_r3 : BitVec 32 := 256#32
  ![v150_r3.toNat, 256]
def k0_off35 (arg8_r3 : BitVec 32) : Fin 1 → Nat :=
  let c2_i32_103_r3 : BitVec 32 := 2#32
  let v149_r3 : BitVec 32 := Scalar.remui arg8_r3 c2_i32_103_r3
  ![v149_r3.toNat]
def k0_off36 (arg9_r3 : BitVec 32) : Fin 3 → Nat :=
  let c2_i32_103_r3 : BitVec 32 := 2#32
  let v149_r3 : BitVec 32 := Scalar.remui arg9_r3 c2_i32_103_r3
  let c0_i32_105_r3 : BitVec 32 := 0#32
  let c0_i32_106_r3 : BitVec 32 := 0#32
  ![v149_r3.toNat, 0, 0]
def k0_cond14 (i : grid0.Coords) (k0_t2 : Fin k0_t2_loop.trips) (arg10_r3 : BitVec 32) : BitVec 1 :=
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v71_r3 : BitVec 32 := Scalar.addi arg10_r3 v9
  let true_60_r3 : BitVec 1 := 1#1
  let c1_i32_59_r3 : BitVec 32 := 1#32
  let v72_r3 : BitVec 32 := Scalar.subi arg10_r3 c1_i32_59_r3
  let v73_r3 : BitVec 32 := Scalar.select true_60_r3 v72_r3 arg10_r3
  let c_m1_i32_61_r3 : BitVec 32 := 4294967295#32
  let v74_r3 : BitVec 1 := Scalar.cmpi .eq v73_r3 c_m1_i32_61_r3
  let c7_i32_62_r3 : BitVec 32 := 7#32
  let v75_r3 : BitVec 32 := Scalar.select v74_r3 c7_i32_62_r3 v73_r3
  let v76_r3 : BitVec 32 := Scalar.addi v75_r3 v9
  let v133_r3 : BitVec 1 := Scalar.cmpi .ne v71_r3 v76_r3
  let c0_i32_30_r3 : BitVec 32 := 0#32
  let c1_i32_32_r3 : BitVec 32 := 1#32
  let arg5_r3 : BitVec 32 := Scf.iv c0_i32_30_r3 c1_i32_32_r3 k0_t2
  let c0_i32_57_r3 : BitVec 32 := 0#32
  let v69_r3 : BitVec 1 := Scalar.cmpi .eq arg5_r3 c0_i32_57_r3
  let true_94_r3 : BitVec 1 := 1#1
  let v134_r3 : BitVec 1 := Scalar.xori v69_r3 true_94_r3
  let v135_r3 : BitVec 1 := Scalar.andi v133_r3 v134_r3
  let v136_r3 : BitVec 32 := Scalar.extui v135_r3
  let c0_i32_95_r3 : BitVec 32 := 0#32
  let v137_r3 : BitVec 1 := Scalar.cmpi .ne v136_r3 c0_i32_95_r3
  v137_r3

def k0_off37 (i : grid0.Coords) (arg10_r3 : BitVec 32) : Fin 2 → Nat :=
  let c128_i32_104_r3 : BitVec 32 := 128#32
  let true_60_r3 : BitVec 1 := 1#1
  let c1_i32_59_r3 : BitVec 32 := 1#32
  let v72_r3 : BitVec 32 := Scalar.subi arg10_r3 c1_i32_59_r3
  let v73_r3 : BitVec 32 := Scalar.select true_60_r3 v72_r3 arg10_r3
  let c_m1_i32_61_r3 : BitVec 32 := 4294967295#32
  let v74_r3 : BitVec 1 := Scalar.cmpi .eq v73_r3 c_m1_i32_61_r3
  let c7_i32_62_r3 : BitVec 32 := 7#32
  let v75_r3 : BitVec 32 := Scalar.select v74_r3 c7_i32_62_r3 v73_r3
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v76_r3 : BitVec 32 := Scalar.addi v75_r3 v9
  let v150_r3 : BitVec 32 := Scalar.muli c128_i32_104_r3 v76_r3
  let c256_i32_107_r3 : BitVec 32 := 256#32
  ![v150_r3.toNat, 256]
def k0_off38 (arg9_r3 : BitVec 32) : Fin 1 → Nat :=
  let c2_i32_103_r3 : BitVec 32 := 2#32
  let v149_r3 : BitVec 32 := Scalar.remui arg9_r3 c2_i32_103_r3
  ![v149_r3.toNat]

def k0_chk6 (i : grid0.Coords) (k0_t2 : Fin k0_t2_loop.trips) (arg6_r3 : BitVec 32) (arg7_r3 : BitVec 32) (arg8_r3 : BitVec 32) (arg9_r3 : BitVec 32) (arg10_r3 : BitVec 32) : Prop :=
  (∀ (k0_h8 : k0_cond8 i k0_t2 arg10_r3 = 1#1), ∀ a, (k0_off25 arg6_r3) a + S1x1x128.size a ≤ S2x1x128.size a) ∧
  (∀ (k0_h8 : k0_cond8 i k0_t2 arg10_r3 = 1#1), ∀ a, (k0_off26 i arg10_r3) a + S1x128.size a ≤ S1x32768.size a) ∧
  (∀ (k0_h8 : k0_cond8 i k0_t2 arg10_r3 = 1#1), ∀ a, (k0_off27 arg6_r3) a + S1.size a ≤ S2.size a) ∧
  (∀ (k0_h9 : k0_cond9 i k0_t2 arg10_r3 = 1#1), ∀ a, (k0_off28 arg7_r3) a + S1x1x128.size a ≤ S2x1x128.size a) ∧
  (∀ (k0_h9 : k0_cond9 i k0_t2 arg10_r3 = 1#1), ∀ a, (k0_off29 i arg10_r3) a + S1x128.size a ≤ S1x32768.size a) ∧
  (∀ (k0_h9 : k0_cond9 i k0_t2 arg10_r3 = 1#1), ∀ a, (k0_off30 arg7_r3) a + S1.size a ≤ S2.size a) ∧
  (∀ (k0_h12 : k0_cond12 i k0_t2 arg10_r3 = 1#1), ∀ a, (k0_off33 arg8_r3) a + S1x128x256.size a ≤ S2x128x256.size a) ∧
  (∀ (k0_h12 : k0_cond12 i k0_t2 arg10_r3 = 1#1), ∀ a, (k0_off34 i arg10_r3) a + S128x256.size a ≤ S32768x512.size a) ∧
  (∀ (k0_h12 : k0_cond12 i k0_t2 arg10_r3 = 1#1), ∀ a, (k0_off35 arg8_r3) a + S1.size a ≤ S2.size a) ∧
  (∀ (k0_h14 : k0_cond14 i k0_t2 arg10_r3 = 1#1), ∀ a, (k0_off36 arg9_r3) a + S1x128x256.size a ≤ S2x128x256.size a) ∧
  (∀ (k0_h14 : k0_cond14 i k0_t2 arg10_r3 = 1#1), ∀ a, (k0_off37 i arg10_r3) a + S128x256.size a ≤ S32768x512.size a) ∧
  (∀ (k0_h14 : k0_cond14 i k0_t2 arg10_r3 = 1#1), ∀ a, (k0_off38 arg9_r3) a + S1.size a ≤ S2.size a)
theorem k0_off25_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h8 : k0_cond8 i k0_t2 arg10_r3 = 1#1), ∀ a, (k0_off25 arg6_r3) a + S1x1x128.size a ≤ S2x1x128.size a := fun i k0_t2 arg6_r3 arg7_r3 arg8_r3 arg9_r3 arg10_r3 k0_hw6 k0_h8 => k0_hw6.1 k0_h8
theorem k0_off26_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h8 : k0_cond8 i k0_t2 arg10_r3 = 1#1), ∀ a, (k0_off26 i arg10_r3) a + S1x128.size a ≤ S1x32768.size a := fun i k0_t2 arg6_r3 arg7_r3 arg8_r3 arg9_r3 arg10_r3 k0_hw6 k0_h8 => k0_hw6.2.1 k0_h8
theorem k0_off27_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h8 : k0_cond8 i k0_t2 arg10_r3 = 1#1), ∀ a, (k0_off27 arg6_r3) a + S1.size a ≤ S2.size a := fun i k0_t2 arg6_r3 arg7_r3 arg8_r3 arg9_r3 arg10_r3 k0_hw6 k0_h8 => k0_hw6.2.2.1 k0_h8
theorem k0_off28_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h9 : k0_cond9 i k0_t2 arg10_r3 = 1#1), ∀ a, (k0_off28 arg7_r3) a + S1x1x128.size a ≤ S2x1x128.size a := fun i k0_t2 arg6_r3 arg7_r3 arg8_r3 arg9_r3 arg10_r3 k0_hw6 k0_h9 => k0_hw6.2.2.2.1 k0_h9
theorem k0_off29_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h9 : k0_cond9 i k0_t2 arg10_r3 = 1#1), ∀ a, (k0_off29 i arg10_r3) a + S1x128.size a ≤ S1x32768.size a := fun i k0_t2 arg6_r3 arg7_r3 arg8_r3 arg9_r3 arg10_r3 k0_hw6 k0_h9 => k0_hw6.2.2.2.2.1 k0_h9
theorem k0_off30_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h9 : k0_cond9 i k0_t2 arg10_r3 = 1#1), ∀ a, (k0_off30 arg7_r3) a + S1.size a ≤ S2.size a := fun i k0_t2 arg6_r3 arg7_r3 arg8_r3 arg9_r3 arg10_r3 k0_hw6 k0_h9 => k0_hw6.2.2.2.2.2.1 k0_h9
theorem k0_off33_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h12 : k0_cond12 i k0_t2 arg10_r3 = 1#1), ∀ a, (k0_off33 arg8_r3) a + S1x128x256.size a ≤ S2x128x256.size a := fun i k0_t2 arg6_r3 arg7_r3 arg8_r3 arg9_r3 arg10_r3 k0_hw6 k0_h12 => k0_hw6.2.2.2.2.2.2.1 k0_h12
theorem k0_off34_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h12 : k0_cond12 i k0_t2 arg10_r3 = 1#1), ∀ a, (k0_off34 i arg10_r3) a + S128x256.size a ≤ S32768x512.size a := fun i k0_t2 arg6_r3 arg7_r3 arg8_r3 arg9_r3 arg10_r3 k0_hw6 k0_h12 => k0_hw6.2.2.2.2.2.2.2.1 k0_h12
theorem k0_off35_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h12 : k0_cond12 i k0_t2 arg10_r3 = 1#1), ∀ a, (k0_off35 arg8_r3) a + S1.size a ≤ S2.size a := fun i k0_t2 arg6_r3 arg7_r3 arg8_r3 arg9_r3 arg10_r3 k0_hw6 k0_h12 => k0_hw6.2.2.2.2.2.2.2.2.1 k0_h12
theorem k0_off36_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h14 : k0_cond14 i k0_t2 arg10_r3 = 1#1), ∀ a, (k0_off36 arg9_r3) a + S1x128x256.size a ≤ S2x128x256.size a := fun i k0_t2 arg6_r3 arg7_r3 arg8_r3 arg9_r3 arg10_r3 k0_hw6 k0_h14 => k0_hw6.2.2.2.2.2.2.2.2.2.1 k0_h14
theorem k0_off37_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h14 : k0_cond14 i k0_t2 arg10_r3 = 1#1), ∀ a, (k0_off37 i arg10_r3) a + S128x256.size a ≤ S32768x512.size a := fun i k0_t2 arg6_r3 arg7_r3 arg8_r3 arg9_r3 arg10_r3 k0_hw6 k0_h14 => k0_hw6.2.2.2.2.2.2.2.2.2.2.1 k0_h14
theorem k0_off38_inb : ∀ (i : grid0.Coords) (k0_t2 : Fin k0_t2_loop.trips) (arg6_r3 : BitVec 32) (arg7_r3 : BitVec 32) (arg8_r3 : BitVec 32) (arg9_r3 : BitVec 32) (arg10_r3 : BitVec 32) (k0_hw6 : k0_chk6 i k0_t2 arg6_r3 arg7_r3 arg8_r3 arg9_r3 arg10_r3), ∀ (k0_h14 : k0_cond14 i k0_t2 arg10_r3 = 1#1), ∀ a, (k0_off38 arg9_r3) a + S1.size a ≤ S2.size a := fun i k0_t2 arg6_r3 arg7_r3 arg8_r3 arg9_r3 arg10_r3 k0_hw6 k0_h14 => k0_hw6.2.2.2.2.2.2.2.2.2.2.2 k0_h14

def k0_off39 (v38_3_r3 : BitVec 32) : Fin 3 → Nat :=
  let c2_i32_50_r3 : BitVec 32 := 2#32
  let v59_r3 : BitVec 32 := Scalar.remui v38_3_r3 c2_i32_50_r3
  let c0_i32_52_r3 : BitVec 32 := 0#32
  let c0_i32_53_r3 : BitVec 32 := 0#32
  ![v59_r3.toNat, 0, 0]

def k0_off40 (i : grid0.Coords) (v38_4_r3 : BitVec 32) : Fin 2 → Nat :=
  let c128_i32_51_r3 : BitVec 32 := 128#32
  let true_35_r3 : BitVec 1 := 1#1
  let c1_i32_34_r3 : BitVec 32 := 1#32
  let v39_r3 : BitVec 32 := Scalar.subi v38_4_r3 c1_i32_34_r3
  let v40_r3 : BitVec 32 := Scalar.select true_35_r3 v39_r3 v38_4_r3
  let c_m1_i32_36_r3 : BitVec 32 := 4294967295#32
  let v41_r3 : BitVec 1 := Scalar.cmpi .eq v40_r3 c_m1_i32_36_r3
  let c7_i32_37_r3 : BitVec 32 := 7#32
  let v42_r3 : BitVec 32 := Scalar.select v41_r3 c7_i32_37_r3 v40_r3
  let c0_i32_1 : BitVec 32 := 0#32
  let arg1 : BitVec 32 := BitVec.ofNat 32 (i 1).val
  let c1_i32_0 : BitVec 32 := 1#32
  let v5 : BitVec 32 := Scalar.muli arg1 c1_i32_0
  let v6 : BitVec 32 := Scalar.addi c0_i32_1 v5
  let arg0 : BitVec 32 := BitVec.ofNat 32 (i 0).val
  let c16_i32_2 : BitVec 32 := 16#32
  let v7 : BitVec 32 := Scalar.muli arg0 c16_i32_2
  let v8 : BitVec 32 := Scalar.addi v6 v7
  let c8_i32_3 : BitVec 32 := 8#32
  let v9 : BitVec 32 := Scalar.muli v8 c8_i32_3
  let v43_r3 : BitVec 32 := Scalar.addi v42_r3 v9
  let v60_r3 : BitVec 32 := Scalar.muli c128_i32_51_r3 v43_r3
  let c256_i32_r3 : BitVec 32 := 256#32
  ![v60_r3.toNat, 256]

def k0_chk10 (i : grid0.Coords) (v38_4_r3 : BitVec 32) : Prop :=
  (∀ a, (k0_off40 i v38_4_r3) a + S128x256.size a ≤ S32768x512.size a)
theorem k0_off40_inb : ∀ (i : grid0.Coords) (v38_4_r3 : BitVec 32) (k0_hw10 : k0_chk10 i v38_4_r3), ∀ a, (k0_off40 i v38_4_r3) a + S128x256.size a ≤ S32768x512.size a := fun i v38_4_r3 k0_hw10 => k0_hw10

def k0_off41 (v38_3_r3 : BitVec 32) : Fin 1 → Nat :=
  let c2_i32_50_r3 : BitVec 32 := 2#32
  let v59_r3 : BitVec 32 := Scalar.remui v38_3_r3 c2_i32_50_r3
  ![v59_r3.toNat]
def k0_off42 (v38_3_r3 : BitVec 32) : Fin 3 → Nat :=
  let c2_i32_50_r3 : BitVec 32 := 2#32
  let v59_r3 : BitVec 32 := Scalar.remui v38_3_r3 c2_i32_50_r3
  let c0_i32_55_r3 : BitVec 32 := 0#32
  let c0_i32_56_r3 : BitVec 32 := 0#32
  ![v59_r3.toNat, 0, 0]

def k0_chk9 (v38_3_r3 : BitVec 32) : Prop :=
  (∀ a, (k0_off39 v38_3_r3) a + S1x128x256.size a ≤ S2x128x256.size a) ∧
  (∀ a, (k0_off41 v38_3_r3) a + S1.size a ≤ S2.size a) ∧
  (∀ a, (k0_off42 v38_3_r3) a + S1x128x256.size a ≤ S2x128x256.size a)
theorem k0_off39_inb : ∀ (v38_3_r3 : BitVec 32) (k0_hw9 : k0_chk9 v38_3_r3), ∀ a, (k0_off39 v38_3_r3) a + S1x128x256.size a ≤ S2x128x256.size a := fun v38_3_r3 k0_hw9 => k0_hw9.1
theorem k0_off41_inb : ∀ (v38_3_r3 : BitVec 32) (k0_hw9 : k0_chk9 v38_3_r3), ∀ a, (k0_off41 v38_3_r3) a + S1.size a ≤ S2.size a := fun v38_3_r3 k0_hw9 => k0_hw9.2.1
theorem k0_off42_inb : ∀ (v38_3_r3 : BitVec 32) (k0_hw9 : k0_chk9 v38_3_r3), ∀ a, (k0_off42 v38_3_r3) a + S1x128x256.size a ≤ S2x128x256.size a := fun v38_3_r3 k0_hw9 => k0_hw9.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S49152x512 : Shape := ⟨2, ![49152, 512]⟩
abbrev S2x16384 : Shape := ⟨2, ![2, 16384]⟩
abbrev S_ : Shape := ⟨0, ![]⟩
abbrev S2x16384x1 : Shape := ⟨3, ![2, 16384, 1]⟩
abbrev S2x16384x512 : Shape := ⟨3, ![2, 16384, 512]⟩

abbrev nBuf : Space → Nat
  | .hbm => 11
  | .vmem => 0
  | .smem => 0
  | _ => 0

abbrev bufTy : (tb : Table) → Fin (tcTables nBuf tb) → BufTy
  | .hbm, ⟨0, _⟩ => ⟨S49152x512, .i32⟩
  | .hbm, ⟨1, _⟩ => ⟨S2x16384, .i32⟩
  | .hbm, ⟨2, _⟩ => ⟨S_, .i32⟩
  | .hbm, ⟨3, _⟩ => ⟨S2x16384, .i32⟩
  | .hbm, ⟨4, _⟩ => ⟨S2x16384, .i1⟩
  | .hbm, ⟨5, _⟩ => ⟨S_, .i32⟩
  | .hbm, ⟨6, _⟩ => ⟨S2x16384, .i32⟩
  | .hbm, ⟨7, _⟩ => ⟨S2x16384, .i32⟩
  | .hbm, ⟨8, _⟩ => ⟨S2x16384, .i32⟩
  | .hbm, ⟨9, _⟩ => ⟨S2x16384x1, .i32⟩
  | .hbm, ⟨10, _⟩ => ⟨S2x16384x512, .i32⟩
  | _, _ => ⟨S49152x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024 : Shape := ⟨2, ![1, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024 : Shape := ⟨2, ![2, 1024]⟩
abbrev S2x1024x4 : Shape := ⟨3, ![2, 1024, 4]⟩
abbrev S2x1024x32 : Shape := ⟨3, ![2, 1024, 32]⟩
abbrev S16384x1024 : Shape := ⟨2, ![16384, 1024]⟩
abbrev S1024 : Shape := ⟨1, ![1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S2048x1024 : Shape := ⟨2, ![2048, 1024]⟩
abbrev S1x1024x4 : Shape := ⟨3, ![1, 1024, 4]⟩
abbrev S1024x4 : Shape := ⟨2, ![1024, 4]⟩
abbrev S1x1024x32 : Shape := ⟨3, ![1, 1024, 32]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S2048x256 : Shape := ⟨2, ![2048, 256]⟩
abbrev S40x16384 : Shape := ⟨2, ![40, 16384]⟩
abbrev S512x1024 : Shape := ⟨2, ![512, 1024]⟩
abbrev S40x512 : Shape := ⟨2, ![40, 512]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S40x256 : Shape := ⟨2, ![40, 256]⟩

abbrev nBuf : Space → Nat
  | .hbm => 45
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x1024, .f32⟩
  | .hbm, ⟨8, _⟩ => ⟨S2x1024, .f32⟩
  | .hbm, ⟨9, _⟩ => ⟨S2x1024x4, .f32⟩
  | .hbm, ⟨10, _⟩ => ⟨S2x1024x32, .f32⟩
  | .hbm, ⟨11, _⟩ => ⟨S16384x1024, .f32⟩
  | .hbm, ⟨12, _⟩ => ⟨S1024, .f32⟩
  | .hbm, ⟨13, _⟩ => ⟨S1x1024, .f32⟩
  | .hbm, ⟨14, _⟩ => ⟨S1024x4096, .f32⟩
  | .hbm, ⟨15, _⟩ => ⟨S4096, .f32⟩
  | .hbm, ⟨16, _⟩ => ⟨S1x4096, .f32⟩
  | .hbm, ⟨17, _⟩ => ⟨S2048, .f32⟩
  | .hbm, ⟨18, _⟩ => ⟨S1x2048, .f32⟩
  | .hbm, ⟨19, _⟩ => ⟨S8x128x128, .f32⟩
  | .hbm, ⟨20, _⟩ => ⟨S8x128, .f32⟩
  | .hbm, ⟨21, _⟩ => ⟨S128x8, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024x4, .f32⟩
  | .hbm, ⟨28, _⟩ => ⟨S1024x4, .f32⟩
  | .hbm, ⟨29, _⟩ => ⟨S1x1024x32, .f32⟩
  | .hbm, ⟨30, _⟩ => ⟨S1024x32, .f32⟩
  | .hbm, ⟨31, _⟩ => ⟨S_, .f32⟩
  | .hbm, ⟨32, _⟩ => ⟨S1024x92, .f32⟩
  | .hbm, ⟨33, _⟩ => ⟨S1024x128, .f32⟩
  | .hbm, ⟨34, _⟩ => ⟨S1024x128, .bf16⟩
  | .hbm, ⟨35, _⟩ => ⟨S1024x128, .f32⟩
  | .hbm, ⟨36, _⟩ => ⟨S1024x128, .f32⟩
  | .hbm, ⟨37, _⟩ => ⟨S1024x128, .bf16⟩
  | .hbm, ⟨38, _⟩ => ⟨S1024x256, .bf16⟩
  | .hbm, ⟨39, _⟩ => ⟨S_, .bf16⟩
  | .hbm, ⟨40, _⟩ => ⟨S1024x128, .bf16⟩
  | .hbm, ⟨41, _⟩ => ⟨S1024x256, .bf16⟩
  | .hbm, ⟨42, _⟩ => ⟨S2048x256, .bf16⟩
  | .hbm, ⟨43, _⟩ => ⟨S16384x1024, .f32⟩
  | .hbm, ⟨44, _⟩ => ⟨S40x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .f32⟩
  | .local _ .vmem, ⟨4, _⟩ => ⟨S1x4096, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S2048x1024, .bf16⟩
  | .local _ .vmem, ⟨9, _⟩ => ⟨S1x1024, .f32⟩
  | .local _ .vmem, ⟨10, _⟩ => ⟨S2048x256, .bf16⟩
  | .local _ .vmem, ⟨11, _⟩ => ⟨S512x1024, .f32⟩
  | .local _ .vmem, ⟨12, _⟩ => ⟨S512x1024, .f32⟩
  | .local _ .vmem, ⟨13, _⟩ => ⟨S40x512, .f32⟩
  | .local _ .vmem, ⟨14, _⟩ => ⟨S40x512, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S1024x4096, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S40x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S1x1024 : Shape := ⟨2, ![1, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024 : Shape := ⟨2, ![2, 1024]⟩
abbrev S2x1024x4 : Shape := ⟨3, ![2, 1024, 4]⟩
abbrev S2x1024x32 : Shape := ⟨3, ![2, 1024, 32]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S4x4096x4096 : Shape := ⟨3, ![4, 4096, 4096]⟩
abbrev S1x1x4096 : Shape := ⟨3, ![1, 1, 4096]⟩
abbrev S4x4096x2048 : Shape := ⟨3, ![4, 4096, 2048]⟩
abbrev S1x1x2048 : Shape := ⟨3, ![1, 1, 2048]⟩
abbrev S4x32x128x8x256 : Shape := ⟨5, ![4, 32, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x4x32x256x128 : Shape := ⟨5, ![8, 4, 32, 256, 128]⟩
abbrev S128x8 : Shape := ⟨2, ![128, 8]⟩
abbrev S1x1x128x8x1 : Shape := ⟨5, ![1, 1, 128, 8, 1]⟩
abbrev S16384x1024 : Shape := ⟨2, ![16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x8x128x128, .f32⟩
  | .hbm, ⟨6, _⟩ => ⟨S1x8x128, .f32⟩
  | .hbm, ⟨7, _⟩ => ⟨S1x2048x1024, .f32⟩
  | .hbm, ⟨8, _⟩ => ⟨S2x1024, .f32⟩
  | .hbm, ⟨9, _⟩ => ⟨S2x1024x4, .f32⟩
  | .hbm, ⟨10, _⟩ => ⟨S2x1024x32, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1024x4096, .f32⟩
  | .hbm, ⟨29, _⟩ => ⟨S4096, .f32⟩
  | .hbm, ⟨30, _⟩ => ⟨S2048, .f32⟩
  | .hbm, ⟨31, _⟩ => ⟨S8x128x128, .f32⟩
  | .hbm, ⟨32, _⟩ => ⟨S8x128, .f32⟩
  | .hbm, ⟨33, _⟩ => ⟨S2048x1024, .f32⟩
  | .hbm, ⟨34, _⟩ => ⟨S4x4096x4096, .f32⟩
  | .hbm, ⟨35, _⟩ => ⟨S1x1x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S_, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096x4096, .f32⟩
  | .hbm, ⟨50, _⟩ => ⟨S4x4096x4096, .f32⟩
  | .hbm, ⟨51, _⟩ => ⟨S_, .f32⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x2048, .f32⟩
  | .hbm, ⟨69, _⟩ => ⟨S4x4096x2048, .f32⟩
  | .hbm, ⟨70, _⟩ => ⟨S1x1x2048, .f32⟩
  | .hbm, ⟨71, _⟩ => ⟨S4x4096x2048, .f32⟩
  | .hbm, ⟨72, _⟩ => ⟨S4x4096x2048, .f32⟩
  | .hbm, ⟨73, _⟩ => ⟨S4x32x128x8x256, .f32⟩
  | .hbm, ⟨74, _⟩ => ⟨S128, .i32⟩
  | .hbm, ⟨75, _⟩ => ⟨S_, .i32⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S128x1, .i32⟩
  | .hbm, ⟨94, _⟩ => ⟨S1x128, .i32⟩
  | .hbm, ⟨95, _⟩ => ⟨S128x128, .i32⟩
  | .hbm, ⟨96, _⟩ => ⟨S128x128, .i32⟩
  | .hbm, ⟨97, _⟩ => ⟨S128x128, .i1⟩
  | .hbm, ⟨98, _⟩ => ⟨S1x128x128, .i1⟩
  | .hbm, ⟨99, _⟩ => ⟨S_, .f32⟩
  | .hbm, ⟨100, _⟩ => ⟨S8x128x128, .f32⟩
  | .hbm, ⟨101, _⟩ => ⟨S8x128x128, .i1⟩
  | .hbm, ⟨102, _⟩ => ⟨S8x128x128, .f32⟩
  | .hbm, ⟨103, _⟩ => ⟨S8x4x32x256x128, .f32⟩
  | .hbm, ⟨104, _⟩ => ⟨S4x32x128x8x256, .f32⟩
  | .hbm, ⟨105, _⟩ => ⟨S128x8, .f32⟩
  | .hbm, ⟨106, _⟩ => ⟨S1x1x128x8x1, .f32⟩
  | .hbm, ⟨107, _⟩ => ⟨S4x32x128x8x256, .f32⟩
  | .hbm, ⟨108, _⟩ => ⟨S4x32x128x8x256, .f32⟩
  | .hbm, ⟨109, _⟩ => ⟨S4x4096x2048, .f32⟩
  | .hbm, ⟨110, _⟩ => ⟨S4x4096x2048, .f32⟩
  | .hbm, ⟨111, _⟩ => ⟨S4x4096x1024, .f32⟩
  | .hbm, ⟨112, _⟩ => ⟨S4x4096x1024, .f32⟩
  | .hbm, ⟨113, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_call1_v0 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]
-- ==== Kernel3.lean ====
abbrev S16384x2048 : Shape := ⟨2, ![16384, 2048]⟩
abbrev S64x2048x256 : Shape := ⟨3, ![64, 2048, 256]⟩
abbrev S16384x1024 : Shape := ⟨2, ![16384, 1024]⟩
abbrev S1024x256 : Shape := ⟨2, ![1024, 256]⟩
abbrev S16x256x256 : Shape := ⟨3, ![16, 256, 256]⟩
abbrev S4096x128 : Shape := ⟨2, ![4096, 128]⟩
abbrev S1024x128 : Shape := ⟨2, ![1024, 128]⟩
abbrev S2x16x1024x256 : Shape := ⟨4, ![2, 16, 1024, 256]⟩
abbrev S2x1024x128 : Shape := ⟨3, ![2, 1024, 128]⟩
abbrev S1x128x256 : Shape := ⟨3, ![1, 128, 256]⟩
abbrev S128x256 : Shape := ⟨2, ![128, 256]⟩
abbrev S1x1x1024x256 : Shape := ⟨4, ![1, 1, 1024, 256]⟩
abbrev S1x1024x128 : Shape := ⟨3, ![1, 1024, 128]⟩
abbrev S768x256 : Shape := ⟨2, ![768, 256]⟩
abbrev S768x128 : Shape := ⟨2, ![768, 128]⟩
abbrev S1x1x768x256 : Shape := ⟨4, ![1, 1, 768, 256]⟩
abbrev S1x768x128 : Shape := ⟨3, ![1, 768, 128]⟩
abbrev S512x256 : Shape := ⟨2, ![512, 256]⟩
abbrev S512x128 : Shape := ⟨2, ![512, 128]⟩
abbrev S1x1x512x256 : Shape := ⟨4, ![1, 1, 512, 256]⟩
abbrev S1x512x128 : Shape := ⟨3, ![1, 512, 128]⟩
abbrev S256x256 : Shape := ⟨2, ![256, 256]⟩
abbrev S256x128 : Shape := ⟨2, ![256, 128]⟩
abbrev S1x1x256x256 : Shape := ⟨4, ![1, 1, 256, 256]⟩
abbrev S1x256x128 : Shape := ⟨3, ![1, 256, 128]⟩
abbrev S1024 : Shape := ⟨1, ![1024]⟩
abbrev S1024x1 : Shape := ⟨2, ![1024, 1]⟩
abbrev S1024x512 : Shape := ⟨2, ![1024, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S64x2048x256, .bf16⟩
  | .hbm, ⟨2, _⟩ => ⟨S16384x1024, .bf16⟩
  | .hbm, ⟨3, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S16x256x256, .bf16⟩
  | .local _ .vmem, ⟨3, _⟩ => ⟨S16x256x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S2x16x1024x256, .f32⟩
  | .local _ .vmem, ⟨9, _⟩ => ⟨S2x1024x128, .f32⟩
  | .local _ .vmem, ⟨10, _⟩ => ⟨S2x1024x128, .f32⟩
  | .local _ .vmem, ⟨11, _⟩ => ⟨S2x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_2 : BitVec 32 := 0#32
  let arg2 : BitVec 32 := BitVec.ofNat 32 (i 2).val
  let v4 : BitVec 32 := Scalar.subi arg2 c0_i32_2
  let c1_i32 : BitVec 32 := 1#32
  let v6 : BitVec 32 := Scalar.divsi v4 c1_i32
  let v7 : BitVec 32 := Scalar.muli v6 c1_i32
  let v8 : BitVec 32 := Scalar.addi c0_i32_2 v7
  let c1_i32_3 : BitVec 32 := 1#32
  ⟨c0_i32_2, v8, c1_i32_3⟩
def k0_off1 (i : grid0.Coords) (k0_t1 : Fin (k0_t1_loop i).trips) (c0_i32_336 : BitVec 32) : Fin 3 → Nat :=
  let c0_i32_2 : BitVec 32 := 0#32
  let c1_i32_3 : BitVec 32 := 1#32
  let arg11 : BitVec 32 := Scf.iv c0_i32_2 c1_i32_3 k0_t1
  let c4_i32_335 : BitVec 32 := 4#32
  let v482 : BitVec 32 := Scalar.muli arg11 c4_i32_335
  let v483 : BitVec 32 := Scalar.addi v482 c0_i32_336
  let v485 : Index := Scalar.indexCast v483
  let c0_339 : Index := 0#32
  let c0_340 : Index := 0#32
  ![v485.toNat, 0, 0]
def k0_off2 (i : grid0.Coords) (k0_t1 : Fin (k0_t1_loop i).trips) (c0_i32_336 : BitVec 32) : Fin 4 → Nat :=
  let c0_342 : Index := 0#32
  let c0_i32_2 : BitVec 32 := 0#32
  let c1_i32_3 : BitVec 32 := 1#32
  let arg11 : BitVec 32 := Scf.iv c0_i32_2 c1_i32_3 k0_t1
  let c4_i32_335 : BitVec 32 := 4#32
  let v482 : BitVec 32 := Scalar.muli arg11 c4_i32_335
  let v483 : BitVec 32 := Scalar.addi v482 c0_i32_336
  let v489 : Index := Scalar.indexCast v483
  let c0_343 : Index := 0#32
  let c0_344 : Index := 0#32
  ![0, v489.toNat, 0, 0]
def k0_off3 (i : grid0.Coords) (k0_t1 : Fin (k0_t1_loop i).trips) (c0_i32_336 : BitVec 32) : Fin 3 → Nat :=
  let c0_i32_2 : BitVec 32 := 0#32
  let c1_i32_3 : BitVec 32 := 1#32
  let arg11 : BitVec 32 := Scf.iv c0_i32_2 c1_i32_3 k0_t1
  let c4_i32_335 : BitVec 32 := 4#32
  let v482 : BitVec 32 := Scalar.muli arg11 c4_i32_335
  let v483 : BitVec 32 := Scalar.addi v482 c0_i32_336
  let v503 : Index := Scalar.indexCast v483
  let c128_353 : Index := 128#32
  let c0_354 : Index := 0#32
  ![v503.toNat, 128, 0]
def k0_off4 (i : grid0.Coords) (k0_t1 : Fin (k0_t1_loop i).trips) (c0_i32_336 : BitVec 32) : Fin 4 → Nat :=
  let c1_356 : Index := 1#32
  let c0_i32_2 : BitVec 32 := 0#32
  let c1_i32_3 : BitVec 32 := 1#32
  let arg11 : BitVec 32 := Scf.iv c0_i32_2 c1_i32_3 k0_t1
  let c4_i32_335 : BitVec 32 := 4#32
  let v482 : BitVec 32 := Scalar.muli arg11 c4_i32_335
  let v483 : BitVec 32 := Scalar.addi v482 c0_i32_336
  let v507 : Index := Scalar.indexCast v483
  let c0_357 : Index := 0#32
  let c0_358 : Index := 0#32
  ![1, v507.toNat, 0, 0]
@[reducible] def k0_t2_loop (i : grid0.Coords) : Scf.Loop 32 :=
  let c0_i32_2 : BitVec 32 := 0#32
  let arg2 : BitVec 32 := BitVec.ofNat 32 (i 2).val
  let v4 : BitVec 32 := Scalar.subi arg2 c0_i32_2
  let c1_i32 : BitVec 32 := 1#32
  let v6 : BitVec 32 := Scalar.divsi v4 c1_i32
  let v7 : BitVec 32 := Scalar.muli v6 c1_i32
  let v8 : BitVec 32 := Scalar.addi c0_i32_2 v7
  let v5 : BitVec 32 := Scalar.addi c0_i32_2 v4
  let c1_i32_4 : BitVec 32 := 1#32
  ⟨v8, v5, c1_i32_4⟩
def k0_off5 (i : grid0.Coords) (k0_t2 : Fin (k0_t2_loop i).trips) (c0_i32_336 : BitVec 32) : Fin 3 → Nat :=
  let c0_i32_2 : BitVec 32 := 0#32
  let arg2 : BitVec 32 := BitVec.ofNat 32 (i 2).val
  let v4 : BitVec 32 := Scalar.subi arg2 c0_i32_2
  let c1_i32 : BitVec 32 := 1#32
  let v6 : BitVec 32 := Scalar.divsi v4 c1_i32
  let v7 : BitVec 32 := Scalar.muli v6 c1_i32
  let v8 : BitVec 32 := Scalar.addi c0_i32_2 v7
  let c1_i32_4 : BitVec 32 := 1#32
  let arg11 : BitVec 32 := Scf.iv v8 c1_i32_4 k0_t2
  let c4_i32_335 : BitVec 32 := 4#32
  let v482 : BitVec 32 := Scalar.muli arg11 c4_i32_335
  let v483 : BitVec 32 := Scalar.addi v482 c0_i32_336
  let v485 : Index := Scalar.indexCast v483
  let c0_339 : Index := 0#32
  let c0_340 : Index := 0#32
  ![v485.toNat, 0, 0]
def k0_off6 (i : grid0.Coords) (k0_t2 : Fin (k0_t2_loop i).trips) (c0_i32_336 : BitVec 32) : Fin 4 → Nat :=
  let c0_342 : Index := 0#32
  let c0_i32_2 : BitVec 32 := 0#32
  let arg2 : BitVec 32 := BitVec.ofNat 32 (i 2).val
  let v4 : BitVec 32 := Scalar.subi arg2 c0_i32_2
  let c1_i32 : BitVec 32 := 1#32
  let v6 : BitVec 32 := Scalar.divsi v4 c1_i32
  let v7 : BitVec 32 := Scalar.muli v6 c1_i32
  let v8 : BitVec 32 := Scalar.addi c0_i32_2 v7
  let c1_i32_4 : BitVec 32 := 1#32
  let arg11 : BitVec 32 := Scf.iv v8 c1_i32_4 k0_t2
  let c4_i32_335 : BitVec 32 := 4#32
  let v482 : BitVec 32 := Scalar.muli arg11 c4_i32_335
  let v483 : BitVec 32 := Scalar.addi v482 c0_i32_336
  let v489 : Index := Scalar.indexCast v483
  let c0_343 : Index := 0#32
  let c0_344 : Index := 0#32
  ![0, v489.toNat, 0, 0]
def k0_off7 (i : grid0.Coords) (k0_t2 : Fin (k0_t2_loop i).trips) (c0_i32_336 : BitVec 32) : Fin 3 → Nat :=
  let c0_i32_2 : BitVec 32 := 0#32
  let arg2 : BitVec 32 := BitVec.ofNat 32 (i 2).val
  let v4 : BitVec 32 := Scalar.subi arg2 c0_i32_2
  let c1_i32 : BitVec 32 := 1#32
  let v6 : BitVec 32 := Scalar.divsi v4 c1_i32
  let v7 : BitVec 32 := Scalar.muli v6 c1_i32
  let v8 : BitVec 32 := Scalar.addi c0_i32_2 v7
  let c1_i32_4 : BitVec 32 := 1#32
  let arg11 : BitVec 32 := Scf.iv v8 c1_i32_4 k0_t2
  let c4_i32_335 : BitVec 32 := 4#32
  let v482 : BitVec 32 := Scalar.muli arg11 c4_i32_335
  let v483 : BitVec 32 := Scalar.addi v482 c0_i32_336
  let v503 : Index := Scalar.indexCast v483
  let c128_353 : Index := 128#32
  let c0_354 : Index := 0#32
  ![v503.toNat, 128, 0]
def k0_off8 (i : grid0.Coords) (k0_t2 : Fin (k0_t2_loop i).trips) (c0_i32_336 : BitVec 32) : Fin 4 → Nat :=
  let c1_356 : Index := 1#32
  let c0_i32_2 : BitVec 32 := 0#32
  let arg2 : BitVec 32 := BitVec.ofNat 32 (i 2).val
  let v4 : BitVec 32 := Scalar.subi arg2 c0_i32_2
  let c1_i32 : BitVec 32 := 1#32
  let v6 : BitVec 32 := Scalar.divsi v4 c1_i32
  let v7 : BitVec 32 := Scalar.muli v6 c1_i32
  let v8 : BitVec 32 := Scalar.addi c0_i32_2 v7
  let c1_i32_4 : BitVec 32 := 1#32
  let arg11 : BitVec 32 := Scf.iv v8 c1_i32_4 k0_t2
  let c4_i32_335 : BitVec 32 := 4#32
  let v482 : BitVec 32 := Scalar.muli arg11 c4_i32_335
  let v483 : BitVec 32 := Scalar.addi v482 c0_i32_336
  let v507 : Index := Scalar.indexCast v483
  let c0_357 : Index := 0#32
  let c0_358 : Index := 0#32
  ![1, v507.toNat, 0, 0]
def k0_off9 (i : grid0.Coords) (c0_i32_5 : BitVec 32) : Fin 3 → Nat :=
  let arg2 : BitVec 32 := BitVec.ofNat 32 (i 2).val
  let c4_i32 : BitVec 32 := 4#32
  let v9 : BitVec 32 := Scalar.muli arg2 c4_i32
  let v10 : BitVec 32 := Scalar.addi v9 c0_i32_5
  let v15 : Index := Scalar.indexCast v10
  let c0_8 : Index := 0#32
  let c0_9 : Index := 0#32
  ![v15.toNat, 0, 0]
def k0_off10 (i : grid0.Coords) : Fin 4 → Nat :=
  let c0_12 : Index := 0#32
  let arg2 : BitVec 32 := BitVec.ofNat 32 (i 2).val
  let c4_i32 : BitVec 32 := 4#32
  let v9 : BitVec 32 := Scalar.muli arg2 c4_i32
  let c0_i32_5 : BitVec 32 := 0#32
  let v10 : BitVec 32 := Scalar.addi v9 c0_i32_5
  let v21 : Index := Scalar.indexCast v10
  let c0_13 : Index := 0#32
  let c0_14 : Index := 0#32
  ![0, v21.toNat, 0, 0]
def k0_off11 (i : grid0.Coords) (c0_i32_5 : BitVec 32) : Fin 3 → Nat :=
  let arg2 : BitVec 32 := BitVec.ofNat 32 (i 2).val
  let c4_i32 : BitVec 32 := 4#32
  let v9 : BitVec 32 := Scalar.muli arg2 c4_i32
  let v10 : BitVec 32 := Scalar.addi v9 c0_i32_5
  let v35 : Index := Scalar.indexCast v10
  let c128_22 : Index := 128#32
  let c0_23 : Index := 0#32
  ![v35.toNat, 128, 0]
def k0_off12 (i : grid0.Coords) : Fin 4 → Nat :=
  let c1 : Index := 1#32
  let arg2 : BitVec 32 := BitVec.ofNat 32 (i 2).val
  let c4_i32 : BitVec 32 := 4#32
  let v9 : BitVec 32 := Scalar.muli arg2 c4_i32
  let c0_i32_5 : BitVec 32 := 0#32
  let v10 : BitVec 32 := Scalar.addi v9 c0_i32_5
  let v41 : Index := Scalar.indexCast v10
  let c0_26 : Index := 0#32
  let c0_27 : Index := 0#32
  ![1, v41.toNat, 0, 0]
def k0_off13 (i : grid0.Coords) : Fin 4 → Nat :=
  let c0_41 : Index := 0#32
  let arg2 : BitVec 32 := BitVec.ofNat 32 (i 2).val
  let c4_i32_34 : BitVec 32 := 4#32
  let v54 : BitVec 32 := Scalar.muli arg2 c4_i32_34
  let c1_i32_35 : BitVec 32 := 1#32
  let v55 : BitVec 32 := Scalar.addi v54 c1_i32_35
  let v66 : Index := Scalar.indexCast v55
  let c256_42 : Index := 256#32
  let c0_43 : Index := 0#32
  ![0, v66.toNat, 256, 0]
def k0_off14 (i : grid0.Coords) : Fin 4 → Nat :=
  let c1_56 : Index := 1#32
  let arg2 : BitVec 32 := BitVec.ofNat 32 (i 2).val
  let c4_i32_34 : BitVec 32 := 4#32
  let v54 : BitVec 32 := Scalar.muli arg2 c4_i32_34
  let c1_i32_35 : BitVec 32 := 1#32
  let v55 : BitVec 32 := Scalar.addi v54 c1_i32_35
  let v86 : Index := Scalar.indexCast v55
  let c256_57 : Index := 256#32
  let c0_58 : Index := 0#32
  ![1, v86.toNat, 256, 0]
def k0_off15 (i : grid0.Coords) : Fin 4 → Nat :=
  let c0_71 : Index := 0#32
  let arg2 : BitVec 32 := BitVec.ofNat 32 (i 2).val
  let c4_i32_65 : BitVec 32 := 4#32
  let v99 : BitVec 32 := Scalar.muli arg2 c4_i32_65
  let c2_i32 : BitVec 32 := 2#32
  let v100 : BitVec 32 := Scalar.addi v99 c2_i32
  let v111 : Index := Scalar.indexCast v100
  let c512_72 : Index := 512#32
  let c0_73 : Index := 0#32
  ![0, v111.toNat, 512, 0]
def k0_off16 (i : grid0.Coords) : Fin 4 → Nat :=
  let c1_86 : Index := 1#32
  let arg2 : BitVec 32 := BitVec.ofNat 32 (i 2).val
  let c4_i32_65 : BitVec 32 := 4#32
  let v99 : BitVec 32 := Scalar.muli arg2 c4_i32_65
  let c2_i32 : BitVec 32 := 2#32
  let v100 : BitVec 32 := Scalar.addi v99 c2_i32
  let v131 : Index := Scalar.indexCast v100
  let c512_87 : Index := 512#32
  let c0_88 : Index := 0#32
  ![1, v131.toNat, 512, 0]
def k0_off17 (i : grid0.Coords) : Fin 4 → Nat :=
  let c0_101 : Index := 0#32
  let arg2 : BitVec 32 := BitVec.ofNat 32 (i 2).val
  let c4_i32_95 : BitVec 32 := 4#32
  let v144 : BitVec 32 := Scalar.muli arg2 c4_i32_95
  let c3_i32 : BitVec 32 := 3#32
  let v145 : BitVec 32 := Scalar.addi v144 c3_i32
  let v156 : Index := Scalar.indexCast v145
  let c768_102 : Index := 768#32
  let c0_103 : Index := 0#32
  ![0, v156.toNat, 768, 0]
def k0_off18 (i : grid0.Coords) : Fin 4 → Nat :=
  let c1_116 : Index := 1#32
  let arg2 : BitVec 32 := BitVec.ofNat 32 (i 2).val
  let c4_i32_95 : BitVec 32 := 4#32
  let v144 : BitVec 32 := Scalar.muli arg2 c4_i32_95
  let c3_i32 : BitVec 32 := 3#32
  let v145 : BitVec 32 := Scalar.addi v144 c3_i32
  let v176 : Index := Scalar.indexCast v145
  let c768_117 : Index := 768#32
  let c0_118 : Index := 0#32
  ![1, v176.toNat, 768, 0]
@[reducible] def k0_t3_loop (i : grid0.Coords) : Scf.Loop 32 :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_150 : BitVec 32 := 1#32
  ⟨c0_i32_148, v219, c1_i32_150⟩
def k0_mult1 (i : grid0.Coords) (k0_t3 : Fin (k0_t3_loop i).trips) : BitVec 32 :=
  let c0_i32_148 : BitVec 32 := 0#32
  let c1_i32_150 : BitVec 32 := 1#32
  let arg11 : BitVec 32 := Scf.iv c0_i32_148 c1_i32_150 k0_t3
  let c4_i32_344 : BitVec 32 := 4#32
  let v488 : BitVec 32 := Scalar.muli arg11 c4_i32_344
  let c0_i32_345 : BitVec 32 := 0#32
  let v489 : BitVec 32 := Scalar.addi v488 c0_i32_345
  let c256_i32_346 : BitVec 32 := 256#32
  let v490 : BitVec 32 := Scalar.muli v489 c256_i32_346
  v490
def k0_off19 (i : grid0.Coords) (k0_t3 : Fin (k0_t3_loop i).trips) (c0_i32_345 : BitVec 32) : Fin 2 → Nat :=
  let c0_i32_148 : BitVec 32 := 0#32
  let c1_i32_150 : BitVec 32 := 1#32
  let arg11 : BitVec 32 := Scf.iv c0_i32_148 c1_i32_150 k0_t3
  let c4_i32_344 : BitVec 32 := 4#32
  let v488 : BitVec 32 := Scalar.muli arg11 c4_i32_344
  let v489 : BitVec 32 := Scalar.addi v488 c0_i32_345
  let c256_i32_346 : BitVec 32 := 256#32
  let v490 : BitVec 32 := Scalar.muli v489 c256_i32_346
  let v491 : BitVec 32 := v490
  let v492 : Index := Scalar.indexCast v491
  let c0_347 : Index := 0#32
  ![v492.toNat, 0]
def k0_off20 (i : grid0.Coords) (k0_t3 : Fin (k0_t3_loop i).trips) (c0_i32_345 : BitVec 32) (c0_i32_348 : BitVec 32) : Fin 4 → Nat :=
  let c0_349 : Index := 0#32
  let c0_i32_148 : BitVec 32 := 0#32
  let c1_i32_150 : BitVec 32 := 1#32
  let arg11 : BitVec 32 := Scf.iv c0_i32_148 c1_i32_150 k0_t3
  let c4_i32_344 : BitVec 32 := 4#32
  let v488 : BitVec 32 := Scalar.muli arg11 c4_i32_344
  let v489 : BitVec 32 := Scalar.addi v488 c0_i32_345
  let v494 : BitVec 32 := Scalar.addi v489 c0_i32_348
  let v495 : Index := Scalar.indexCast v494
  let c0_350 : Index := 0#32
  let c0_351 : Index := 0#32
  ![0, v495.toNat, 0, 0]
def k0_mult2 (i : grid0.Coords) (k0_t3 : Fin (k0_t3_loop i).trips) : BitVec 32 :=
  let c0_i32_148 : BitVec 32 := 0#32
  let c1_i32_150 : BitVec 32 := 1#32
  let arg11 : BitVec 32 := Scf.iv c0_i32_148 c1_i32_150 k0_t3
  let c4_i32_357 : BitVec 32 := 4#32
  let v522 : BitVec 32 := Scalar.muli arg11 c4_i32_357
  let c2_i32_358 : BitVec 32 := 2#32
  let v523 : BitVec 32 := Scalar.addi v522 c2_i32_358
  let c256_i32_359 : BitVec 32 := 256#32
  let v524 : BitVec 32 := Scalar.muli v523 c256_i32_359
  v524
def k0_mult3 (i : grid0.Coords) (k0_t3 : Fin (k0_t3_loop i).trips) : BitVec 32 :=
  let c0_i32_148 : BitVec 32 := 0#32
  let c1_i32_150 : BitVec 32 := 1#32
  let arg11 : BitVec 32 := Scf.iv c0_i32_148 c1_i32_150 k0_t3
  let c4_i32_385 : BitVec 32 := 4#32
  let v568 : BitVec 32 := Scalar.muli arg11 c4_i32_385
  let c0_i32_386 : BitVec 32 := 0#32
  let v569 : BitVec 32 := Scalar.addi v568 c0_i32_386
  let c256_i32_387 : BitVec 32 := 256#32
  let v570 : BitVec 32 := Scalar.muli v569 c256_i32_387
  v570
def k0_off21 (i : grid0.Coords) (k0_t3 : Fin (k0_t3_loop i).trips) (c0_i32_386 : BitVec 32) (c0_i32_389 : BitVec 32) : Fin 4 → Nat :=
  let c1_390 : Index := 1#32
  let c0_i32_148 : BitVec 32 := 0#32
  let c1_i32_150 : BitVec 32 := 1#32
  let arg11 : BitVec 32 := Scf.iv c0_i32_148 c1_i32_150 k0_t3
  let c4_i32_385 : BitVec 32 := 4#32
  let v568 : BitVec 32 := Scalar.muli arg11 c4_i32_385
  let v569 : BitVec 32 := Scalar.addi v568 c0_i32_386
  let v574 : BitVec 32 := Scalar.addi v569 c0_i32_389
  let v575 : Index := Scalar.indexCast v574
  let c0_391 : Index := 0#32
  let c0_392 : Index := 0#32
  ![1, v575.toNat, 0, 0]
def k0_mult4 (i : grid0.Coords) (k0_t3 : Fin (k0_t3_loop i).trips) : BitVec 32 :=
  let c0_i32_148 : BitVec 32 := 0#32
  let c1_i32_150 : BitVec 32 := 1#32
  let arg11 : BitVec 32 := Scf.iv c0_i32_148 c1_i32_150 k0_t3
  let c4_i32_398 : BitVec 32 := 4#32
  let v602 : BitVec 32 := Scalar.muli arg11 c4_i32_398
  let c2_i32_399 : BitVec 32 := 2#32
  let v603 : BitVec 32 := Scalar.addi v602 c2_i32_399
  let c256_i32_400 : BitVec 32 := 256#32
  let v604 : BitVec 32 := Scalar.muli v603 c256_i32_400
  v604
@[reducible] def k0_t4_loop (i : grid0.Coords) : Scf.Loop 32 :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let v216 : BitVec 32 := Scalar.addi c0_i32_148 v215
  let c1_i32_151 : BitVec 32 := 1#32
  ⟨v219, v216, c1_i32_151⟩
def k0_mult5 (i : grid0.Coords) (k0_t4 : Fin (k0_t4_loop i).trips) : BitVec 32 :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_344 : BitVec 32 := 4#32
  let v488 : BitVec 32 := Scalar.muli arg11 c4_i32_344
  let c0_i32_345 : BitVec 32 := 0#32
  let v489 : BitVec 32 := Scalar.addi v488 c0_i32_345
  let c256_i32_346 : BitVec 32 := 256#32
  let v490 : BitVec 32 := Scalar.muli v489 c256_i32_346
  v490
def k0_off22 (i : grid0.Coords) (k0_t4 : Fin (k0_t4_loop i).trips) (c0_i32_345 : BitVec 32) : Fin 2 → Nat :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_344 : BitVec 32 := 4#32
  let v488 : BitVec 32 := Scalar.muli arg11 c4_i32_344
  let v489 : BitVec 32 := Scalar.addi v488 c0_i32_345
  let c256_i32_346 : BitVec 32 := 256#32
  let v490 : BitVec 32 := Scalar.muli v489 c256_i32_346
  let v491 : BitVec 32 := v490
  let v492 : Index := Scalar.indexCast v491
  let c0_347 : Index := 0#32
  ![v492.toNat, 0]
def k0_off23 (i : grid0.Coords) (k0_t4 : Fin (k0_t4_loop i).trips) (c0_i32_345 : BitVec 32) (c0_i32_348 : BitVec 32) : Fin 4 → Nat :=
  let c0_349 : Index := 0#32
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_344 : BitVec 32 := 4#32
  let v488 : BitVec 32 := Scalar.muli arg11 c4_i32_344
  let v489 : BitVec 32 := Scalar.addi v488 c0_i32_345
  let v494 : BitVec 32 := Scalar.addi v489 c0_i32_348
  let v495 : Index := Scalar.indexCast v494
  let c0_350 : Index := 0#32
  let c0_351 : Index := 0#32
  ![0, v495.toNat, 0, 0]
def k0_mult6 (i : grid0.Coords) (k0_t4 : Fin (k0_t4_loop i).trips) : BitVec 32 :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_357 : BitVec 32 := 4#32
  let v522 : BitVec 32 := Scalar.muli arg11 c4_i32_357
  let c2_i32_358 : BitVec 32 := 2#32
  let v523 : BitVec 32 := Scalar.addi v522 c2_i32_358
  let c256_i32_359 : BitVec 32 := 256#32
  let v524 : BitVec 32 := Scalar.muli v523 c256_i32_359
  v524
def k0_mult7 (i : grid0.Coords) (k0_t4 : Fin (k0_t4_loop i).trips) : BitVec 32 :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_385 : BitVec 32 := 4#32
  let v568 : BitVec 32 := Scalar.muli arg11 c4_i32_385
  let c0_i32_386 : BitVec 32 := 0#32
  let v569 : BitVec 32 := Scalar.addi v568 c0_i32_386
  let c256_i32_387 : BitVec 32 := 256#32
  let v570 : BitVec 32 := Scalar.muli v569 c256_i32_387
  v570
def k0_off24 (i : grid0.Coords) (k0_t4 : Fin (k0_t4_loop i).trips) (c0_i32_386 : BitVec 32) (c0_i32_389 : BitVec 32) : Fin 4 → Nat :=
  let c1_390 : Index := 1#32
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_385 : BitVec 32 := 4#32
  let v568 : BitVec 32 := Scalar.muli arg11 c4_i32_385
  let v569 : BitVec 32 := Scalar.addi v568 c0_i32_386
  let v574 : BitVec 32 := Scalar.addi v569 c0_i32_389
  let v575 : Index := Scalar.indexCast v574
  let c0_391 : Index := 0#32
  let c0_392 : Index := 0#32
  ![1, v575.toNat, 0, 0]
def k0_mult8 (i : grid0.Coords) (k0_t4 : Fin (k0_t4_loop i).trips) : BitVec 32 :=
  let c0_i32_148 : BitVec 32 := 0#32
  let arg2 : BitVec 32 := BitVec.ofNat 32 (i 2).val
  let v215 : BitVec 32 := Scalar.subi arg2 c0_i32_148
  let c1_i32_149 : BitVec 32 := 1#32
  let v217 : BitVec 32 := Scalar.divsi v215 c1_i32_149
  let v218 : BitVec 32 := Scalar.muli v217 c1_i32_149
  let v219 : BitVec 32 := Scalar.addi c0_i32_148 v218
  let c1_i32_151 : BitVec 32 := 1#32
  let arg11 : BitVec 32 := Scf.iv v219 c1_i32_151 k0_t4
  let c4_i32_398 : BitVec 32 := 4#32
  let v602 : BitVec 32 := Scalar.muli arg11 c4_i32_398
  let c2_i32_399 : BitVec 32 := 2#32
  let v603 : BitVec 32 := Scalar.addi v602 c2_i32_399
  let c256_i32_400 : BitVec 32 := 256#32
  let v604 : BitVec 32 := Scalar.muli v603 c256_i32_400
  v604
def k0_mult9 (i : grid0.Coords) : BitVec 32 :=
  let arg2 : BitVec 32 := BitVec.ofNat 32 (i 2).val
  let c4_i32_152 : BitVec 32 := 4#32
  let v220 : BitVec 32 := Scalar.muli arg2 c4_i32_152
  let c0_i32_153 : BitVec 32 := 0#32
  let v221 : BitVec 32 := Scalar.addi v220 c0_i32_153
  let c256_i32 : BitVec 32 := 256#32
  let v222 : BitVec 32 := Scalar.muli v221 c256_i32
  v222
def k0_off25 (i : grid0.Coords) (c0_i32_153 : BitVec 32) : Fin 2 → Nat :=
  let arg2 : BitVec 32 := BitVec.ofNat 32 (i 2).val
  let c4_i32_152 : BitVec 32 := 4#32
  let v220 : BitVec 32 := Scalar.muli arg2 c4_i32_152
  let v221 : BitVec 32 := Scalar.addi v220 c0_i32_153
  let c256_i32 : BitVec 32 := 256#32
  let v222 : BitVec 32 := Scalar.muli v221 c256_i32
  let v223 : BitVec 32 := v222
  let v224 : Index := Scalar.indexCast v223
  let c0_154 : Index := 0#32
  ![v224.toNat, 0]
def k0_mult10 (i : grid0.Coords) : BitVec 32 :=
  let arg2 : BitVec 32 := BitVec.ofNat 32 (i 2).val
  let c4_i32_193 : BitVec 32 := 4#32
  let v280 : BitVec 32 := Scalar.muli arg2 c4_i32_193
  let c1_i32_194 : BitVec 32 := 1#32
  let v281 : BitVec 32 := Scalar.addi v280 c1_i32_194
  let c256_i32_195 : BitVec 32 := 256#32
  let v282 : BitVec 32 := Scalar.muli v281 c256_i32_195
  v282
def k0_mult11 (i : grid0.Coords) : BitVec 32 :=
  let arg2 : BitVec 32 := BitVec.ofNat 32 (i 2).val
  let c4_i32_235 : BitVec 32 := 4#32
  let v340 : BitVec 32 := Scalar.muli arg2 c4_i32_235
  let c2_i32_236 : BitVec 32 := 2#32
  let v341 : BitVec 32 := Scalar.addi v340 c2_i32_236
  let c256_i32_237 : BitVec 32 := 256#32
  let v342 : BitVec 32 := Scalar.muli v341 c256_i32_237
  v342
def k0_mult12 (i : grid0.Coords) : BitVec 32 :=
  let arg2 : BitVec 32 := BitVec.ofNat 32 (i 2).val
  let c4_i32_277 : BitVec 32 := 4#32
  let v400 : BitVec 32 := Scalar.muli arg2 c4_i32_277
  let c3_i32_278 : BitVec 32 := 3#32
  let v401 : BitVec 32 := Scalar.addi v400 c3_i32_278
  let c256_i32_279 : BitVec 32 := 256#32
  let v402 : BitVec 32 := Scalar.muli v401 c256_i32_279
  v402
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S16384x2048 : Shape := ⟨2, ![16384, 2048]⟩
abbrev S64x2048x256 : Shape := ⟨3, ![64, 2048, 256]⟩
abbrev S16384x1024 : Shape := ⟨2, ![16384, 1024]⟩
abbrev S4x4096x16x128 : Shape := ⟨4, ![4, 4096, 16, 128]⟩
abbrev S4x16x16x128x256 : Shape := ⟨5, ![4, 16, 16, 128, 256]⟩
abbrev S4x16x256x16x128 : Shape := ⟨5, ![4, 16, 256, 16, 128]⟩
abbrev S4x4096x16x64 : Shape := ⟨4, ![4, 4096, 16, 64]⟩
abbrev S4x16x4096x4096 : Shape := ⟨4, ![4, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S64x2048x256, .bf16⟩
  | .hbm, ⟨2, _⟩ => ⟨S16384x1024, .bf16⟩
  | .hbm, ⟨3, _⟩ => ⟨S16384x2048, .f32⟩
  | .hbm, ⟨4, _⟩ => ⟨S4x4096x16x128, .f32⟩
  | .hbm, ⟨5, _⟩ => ⟨S64x2048x256, .f32⟩
  | .hbm, ⟨6, _⟩ => ⟨S4x16x16x128x256, .f32⟩
  | .hbm, ⟨7, _⟩ => ⟨S4x16x256x16x128, .f32⟩
  | .hbm, ⟨8, _⟩ => ⟨S4x4096x16x128, .f32⟩
  | .hbm, ⟨9, _⟩ => ⟨S16384x1024, .f32⟩
  | .hbm, ⟨10, _⟩ => ⟨S4x4096x16x64, .f32⟩
  | .hbm, ⟨11, _⟩ => ⟨S4x16x4096x4096, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x16x4096x4096, .i1⟩
  | .hbm, ⟨22, _⟩ => ⟨S4x16x4096x4096, .f32⟩
  | .hbm, ⟨23, _⟩ => ⟨S4x16x4096x4096, .f32⟩
  | .hbm, ⟨24, _⟩ => ⟨S_, .f32⟩
  | .hbm, ⟨25, _⟩ => ⟨S4x16x4096, .f32⟩
  | .hbm, ⟨26, _⟩ => ⟨S4x16x4096x1, .f32⟩
  | .hbm, ⟨27, _⟩ => ⟨S4x16x4096x4096, .f32⟩
  | .hbm, ⟨28, _⟩ => ⟨S4x16x4096x4096, .f32⟩
  | .hbm, ⟨29, _⟩ => ⟨S_, .f32⟩
  | .hbm, ⟨30, _⟩ => ⟨S4x16x4096x4096, .f32⟩
  | .hbm, ⟨31, _⟩ => ⟨S4x16x4096x4096, .f32⟩
  | .hbm, ⟨32, _⟩ => ⟨S_, .f32⟩
  | .hbm, ⟨33, _⟩ => ⟨S4x16x4096, .f32⟩
  | .hbm, ⟨34, _⟩ => ⟨S4x16x4096x1, .f32⟩
  | .hbm, ⟨35, _⟩ => ⟨S4x16x4096x4096, .f32⟩
  | .hbm, ⟨36, _⟩ => ⟨S4x16x4096x4096, .f32⟩
  | .hbm, ⟨37, _⟩ => ⟨S4x16x64x4096, .f32⟩
  | .hbm, ⟨38, _⟩ => ⟨S4x4096x16x64, .f32⟩
  | .hbm, ⟨39, _⟩ => ⟨S16384x1024, .f32⟩
  | .hbm, ⟨40, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel4.lean ====
abbrev S16384x1024 : Shape := ⟨2, ![16384, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x1024x32 : Shape := ⟨3, ![2, 1024, 32]⟩
abbrev S1024x1024 : Shape := ⟨2, ![1024, 1024]⟩
abbrev S1x1024 : Shape := ⟨2, ![1, 1024]⟩
abbrev S1024 : Shape := ⟨1, ![1024]⟩
abbrev S1x1024x4 : Shape := ⟨3, ![1, 1024, 4]⟩
abbrev S1024x4 : Shape := ⟨2, ![1024, 4]⟩
abbrev S1x1024x32 : Shape := ⟨3, ![1, 1024, 32]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S2048x256 : Shape := ⟨2, ![2048, 256]⟩
abbrev S40x16384 : Shape := ⟨2, ![40, 16384]⟩
abbrev S512x1024 : Shape := ⟨2, ![512, 1024]⟩
abbrev S40x512 : Shape := ⟨2, ![40, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S256x128 : Shape := ⟨2, ![256, 128]⟩
abbrev S128x256 : Shape := ⟨2, ![128, 256]⟩
abbrev S40x256 : Shape := ⟨2, ![40, 256]⟩

abbrev nBuf : Space → Nat
  | .hbm => 30
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S1x1024x1024, .f32⟩
  | .hbm, ⟨4, _⟩ => ⟨S2x1024, .f32⟩
  | .hbm, ⟨5, _⟩ => ⟨S2x1024x4, .f32⟩
  | .hbm, ⟨6, _⟩ => ⟨S2x1024x32, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x4, .f32⟩
  | .hbm, ⟨13, _⟩ => ⟨S1024x4, .f32⟩
  | .hbm, ⟨14, _⟩ => ⟨S1x1024x32, .f32⟩
  | .hbm, ⟨15, _⟩ => ⟨S1024x32, .f32⟩
  | .hbm, ⟨16, _⟩ => ⟨S_, .f32⟩
  | .hbm, ⟨17, _⟩ => ⟨S1024x92, .f32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1024x256, .bf16⟩
  | .hbm, ⟨24, _⟩ => ⟨S_, .bf16⟩
  | .hbm, ⟨25, _⟩ => ⟨S1024x128, .bf16⟩
  | .hbm, ⟨26, _⟩ => ⟨S1024x256, .bf16⟩
  | .hbm, ⟨27, _⟩ => ⟨S2048x256, .bf16⟩
  | .hbm, ⟨28, _⟩ => ⟨S16384x1024, .f32⟩
  | .hbm, ⟨29, _⟩ => ⟨S40x16384, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S2048x256, .bf16⟩
  | .local _ .vmem, ⟨9, _⟩ => ⟨S512x1024, .f32⟩
  | .local _ .vmem, ⟨10, _⟩ => ⟨S512x1024, .f32⟩
  | .local _ .vmem, ⟨11, _⟩ => ⟨S40x512, .f32⟩
  | .local _ .vmem, ⟨12, _⟩ => ⟨S40x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x1024x32 : Shape := ⟨3, ![2, 1024, 32]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S1x1024x1024, .f32⟩
  | .hbm, ⟨4, _⟩ => ⟨S2x1024, .f32⟩
  | .hbm, ⟨5, _⟩ => ⟨S2x1024x4, .f32⟩
  | .hbm, ⟨6, _⟩ => ⟨S2x1024x32, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel5.lean ====
abbrev S16384x1024 : Shape := ⟨2, ![16384, 1024]⟩
abbrev S16384x8 : Shape := ⟨2, ![16384, 8]⟩
abbrev S2x16384x1024 : Shape := ⟨3, ![2, 16384, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S_ : Shape := ⟨0, ![]⟩
abbrev S128 : Shape := ⟨1, ![128]⟩
abbrev S1x128 : Shape := ⟨2, ![1, 128]⟩
abbrev S64x1 : Shape := ⟨2, ![64, 1]⟩
abbrev S2064x1024 : Shape := ⟨2, ![2064, 1024]⟩
abbrev S1024x2048 : Shape := ⟨2, ![1024, 2048]⟩
abbrev S16384x2048 : Shape := ⟨2, ![16384, 2048]⟩
abbrev S64x2048x256 : Shape := ⟨3, ![64, 2048, 256]⟩
abbrev S256x1024 : Shape := ⟨2, ![256, 1024]⟩
abbrev S256x8 : Shape := ⟨2, ![256, 8]⟩
abbrev S1x256x1024 : Shape := ⟨3, ![1, 256, 1024]⟩
abbrev S256x2048 : Shape := ⟨2, ![256, 2048]⟩
abbrev S1x2048x256 : Shape := ⟨3, ![1, 2048, 256]⟩
abbrev S1024x1024 : Shape := ⟨2, ![1024, 1024]⟩
abbrev S1024x128 : Shape := ⟨2, ![1024, 128]⟩
abbrev S16x1024 : Shape := ⟨2, ![16, 1024]⟩
abbrev S1024x16 : Shape := ⟨2, ![1024, 16]⟩
abbrev S1024x112 : Shape := ⟨2, ![1024, 112]⟩
abbrev S1024x64 : Shape := ⟨2, ![1024, 64]⟩
abbrev S256x1 : Shape := ⟨2, ![256, 1]⟩
abbrev S256 : Shape := ⟨1, ![256]⟩
abbrev S256x128 : Shape := ⟨2, ![256, 128]⟩
abbrev S256x256 : Shape := ⟨2, ![256, 256]⟩
abbrev S256x384 : Shape := ⟨2, ![256, 384]⟩
abbrev S128x256 : Shape := ⟨2, ![128, 256]⟩
abbrev S64x256 : Shape := ⟨2, ![64, 256]⟩
abbrev S1024x256 : Shape := ⟨2, ![1024, 256]⟩
abbrev S1x256 : Shape := ⟨2, ![1, 256]⟩
abbrev S1x128x256 : Shape := ⟨3, ![1, 128, 256]⟩

abbrev nBuf : Space → Nat
  | .hbm => 30
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x8, .f32⟩
  | .hbm, ⟨2, _⟩ => ⟨S2x16384x1024, .bf16⟩
  | .hbm, ⟨3, _⟩ => ⟨S1024, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S1x1024, .f32⟩
  | .hbm, ⟨8, _⟩ => ⟨S1x1024x2048, .f32⟩
  | .hbm, ⟨9, _⟩ => ⟨S1x64, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S64, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S64x1, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2064x1024, .f32⟩
  | .hbm, ⟨24, _⟩ => ⟨S1024x2048, .f32⟩
  | .hbm, ⟨25, _⟩ => ⟨S16384x1024, .f32⟩
  | .hbm, ⟨26, _⟩ => ⟨S16384x2048, .bf16⟩
  | .hbm, ⟨27, _⟩ => ⟨S64x2048x256, .bf16⟩
  | .hbm, ⟨28, _⟩ => ⟨S16384x1024, .bf16⟩
  | .hbm, ⟨29, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x8, .f32⟩
  | .local _ .vmem, ⟨3, _⟩ => ⟨S256x8, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1x1024, .f32⟩
  | .local _ .vmem, ⟨10, _⟩ => ⟨S2064x1024, .f32⟩
  | .local _ .vmem, ⟨11, _⟩ => ⟨S1x128, .f32⟩
  | .local _ .vmem, ⟨12, _⟩ => ⟨S1024x2048, .f32⟩
  | .local _ .vmem, ⟨13, _⟩ => ⟨S1x128, .f32⟩
  | .local _ .vmem, ⟨14, _⟩ => ⟨S64x1, .f32⟩
  | .local _ .vmem, ⟨15, _⟩ => ⟨S256x1024, .f32⟩
  | .local _ .vmem, ⟨16, _⟩ => ⟨S256x1024, .f32⟩
  | .local _ .vmem, ⟨17, _⟩ => ⟨S256x2048, .bf16⟩
  | .local _ .vmem, ⟨18, _⟩ => ⟨S256x2048, .bf16⟩
  | .local _ .vmem, ⟨19, _⟩ => ⟨S1x2048x256, .bf16⟩
  | .local _ .vmem, ⟨20, _⟩ => ⟨S1x2048x256, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x128, .f32⟩
  | .local _ .vmem, ⟨26, _⟩ => ⟨S1024x1024, .bf16⟩
  | .local _ .vmem, ⟨27, _⟩ => ⟨S1024x1024, .bf16⟩
  | .local _ .vmem, ⟨28, _⟩ => ⟨S1024x128, .bf16⟩
  | .local _ .vmem, ⟨29, _⟩ => ⟨S1024x2048, .bf16⟩
  | .local _ .vmem, ⟨30, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2064x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x1024 : Shape := ⟨2, ![16384, 1024]⟩
abbrev S16384x8 : Shape := ⟨2, ![16384, 8]⟩
abbrev S2x16384x1024 : Shape := ⟨3, ![2, 16384, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S1x1024 : Shape := ⟨2, ![1, 1024]⟩
abbrev S1x1024x2048 : Shape := ⟨3, ![1, 1024, 2048]⟩
abbrev S1x64 : Shape := ⟨2, ![1, 64]⟩
abbrev S16384x1 : Shape := ⟨2, ![16384, 1]⟩
abbrev S1x16384x1024 : Shape := ⟨3, ![1, 16384, 1024]⟩
abbrev S_ : Shape := ⟨0, ![]⟩
abbrev S16384 : Shape := ⟨1, ![16384]⟩
abbrev S16384x2064 : Shape := ⟨2, ![16384, 2064]⟩
abbrev S16384x16 : Shape := ⟨2, ![16384, 16]⟩
abbrev S1024x2048 : Shape := ⟨2, ![1024, 2048]⟩
abbrev S16384x2048 : Shape := ⟨2, ![16384, 2048]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8, .f32⟩
  | .hbm, ⟨2, _⟩ => ⟨S2x16384x1024, .bf16⟩
  | .hbm, ⟨3, _⟩ => ⟨S1024, .f32⟩
  | .hbm, ⟨4, _⟩ => ⟨S1024x2064, .f32⟩
  | .hbm, ⟨5, _⟩ => ⟨S16, .f32⟩
  | .hbm, ⟨6, _⟩ => ⟨S64, .f32⟩
  | .hbm, ⟨7, _⟩ => ⟨S1x1024, .f32⟩
  | .hbm, ⟨8, _⟩ => ⟨S1x1024x2048, .f32⟩
  | .hbm, ⟨9, _⟩ => ⟨S1x64, .f32⟩
  | .hbm, ⟨10, _⟩ => ⟨S2x16384x1024, .f32⟩
  | .hbm, ⟨11, _⟩ => ⟨S16384x1, .f32⟩
  | .hbm, ⟨12, _⟩ => ⟨S1x16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1, .f32⟩
  | .hbm, ⟨17, _⟩ => ⟨S1x16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x2064, .f32⟩
  | .hbm, ⟨40, _⟩ => ⟨S16384x1024, .f32⟩
  | .hbm, ⟨41, _⟩ => ⟨S16384x1024, .f32⟩
  | .hbm, ⟨42, _⟩ => ⟨S16384x16, .f32⟩
  | .hbm, ⟨43, _⟩ => ⟨S1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1024x2048, .f32⟩
  | .hbm, ⟨61, _⟩ => ⟨S16384x2048, .f32⟩
  | .hbm, ⟨62, _⟩ => ⟨S16384x1024, .f32⟩
  | .hbm, ⟨63, _⟩ => ⟨S16384x1024, .f32⟩
  | .hbm, ⟨64, _⟩ => ⟨S16384x1024, .bf16⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.Setup.lean ====
/-
  The gather kernel as the SparseCore launch theorem sees it, and the memrefs its tiles work through.

  The kernel runs on 2 SparseCores × 16 tiles. Tile `(c, s)` owns the eight blocks `8·(16c + s) + j`, `j < 8`, of 128 rows of the
  output, and writes them slab by slab: two slabs of 256 columns each. For one block of one slab it fetches the block's 128 row
  numbers into one of two index slots, gathers those rows' columns into one of two output slots (two indirect gathers, 128 columns
  each), and copies the output slot out.

  This module names the locations, the slots of the two staging buffers, the blocks of the three arrays, and what the output holds
  at the end (`G`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ViewIndex
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are five distinct ones, none of them a kernel's own, and no tile shares a buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the launch's hand-over rounds, and the counters of the transfers in flight -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays -/

abbrev yLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1

/-- The rows gathered from, the row numbers, and the output, as a tile addresses them. -/
abbrev yM : Memref sig .scVector .hbm S49152x512 .i32 := Memref.whole main_arg0_scv
abbrev iM : Memref sig .scVector .hbm S1x32768 .i32 := Memref.whole main_v0_scv
abbrev oM : Memref sig .scVector .hbm S32768x512 .i32 := Memref.whole main_v1_scv

abbrev cV (L : grid0.Coords) : Fin τ.nSC := (L 0).castLE hcore0
abbrev jV (L : grid0.Coords) : Fin τ.nSub := (L 1).castLE hsub0
/-- The tile at coordinates `L` of device `d`. -/
abbrev tV (d : Dev nD) (L : grid0.Coords) : Thread nD τ := V d (cV L) (jV L)

/-! ## What the kernel computes -/

/-- Row number `n` as a row of the gathered array (only numbers below 49152 occur). -/
def rowNo (n : ℕ) : Fin 49152 := ⟨n % 49152, Nat.mod_lt _ (by decide)⟩

/-- An index of a two-axis array from its coordinates. -/
def ix2 {dims : Fin 2 → ℕ} (x : Fin (dims 0)) (y : Fin (dims 1)) : (⟨2, dims⟩ : Shape).Idx :=
  fun | 0 => x | 1 => y | ⟨_ + 2, h⟩ => absurd h (Nat.not_lt.2 (Nat.le_add_left _ _))

/-- The output: row `r` is row `I[0, r]` of `Y`. -/
def G (Y : S49152x512.Idx → BitVec 32) (I : S1x32768.Idx → BitVec 32) : S32768x512.Idx → BitVec 32 := fun x =>
  Y (ix2 (dims := ![49152, 512]) (rowNo (I (ix2 (dims := ![1, 32768]) (0 : Fin 1) (x 0))).toNat) (x 1))

/-! ## Blocks and slots -/

theorem inbI (b : Fin 256) : ∀ a, (![0, 128 * b.val] : Fin 2 → ℕ) a + S1x128.size a ≤ S1x32768.size a := by
  intro a; have := b.isLt; match a with
  | 0 => show 0 + _ ≤ _; decide
  | 1 => show 128 * b.val + 128 ≤ 32768; omega
theorem inbO (b : Fin 256) (s : Fin 2) : ∀ a, (![128 * b.val, 256 * s.val] : Fin 2 → ℕ) a + S128x256.size a ≤ S32768x512.size a := by
  intro a; have := b.isLt; have := s.isLt; match a with
  | 0 => show 128 * b.val + 128 ≤ 32768; omega
  | 1 => show 256 * s.val + 256 ≤ 512; omega
theorem inbY (q : Fin 4) : ∀ a, (![0, 128 * q.val] : Fin 2 → ℕ) a + S49152x128.size a ≤ S49152x512.size a := by
  intro a; have := q.isLt; match a with
  | 0 => show 0 + _ ≤ _; decide
  | 1 => show 128 * q.val + 128 ≤ 512; omega
theorem inbA (p : Fin 2) : ∀ a, (![p.val, 0, 0] : Fin 3 → ℕ) a + S1x1x128.size a ≤ S2x1x128.size a := by revert p; decide
theorem inbB (p : Fin 2) : ∀ a, (![p.val, 0, 0] : Fin 3 → ℕ) a + S1x128x256.size a ≤ S2x128x256.size a := by revert p; decide
theorem inbS (p : Fin 2) : ∀ a, (![p.val] : Fin 1 → ℕ) a + S1.size a ≤ S2.size a := by revert p; decide
theorem inbH (h : Fin 2) : ∀ a, (![0, 128 * h.val] : Fin 2 → ℕ) a + S128x128.size a ≤ S128x256.size a := by revert h; decide

/-- Block `b` of the row numbers. -/
abbrev iBlk (b : Fin 256) : Memref sig .scVector .hbm S1x128 .i32 :=
  iM.slice (Rect.unit (s := S1x32768) ![0, 128 * b.val] S1x128.size (inbI b)) (fun _ => rfl)
/-- Block `b` of the output's rows, slab `s` of its columns. -/
abbrev oBlk (b : Fin 256) (s : Fin 2) : Memref sig .scVector .hbm S128x256 .i32 :=
  oM.slice (Rect.unit (s := S32768x512) ![128 * b.val, 256 * s.val] S128x256.size (inbO b s)) (fun _ => rfl)
/-- 128 columns of the gathered array. -/
abbrev yCol (q : Fin 4) : Memref sig .scVector .hbm S49152x128 .i32 :=
  (yM.slice (Rect.unit (s := S49152x512) ![0, 128 * q.val] S49152x128.size (inbY q)) (fun _ => rfl)).slice
    (Rect.unit (s := S49152x128) ![0, 0] S49152x128.size inb_S49152x128_S49152x128_0_0) (fun _ => rfl)

section Slots

variable (a : Memref sig .scVector .vmem S2x1x128 .i32) (o : Memref sig .scVector .vmem S2x128x256 .i32) (ss : DmaSems sig S2) (p : Fin 2)

/-- Index slot `p`. -/
abbrev aSl : Memref sig .scVector .vmem S1x128 .i32 :=
  (a.slice (Rect.unit (s := S2x1x128) ![p.val, 0, 0] S1x1x128.size (inbA p)) (fun _ => rfl)).squeeze S1x128 squeezes_S1x1x128_S1x128
/-- Index slot `p` as the list of row numbers a gather reads. -/
abbrev aList : Memref sig .scVector .vmem S128 .i32 :=
  ((aSl a p).slice (Rect.unit (s := S1x128) ![0, 0] S1x128.size inb_S1x128_S1x128_0_0) (fun _ => rfl)).squeeze S128 squeezes_S1x128_S128
/-- Output slot `p`. -/
abbrev oSl : Memref sig .scVector .vmem S128x256 .i32 :=
  (o.slice (Rect.unit (s := S2x128x256) ![p.val, 0, 0] S1x128x256.size (inbB p)) (fun _ => rfl)).squeeze S128x256 squeezes_S1x128x256_S128x256
/-- Half `h` of output slot `p`: its columns `128·h‥128·h+127`. -/
abbrev oHalf (h : Fin 2) : Memref sig .scVector .vmem S128x128 .i32 :=
  (oSl o p).slice (Rect.unit (s := S128x256) ![0, 128 * h.val] S128x128.size (inbH h)) (fun _ => rfl)
/-- The semaphore of slot `p`. -/
abbrev sSl : DmaSem sig := ((ss.slice (Rect.unit (s := S2) ![p.val] S1.size (inbS p))).squeeze S_ squeezes_S1_S_).sem

end Slots

end Cert.Proof

end
-- ==== Proof.Moves.lean ====
/-
  The five moves of the pipeline, one rule each: start and finish fetching a block of row numbers into an index slot, start and
  finish gathering half an output slot, start and finish copying an output slot out. Each rule says what the tile holds before
  and after; the offsets in the program may be any words equal to the slot's and the block's.
-/
module

public import proofs.«01_k».proof.Proof.Setup

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)
variable (Y : Buf (Elt F) (yLoc d)) (I : Buf (Elt F) (iLoc d)) (M : Buf (Elt F) (oLoc d)) (q : PosShare TreeShare)
variable (a : Memref sig .scVector .vmem S2x1x128 .i32) (o : Memref sig .scVector .vmem S2x128x256 .i32)

/-- The output the tile is to leave, as contents of the output array. -/
abbrev GB : Buf (Elt F) (oLoc d) := G Y I

/-! ## What a tile holds -/

/-- Index slot `p` at any contents. -/
def AAny (p : Fin 2) : sProp 𝕄 := iprop(∃ f, (aSl a p).view.loc (tV d L) ↦[(aSl a p).view.set]{fullShare} f)
/-- Index slot `p` holding block `b` of the row numbers. -/
def AHas (p : Fin 2) (b : Fin 256) : sProp 𝕄 :=
  iprop(∃ f, ⌜(aSl a p).view.read (Elt F) f = (iBlk b).view.read (Elt F) I⌝ ∗ (aSl a p).view.loc (tV d L) ↦[(aSl a p).view.set]{fullShare} f)
/-- The tile's share of the row numbers, whole. -/
def IAll : sProp 𝕄 := iprop(iLoc d ↦{q} I)
/-- Block `b` on its way into slot `p`, on semaphore `sm`. -/
def IFly (sm : DmaSem sig) (p : Fin 2) (b : Fin 256) : sProp 𝕄 :=
  iprop(Transfers.Flight countersEmb (tV d L) (.dma sm) (default : HIx 1) (aSl a p).view.dmaCredit
      iprop(AHas d L I a p b ∗ (iLoc d ↦[(iBlk b).view.set]{q} I))
    ∗ (iLoc d ↦[Finset.univ \ (iBlk b).view.set]{q} I))

/-- Output slot `p` at any contents. -/
def OAny (p : Fin 2) : sProp 𝕄 := iprop(∃ f, (oSl o p).view.loc (tV d L) ↦[(oSl o p).view.set]{fullShare} f)
/-- Output slot `p` whose first `n` halves hold block `b` of slab `s` of the output. -/
def OPart (p : Fin 2) (b : Fin 256) (s : Fin 2) (n : ℕ) : sProp 𝕄 :=
  iprop(∃ f, ⌜∀ x : S128x256.Idx, (x 1).val < 128 * n → (oSl o p).view.read (Elt F) f x = (oBlk b s).view.read (Elt F) (GB d Y I) x⌝
    ∗ (oSl o p).view.loc (tV d L) ↦[(oSl o p).view.set]{fullShare} f)
/-- Block `b` of slab `s` of the output, at contents `f`. -/
def OBlk (b : Fin 256) (s : Fin 2) (f : Buf (Elt F) (oLoc d)) : sProp 𝕄 := iprop(oLoc d ↦[(oBlk b s).view.set]{fullShare} f)
/-- Output slot `p` on its way out to block `b` of slab `s`. -/
def OFly (sm : DmaSem sig) (p : Fin 2) (b : Fin 256) (s : Fin 2) : sProp 𝕄 :=
  iprop(Transfers.Flight countersEmb (tV d L) (.dma sm) (default : HIx 1) (oBlk b s).view.dmaCredit
      iprop(OBlk d b s (GB d Y I) ∗ OAny (F := F) d L o p))

/-- A semaphore of the tile's at zero. -/
def S0 (sm : DmaSem sig) : sProp 𝕄 := iprop(semVal (tV d L, SemLoc.dma sm) 0)
/-- What the tile owes, with the waits it has made. -/
def Ow (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (tV d L) O W')

variable {d L I Y M q a o}

theorem oany_of_part {p b s n} : OPart (F := F) d L Y I o p b s n ⊢ OAny d L o p := by
  unfold OPart OAny
  iintro ⟨%f, -, H⟩
  iexists f; iexact H

theorem part_of_any {p b s} : OAny (F := F) d L o p ⊢ OPart d L Y I o p b s 0 := by
  unfold OPart OAny
  iintro ⟨%f, H⟩
  iexists f; isplitr
  · ipureintro; intro x hx; exact absurd hx (by omega)
  · iexact H

theorem aany_of_has {p b} : AHas (F := F) d L I a p b ⊢ AAny d L a p := by
  unfold AHas AAny
  iintro ⟨%f, -, H⟩
  iexists f; iexact H

/-- Any wait of the tile's: what is on its way arrives, the semaphore is back at zero. -/
theorem wait_rule {O : CellTallies nD τ sig (HIx 1)} {W : Waits sig (HIx 1)} (hO : ∀ g, O g none = 0)
    {s s' : Shape} {e e' : EltTy} {sp sp' : Space} {κ' : Kind} {sem : DmaSem sig}
    {srcw : Memref sig (tV d L).2.kind sp' s' e'} {dstw : Memref sig κ' sp s e} {hsrc : srcw.view.WordExact} {hdst : dstw.view.WordExact}
    {N : ℕ} (hN : dstw.view.dmaCredit = N) {R : sProp 𝕄} {Φ : PUnit → sProp 𝕄} :
    iprop(Transfers.Flight countersEmb (tV d L) (.dma sem) (default : HIx 1) N R ∗ Ow d L O W ∗ (iprop(R ∗ S0 d L sem ∗ Ow d L O W) -∗ Φ ⟨⟩))
      ⊢ wp frame (wpE (defs₀ (F := F)) 𝒱₀ (tV d L) none) Set.univ (Prog.lift (.waitDma2 sem srcw dstw hsrc hdst)) Φ := by
  unfold Ow S0
  iintro ⟨HF, ⟨#Hlv, %W', %hW', HO⟩, Hk⟩
  ihave Hmw := (show levAts (K (F := F)).L (K (F := F)).lev ⊢ Transfers.MayWaits (tV d L) (default : HIx 1) O from
    (K (F := F)).mayWaits_none (thr := tV d L) hO) $$ Hlv
  iapply (Transfers.wp_waitLocalO countersEmb 𝒱₀ (tV d L) none (default : HIx 1) hN) $$ [HF HO Hmw]
  · isplitl [HF]; · iexact HF
    isplitl [HO]; · iexact HO
    iapply (Transfers.MayWaits.elim (SemLoc.dma sem)) $$ Hmw
  iintro ⟨HR, HS, HO⟩
  rw [wp_ret]; imodintro
  iapply Hk
  isplitl [HR]; · iexact HR
  isplitl [HS]; · iexact HS
  isplitr; · iexact Hlv
  iexists _; isplitr
  swap; · iexact HO
  ipureintro; intro p hp
  rcases Finset.mem_insert.mp hp with hp | hp; · exact .inr (hp ▸ rfl)
  exact hW' p hp

/-! ## The index fetch -/

theorem ifetch {p : Fin 2} {b : Fin 256} {ss : DmaSems sig S2} {offI : Fin 2 → ℕ} {offA : Fin 3 → ℕ} {offS : Fin 1 → ℕ}
    {hi : ∀ x, offI x + S1x128.size x ≤ S1x32768.size x} {ha : ∀ x, offA x + S1x1x128.size x ≤ S2x1x128.size x}
    {hs : ∀ x, offS x + S1.size x ≤ S2.size x}
    (eI : offI = ![0, 128 * b.val]) (eA : offA = ![p.val, 0, 0]) (eS : offS = ![p.val]) {h1 h2 h3} {Φ : PUnit → sProp 𝕄} :
    iprop(AAny (F := F) d L a p ∗ IAll d I q ∗ S0 d L (sSl ss p) ∗ (IFly d L I q a (sSl ss p) p b -∗ Φ ⟨⟩))
      ⊢ wp frame (wpE (defs₀ (F := F)) 𝒱₀ (tV d L) none) Set.univ
          (Prog.lift (.enqueueDma (p := .scVector (cV L) (jV L)) (iM.slice (Rect.unit (s := S1x32768) offI S1x128.size hi) (fun _ => rfl))
            (.here ((a.slice (Rect.unit (s := S2x1x128) offA S1x1x128.size ha) (fun _ => rfl)).squeeze S1x128 squeezes_S1x1x128_S1x128))
            (.dma ((ss.slice (Rect.unit (s := S2) offS S1.size hs)).squeeze S_ squeezes_S1_S_).sem) h1 h2 h3)) Φ := by
  subst eI eA eS
  unfold AAny IAll S0 IFly
  iintro ⟨⟨%f, Ha⟩, HI, HS, Hk⟩
  ihave HI' := (pointsTo_split_subset (q := q) (f := I) (S := Finset.univ) (Finset.subset_univ (iBlk b).view.set)).1 $$ HI
  icases HI' with ⟨HI, HR⟩
  iapply (Transfers.wp_dmaLocal countersEmb 𝒱₀ (tV d L) none (default : HIx 1) (aSl a p).view.dmaCredit rfl
    ((aSl a p).view.dmaCredit_pos (by decide)) (Finset.Subset.refl _) (q := q) (fs := I) (fd := f) (src := iBlk b) (dst := aSl a p)) $$ [HI Ha HS]
  · isplitl [HI]; · iexact HI
    isplitl [Ha]; · iexact Ha
    iexact HS
  iintro HF
  rw [wp_ret]; imodintro
  iapply Hk
  isplitr [HR]
  · iapply (Transfers.Flight_mono countersEmb (tV d L) (sep_mono_left ?_)) $$ HF
    unfold AHas
    iintro H
    iexists _; isplitr
    swap; · iexact H
    ipureintro
    exact View.read_write_univ _ _
  · iexact HR

theorem ifetched {O : CellTallies nD τ sig (HIx 1)} {W : Waits sig (HIx 1)} (hO : ∀ g, O g none = 0)
    {p : Fin 2} {b : Fin 256} {ss : DmaSems sig S2} {offI : Fin 2 → ℕ} {offA : Fin 3 → ℕ} {offS : Fin 1 → ℕ}
    {hi : ∀ x, offI x + S1x128.size x ≤ S1x32768.size x} {ha : ∀ x, offA x + S1x1x128.size x ≤ S2x1x128.size x}
    {hs : ∀ x, offS x + S1.size x ≤ S2.size x}
    (eA : offA = ![p.val, 0, 0]) (eS : offS = ![p.val]) {h1 h2} {Φ : PUnit → sProp 𝕄} :
    iprop(IFly (F := F) d L I q a (sSl ss p) p b ∗ Ow d L O W
        ∗ (iprop(AHas (F := F) d L I a p b ∗ IAll d I q ∗ S0 d L (sSl ss p) ∗ Ow d L O W) -∗ Φ ⟨⟩))
      ⊢ wp frame (wpE (defs₀ (F := F)) 𝒱₀ (tV d L) none) Set.univ
          (Prog.lift (.waitDma2 (p := .scVector (cV L) (jV L)) ((ss.slice (Rect.unit (s := S2) offS S1.size hs)).squeeze S_ squeezes_S1_S_).sem
            (iM.slice (Rect.unit (s := S1x32768) offI S1x128.size hi) (fun _ => rfl))
            ((a.slice (Rect.unit (s := S2x1x128) offA S1x1x128.size ha) (fun _ => rfl)).squeeze S1x128 squeezes_S1x1x128_S1x128) h1 h2)) Φ := by
  subst eA eS
  unfold IFly IAll
  iintro ⟨⟨HF, HR⟩, HO, Hk⟩
  iapply (wait_rule hO rfl)
  isplitl [HF]; · iexact HF
  isplitl [HO]; · iexact HO
  iintro ⟨⟨HA, HI⟩, HS, HO⟩
  iapply Hk
  isplitl [HA]; · iexact HA
  isplitl [HI HR]
  · iapply (pointsTo_split_subset (q := q) (f := I) (S := Finset.univ) (Finset.subset_univ (iBlk b).view.set)).2
    isplitl [HI] <;> iassumption
  isplitl [HS] <;> iassumption

/-! ## The copy out -/

theorem ocopy {p : Fin 2} {b : Fin 256} {s : Fin 2} {ss : DmaSems sig S2} {offO : Fin 2 → ℕ} {offB : Fin 3 → ℕ} {offS : Fin 1 → ℕ}
    {hi : ∀ x, offO x + S128x256.size x ≤ S32768x512.size x} {ha : ∀ x, offB x + S1x128x256.size x ≤ S2x128x256.size x}
    {hs : ∀ x, offS x + S1.size x ≤ S2.size x}
    (eO : offO = ![128 * b.val, 256 * s.val]) (eB : offB = ![p.val, 0, 0]) (eS : offS = ![p.val]) {h1 h2 h3} {Φ : PUnit → sProp 𝕄} :
    iprop(OPart (F := F) d L Y I o p b s 2 ∗ OBlk d b s M ∗ S0 d L (sSl ss p) ∗ (OFly d L Y I o (sSl ss p) p b s -∗ Φ ⟨⟩))
      ⊢ wp frame (wpE (defs₀ (F := F)) 𝒱₀ (tV d L) none) Set.univ
          (Prog.lift (.enqueueDma (p := .scVector (cV L) (jV L))
            ((o.slice (Rect.unit (s := S2x128x256) offB S1x128x256.size ha) (fun _ => rfl)).squeeze S128x256 squeezes_S1x128x256_S128x256)
            (.here (oM.slice (Rect.unit (s := S32768x512) offO S128x256.size hi) (fun _ => rfl)))
            (.dma ((ss.slice (Rect.unit (s := S2) offS S1.size hs)).squeeze S_ squeezes_S1_S_).sem) h1 h2 h3)) Φ := by
  subst eO eB eS
  unfold OPart S0 OFly OBlk
  iintro ⟨⟨%f, %hf, Ho⟩, HB, HS, Hk⟩
  iapply (Transfers.wp_dmaLocal countersEmb 𝒱₀ (tV d L) none (default : HIx 1) (oBlk b s).view.dmaCredit rfl
    ((oBlk b s).view.dmaCredit_pos (by decide)) (Finset.Subset.refl _) (q := fullShare) (fs := f) (fd := M) (src := oSl o p) (dst := oBlk b s)) $$ [Ho HB HS]
  · isplitl [Ho]; · iexact Ho
    isplitl [HB]; · iexact HB
    iexact HS
  iintro HF
  rw [wp_ret]; imodintro
  iapply Hk
  iapply (Transfers.Flight_mono countersEmb (tV d L) (BIClass.sep_mono ?_ ?_)) $$ HF
  · refine Entails.of_eq (pointsTo_congr fun i hi => ?_)
    obtain ⟨x, -, rfl⟩ := Finset.mem_map.mp hi
    have h := hf x (show (x 1).val < 128 * 2 from (x 1).isLt)
    refine View.eq_of_read_eq (x := x) (Eq.trans ?_ h)
    rw [View.read_write_univ]
  · unfold OAny
    iintro H; iexists f; iexact H

theorem ocopied {O : CellTallies nD τ sig (HIx 1)} {W : Waits sig (HIx 1)} (hO : ∀ g, O g none = 0)
    {p : Fin 2} {b : Fin 256} {s : Fin 2} {ss : DmaSems sig S2} {offO : Fin 2 → ℕ} {offB : Fin 3 → ℕ} {offS : Fin 1 → ℕ}
    {hi : ∀ x, offO x + S128x256.size x ≤ S32768x512.size x} {ha : ∀ x, offB x + S1x128x256.size x ≤ S2x128x256.size x}
    {hs : ∀ x, offS x + S1.size x ≤ S2.size x} (eS : offS = ![p.val]) {h1 h2} {Φ : PUnit → sProp 𝕄} :
    iprop(OFly (F := F) d L Y I o (sSl ss p) p b s ∗ Ow d L O W
        ∗ (iprop(OBlk (F := F) d b s (GB d Y I) ∗ OAny (F := F) d L o p ∗ S0 d L (sSl ss p) ∗ Ow d L O W) -∗ Φ ⟨⟩))
      ⊢ wp frame (wpE (defs₀ (F := F)) 𝒱₀ (tV d L) none) Set.univ
          (Prog.lift (.waitDma2 (p := .scVector (cV L) (jV L)) ((ss.slice (Rect.unit (s := S2) offS S1.size hs)).squeeze S_ squeezes_S1_S_).sem
            ((o.slice (Rect.unit (s := S2x128x256) offB S1x128x256.size ha) (fun _ => rfl)).squeeze S128x256 squeezes_S1x128x256_S128x256)
            (oM.slice (Rect.unit (s := S32768x512) offO S128x256.size hi) (fun _ => rfl)) h1 h2)) Φ := by
  subst eS
  unfold OFly
  iintro ⟨HF, HO, Hk⟩
  iapply (wait_rule hO rfl)
  isplitl [HF]; · iexact HF
  isplitl [HO]; · iexact HO
  iintro ⟨⟨HA, HI⟩, HS, HO⟩
  iapply Hk
  isplitl [HA]; · iexact HA
  isplitl [HI]; · iexact HI
  isplitl [HS] <;> iassumption

end Cert.Proof

end
-- ==== Proof.Gather.lean ====
/-
  The gather of half an output slot: what it writes (the block's half of the output), and its two moves, start and finish.
-/
module

public import proofs.«01_k».proof.Proof.Moves

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {L : grid0.Coords}
variable {Y : Buf (Elt F) (yLoc d)} {I : Buf (Elt F) (iLoc d)} {M : Buf (Elt F) (oLoc d)} {q qy : PosShare TreeShare}
variable {a : Memref sig .scVector .vmem S2x1x128 .i32} {o : Memref sig .scVector .vmem S2x128x256 .i32}

/-! ## The contents -/

/-- The `k`-th word of the list is the `k`-th row number of the slot. -/
theorem list_word (p : Fin 2) (f : Buf (Elt F) ((aSl a p).view.loc (tV d L))) (k : Fin S128.numel) (h) :
    (aList a p).view.read (Elt F) f (S128.rowMajor.symm k) = (aSl a p).view.read (Elt F) f (ix2 (dims := ![1, 128]) (0 : Fin 1) (⟨k.val, h⟩ : Fin 128)) := by
  show ((aSl a p).view.slice (Rect.unit (s := S1x128) ![0, 0] S1x128.size inb_S1x128_S1x128_0_0)).read (Elt F) f
    (Shape.reshapeEquiv _ (S128.rowMajor.symm k)) = _
  have e : (Shape.reshapeEquiv (s := S1x128) (s' := S128) (by decide) (S128.rowMajor.symm k) : S1x128.Idx) = ix2 (dims := ![1, 128]) (0 : Fin 1) (⟨k.val, h⟩ : Fin 128) := by
    unfold Shape.reshapeEquiv
    simp only [Equiv.trans_apply, Equiv.apply_symm_apply]
    rw [Equiv.symm_apply_eq]
    apply Fin.ext
    refine Eq.trans ?_ (Shape.rowMajor_val_two _).symm
    show k.val = 0 * _ + k.val
    omega
  have e' := congrArg (fun z => ((aSl a p).view.slice (Rect.unit (s := S1x128) ![0, 0] S1x128.size inb_S1x128_S1x128_0_0)).read (Elt F) f z) e
  refine e'.trans ?_
  show (aSl a p).view.read (Elt F) f ((Rect.unit (s := S1x128) ![0, 0] S1x128.size inb_S1x128_S1x128_0_0).emb _) = _
  congr 1
  funext x
  apply Fin.ext
  rw [Rect.emb_apply]
  match x with
  | 0 => rfl
  | 1 => show 0 + 1 * k.val = k.val; omega

theorem iBlk_read (b : Fin 256) (k : Fin 128) (h) :
    (iBlk b).view.read (Elt F) I (ix2 (dims := ![1, 128]) (0 : Fin 1) k) = I (ix2 (dims := ![1, 32768]) (0 : Fin 1) (⟨128 * b.val + k.val, h⟩ : Fin 32768)) := by
  show I ((Rect.unit (s := S1x32768) ![0, 128 * b.val] S1x128.size (inbI b)).emb _) = _
  congr 1
  funext x
  apply Fin.ext
  rw [Rect.emb_apply]
  match x with
  | 0 => rfl
  | 1 => show 128 * b.val + 1 * k.val = 128 * b.val + k.val; omega

theorem oBlk_read (Z : Buf (Elt F) (oLoc d)) (b : Fin 256) (s : Fin 2) (x : S128x256.Idx) (h h') :
    (oBlk b s).view.read (Elt F) Z x = Z (ix2 (dims := ![32768, 512]) (⟨128 * b.val + (x 0).val, h⟩ : Fin 32768) (⟨256 * s.val + (x 1).val, h'⟩ : Fin 512)) := by
  show Z ((Rect.unit (s := S32768x512) ![128 * b.val, 256 * s.val] S128x256.size (inbO b s)).emb _) = _
  congr 1
  funext z
  apply Fin.ext
  rw [Rect.emb_apply]
  match z with
  | 0 => show 128 * b.val + 1 * (x 0).val = 128 * b.val + (x 0).val; omega
  | 1 => show 256 * s.val + 1 * (x 1).val = 256 * s.val + (x 1).val; omega

theorem yCol_read (c : Fin 4) (x : S49152x128.Idx) (h) :
    (yCol c).view.read (Elt F) Y x = Y (ix2 (dims := ![49152, 512]) (x 0 : Fin 49152) (⟨128 * c.val + (x 1).val, h⟩ : Fin 512)) := by
  show Y ((Rect.unit (s := S49152x512) ![0, 128 * c.val] S49152x128.size (inbY c)).emb
    ((Rect.unit (s := S49152x128) ![0, 0] S49152x128.size inb_S49152x128_S49152x128_0_0).emb x)) = _
  congr 1
  funext z
  apply Fin.ext
  rw [Rect.emb_apply, Rect.emb_apply]
  match z with
  | 0 => show 0 + 1 * (0 + 1 * (x 0).val) = (x 0).val; omega
  | 1 => show 128 * c.val + 1 * (0 + 1 * (x 1).val) = 128 * c.val + (x 1).val; omega

/-- Column block `h` of slab `s`. -/
abbrev colNo (s h : Fin 2) : Fin 4 := ⟨2 * s.val + h.val, by omega⟩

/-- The rows gathered for half `h` are the block's. -/
theorem gathered {p : Fin 2} {b : Fin 256} {s h : Fin 2} (hI : ∀ x, (I x).toNat < 49152)
    {fa : Buf (Elt F) ((aSl a p).view.loc (tV d L))} (hfa : (aSl a p).view.read (Elt F) fa = (iBlk b).view.read (Elt F) I) (hin) (y : S128x128.Idx) :
    SparseCore.gatherPayload gathers_S49152x128_S128x128 ((yCol (colNo s h)).view.read (Elt F) Y)
        (SparseCore.rows ((aList a p).view.read (Elt F) fa) (rfl : S128.numel = _) hin) y
      = (oBlk b s).view.read (Elt F) (G Y I) ((Rect.unit (s := S128x256) ![0, 128 * h.val] S128x128.size (inbH h)).emb y) := by
  have hy0 : (y 0).val < 128 := (y 0).isLt
  have hy1 : (y 1).val < 128 := (y 1).isLt
  have hb := b.isLt
  have hs := s.isLt
  have hh := h.isLt
  have h1 : 128 * (colNo s h).val + (Shape.Gathers.idx gathers_S49152x128_S128x128
      (SparseCore.rows ((aList a p).view.read (Elt F) fa) (rfl : S128.numel = S128x128.size gathers_S49152x128_S128x128.axis') hin) y 1).val < 512 := by
    have : (Shape.Gathers.idx gathers_S49152x128_S128x128
      (SparseCore.rows ((aList a p).view.read (Elt F) fa) (rfl : S128.numel = S128x128.size gathers_S49152x128_S128x128.axis') hin) y 1).val < 128 := Fin.isLt _
    have e : (colNo s h).val = 2 * s.val + h.val := rfl
    omega
  have e0 : ((Rect.unit (s := S128x256) ![0, 128 * h.val] S128x128.size (inbH h)).emb y 0).val = (y 0).val := by
    rw [Rect.emb_apply]; show 0 + 1 * (y 0).val = _; omega
  have e1 : ((Rect.unit (s := S128x256) ![0, 128 * h.val] S128x128.size (inbH h)).emb y 1).val = 128 * h.val + (y 1).val := by
    rw [Rect.emb_apply]; show 128 * h.val + 1 * (y 1).val = _; omega
  unfold SparseCore.gatherPayload
  refine (yCol_read (colNo s h) _ h1).trans (Eq.trans ?_ (oBlk_read (d := d) (GB d Y I) b s _ (by rw [e0]; omega) (by rw [e1]; omega)).symm)
  refine congrArg Y ?_
  funext z
  apply Fin.ext
  match z with
  | 0 =>
    refine (congrArg Fin.val (Shape.Gathers.idx_axis gathers_S49152x128_S128x128 _ y)).trans ?_
    refine (congrArg BitVec.toNat ((list_word p fa _ hy0).trans ((congrFun hfa _).trans
      (iBlk_read b ⟨(y 0).val, hy0⟩ (by show 128 * b.val + (y 0).val < 32768; omega))))).trans ?_
    refine Eq.trans ?_ (Nat.mod_eq_of_lt (hI _)).symm
    refine congrArg (fun n : Fin 32768 => (I (ix2 (dims := ![1, 32768]) (0 : Fin 1) n)).toNat) ?_
    apply Fin.ext
    show 128 * b.val + (y 0).val = 128 * b.val + _
    rw [e0]
  | 1 =>
    show 128 * (2 * s.val + h.val) + (Shape.Gathers.idx gathers_S49152x128_S128x128 _ y 1).val = 256 * s.val + ((Rect.unit (s := S128x256) ![0, 128 * h.val] S128x128.size (inbH h)).emb y 1).val
    rw [e1, Shape.Gathers.idx_of_ne gathers_S49152x128_S128x128 _ y 1 (by decide)]
    show 128 * (2 * s.val + h.val) + (y 1).val = 256 * s.val + (128 * h.val + (y 1).val)
    omega

/-- Writing half `h` adds it to the halves already there. -/
theorem part_next {p : Fin 2} {b : Fin 256} {s h : Fin 2} {f : Buf (Elt F) ((oSl o p).view.loc (tV d L))}
    (hf : ∀ x : S128x256.Idx, (x 1).val < 128 * h.val → (oSl o p).view.read (Elt F) f x = (oBlk b s).view.read (Elt F) (G Y I) x)
    (w : S128x128.Idx → Elt F .i32)
    (hw : ∀ y, w y = (oBlk b s).view.read (Elt F) (G Y I) ((Rect.unit (s := S128x256) ![0, 128 * h.val] S128x128.size (inbH h)).emb y)) :
    ∀ x : S128x256.Idx, (x 1).val < 128 * (h.val + 1) →
      (oSl o p).view.read (Elt F) ((oHalf o p h).view.write (Elt F) f w Finset.univ) x = (oBlk b s).view.read (Elt F) (G Y I) x := by
  intro x hx
  by_cases hlt : (x 1).val < 128 * h.val
  · rw [← hf x hlt]
    refine View.read_slice_write_of_not_mem _ _ _ _ ?_
    intro hm
    obtain ⟨y, -, rfl⟩ := Finset.mem_map.mp hm
    rw [Rect.emb_apply] at hlt
    have : 128 * h.val + 1 * (y 1).val < 128 * h.val := hlt
    omega
  · have hx1 : (x 1).val < 256 := (x 1).isLt
    have hx0 : (x 0).val < 128 := (x 0).isLt
    have e : x = (Rect.unit (s := S128x256) ![0, 128 * h.val] S128x128.size (inbH h)).emb
        (ix2 (dims := ![128, 128]) (⟨(x 0).val, hx0⟩ : Fin 128) (⟨(x 1).val - 128 * h.val, by omega⟩ : Fin 128)) := by
      funext z
      apply Fin.ext
      rw [Rect.emb_apply]
      match z with
      | 0 => show (x 0).val = 0 + 1 * (x 0).val; omega
      | 1 => show (x 1).val = 128 * h.val + 1 * ((x 1).val - 128 * h.val); omega
    rw [e]
    refine (View.read_slice_write_emb _ _ _ (Finset.mem_univ _)).trans ?_
    exact hw _

/-! ## The two moves -/

variable (d L Y I q qy a o)

/-- The tile's share of the gathered array, whole. -/
def YAll : sProp 𝕄 := iprop(yLoc d ↦{qy} Y)

/-- Half `h` of output slot `p` on its way, on semaphore `sm`: the rows block `b` names, in columns `128·(2s+h)‥`. -/
def GFly (sm : DmaSem sig) (p : Fin 2) (b : Fin 256) (s h : Fin 2) : sProp 𝕄 :=
  iprop(∃ (fa : Buf (Elt F) ((aSl a p).view.loc (tV d L))) (fo : Buf (Elt F) ((oSl o p).view.loc (tV d L))),
    ⌜(aSl a p).view.read (Elt F) fa = (iBlk b).view.read (Elt F) I⌝
    ∗ ⌜∀ x : S128x256.Idx, (x 1).val < 128 * (h.val + 1) → (oSl o p).view.read (Elt F) fo x = (oBlk b s).view.read (Elt F) (GB d Y I) x⌝
    ∗ Transfers.Flight countersEmb (tV d L) (.dma sm) (default : HIx 1) (oHalf o p h).view.dmaCredit
        iprop(((oHalf o p h).view.loc (tV d L) ↦[(oHalf o p h).view.set]{fullShare} fo)
          ∗ (yLoc d ↦[(yCol (colNo s h)).view.set]{qy} Y)
          ∗ ((aList a p).view.loc (tV d L) ↦[(aList a p).view.set]{fullShare} fa))
    ∗ ((oSl o p).view.loc (tV d L) ↦[(oSl o p).view.set \ (oHalf o p h).view.set]{fullShare} fo)
    ∗ (yLoc d ↦[Finset.univ \ (yCol (colNo s h)).view.set]{qy} Y))

variable {d L Y I q qy a o}

theorem aList_set (p : Fin 2) : (aList a p).view.set = (aSl a p).view.set := by
  show (((aSl a p).view.slice (Rect.unit (s := S1x128) ![0, 0] S1x128.size inb_S1x128_S1x128_0_0)).reshape S128 _).set = _
  rw [View.set_reshape, View.set_slice, ← Rect.map_emb_univ, Finset.map_map]
  have e : (Rect.unit (s := S1x128) ![0, 0] S1x128.size inb_S1x128_S1x128_0_0).emb = Function.Embedding.refl S1x128.Idx := by
    ext x z
    rw [Rect.emb_apply]
    match z with
    | 0 => show 0 + 1 * (x 0).val = (x 0).val; omega
    | 1 => show 0 + 1 * (x 1).val = (x 1).val; omega
  rw [e]
  rfl

theorem oHalf_sub (p h : Fin 2) : (oHalf o p h).view.set ⊆ (oSl o p).view.set := View.set_slice_subset _ _

theorem gstart {p : Fin 2} {b : Fin 256} {s h : Fin 2} (hI : ∀ x, (I x).toNat < 49152) {sg : DmaSems sig S_}
    {offY : Fin 2 → ℕ} {offH : Fin 2 → ℕ} {offA offB : Fin 3 → ℕ}
    {hy : ∀ x, offY x + S49152x128.size x ≤ S49152x512.size x} {hh : ∀ x, offH x + S128x128.size x ≤ S128x256.size x}
    {ha : ∀ x, offA x + S1x1x128.size x ≤ S2x1x128.size x} {hb : ∀ x, offB x + S1x128x256.size x ≤ S2x128x256.size x}
    (eA : offA = ![p.val, 0, 0]) (eB : offB = ![p.val, 0, 0]) (eY : offY = ![0, 128 * (colNo s h).val]) (eH : offH = ![0, 128 * h.val])
    {h1 h2 h3 h4 h5 h6} {Φ : PUnit → sProp 𝕄} :
    iprop(AHas (F := F) d L I a p b ∗ OPart d L Y I o p b s h.val ∗ YAll d Y qy ∗ S0 d L sg.sem ∗ (GFly d L Y I qy a o sg.sem p b s h -∗ Φ ⟨⟩))
      ⊢ wp frame (wpE (defs₀ (F := F)) 𝒱₀ (tV d L) none) Set.univ
          (SparseCore.enqueueIndirectGather (p := .scVector (cV L) (jV L)) h1
            ((yM.slice (Rect.unit (s := S49152x512) offY S49152x128.size hy) (fun _ => rfl)).slice (Rect.unit (s := S49152x128) ![0, 0] S49152x128.size inb_S49152x128_S49152x128_0_0) (fun _ => rfl))
            (((o.slice (Rect.unit (s := S2x128x256) offB S1x128x256.size hb) (fun _ => rfl)).squeeze S128x256 squeezes_S1x128x256_S128x256).slice (Rect.unit (s := S128x256) offH S128x128.size hh) (fun _ => rfl))
            gathers_S49152x128_S128x128
            ((((a.slice (Rect.unit (s := S2x1x128) offA S1x1x128.size ha) (fun _ => rfl)).squeeze S1x128 squeezes_S1x1x128_S1x128).slice (Rect.unit (s := S1x128) ![0, 0] S1x128.size inb_S1x128_S1x128_0_0) (fun _ => rfl)).squeeze S128 squeezes_S1x128_S128)
            h2 sg.sem h3 h4 h5 h6) Φ := by
  subst eA eB eY eH
  unfold AHas OPart YAll S0 GFly
  iintro ⟨⟨%fa, %hfa, HA⟩, ⟨%fo, %hfo, HO⟩, HY, HS, Hk⟩
  have hin : ∀ x, ((aList a p).view.read (Elt F) fa x).toNat < S49152x128.size gathers_S49152x128_S128x128.axis := by
    intro x
    obtain ⟨k, rfl⟩ := S128.rowMajor.symm.surjective x
    have hk : k.val < 128 := k.isLt
    have e := (list_word (F := F) (a := a) (d := d) (L := L) p fa k hk).trans ((congrFun hfa _).trans (iBlk_read (F := F) (d := d) (I := I) b ⟨k.val, hk⟩ (by have := b.isLt; show 128 * b.val + k.val < 32768; omega)))
    rw [e]
    exact hI _
  ihave HY' := (pointsTo_split_subset (q := qy) (f := Y) (S := Finset.univ) (Finset.subset_univ (yCol (colNo s h)).view.set)).1 $$ HY
  icases HY' with ⟨HY, HYr⟩
  ihave HO' := (pointsTo_split_subset (q := fullShare) (f := fo) (oHalf_sub (o := o) p h)).1 $$ HO
  icases HO' with ⟨HO, HOr⟩
  ihave HA := (Entails.of_eq (show ((aSl a p).view.loc (tV d L) ↦[(aSl a p).view.set]{fullShare} fa : sProp 𝕄)
    = (aList a p).view.loc (tV d L) ↦[(aList a p).view.set]{fullShare} fa by rw [aList_set])) $$ HA
  rw [show (SparseCore.enqueueIndirectGather (p := .scVector (cV L) (jV L)) h1 (yCol (colNo s h)) (oHalf o p h) gathers_S49152x128_S128x128 (aList a p) h2 sg.sem h3 h4 h5 h6
      : Prog (TpuEff nD τ sig (Elt F) Λ₀ (.scVector (cV L) (jV L))) PUnit)
    = SparseCore.enqueueIndirectGather (p := .scVector (cV L) (jV L)) h1 (yCol (colNo s h)) (oHalf o p h) gathers_S49152x128_S128x128 (aList a p) h2 sg.sem h3 h4 h5 h6 >>= fun u => .ret u
    from (bind_pure _).symm]
  iapply (SparseCore.wp_indirectGatherLocal countersEmb 𝒱₀ (tV d L) none (src := yCol (colNo s h)) (dst := oHalf o p h) (offs := aList a p)
    (hg := gathers_S49152x128_S128x128) (fs := Y) (fd := fo) (fo := fa) (default : HIx 1)
    (oHalf o p h).view.dmaCredit (SparseCore.sum_rowCredit_eq_dmaCredit (oHalf o p h) _ (fun _ => rfl)) (by decide) hin) $$ [HY HO HA HS]
  · isplitl [HY]; · iexact HY
    isplitl [HO]; · iexact HO
    isplitl [HA]; · iexact HA
    iexact HS
  iintro HF
  rw [wp_ret]; imodintro
  iapply Hk
  iexists fa, _
  isplitr; · ipureintro; exact hfa
  isplitr
  · ipureintro
    exact part_next (L := L) hfo _ (gathered (L := L) hI hfa hin)
  isplitl [HF]; · iexact HF
  isplitl [HOr]
  · iapply (Entails.of_eq (pointsTo_congr (fun i hi => ?_))) $$ HOr
    exact (View.write_of_not_mem _ _ _ (by exact (Finset.mem_sdiff.mp hi).2)).symm
  · iexact HYr

theorem gfinish {O : CellTallies nD τ sig (HIx 1)} {W : Waits sig (HIx 1)} (hO : ∀ g, O g none = 0)
    {p : Fin 2} {b : Fin 256} {s h : Fin 2} {sg : DmaSems sig S_}
    {offY : Fin 2 → ℕ} {offH : Fin 2 → ℕ} {offB : Fin 3 → ℕ}
    {hy : ∀ x, offY x + S49152x128.size x ≤ S49152x512.size x} {hh : ∀ x, offH x + S128x128.size x ≤ S128x256.size x}
    {hb : ∀ x, offB x + S1x128x256.size x ≤ S2x128x256.size x}
    (eB : offB = ![p.val, 0, 0]) (eH : offH = ![0, 128 * h.val]) {h1 h2} {Φ : PUnit → sProp 𝕄} :
    iprop(GFly (F := F) d L Y I qy a o sg.sem p b s h ∗ Ow d L O W
        ∗ (iprop(AHas (F := F) d L I a p b ∗ OPart d L Y I o p b s (h.val + 1) ∗ YAll d Y qy ∗ S0 d L sg.sem ∗ Ow d L O W) -∗ Φ ⟨⟩))
      ⊢ wp frame (wpE (defs₀ (F := F)) 𝒱₀ (tV d L) none) Set.univ
          (SparseCore.waitIndirectGather (p := .scVector (cV L) (jV L)) sg.sem
            ((yM.slice (Rect.unit (s := S49152x512) offY S49152x128.size hy) (fun _ => rfl)).slice (Rect.unit (s := S49152x128) ![0, 0] S49152x128.size inb_S49152x128_S49152x128_0_0) (fun _ => rfl))
            (((o.slice (Rect.unit (s := S2x128x256) offB S1x128x256.size hb) (fun _ => rfl)).squeeze S128x256 squeezes_S1x128x256_S128x256).slice (Rect.unit (s := S128x256) offH S128x128.size hh) (fun _ => rfl))
            h1 h2) Φ := by
  subst eB eH
  unfold GFly AHas OPart YAll
  iintro ⟨⟨%fa, %fo, %hfa, %hfo, HF, HOr, HYr⟩, HO, Hk⟩
  iapply (wait_rule hO rfl)
  isplitl [HF]; · iexact HF
  isplitl [HO]; · iexact HO
  iintro ⟨⟨HD, HY, HA⟩, HS, HO⟩
  iapply Hk
  isplitl [HA]
  · iexists fa; isplitr; · ipureintro; exact hfa
    ihave HA := (Entails.of_eq (show ((aList a p).view.loc (tV d L) ↦[(aList a p).view.set]{fullShare} fa : sProp 𝕄)
      = (aSl a p).view.loc (tV d L) ↦[(aSl a p).view.set]{fullShare} fa by rw [aList_set])) $$ HA
    iexact HA
  isplitl [HD HOr]
  · iexists fo; isplitr; · ipureintro; exact hfo
    iapply (pointsTo_split_subset (q := fullShare) (f := fo) (oHalf_sub (o := o) p h)).2
    isplitl [HD] <;> iassumption
  isplitl [HY HYr]
  · iapply (pointsTo_split_subset (q := qy) (f := Y) (S := Finset.univ) (Finset.subset_univ (yCol (colNo s h)).view.set)).2
    isplitl [HY] <;> iassumption
  isplitl [HS] <;> iassumption

end Cert.Proof

end
-- ==== Proof.Words.lean ====
/-
  The words of the pipeline at tile `i` and trip `k`, evaluated: which slot, which block, which steps are taken. Each by
  evaluation over the 32 tiles and 8 trips.
-/
module

public import proofs.«01_k».proof.Proof.Setup

@[expose] public section

set_option maxRecDepth 65536

namespace Cert.Proof

open Cert.KernelIdeal Cert.KernelIdeal.Gen
open Idealize.ShloMosaic

/-- The tile's number. -/
def tileNo (i : grid0.Coords) : Fin 32 := ⟨16 * (i 0).val + (i 1).val, by
  have h0 : (i 0).val < 2 := (i 0).isLt
  have h1 : (i 1).val < 16 := (i 1).isLt
  omega⟩
/-- The `k`-th block of the tile. -/
def blk (i : grid0.Coords) (k : ℕ) : Fin 256 := ⟨(8 * (tileNo i).val + k) % 256, Nat.mod_lt _ (by decide)⟩
/-- The slot of trip `k`. -/
def slot (k : ℕ) : Fin 2 := ⟨k % 2, Nat.mod_lt _ (by decide)⟩

/-- Five words a loop carries. -/
abbrev W5 : Type := BitVec 32 × BitVec 32 × BitVec 32 × BitVec 32 × BitVec 32
/-- The words carried into trip `k`. -/
def words (k : ℕ) : W5 := (BitVec.ofNat 32 (k + 1 - k / 8), BitVec.ofNat 32 k, BitVec.ofNat 32 k, BitVec.ofNat 32 (k - 1), BitVec.ofNat 32 (k % 8))

abbrev wa (k : ℕ) : BitVec 32 := (words k).1
abbrev wb (k : ℕ) : BitVec 32 := (words k).2.1
abbrev wc (k : ℕ) : BitVec 32 := (words k).2.2.1
abbrev wd (k : ℕ) : BitVec 32 := (words k).2.2.2.1
abbrev we (k : ℕ) : BitVec 32 := (words k).2.2.2.2

/-- The tile's first block's number, as the program computes it. -/
def v4W (i : grid0.Coords) : BitVec 32 :=
  Scalar.muli (Scalar.addi (Scalar.addi 0#32 (Scalar.muli (BitVec.ofNat 32 (i 1).val) 1#32)) (Scalar.muli (BitVec.ofNat 32 (i 0).val) 16#32)) 8#32

/-- The words a trip hands on, from those it was given: `t` its induction variable, `n` the block after it, `b` the one before. -/
def nextW (v4 a6 a7 a8 a9 a10 : BitVec 32) (k : ℕ) : W5 :=
  let t := Scf.iv 0#32 1#32 k
  let v71 := Scalar.addi a10 v4
  let n := Scalar.addi (Scalar.select (Scalar.cmpi .eq (Scalar.select 1#1 (Scalar.addi a10 1#32) a10) 8#32) 0#32 (Scalar.select 1#1 (Scalar.addi a10 1#32) a10)) v4
  let b := Scalar.addi (Scalar.select (Scalar.cmpi .eq (Scalar.select 1#1 (Scalar.subi a10 1#32) a10) 4294967295#32) 7#32 (Scalar.select 1#1 (Scalar.subi a10 1#32) a10)) v4
  (Scalar.select (Scalar.andi (Scalar.andi (Scalar.cmpi .ne v71 n) (Scalar.xori (Scalar.cmpi .sge t 7#32) 1#1)) 1#1) (Scalar.addi a6 1#32) a6,
    Scalar.select (Scalar.ori (Scalar.cmpi .ne v71 n) (Scalar.cmpi .eq t 7#32)) (Scalar.addi a7 1#32) a7,
    Scalar.select (Scalar.andi (Scalar.ori (Scalar.cmpi .ne v71 n) (Scalar.cmpi .eq t 7#32)) 1#1) (Scalar.addi a8 1#32) a8,
    Scalar.select (Scalar.andi (Scalar.andi (Scalar.cmpi .ne v71 b) (Scalar.xori (Scalar.cmpi .eq t 0#32) 1#1)) 1#1) (Scalar.addi a9 1#32) a9,
    Scalar.select (Scalar.cmpi .eq (Scalar.select 1#1 (Scalar.addi a10 1#32) a10) 8#32) 0#32 (Scalar.select 1#1 (Scalar.addi a10 1#32) a10))

theorem nextW_eq : ∀ (i : grid0.Coords) (k : Fin 8), nextW (v4W i) (wa k.val) (wb k.val) (wc k.val) (wd k.val) (we k.val) k.val = words (k.val + 1) := by
  decide +kernel

/-! ## The first slab -/

theorem off1_eq : k0_off1 = ![(slot 0).val, 0, 0] := by decide +kernel
theorem off2_eq : ∀ i : grid0.Coords, k0_off2 i = ![0, 128 * (blk i 0).val] := by decide +kernel
theorem off3_eq : k0_off3 = ![(slot 0).val] := by decide +kernel
theorem off4_eq : ∀ k : Fin 8, k.val < 7 → k0_off4 (wa k.val) = ![(slot (k.val + 1)).val, 0, 0] := by decide +kernel
theorem off5_eq : ∀ (i : grid0.Coords) (k : Fin 8), k.val < 7 → k0_off5 i (we k.val) = ![0, 128 * (blk i (k.val + 1)).val] := by decide +kernel
theorem off6_eq : ∀ k : Fin 8, k.val < 7 → k0_off6 (wa k.val) = ![(slot (k.val + 1)).val] := by decide +kernel
theorem off7_eq : ∀ k : Fin 8, k0_off7 (wb k.val) = ![(slot k.val).val, 0, 0] := by decide +kernel
theorem off9_eq : ∀ k : Fin 8, k0_off9 (wb k.val) = ![(slot k.val).val] := by decide +kernel
theorem off10_eq : ∀ k : Fin 8, k0_off10 (wc k.val) = ![(slot k.val).val, 0, 0] := by decide +kernel
theorem off11_eq : ∀ k : Fin 8, k0_off11 (wb k.val) = ![(slot k.val).val, 0, 0] := by decide +kernel
theorem off12_eq : ∀ k : Fin 8, k0_off12 (wc k.val) = ![(slot k.val).val, 0, 0] := by decide +kernel
theorem off13_eq : ∀ (i : grid0.Coords) (k : Fin 8), k0_off13 i (we k.val) = ![128 * (blk i k.val).val, 256 * (0 : Fin 2).val] := by decide +kernel
theorem off14_eq : ∀ k : Fin 8, k0_off14 (wc k.val) = ![(slot k.val).val] := by decide +kernel
theorem off17_eq : ∀ k : Fin 8, 0 < k.val → k0_off17 (wd k.val) = ![(slot (k.val + 1)).val] := by decide +kernel
theorem off20_eq : k0_off20 (wd 8) = ![(slot 7).val] := by decide +kernel

theorem chk1_ok : ∀ (i : grid0.Coords) (k : Fin 8), k0_chk1 i k (wa k.val) (wb k.val) (wc k.val) (wd k.val) (we k.val) := by
  have h : ∀ (i : grid0.Coords) (k : Fin 8), @decide (k0_chk1 i k (wa k.val) (wb k.val) (wc k.val) (wd k.val) (we k.val)) (k0_chk1.dec _ _ _ _ _ _ _) = true := by decide +kernel
  exact fun i k => @of_decide_eq_true _ (k0_chk1.dec _ _ _ _ _ _ _) (h i k)
theorem chk2_ok : ∀ k : Fin 8, k0_chk2 (wc k.val) := by decide +kernel
theorem chk3_ok : ∀ k : Fin 8, k0_chk3 (wb k.val) := by decide +kernel
theorem chk4_ok : k0_chk4 (wd 8) := by decide +kernel
theorem chk5_ok : ∀ i : grid0.Coords, k0_chk5 i (we 8) := by decide +kernel

theorem cond1_eq : ∀ (i : grid0.Coords) (k : Fin 8), k0_cond1 i k (we k.val) = 1#1 ↔ k.val < 7 := by decide +kernel
theorem cond2_eq : ∀ (i : grid0.Coords) (k : Fin 8), k0_cond2 i k (we k.val) = 1#1 := by decide +kernel
theorem cond5_eq : ∀ (i : grid0.Coords) (k : Fin 8), k0_cond5 i k (we k.val) = 1#1 := by decide +kernel
theorem cond7_eq : ∀ (i : grid0.Coords) (k : Fin 8), k0_cond7 i k (we k.val) = 1#1 ↔ 0 < k.val := by decide +kernel

/-! ## The second slab -/

theorem off22_eq : k0_off22 = ![(slot 0).val, 0, 0] := by decide +kernel
theorem off23_eq : ∀ i : grid0.Coords, k0_off23 i = ![0, 128 * (blk i 0).val] := by decide +kernel
theorem off24_eq : k0_off24 = ![(slot 0).val] := by decide +kernel
theorem off25_eq : ∀ k : Fin 8, k.val < 7 → k0_off25 (wa k.val) = ![(slot (k.val + 1)).val, 0, 0] := by decide +kernel
theorem off26_eq : ∀ (i : grid0.Coords) (k : Fin 8), k.val < 7 → k0_off26 i (we k.val) = ![0, 128 * (blk i (k.val + 1)).val] := by decide +kernel
theorem off27_eq : ∀ k : Fin 8, k.val < 7 → k0_off27 (wa k.val) = ![(slot (k.val + 1)).val] := by decide +kernel
theorem off28_eq : ∀ k : Fin 8, k0_off28 (wb k.val) = ![(slot k.val).val, 0, 0] := by decide +kernel
theorem off30_eq : ∀ k : Fin 8, k0_off30 (wb k.val) = ![(slot k.val).val] := by decide +kernel
theorem off31_eq : ∀ k : Fin 8, k0_off31 (wc k.val) = ![(slot k.val).val, 0, 0] := by decide +kernel
theorem off32_eq : ∀ k : Fin 8, k0_off32 (wb k.val) = ![(slot k.val).val, 0, 0] := by decide +kernel
theorem off33_eq : ∀ k : Fin 8, k0_off33 (wc k.val) = ![(slot k.val).val, 0, 0] := by decide +kernel
theorem off34_eq : ∀ (i : grid0.Coords) (k : Fin 8), k0_off34 i (we k.val) = ![128 * (blk i k.val).val, 256 * (1 : Fin 2).val] := by decide +kernel
theorem off35_eq : ∀ k : Fin 8, k0_off35 (wc k.val) = ![(slot k.val).val] := by decide +kernel
theorem off38_eq : ∀ k : Fin 8, 0 < k.val → k0_off38 (wd k.val) = ![(slot (k.val + 1)).val] := by decide +kernel
theorem off41_eq : k0_off41 (wd 8) = ![(slot 7).val] := by decide +kernel

theorem chk6_ok : ∀ (i : grid0.Coords) (k : Fin 8), k0_chk6 i k (wa k.val) (wb k.val) (wc k.val) (wd k.val) (we k.val) := by
  have h : ∀ (i : grid0.Coords) (k : Fin 8), @decide (k0_chk6 i k (wa k.val) (wb k.val) (wc k.val) (wd k.val) (we k.val)) (k0_chk6.dec _ _ _ _ _ _ _) = true := by decide +kernel
  exact fun i k => @of_decide_eq_true _ (k0_chk6.dec _ _ _ _ _ _ _) (h i k)
theorem chk7_ok : ∀ k : Fin 8, k0_chk7 (wc k.val) := by decide +kernel
theorem chk8_ok : ∀ k : Fin 8, k0_chk8 (wb k.val) := by decide +kernel
theorem chk9_ok : k0_chk9 (wd 8) := by decide +kernel
theorem chk10_ok : ∀ i : grid0.Coords, k0_chk10 i (we 8) := by decide +kernel

theorem cond8_eq : ∀ (i : grid0.Coords) (k : Fin 8), k0_cond8 i k (we k.val) = 1#1 ↔ k.val < 7 := by decide +kernel
theorem cond9_eq : ∀ (i : grid0.Coords) (k : Fin 8), k0_cond9 i k (we k.val) = 1#1 := by decide +kernel
theorem cond12_eq : ∀ (i : grid0.Coords) (k : Fin 8), k0_cond12 i k (we k.val) = 1#1 := by decide +kernel
theorem cond14_eq : ∀ (i : grid0.Coords) (k : Fin 8), k0_cond14 i k (we k.val) = 1#1 ↔ 0 < k.val := by decide +kernel

end Cert.Proof
-- ==== Proof.Inv.lean ====
/-
  What a tile holds before trip `k` of a slab's loop: block `k` of the row numbers on its way into slot `k mod 2`, the other
  index slot free, block `k-1` of the output on its way out of slot `(k-1) mod 2`, the other output slot free, the later blocks
  of the output as they were and the earlier ones written.
-/
module

public import proofs.«01_k».proof.Proof.Gather
public import proofs.«01_k».proof.Proof.Words

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)
variable (Y : Buf (Elt F) (yLoc d)) (I : Buf (Elt F) (iLoc d)) (M : Buf (Elt F) (oLoc d)) (qy : PosShare TreeShare) (qi : Fin 2 → PosShare TreeShare)
variable (O : CellTallies nD τ sig (HIx 1)) (W : Waits sig (HIx 1))
variable (s : Fin 2) (a : Memref sig .scVector .vmem S2x1x128 .i32) (o : Memref sig .scVector .vmem S2x128x256 .i32)
variable (si so : DmaSems sig S2) (g1 g2 : DmaSems sig S_)

/-- Index slot `p` and what fetching into it takes. -/
def IFree (p : Fin 2) : sProp 𝕄 := iprop(AAny (F := F) d L a p ∗ IAll d I (qi p) ∗ S0 d L (sSl si p))
/-- Output slot `p` and its semaphore. -/
def OFree (p : Fin 2) : sProp 𝕄 := iprop(OAny (F := F) d L o p ∗ S0 d L (sSl so p))
/-- Block `k` of the row numbers on its way, if there is one. -/
def ISt (k : ℕ) : sProp 𝕄 := if k < 8 then IFly (F := F) d L I (qi (slot k)) a (sSl si (slot k)) (slot k) (blk L k) else IFree d L I qi a si (slot k)
/-- Block `k - 1` of the output on its way, if there is one. -/
def OSt (k : ℕ) : sProp 𝕄 :=
  if 0 < k then OFly (F := F) d L Y I o (sSl so (slot (k + 1))) (slot (k + 1)) (blk L (k - 1)) s else OFree d L o so (slot (k + 1))
/-- The blocks still to write. -/
def Todo (k : ℕ) : sProp 𝕄 := bigSep (Finset.Ico k 8) (fun j => OBlk (F := F) d (blk L j) s M)
/-- The blocks written. -/
def Done (k : ℕ) : sProp 𝕄 := bigSep (Finset.range (k - 1)) (fun j => OBlk (F := F) d (blk L j) s (GB d Y I))

/-- Before trip `k`. -/
def Inv (k : ℕ) (acc : W5) : sProp 𝕄 :=
  iprop(⌜acc = words k⌝ ∗ ISt d L I qi a si k ∗ IFree d L I qi a si (slot (k + 1)) ∗ OSt d L Y I s o so k ∗ OFree d L o so (slot k)
    ∗ Todo d L M s k ∗ Done d L Y I s k ∗ YAll d Y qy ∗ S0 d L g1.sem ∗ S0 d L g2.sem ∗ Ow d L O W)

theorem slot_two (k : ℕ) : slot (k + 1 + 1) = slot k := Fin.ext (by show (k + 1 + 1) % 2 = k % 2; omega)

theorem todo_step {k : ℕ} (hk : k < 8) : Todo (F := F) d L M s k = iprop(OBlk d (blk L k) s M ∗ Todo d L M s (k + 1)) := by
  unfold Todo
  rw [show Finset.Ico k 8 = insert k (Finset.Ico (k + 1) 8) from by ext x; simp only [Finset.mem_Ico, Finset.mem_insert]; omega]
  exact bigSep_insert (by simp)

theorem done_step {k : ℕ} (hk : 0 < k) : Done (F := F) d L Y I s (k + 1) = iprop(OBlk d (blk L (k - 1)) s (GB d Y I) ∗ Done d L Y I s k) := by
  unfold Done
  rw [show Finset.range (k + 1 - 1) = insert (k - 1) (Finset.range (k - 1)) from by ext x; simp only [Finset.mem_range, Finset.mem_insert]; omega]
  exact bigSep_insert (by simp)

theorem done_one : Done (F := F) d L Y I s 1 = Done d L Y I s 0 := rfl

variable {d L Y I M qy qi O W s a o si so g1 g2}

/-- An assumed side condition that holds. -/
theorem assume_rule {P : Prop} {dP : Decidable P} (h : P) {Φ : PLift P → sProp 𝕄} :
    Φ ⟨h⟩ ⊢ wp frame (wpE (defs₀ (F := F)) 𝒱₀ (tV d L) none) Set.univ (Prog.lift (.assume P dP)) Φ := by
  rw [show wp frame (wpE (defs₀ (F := F)) 𝒱₀ (tV d L) none) Set.univ (Prog.lift (.assume P dP)) Φ
    = wp frame (wpE (defs₀ (F := F)) 𝒱₀ (tV d L) none) Set.univ (.ret ⟨h⟩) Φ from wp_assume_of 𝒱₀ (tV d L) none Set.univ h, wp_ret]
  iintro H
  imodintro
  iexact H

variable {α : Type}

/-- A step taken under a condition that leaves the tile with `B` either way. -/
theorem dite_rule {c : Prop} [Decidable c] {p : c → Prog (TpuEff nD τ sig (Elt F) Λ₀ (tV d L).2) PUnit} {K : Prog (TpuEff nD τ sig (Elt F) Λ₀ (tV d L).2) α}
    {Φ : α → sProp 𝕄} (A B : sProp 𝕄)
    (hp : ∀ (h : c) (Ψ : sProp 𝕄), iprop(A ∗ (B -∗ Ψ)) ⊢ wp frame (wpE (defs₀ (F := F)) 𝒱₀ (tV d L) none) Set.univ (p h) (fun _ => Ψ)) (hn : ¬ c → A ⊢ B) :
    iprop(A ∗ (B -∗ wp frame (wpE (defs₀ (F := F)) 𝒱₀ (tV d L) none) Set.univ K Φ))
      ⊢ wp frame (wpE (defs₀ (F := F)) 𝒱₀ (tV d L) none) Set.univ (if h : c then p h >>= fun _ => K else K) Φ := by
  by_cases h : c
  · rw [dif_pos h, wp_bind]; exact hp h _
  · rw [dif_neg h]
    iintro ⟨HA, HB⟩
    iapply HB
    iapply (hn h) $$ HA

theorem taken_rule {c : Prop} [Decidable c] (h : c) {p : c → Prog (TpuEff nD τ sig (Elt F) Λ₀ (tV d L).2) α} {e : ¬ c → Prog (TpuEff nD τ sig (Elt F) Λ₀ (tV d L).2) α}
    {Φ : α → sProp 𝕄} :
    wp frame (wpE (defs₀ (F := F)) 𝒱₀ (tV d L) none) Set.univ (p h) Φ
      ⊢ wp frame (wpE (defs₀ (F := F)) 𝒱₀ (tV d L) none) Set.univ (dite c p e) Φ := by
  rw [dif_pos h]

theorem same_rule {c : Prop} [Decidable c] {K : Prog (TpuEff nD τ sig (Elt F) Λ₀ (tV d L).2) α} {Φ : α → sProp 𝕄} :
    wp frame (wpE (defs₀ (F := F)) 𝒱₀ (tV d L) none) Set.univ K Φ
      ⊢ wp frame (wpE (defs₀ (F := F)) 𝒱₀ (tV d L) none) Set.univ (if c then K else K) Φ := by
  rw [ite_self]

end Cert.Proof

end
-- ==== Proof.Trip1.lean ====
/-
  One trip of the first slab's loop.
-/
module

public import proofs.«01_k».proof.Proof.Inv

@[expose] public section

set_option maxRecDepth 65536

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {L : grid0.Coords}
variable {Y : Buf (Elt F) (yLoc d)} {I : Buf (Elt F) (iLoc d)} {M : Buf (Elt F) (oLoc d)} {qy : PosShare TreeShare} {qi : Fin 2 → PosShare TreeShare}
variable {O : CellTallies nD τ sig (HIx 1)} {W : Waits sig (HIx 1)}

theorem trip1 (hI : ∀ x, (I x).toNat < 49152) (hO : ∀ g, O g none = 0)
    (a a' : Memref sig .scVector .vmem S2x1x128 .i32) (ha : a.IsWhole) (ha' : a'.IsWhole)
    (o o' : Memref sig .scVector .vmem S2x128x256 .i32) (ho : o.IsWhole) (ho' : o'.IsWhole) (si so si' so' : DmaSems sig S2) (g1 g2 g1' g2' : DmaSems sig S_)
    (k : Fin k0_t1_loop.trips) (acc : W5) :
    Inv (F := F) d L Y I M qy qi O W 0 a o si so g1 g2 k.val acc
      ⊢ wp frame (wpE (defs₀ (F := F)) 𝒱₀ (tV d L) none) Set.univ
          (k0_t1_body L yM (Memref.isWhole_whole _) iM (Memref.isWhole_whole _) oM (Memref.isWhole_whole _) a ha si o ho so g1 g2 a' ha' si' o' ho' so' g1' g2' (v4W L) k acc)
          (Inv d L Y I M qy qi O W 0 a o si so g1 g2 (k.val + 1)) := by
  have hk8 : k.val < 8 := k.isLt
  obtain ⟨a6, a7, a8, a9, a10⟩ := acc
  unfold Inv
  iintro ⟨%hw, HI, HIf, HOst, HOf, HT, HD, HY, Hg1, Hg2, HO⟩
  have h6 : a6 = wa k.val := congrArg (fun z : W5 => z.1) hw
  have h7 : a7 = wb k.val := congrArg (fun z : W5 => z.2.1) hw
  have h8 : a8 = wc k.val := congrArg (fun z : W5 => z.2.2.1) hw
  have h9 : a9 = wd k.val := congrArg (fun z : W5 => z.2.2.2.1) hw
  have h10 : a10 = we k.val := congrArg (fun z : W5 => z.2.2.2.2) hw
  have c1 : k0_chk1 L k a6 a7 a8 a9 a10 := by rw [h6, h7, h8, h9, h10]; exact chk1_ok L k
  have c2 : k0_chk2 a8 := by rw [h8]; exact chk2_ok k
  have c3 : k0_chk3 a7 := by rw [h7]; exact chk3_ok k
  have q1 : k0_cond1 L k a10 = 1#1 ↔ k.val < 7 := by rw [h10]; exact cond1_eq L k
  have q2 : k0_cond2 L k a10 = 1#1 := by rw [h10]; exact cond2_eq L k
  have q5 : k0_cond5 L k a10 = 1#1 := by rw [h10]; exact cond5_eq L k
  have q7 : k0_cond7 L k a10 = 1#1 ↔ 0 < k.val := by rw [h10]; exact cond7_eq L k
  unfold k0_t1_body
  rw [wp_bind, k0_part1_eq_skeleton]
  unfold k0_part1_skel
  rw [wp_bind]
  iapply (assume_rule c3)
  rw [wp_bind]
  iapply (assume_rule c2)
  rw [wp_bind]
  iapply (assume_rule c1)
  iapply (dite_rule (IFree (F := F) d L I qi a si (slot (k.val + 1))) (ISt (F := F) d L I qi a si (k.val + 1)) ?_ ?_)
  · intro h Ψ
    have hk := q1.mp h
    rw [show ISt (F := F) d L I qi a si (k.val + 1) = IFly d L I (qi (slot (k.val + 1))) a (sSl si (slot (k.val + 1))) (slot (k.val + 1)) (blk L (k.val + 1)) from if_pos (by omega)]
    unfold IFree
    iintro ⟨⟨HA, HI, HS⟩, Hk⟩
    iapply (ifetch (F := F) (d := d) (L := L) (I := I) (a := a) (q := qi (slot (k.val + 1))) (b := blk L (k.val + 1)) (p := slot (k.val + 1)) (by rw [h10]; exact off5_eq L k hk) (by rw [h6]; exact off4_eq k hk) (by rw [h6]; exact off6_eq k hk))
    isplitl [HA]; · iexact HA
    isplitl [HI]; · iexact HI
    isplitl [HS]; · iexact HS
    iexact Hk
  · intro h
    have hk := mt q1.mpr h
    exact Entails.of_eq (if_neg (by omega)).symm
  isplitl [HIf]; · iexact HIf
  iintro HI'
  rw [wp_pure]; imodintro
  rw [wp_bind, k0_part2_eq_skeleton]
  unfold k0_part2_skel
  iapply (taken_rule q2)
  rw [wp_bind]
  ihave HI := (Entails.of_eq (show ISt (F := F) d L I qi a si k.val = IFly d L I (qi (slot k.val)) a (sSl si (slot k.val)) (slot k.val) (blk L k.val) from if_pos hk8)) $$ HI
  iapply (ifetched (F := F) (d := d) (L := L) (I := I) (a := a) (W := W) (q := qi (slot k.val)) hO (b := blk L k.val) (p := slot k.val) (by rw [h7]; exact off7_eq k) (by rw [h7]; exact off9_eq k))
  isplitl [HI]; · iexact HI
  isplitl [HO]; · iexact HO
  iintro ⟨HA, HIa, HIs, HO⟩
  iapply same_rule
  rw [wp_bind]
  unfold OFree
  icases HOf with ⟨HOf, HOs⟩
  iapply (gstart (F := F) (d := d) (L := L) (Y := Y) (I := I) (qy := qy) (a := a) (o := o) (p := slot k.val) (b := blk L k.val) (s := 0) (h := 0) hI (by rw [h7]; exact off11_eq k) (by rw [h8]; exact off10_eq k) rfl rfl)
  isplitl [HA]; · iexact HA
  isplitl [HOf]; · iapply (part_of_any (F := F) (d := d) (L := L) (Y := Y) (I := I) (o := o) (p := slot k.val) (b := blk L k.val) (s := 0)) $$ HOf
  isplitl [HY]; · iexact HY
  isplitl [Hg1]; · iexact Hg1
  iintro HG
  rw [wp_pure]; imodintro
  rw [wp_bind, k0_part3_eq_skeleton]
  unfold k0_part3_skel
  rw [wp_bind]
  iapply (gfinish (F := F) (d := d) (L := L) (Y := Y) (I := I) (qy := qy) (a := a) (o := o) (W := W) hO (p := slot k.val) (b := blk L k.val) (s := 0) (h := 0) (by rw [h8]; exact off10_eq k) rfl)
  isplitl [HG]; · iexact HG
  isplitl [HO]; · iexact HO
  iintro ⟨HA, HOf, HY, Hg1, HO⟩
  rw [wp_bind]
  iapply (gstart (F := F) (d := d) (L := L) (Y := Y) (I := I) (qy := qy) (a := a) (o := o) (p := slot k.val) (b := blk L k.val) (s := 0) (h := 1) hI (by rw [h7]; exact off11_eq k) (by rw [h8]; exact off10_eq k) rfl rfl)
  isplitl [HA]; · iexact HA
  isplitl [HOf]; · iexact HOf
  isplitl [HY]; · iexact HY
  isplitl [Hg2]; · iexact Hg2
  iintro HG
  rw [wp_bind]
  iapply (gfinish (F := F) (d := d) (L := L) (Y := Y) (I := I) (qy := qy) (a := a) (o := o) (W := W) hO (p := slot k.val) (b := blk L k.val) (s := 0) (h := 1) (by rw [h8]; exact off10_eq k) rfl)
  isplitl [HG]; · iexact HG
  isplitl [HO]; · iexact HO
  iintro ⟨HA, HOf, HY, Hg2, HO⟩
  iapply same_rule
  rw [wp_pure]; imodintro
  iapply (taken_rule q5)
  rw [wp_bind]
  ihave HT := (Entails.of_eq (todo_step (F := F) d L M 0 hk8)) $$ HT
  icases HT with ⟨HB, HT⟩
  iapply (ocopy (F := F) (d := d) (L := L) (Y := Y) (I := I) (M := M) (o := o) (p := slot k.val) (b := blk L k.val) (s := 0) (by rw [h10]; exact off13_eq L k) (by rw [h8]; exact off12_eq k) (by rw [h8]; exact off14_eq k))
  isplitl [HOf]; · iexact HOf
  isplitl [HB]; · iexact HB
  isplitl [HOs]; · iexact HOs
  iintro HOF
  iapply same_rule
  iapply (dite_rule iprop(OSt (F := F) d L Y I 0 o so k.val ∗ Done d L Y I 0 k.val ∗ Ow d L O W)
    iprop(OFree (F := F) d L o so (slot (k.val + 1)) ∗ Done d L Y I 0 (k.val + 1) ∗ Ow d L O W) ?_ ?_)
  · intro h Ψ
    have hk := q7.mp h
    rw [show OSt (F := F) d L Y I 0 o so k.val = OFly d L Y I o (sSl so (slot (k.val + 1))) (slot (k.val + 1)) (blk L (k.val - 1)) 0 from if_pos hk,
      done_step d L Y I 0 hk]
    unfold OFree
    iintro ⟨⟨HOF, HD, HO⟩, Hk⟩
    iapply (ocopied (F := F) (d := d) (L := L) (Y := Y) (I := I) (o := o) (W := W) hO (b := blk L (k.val - 1)) (p := slot (k.val + 1)) (s := 0) (by rw [h9]; exact off17_eq k hk))
    isplitl [HOF]; · iexact HOF
    isplitl [HO]; · iexact HO
    iintro ⟨HB, HA, HS, HO⟩
    iapply Hk
    isplitl [HA HS]; · isplitl [HA] <;> iassumption
    isplitl [HB HD]; · isplitl [HB] <;> iassumption
    iexact HO
  · intro h
    have hk : k.val = 0 := by have := mt q7.mpr h; omega
    rw [hk, done_one]
    exact BIClass.sep_mono (Entails.of_eq (if_neg (by omega))) .rfl
  isplitl [HOst HD HO]
  · isplitl [HOst]; · iexact HOst
    isplitl [HD] <;> iassumption
  iintro ⟨HOf, HD, HO⟩
  rw [wp_pure]; imodintro
  isplitr
  · ipureintro
    show nextW (v4W L) a6 a7 a8 a9 a10 k.val = words (k.val + 1)
    rw [h6, h7, h8, h9, h10]
    exact nextW_eq L k
  isplitl [HI']; · iexact HI'
  isplitl [HA HIa HIs]
  · unfold IFree
    rw [slot_two]
    isplitl [HA]; · iapply aany_of_has $$ HA
    isplitl [HIa] <;> iassumption
  isplitl [HOF]
  · rw [show OSt (F := F) d L Y I 0 o so (k.val + 1) = OFly d L Y I o (sSl so (slot (k.val + 1 + 1))) (slot (k.val + 1 + 1)) (blk L (k.val + 1 - 1)) 0 from if_pos (by omega), slot_two]
    iexact HOF
  isplitl [HOf]; · unfold OFree; iexact HOf
  isplitl [HT]; · iexact HT
  isplitl [HD]; · iexact HD
  isplitl [HY]; · iexact HY
  isplitl [Hg1]; · iexact Hg1
  isplitl [Hg2]; · iexact Hg2
  iexact HO

end Cert.Proof

end
-- ==== Proof.Trip2.lean ====
/-
  One trip of the second slab's loop.
-/
module

public import proofs.«01_k».proof.Proof.Inv

@[expose] public section

set_option maxRecDepth 65536

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {L : grid0.Coords}
variable {Y : Buf (Elt F) (yLoc d)} {I : Buf (Elt F) (iLoc d)} {M : Buf (Elt F) (oLoc d)} {qy : PosShare TreeShare} {qi : Fin 2 → PosShare TreeShare}
variable {O : CellTallies nD τ sig (HIx 1)} {W : Waits sig (HIx 1)}

theorem trip2 (hI : ∀ x, (I x).toNat < 49152) (hO : ∀ g, O g none = 0)
    (a a' : Memref sig .scVector .vmem S2x1x128 .i32) (ha : a.IsWhole) (ha' : a'.IsWhole)
    (o o' : Memref sig .scVector .vmem S2x128x256 .i32) (ho : o.IsWhole) (ho' : o'.IsWhole) (si so si' so' : DmaSems sig S2) (g1 g2 g1' g2' : DmaSems sig S_)
    (k : Fin k0_t2_loop.trips) (acc : W5) :
    Inv (F := F) d L Y I M qy qi O W 1 a o si so g1 g2 k.val acc
      ⊢ wp frame (wpE (defs₀ (F := F)) 𝒱₀ (tV d L) none) Set.univ
          (k0_t2_body L yM (Memref.isWhole_whole _) iM (Memref.isWhole_whole _) oM (Memref.isWhole_whole _) a' ha' si' o' ho' so' g1' g2' a ha si o ho so g1 g2 (v4W L) k acc)
          (Inv d L Y I M qy qi O W 1 a o si so g1 g2 (k.val + 1)) := by
  have hk8 : k.val < 8 := k.isLt
  obtain ⟨a6, a7, a8, a9, a10⟩ := acc
  unfold Inv
  iintro ⟨%hw, HI, HIf, HOst, HOf, HT, HD, HY, Hg1, Hg2, HO⟩
  have h6 : a6 = wa k.val := congrArg (fun z : W5 => z.1) hw
  have h7 : a7 = wb k.val := congrArg (fun z : W5 => z.2.1) hw
  have h8 : a8 = wc k.val := congrArg (fun z : W5 => z.2.2.1) hw
  have h9 : a9 = wd k.val := congrArg (fun z : W5 => z.2.2.2.1) hw
  have h10 : a10 = we k.val := congrArg (fun z : W5 => z.2.2.2.2) hw
  have c1 : k0_chk6 L k a6 a7 a8 a9 a10 := by rw [h6, h7, h8, h9, h10]; exact chk6_ok L k
  have c2 : k0_chk7 a8 := by rw [h8]; exact chk7_ok k
  have c3 : k0_chk8 a7 := by rw [h7]; exact chk8_ok k
  have q1 : k0_cond8 L k a10 = 1#1 ↔ k.val < 7 := by rw [h10]; exact cond8_eq L k
  have q2 : k0_cond9 L k a10 = 1#1 := by rw [h10]; exact cond9_eq L k
  have q5 : k0_cond12 L k a10 = 1#1 := by rw [h10]; exact cond12_eq L k
  have q7 : k0_cond14 L k a10 = 1#1 ↔ 0 < k.val := by rw [h10]; exact cond14_eq L k
  unfold k0_t2_body
  rw [wp_bind, k0_part4_eq_skeleton]
  unfold k0_part4_skel
  rw [wp_bind]
  iapply (assume_rule c3)
  rw [wp_bind]
  iapply (assume_rule c2)
  rw [wp_bind]
  iapply (assume_rule c1)
  iapply (dite_rule (IFree (F := F) d L I qi a si (slot (k.val + 1))) (ISt (F := F) d L I qi a si (k.val + 1)) ?_ ?_)
  · intro h Ψ
    have hk := q1.mp h
    rw [show ISt (F := F) d L I qi a si (k.val + 1) = IFly d L I (qi (slot (k.val + 1))) a (sSl si (slot (k.val + 1))) (slot (k.val + 1)) (blk L (k.val + 1)) from if_pos (by omega)]
    unfold IFree
    iintro ⟨⟨HA, HI, HS⟩, Hk⟩
    iapply (ifetch (F := F) (d := d) (L := L) (I := I) (a := a) (q := qi (slot (k.val + 1))) (b := blk L (k.val + 1)) (p := slot (k.val + 1)) (by rw [h10]; exact off26_eq L k hk) (by rw [h6]; exact off25_eq k hk) (by rw [h6]; exact off27_eq k hk))
    isplitl [HA]; · iexact HA
    isplitl [HI]; · iexact HI
    isplitl [HS]; · iexact HS
    iexact Hk
  · intro h
    have hk := mt q1.mpr h
    exact Entails.of_eq (if_neg (by omega)).symm
  isplitl [HIf]; · iexact HIf
  iintro HI'
  rw [wp_pure]; imodintro
  rw [wp_bind, k0_part5_eq_skeleton]
  unfold k0_part5_skel
  iapply (taken_rule q2)
  rw [wp_bind]
  ihave HI := (Entails.of_eq (show ISt (F := F) d L I qi a si k.val = IFly d L I (qi (slot k.val)) a (sSl si (slot k.val)) (slot k.val) (blk L k.val) from if_pos hk8)) $$ HI
  iapply (ifetched (F := F) (d := d) (L := L) (I := I) (a := a) (W := W) (q := qi (slot k.val)) hO (b := blk L k.val) (p := slot k.val) (by rw [h7]; exact off28_eq k) (by rw [h7]; exact off30_eq k))
  isplitl [HI]; · iexact HI
  isplitl [HO]; · iexact HO
  iintro ⟨HA, HIa, HIs, HO⟩
  iapply same_rule
  rw [wp_bind]
  unfold OFree
  icases HOf with ⟨HOf, HOs⟩
  iapply (gstart (F := F) (d := d) (L := L) (Y := Y) (I := I) (qy := qy) (a := a) (o := o) (p := slot k.val) (b := blk L k.val) (s := 1) (h := 0) hI (by rw [h7]; exact off32_eq k) (by rw [h8]; exact off31_eq k) rfl rfl)
  isplitl [HA]; · iexact HA
  isplitl [HOf]; · iapply (part_of_any (F := F) (d := d) (L := L) (Y := Y) (I := I) (o := o) (p := slot k.val) (b := blk L k.val) (s := 1)) $$ HOf
  isplitl [HY]; · iexact HY
  isplitl [Hg1]; · iexact Hg1
  iintro HG
  rw [wp_pure]; imodintro
  rw [wp_bind, k0_part6_eq_skeleton]
  unfold k0_part6_skel
  rw [wp_bind]
  iapply (gfinish (F := F) (d := d) (L := L) (Y := Y) (I := I) (qy := qy) (a := a) (o := o) (W := W) hO (p := slot k.val) (b := blk L k.val) (s := 1) (h := 0) (by rw [h8]; exact off31_eq k) rfl)
  isplitl [HG]; · iexact HG
  isplitl [HO]; · iexact HO
  iintro ⟨HA, HOf, HY, Hg1, HO⟩
  rw [wp_bind]
  iapply (gstart (F := F) (d := d) (L := L) (Y := Y) (I := I) (qy := qy) (a := a) (o := o) (p := slot k.val) (b := blk L k.val) (s := 1) (h := 1) hI (by rw [h7]; exact off32_eq k) (by rw [h8]; exact off31_eq k) rfl rfl)
  isplitl [HA]; · iexact HA
  isplitl [HOf]; · iexact HOf
  isplitl [HY]; · iexact HY
  isplitl [Hg2]; · iexact Hg2
  iintro HG
  rw [wp_bind]
  iapply (gfinish (F := F) (d := d) (L := L) (Y := Y) (I := I) (qy := qy) (a := a) (o := o) (W := W) hO (p := slot k.val) (b := blk L k.val) (s := 1) (h := 1) (by rw [h8]; exact off31_eq k) rfl)
  isplitl [HG]; · iexact HG
  isplitl [HO]; · iexact HO
  iintro ⟨HA, HOf, HY, Hg2, HO⟩
  iapply same_rule
  rw [wp_pure]; imodintro
  iapply (taken_rule q5)
  rw [wp_bind]
  ihave HT := (Entails.of_eq (todo_step (F := F) d L M 1 hk8)) $$ HT
  icases HT with ⟨HB, HT⟩
  iapply (ocopy (F := F) (d := d) (L := L) (Y := Y) (I := I) (M := M) (o := o) (p := slot k.val) (b := blk L k.val) (s := 1) (by rw [h10]; exact off34_eq L k) (by rw [h8]; exact off33_eq k) (by rw [h8]; exact off35_eq k))
  isplitl [HOf]; · iexact HOf
  isplitl [HB]; · iexact HB
  isplitl [HOs]; · iexact HOs
  iintro HOF
  iapply same_rule
  iapply (dite_rule iprop(OSt (F := F) d L Y I 1 o so k.val ∗ Done d L Y I 1 k.val ∗ Ow d L O W)
    iprop(OFree (F := F) d L o so (slot (k.val + 1)) ∗ Done d L Y I 1 (k.val + 1) ∗ Ow d L O W) ?_ ?_)
  · intro h Ψ
    have hk := q7.mp h
    rw [show OSt (F := F) d L Y I 1 o so k.val = OFly d L Y I o (sSl so (slot (k.val + 1))) (slot (k.val + 1)) (blk L (k.val - 1)) 1 from if_pos hk,
      done_step d L Y I 1 hk]
    unfold OFree
    iintro ⟨⟨HOF, HD, HO⟩, Hk⟩
    iapply (ocopied (F := F) (d := d) (L := L) (Y := Y) (I := I) (o := o) (W := W) hO (b := blk L (k.val - 1)) (p := slot (k.val + 1)) (s := 1) (by rw [h9]; exact off38_eq k hk))
    isplitl [HOF]; · iexact HOF
    isplitl [HO]; · iexact HO
    iintro ⟨HB, HA, HS, HO⟩
    iapply Hk
    isplitl [HA HS]; · isplitl [HA] <;> iassumption
    isplitl [HB HD]; · isplitl [HB] <;> iassumption
    iexact HO
  · intro h
    have hk : k.val = 0 := by have := mt q7.mpr h; omega
    rw [hk, done_one]
    exact BIClass.sep_mono (Entails.of_eq (if_neg (by omega))) .rfl
  isplitl [HOst HD HO]
  · isplitl [HOst]; · iexact HOst
    isplitl [HD] <;> iassumption
  iintro ⟨HOf, HD, HO⟩
  rw [wp_pure]; imodintro
  isplitr
  · ipureintro
    show nextW (v4W L) a6 a7 a8 a9 a10 k.val = words (k.val + 1)
    rw [h6, h7, h8, h9, h10]
    exact nextW_eq L k
  isplitl [HI']; · iexact HI'
  isplitl [HA HIa HIs]
  · unfold IFree
    rw [slot_two]
    isplitl [HA]; · iapply aany_of_has $$ HA
    isplitl [HIa] <;> iassumption
  isplitl [HOF]
  · rw [show OSt (F := F) d L Y I 1 o so (k.val + 1) = OFly d L Y I o (sSl so (slot (k.val + 1 + 1))) (slot (k.val + 1 + 1)) (blk L (k.val + 1 - 1)) 1 from if_pos (by omega), slot_two]
    iexact HOF
  isplitl [HOf]; · unfold OFree; iexact HOf
  isplitl [HT]; · iexact HT
  isplitl [HD]; · iexact HD
  isplitl [HY]; · iexact HY
  isplitl [Hg1]; · iexact Hg1
  isplitl [Hg2]; · iexact Hg2
  iexact HO

end Cert.Proof

end
-- ==== Proof.Run.lean ====
/-
  A tile's run: both slabs, each eight trips between the first index fetch and the last wait.
-/
module

public import proofs.«01_k».proof.Proof.Trip1
public import proofs.«01_k».proof.Proof.Trip2

@[expose] public section

set_option maxRecDepth 65536

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)
variable (Y : Buf (Elt F) (yLoc d)) (I : Buf (Elt F) (iLoc d)) (M : Buf (Elt F) (oLoc d)) (qy : PosShare TreeShare) (qi : Fin 2 → PosShare TreeShare)
variable (O : CellTallies nD τ sig (HIx 1)) (W : Waits sig (HIx 1))
variable (s : Fin 2) (a : Memref sig .scVector .vmem S2x1x128 .i32) (o : Memref sig .scVector .vmem S2x128x256 .i32)
variable (si so : DmaSems sig S2) (g1 g2 : DmaSems sig S_)

/-- A slab's staging slots, all free. -/
def Free : sProp 𝕄 := iprop(IFree (F := F) d L I qi a si 0 ∗ IFree d L I qi a si 1 ∗ OFree d L o so 0 ∗ OFree d L o so 1)

/-- Once the first block of row numbers is on its way the loop may start. -/
theorem opened :
    iprop(IFly (F := F) d L I (qi 0) a (sSl si 0) 0 (blk L 0) ∗ IFree d L I qi a si 1 ∗ OFree d L o so 0 ∗ OFree d L o so 1 ∗ Todo d L M s 0
        ∗ YAll d Y qy ∗ S0 d L g1.sem ∗ S0 d L g2.sem ∗ Ow d L O W)
      ⊢ Inv d L Y I M qy qi O W s a o si so g1 g2 0 (Scalar.addi 0#32 1#32, 0#32, 0#32, 0#32, 0#32) := by
  unfold Inv ISt OSt Done
  rw [if_pos (by omega), if_neg (by omega)]
  iintro ⟨HI, HIf, HO0, HO1, HT, HY, Hg1, Hg2, HO⟩
  isplitr; · ipureintro; decide
  isplitl [HI]; · iexact HI
  isplitl [HIf]; · iexact HIf
  isplitl [HO1]; · iexact HO1
  isplitl [HO0]; · iexact HO0
  isplitl [HT]; · iexact HT
  isplitr
  · rw [show Finset.range (0 - 1) = ∅ from rfl, bigSep_empty]; iempintro
  isplitl [HY]; · iexact HY
  isplitl [Hg1]; · iexact Hg1
  isplitl [Hg2]; · iexact Hg2
  iexact HO

/-- After the last trip: the last block is on its way out, everything else is back. -/
theorem closed {k : ℕ} (hk : k = 8) (acc : W5) :
    Inv (F := F) d L Y I M qy qi O W s a o si so g1 g2 k acc
      ⊢ iprop(⌜acc = words 8⌝ ∗ OFly d L Y I o (sSl so (slot 7)) (slot 7) (blk L 7) s ∗ IFree d L I qi a si 0 ∗ IFree d L I qi a si 1 ∗ OFree d L o so 0
          ∗ Done d L Y I s 8 ∗ YAll d Y qy ∗ S0 d L g1.sem ∗ S0 d L g2.sem ∗ Ow d L O W) := by
  subst hk
  unfold Inv ISt OSt
  rw [if_neg (by omega), if_pos (by omega)]
  iintro ⟨%hw, HI, HIf, HOst, HOf, -, HD, HY, Hg1, Hg2, HO⟩
  isplitr; · ipureintro; exact hw
  isplitl [HOst]; · iexact HOst
  isplitl [HI]; · iexact HI
  isplitl [HIf]; · iexact HIf
  isplitl [HOf]; · iexact HOf
  isplitl [HD]; · iexact HD
  isplitl [HY]; · iexact HY
  isplitl [Hg1]; · iexact Hg1
  isplitl [Hg2]; · iexact Hg2
  iexact HO

variable {d L Y I M qy O W}

theorem tile_run (hI : ∀ x, (I x).toNat < 49152) (hO : ∀ g, O g none = 0)
    (a a' : Memref sig .scVector .vmem S2x1x128 .i32) (ha : a.IsWhole) (ha' : a'.IsWhole)
    (o o' : Memref sig .scVector .vmem S2x128x256 .i32) (ho : o.IsWhole) (ho' : o'.IsWhole) (si so si' so' : DmaSems sig S2) (g1 g2 g1' g2' : DmaSems sig S_)
    (qi qi' : Fin 2 → PosShare TreeShare) :
    iprop(Free (F := F) d L I qi a o si so ∗ Free d L I qi' a' o' si' so' ∗ Todo d L M 0 0 ∗ Todo d L M 1 0
        ∗ YAll d Y qy ∗ (S0 d L g1.sem ∗ S0 d L g2.sem) ∗ (S0 d L g1'.sem ∗ S0 d L g2'.sem) ∗ Ow d L O W)
      ⊢ wp frame (wpE (defs₀ (F := F)) 𝒱₀ (tV d L) none) Set.univ
          (cc0_gather L yM (Memref.isWhole_whole _) iM (Memref.isWhole_whole _) oM (Memref.isWhole_whole _) a ha si o ho so g1 g2 a' ha' si' o' ho' so' g1' g2')
          (fun _ => iprop(Free (F := F) d L I qi a o si so ∗ Free d L I qi' a' o' si' so' ∗ Done d L Y I 0 9 ∗ Done d L Y I 1 9
            ∗ YAll d Y qy ∗ (S0 d L g1.sem ∗ S0 d L g2.sem) ∗ (S0 d L g1'.sem ∗ S0 d L g2'.sem) ∗ Ow d L O W)) := by
  rw [cc0_gather_eq_skeleton]
  unfold cc0_gather_skel
  iintro ⟨HF, HF', HT, HT', HY, ⟨Hg1, Hg2⟩, Hg', HO⟩
  unfold Free
  icases HF with ⟨HI0, HI1, HO0, HO1⟩
  rw [wp_bind, k0_part7_eq_skeleton]
  unfold k0_part7_skel
  rw [wp_bind]
  ihave HI0 := (Entails.of_eq (show IFree (F := F) d L I qi a si 0 = iprop(AAny (F := F) d L a 0 ∗ IAll d I (qi 0) ∗ S0 d L (sSl si 0)) from rfl)) $$ HI0
  icases HI0 with ⟨HA, HI, HS⟩
  iapply (ifetch (F := F) (d := d) (L := L) (I := I) (a := a) (q := qi 0) (b := blk L 0) (p := 0) (off2_eq L) off1_eq off3_eq)
  isplitl [HA]; · iexact HA
  isplitl [HI]; · iexact HI
  isplitl [HS]; · iexact HS
  iintro HI0
  rw [wp_pure]; imodintro
  rw [wp_bind, k0_part8_eq_skeleton]
  unfold k0_part8_skel
  rw [wp_bind]
  ihave HInv := (opened (F := F) d L Y I M qy qi O W 0 a o si so g1 g2) $$ [HI0 HI1 HO0 HO1 HT HY Hg1 Hg2 HO]
  · isplitl [HI0]; · iexact HI0
    isplitl [HI1]; · iexact HI1
    isplitl [HO0]; · iexact HO0
    isplitl [HO1]; · iexact HO1
    isplitl [HT]; · iexact HT
    isplitl [HY]; · iexact HY
    isplitl [Hg1]; · iexact Hg1
    isplitl [Hg2]; · iexact Hg2
    iexact HO
  iapply (Scf.wp_for frame (wpE (defs₀ (F := F)) 𝒱₀ (tV d L) none) Set.univ k0_t1_loop.lb k0_t1_loop.ub k0_t1_loop.st k0_t1_ok _
    (k0_t1_body L yM (Memref.isWhole_whole _) iM (Memref.isWhole_whole _) oM (Memref.isWhole_whole _) a ha si o ho so g1 g2 a' ha' si' o' ho' so' g1' g2' (v4W L))
    (Inv (F := F) d L Y I M qy qi O W 0 a o si so g1 g2)
    (trip1 (F := F) (d := d) (L := L) (Y := Y) (I := I) (M := M) (qy := qy) (qi := qi) (O := O) (W := W) hI hO a a' ha ha' o o' ho ho' si so si' so' g1 g2 g1' g2'))
  isplitl [HInv]; · iexact HInv
  iintro %acc HInv
  ihave HC := (closed (F := F) d L Y I M qy qi O W 0 a o si so g1 g2 (k := Scf.trips k0_t1_loop.lb k0_t1_loop.ub k0_t1_loop.st) rfl acc) $$ HInv
  icases HC with ⟨%hw, HOut, HI0, HI1, HO0, HD, HY, Hg1, Hg2, HO⟩
  obtain ⟨a6, a7, a8, a9, a10⟩ := acc
  have h9 : a9 = wd 8 := congrArg (fun z : W5 => z.2.2.2.1) hw
  have h10 : a10 = we 8 := congrArg (fun z : W5 => z.2.2.2.2) hw
  rw [wp_bind]
  iapply (assume_rule (show k0_chk5 L a10 by rw [h10]; exact chk5_ok L))
  rw [wp_bind]
  iapply (assume_rule (show k0_chk4 a9 by rw [h9]; exact chk4_ok))
  rw [wp_pure]; imodintro
  rw [wp_bind, k0_part9_eq_skeleton]
  unfold k0_part9_skel
  rw [wp_bind]
  iapply (ocopied (F := F) (d := d) (L := L) (Y := Y) (I := I) (o := o) (W := W) hO (b := blk L 7) (p := slot 7) (s := 0) (by rw [h9]; exact off20_eq))
  isplitl [HOut]; · iexact HOut
  isplitl [HO]; · iexact HO
  iintro ⟨HB, HOa, HOs, HO⟩
  rw [wp_pure]; imodintro
  ihave HD := (Entails.of_eq (done_step (F := F) d L Y I 0 (k := 8) (by omega)).symm) $$ [HB HD]
  · isplitl [HB]; · iexact HB
    iexact HD
  icases HF' with ⟨HI0', HI1', HO0', HO1'⟩
  icases Hg' with ⟨Hg1', Hg2'⟩
  rw [wp_bind, k0_part10_eq_skeleton]
  unfold k0_part10_skel
  rw [wp_bind]
  ihave HI0' := (Entails.of_eq (show IFree (F := F) d L I qi' a' si' 0 = iprop(AAny (F := F) d L a' 0 ∗ IAll d I (qi' 0) ∗ S0 d L (sSl si' 0)) from rfl)) $$ HI0'
  icases HI0' with ⟨HA, HI, HS⟩
  iapply (ifetch (F := F) (d := d) (L := L) (I := I) (a := a') (q := qi' 0) (b := blk L 0) (p := 0) (off23_eq L) off22_eq off24_eq)
  isplitl [HA]; · iexact HA
  isplitl [HI]; · iexact HI
  isplitl [HS]; · iexact HS
  iintro HI0'
  rw [wp_bind]
  ihave HInv := (opened (F := F) d L Y I M qy qi' O W 1 a' o' si' so' g1' g2') $$ [HI0' HI1' HO0' HO1' HT' HY Hg1' Hg2' HO]
  · isplitl [HI0']; · iexact HI0'
    isplitl [HI1']; · iexact HI1'
    isplitl [HO0']; · iexact HO0'
    isplitl [HO1']; · iexact HO1'
    isplitl [HT']; · iexact HT'
    isplitl [HY]; · iexact HY
    isplitl [Hg1']; · iexact Hg1'
    isplitl [Hg2']; · iexact Hg2'
    iexact HO
  iapply (Scf.wp_for frame (wpE (defs₀ (F := F)) 𝒱₀ (tV d L) none) Set.univ k0_t2_loop.lb k0_t2_loop.ub k0_t2_loop.st k0_t2_ok _
    (k0_t2_body L yM (Memref.isWhole_whole _) iM (Memref.isWhole_whole _) oM (Memref.isWhole_whole _) a ha si o ho so g1 g2 a' ha' si' o' ho' so' g1' g2' (v4W L))
    (Inv (F := F) d L Y I M qy qi' O W 1 a' o' si' so' g1' g2')
    (trip2 (F := F) (d := d) (L := L) (Y := Y) (I := I) (M := M) (qy := qy) (qi := qi') (O := O) (W := W) hI hO a' a ha' ha o' o ho' ho si' so' si so g1' g2' g1 g2))
  isplitl [HInv]; · iexact HInv
  iintro %acc' HInv
  ihave HC := (closed (F := F) d L Y I M qy qi' O W 1 a' o' si' so' g1' g2' (k := Scf.trips k0_t2_loop.lb k0_t2_loop.ub k0_t2_loop.st) rfl acc') $$ HInv
  icases HC with ⟨%hw', HOut, HI0', HI1', HO0', HD', HY, Hg1', Hg2', HO⟩
  obtain ⟨b6, b7, b8, b9, b10⟩ := acc'
  have h9' : b9 = wd 8 := congrArg (fun z : W5 => z.2.2.2.1) hw'
  have h10' : b10 = we 8 := congrArg (fun z : W5 => z.2.2.2.2) hw'
  rw [wp_bind]
  iapply (assume_rule (show k0_chk10 L b10 by rw [h10']; exact chk10_ok L))
  rw [wp_bind]
  iapply (assume_rule (show k0_chk9 b9 by rw [h9']; exact chk9_ok))
  rw [wp_pure]; imodintro
  rw [wp_bind]
  iapply (ocopied (F := F) (d := d) (L := L) (Y := Y) (I := I) (o := o') (W := W) hO (b := blk L 7) (p := slot 7) (s := 1) (by rw [h9']; exact off41_eq))
  isplitl [HOut]; · iexact HOut
  isplitl [HO]; · iexact HO
  iintro ⟨HB, HOa', HOs', HO⟩
  ihave HD' := (Entails.of_eq (done_step (F := F) d L Y I 1 (k := 8) (by omega)).symm) $$ [HB HD']
  · isplitl [HB]; · iexact HB
    iexact HD'
  rw [wp_pure]; imodintro
  isplitl [HI0 HI1 HO0 HOa HOs]
  · isplitl [HI0]; · iexact HI0
    isplitl [HI1]; · iexact HI1
    isplitl [HO0]; · iexact HO0
    unfold OFree
    isplitl [HOa]; · iexact HOa
    iexact HOs
  isplitl [HI0' HI1' HO0' HOa' HOs']
  · isplitl [HI0']; · iexact HI0'
    isplitl [HI1']; · iexact HI1'
    isplitl [HO0']; · iexact HO0'
    unfold OFree
    isplitl [HOa']; · iexact HOa'
    iexact HOs'
  isplitl [HD]; · iexact HD
  isplitl [HD']; · iexact HD'
  isplitl [HY]; · iexact HY
  isplitl [Hg1 Hg2]
  · isplitl [Hg1]; · iexact Hg1
    iexact Hg2
  isplitl [Hg1' Hg2']
  · isplitl [Hg1']; · iexact Hg1'
    iexact Hg2'
  iexact HO

end Cert.Proof

end
-- ==== Proof.Tile.lean ====
/-
  A tile from its own resources: its buffers split into slots, its semaphores told apart, and the run of both slabs.
-/
module

public import proofs.«01_k».proof.Proof.Run

@[expose] public section

set_option maxRecDepth 65536

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A staging buffer is its two slots -/

abbrev aRect (p : Fin 2) : Rect S2x1x128 := Rect.unit (s := S2x1x128) ![p.val, 0, 0] S1x1x128.size (inbA p)
abbrev oRect (p : Fin 2) : Rect S2x128x256 := Rect.unit (s := S2x128x256) ![p.val, 0, 0] S1x128x256.size (inbB p)

theorem mem_aRect {p : Fin 2} {x : S2x1x128.Idx} : x ∈ (aRect p).set ↔ (x 0).val = p.val := by
  rw [Rect.mem_set_unit]
  constructor
  · intro h
    have h0 : p.val ≤ (x 0).val ∧ (x 0).val < p.val + 1 := h 0
    omega
  · intro h a
    have b1 : (x 1).val < 1 := (x 1).isLt
    have b2 : (x 2).val < 128 := (x 2).isLt
    match a with
    | 0 => show p.val ≤ (x 0).val ∧ (x 0).val < p.val + 1; omega
    | 1 => show 0 ≤ (x 1).val ∧ (x 1).val < 0 + 1; omega
    | 2 => show 0 ≤ (x 2).val ∧ (x 2).val < 0 + 128; omega

theorem mem_oRect {p : Fin 2} {x : S2x128x256.Idx} : x ∈ (oRect p).set ↔ (x 0).val = p.val := by
  rw [Rect.mem_set_unit]
  constructor
  · intro h
    have h0 : p.val ≤ (x 0).val ∧ (x 0).val < p.val + 1 := h 0
    omega
  · intro h a
    have b1 : (x 1).val < 128 := (x 1).isLt
    have b2 : (x 2).val < 256 := (x 2).isLt
    match a with
    | 0 => show p.val ≤ (x 0).val ∧ (x 0).val < p.val + 1; omega
    | 1 => show 0 ≤ (x 1).val ∧ (x 1).val < 0 + 128; omega
    | 2 => show 0 ≤ (x 2).val ∧ (x 2).val < 0 + 256; omega

theorem aRect_disjoint : Disjoint (aRect 0).set (aRect 1).set :=
  Finset.disjoint_left.mpr fun x h h' => by rw [mem_aRect] at h h'; rw [h] at h'; exact absurd h' (by decide)
theorem oRect_disjoint : Disjoint (oRect 0).set (oRect 1).set :=
  Finset.disjoint_left.mpr fun x h h' => by rw [mem_oRect] at h h'; rw [h] at h'; exact absurd h' (by decide)
theorem aRect_cover : (aRect 0).set ∪ (aRect 1).set = Finset.univ := by
  ext x
  have h : (x 0).val < 2 := (x 0).isLt
  simp only [Finset.mem_union, mem_aRect, Finset.mem_univ, iff_true]
  show (x 0).val = 0 ∨ (x 0).val = 1
  omega
theorem oRect_cover : (oRect 0).set ∪ (oRect 1).set = Finset.univ := by
  ext x
  have h : (x 0).val < 2 := (x 0).isLt
  simp only [Finset.mem_union, mem_oRect, Finset.mem_univ, iff_true]
  show (x 0).val = 0 ∨ (x 0).val = 1
  omega

variable (d : Dev nD) (L : grid0.Coords) (a : Memref sig .scVector .vmem S2x1x128 .i32) (o : Memref sig .scVector .vmem S2x128x256 .i32)

theorem aSl_set (p : Fin 2) : (aSl a p).view.set = (aRect p).set.map a.view.emb := by
  rw [show (aSl a p).view.set = ((a.view.slice (aRect p)).reshape S1x128 _).set from rfl, View.set_reshape, View.set_slice]
theorem oSl_set (p : Fin 2) : (oSl o p).view.set = (oRect p).set.map o.view.emb := by
  rw [show (oSl o p).view.set = ((o.view.slice (oRect p)).reshape S128x256 _).set from rfl, View.set_reshape, View.set_slice]

theorem aslots_disjoint : Disjoint (aSl a 0).view.set (aSl a 1).view.set := by
  rw [aSl_set, aSl_set]; exact (Finset.disjoint_map _).mpr aRect_disjoint
theorem oslots_disjoint : Disjoint (oSl o 0).view.set (oSl o 1).view.set := by
  rw [oSl_set, oSl_set]; exact (Finset.disjoint_map _).mpr oRect_disjoint
theorem aslots_cover : (aSl a 0).view.set ∪ (aSl a 1).view.set = a.view.set := by
  rw [aSl_set, aSl_set, ← Finset.map_union, aRect_cover]; rfl
theorem oslots_cover : (oSl o 0).view.set ∪ (oSl o 1).view.set = o.view.set := by
  rw [oSl_set, oSl_set, ← Finset.map_union, oRect_cover]; rfl

/-- An index buffer whole is its two slots. -/
theorem aslots (f : Buf (Elt F) (a.view.loc (tV d L))) :
    (a.view.loc (tV d L) ↦[a.view.set]{fullShare} f : sProp 𝕄) ⊢ iprop(AAny d L a 0 ∗ AAny d L a 1) := by
  rw [← aslots_cover]
  unfold AAny
  iintro H
  ihave H := (pointsTo_union (aslots_disjoint a)).1 $$ H
  icases H with ⟨H0, H1⟩
  isplitl [H0]
  · iexists f; iexact H0
  · iexists f; iexact H1

theorem oslots (f : Buf (Elt F) (o.view.loc (tV d L))) :
    (o.view.loc (tV d L) ↦[o.view.set]{fullShare} f : sProp 𝕄) ⊢ iprop(OAny d L o 0 ∗ OAny d L o 1) := by
  rw [← oslots_cover]
  unfold OAny
  iintro H
  ihave H := (pointsTo_union (oslots_disjoint o)).1 $$ H
  icases H with ⟨H0, H1⟩
  isplitl [H0]
  · iexists f; iexact H0
  · iexists f; iexact H1

theorem aslots_join : iprop(AAny (F := F) d L a 0 ∗ AAny d L a 1) ⊢ (iprop(∃ f, a.view.loc (tV d L) ↦[a.view.set]{fullShare} f) : sProp 𝕄) := by
  rw [← aslots_cover]
  unfold AAny
  iintro ⟨⟨%f, H0⟩, %g, H1⟩
  ihave H := (pointsTo_join (ℓ := a.view.loc (tV d L)) (aslots_disjoint a)) $$ [H0 H1]
  · isplitl [H0]; · iexact H0
    iexact H1
  iexists _; iexact H

theorem oslots_join : iprop(OAny (F := F) d L o 0 ∗ OAny d L o 1) ⊢ (iprop(∃ f, o.view.loc (tV d L) ↦[o.view.set]{fullShare} f) : sProp 𝕄) := by
  rw [← oslots_cover]
  unfold OAny
  iintro ⟨⟨%f, H0⟩, %g, H1⟩
  ihave H := (pointsTo_join (ℓ := o.view.loc (tV d L)) (oslots_disjoint o)) $$ [H0 H1]
  · isplitl [H0]; · iexact H0
    iexact H1
  iexists _; iexact H

/-! ## The tile's buffers and semaphores -/

/-- The twelve transfer semaphores, slab by slab. -/
abbrev semOf : Fin 12 → DmaSem sig :=
  ![sSl cc0_scoped1 0, sSl cc0_scoped1 1, sSl cc0_scoped3 0, sSl cc0_scoped3 1, cc0_scoped4.sem, cc0_scoped5.sem,
    sSl cc0_scoped7 0, sSl cc0_scoped7 1, sSl cc0_scoped9 0, sSl cc0_scoped9 1, cc0_scoped10.sem, cc0_scoped11.sem]

theorem semOf_injective : Function.Injective semOf := by decide
theorem semOf_scoped : ∀ i, (SemLoc.dma (semOf i) : SemLoc sig).isScoped .scVector = true := by decide

abbrev semCell (thr : Thread nD τ) : Fin 12 ↪ GSem nD τ sig :=
  ⟨fun i => (thr, SemLoc.dma (semOf i)), fun i j h => semOf_injective (SemLoc.dma.inj (Prod.mk.inj h).2)⟩

/-- What is left of the tile's semaphores. -/
def semRest : sProp 𝕄 := bigSep (ownCells (tV d L) \ Finset.univ.map (semCell (tV d L))) fun g => semVal g 0

theorem ownSems_eq :
    (ownSems0 (tV d L) : sProp 𝕄)
      = iprop((S0 (F := F) d L (sSl cc0_scoped1 0) ∗ S0 (F := F) d L (sSl cc0_scoped1 1) ∗ S0 (F := F) d L (sSl cc0_scoped3 0) ∗ S0 (F := F) d L (sSl cc0_scoped3 1)
          ∗ S0 (F := F) d L cc0_scoped4.sem ∗ S0 (F := F) d L cc0_scoped5.sem
          ∗ S0 (F := F) d L (sSl cc0_scoped7 0) ∗ S0 (F := F) d L (sSl cc0_scoped7 1) ∗ S0 (F := F) d L (sSl cc0_scoped9 0) ∗ S0 (F := F) d L (sSl cc0_scoped9 1)
          ∗ S0 (F := F) d L cc0_scoped10.sem ∗ S0 (F := F) d L cc0_scoped11.sem) ∗ semRest d L) := by
  unfold SparseCore.Cfg.ownSems0 semRest
  rw [SparseCore.bigSep_sdiff_split' (s := ownCells (tV d L)) (t := Finset.univ.map (semCell (tV d L))) ?_, bigSep_map]
  · congr 1
    rw [show (Finset.univ : Finset (Fin 12)) = {0, 1, 2, 3, 4, 5, 6, 7, 8, 9, 10, 11} by decide]
    repeat rw [SparseCore.bigSep_insert' (by decide)]
    rw [bigSep_singleton]
    rfl
  · intro g hg
    obtain ⟨i, -, rfl⟩ := Finset.mem_map.mp hg
    exact mem_ownCells.mpr ⟨rfl, semOf_scoped i⟩

/-- The four staging buffers. -/
abbrev bufOf : Fin 4 → Ref sig .scVector := ![cc0_scoped0, cc0_scoped2, cc0_scoped6, cc0_scoped8]
theorem bufOf_injective : Function.Injective bufOf := by decide
abbrev bufCell : Fin 4 ↪ DevRef τ sig :=
  ⟨fun i => (Proc.scVector (cV L) (jV L)).devRef (bufOf i), fun i j h => bufOf_injective (Proc.devRef_injective _ h)⟩
theorem bufOf_owner : ∀ i, (bufCell L i).owner = .proc (Proc.scVector (cV L) (jV L)) := by
  intro i
  match i with
  | 0 => rfl
  | 1 => rfl
  | 2 => rfl
  | 3 => rfl

/-- What is left of the tile's buffers. -/
def bufRest : sProp 𝕄 :=
  bigSep (ownRefs (τ := τ) (sig := sig) (.scVector (cV L) (jV L)) \ Finset.univ.map (bufCell L)) fun b => iprop(∃ f, ((d, b) : Loc nD τ sig) ↦{fullShare} f)

abbrev aV1 : Memref sig .scVector .vmem S2x1x128 .i32 := Memref.whole cc0_scoped0
abbrev oV1 : Memref sig .scVector .vmem S2x128x256 .i32 := Memref.whole cc0_scoped2
abbrev aV2 : Memref sig .scVector .vmem S2x1x128 .i32 := Memref.whole cc0_scoped6
abbrev oV2 : Memref sig .scVector .vmem S2x128x256 .i32 := Memref.whole cc0_scoped8

theorem ownBufs_eq :
    (ownBufs (tV d L) : sProp 𝕄)
      = iprop(((∃ f, aV1.view.loc (tV d L) ↦{fullShare} f) ∗ (∃ f, oV1.view.loc (tV d L) ↦{fullShare} f)
          ∗ (∃ f, aV2.view.loc (tV d L) ↦{fullShare} f) ∗ (∃ f, oV2.view.loc (tV d L) ↦{fullShare} f)) ∗ bufRest (F := F) d L) := by
  unfold SparseCore.Cfg.ownBufs bufRest
  rw [SparseCore.bigSep_sdiff_split' (s := ownRefs (τ := τ) (sig := sig) (tV d L).2) (t := Finset.univ.map (bufCell L)) ?_, bigSep_map]
  · congr 1
    rw [show (Finset.univ : Finset (Fin 4)) = {0, 1, 2, 3} by decide]
    repeat rw [SparseCore.bigSep_insert' (by decide)]
    rw [bigSep_singleton]
    rfl
  · intro b hb
    obtain ⟨i, -, rfl⟩ := Finset.mem_map.mp hb
    exact SparseCore.Cfg.mem_ownRefs_of_owner (bufOf_owner L i)

end Cert.Proof

end
-- ==== Proof.Body.lean ====
/-
  A tile of the launch: from what it is handed and its own resources, to the blocks it has written.
-/
module

public import proofs.«01_k».proof.Proof.Tile

@[expose] public section

set_option maxRecDepth 65536

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A staging buffer is its two slots -/

variable (d : Dev nD) (L : grid0.Coords)
variable (Y : Buf (Elt F) (yLoc d)) (I : Buf (Elt F) (iLoc d)) (M : Buf (Elt F) (oLoc d)) (qy qt : PosShare TreeShare)

/-- What a tile is handed: its shares of the rows and of the row numbers, and its blocks of the output. -/
def TGo : sProp 𝕄 := iprop(YAll (F := F) d Y qy ∗ IAll d I qt ∗ Todo d L M 0 0 ∗ Todo d L M 1 0)
/-- What a tile hands back: the shares, and its blocks written. -/
def TDone : sProp 𝕄 := iprop(YAll (F := F) d Y qy ∗ IAll d I qt ∗ Done d L Y I 0 9 ∗ Done d L Y I 1 9)

/-- The quarters of the tile's share of the row numbers: one for each index slot. -/
abbrev qA (p : Fin 2) : PosShare TreeShare := if p = 0 then qt.left.left else qt.left.right
abbrev qB (p : Fin 2) : PosShare TreeShare := if p = 0 then qt.right.left else qt.right.right

theorem iall_half : (IAll (F := F) d I qt : sProp 𝕄) = iprop(IAll d I qt.left ∗ IAll d I qt.right) :=
  BI.Entails.antisymm (pointsTo_share (PosShare.mem_left_op_right qt)).1 (pointsTo_share (PosShare.mem_left_op_right qt)).2

theorem iall_quarters : (IAll (F := F) d I qt : sProp 𝕄) = iprop((IAll d I (qA qt 0) ∗ IAll d I (qA qt 1)) ∗ (IAll d I (qB qt 0) ∗ IAll d I (qB qt 1))) := by
  rw [iall_half, iall_half d I qt.left, iall_half d I qt.right]; rfl

/-- A slab's free slots, spread out. -/
theorem free_eq (qi : Fin 2 → PosShare TreeShare) (a : Memref sig .scVector .vmem S2x1x128 .i32) (o : Memref sig .scVector .vmem S2x128x256 .i32)
    (si so : DmaSems sig S2) :
    (Free (F := F) d L I qi a o si so : sProp 𝕄)
      = iprop((AAny d L a 0 ∗ IAll d I (qi 0) ∗ S0 d L (sSl si 0)) ∗ (AAny d L a 1 ∗ IAll d I (qi 1) ∗ S0 d L (sSl si 1))
          ∗ (OAny d L o 0 ∗ S0 d L (sSl so 0)) ∗ (OAny d L o 1 ∗ S0 d L (sSl so 1))) := rfl

variable {d L Y I M qy qt}

/-- The tile's run, from what the launch hands it. -/
theorem tile_body (hF : (K (F := F)).Facts) (hI : ∀ x, (I x).toNat < 49152) (O : CellTallies nD τ sig (HIx 1)) (W : Waits sig (HIx 1)) (hO : ∀ g, O g none = 0) :
    iprop(levAts (K (F := F)).L (K (F := F)).lev ∗ emp ∗ TGo d L Y I M qy qt
        ∗ scopedBufs (tV d L) ∗ scopedSems0 (tV d L) ∗ owes (tV d L) O W)
      ⊢ wp frame (wpE (defs₀ (F := F)) 𝒱₀ (tV d L) none) Set.univ
          (cc0_gather L yM (Memref.isWhole_whole _) iM (Memref.isWhole_whole _) oM (Memref.isWhole_whole _)
            aV1 (Memref.isWhole_whole _) cc0_scoped1 oV1 (Memref.isWhole_whole _) cc0_scoped3 cc0_scoped4 cc0_scoped5
            aV2 (Memref.isWhole_whole _) cc0_scoped7 oV2 (Memref.isWhole_whole _) cc0_scoped9 cc0_scoped10 cc0_scoped11)
          fun _ => iprop(TDone d L Y I qy qt ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L), ownSems_eq, ownBufs_eq]
  unfold TGo TDone
  rw [iall_quarters]
  iintro ⟨#Hlv, -, ⟨HY, ⟨⟨HI0, HI1⟩, HI2, HI3⟩, HT, HT'⟩, ⟨⟨⟨%f1, HA⟩, ⟨%f2, HB⟩, ⟨%f3, HA'⟩, ⟨%f4, HB'⟩⟩, Hbr⟩,
    ⟨⟨Hs0, Hs1, Hs2, Hs3, Hs4, Hs5, Hs6, Hs7, Hs8, Hs9, Hs10, Hs11⟩, Hsr⟩, HO⟩
  have wa1 : aV1.view.set = Finset.univ := View.set_whole _
  have wo1 : oV1.view.set = Finset.univ := View.set_whole _
  have wa2 : aV2.view.set = Finset.univ := View.set_whole _
  have wo2 : oV2.view.set = Finset.univ := View.set_whole _
  ihave HA := (aslots (F := F) d L aV1 f1) $$ [HA]; · rw [wa1]; iexact HA
  ihave HB := (oslots (F := F) d L oV1 f2) $$ [HB]; · rw [wo1]; iexact HB
  ihave HA' := (aslots (F := F) d L aV2 f3) $$ [HA']; · rw [wa2]; iexact HA'
  ihave HB' := (oslots (F := F) d L oV2 f4) $$ [HB']; · rw [wo2]; iexact HB'
  icases HA with ⟨HA0, HA1⟩
  icases HB with ⟨HB0, HB1⟩
  icases HA' with ⟨HA2, HA3⟩
  icases HB' with ⟨HB2, HB3⟩
  iapply (wp_wand_r frame _ _)
  isplitl [HY HI0 HI1 HI2 HI3 HT HT' HA0 HA1 HB0 HB1 HA2 HA3 HB2 HB3 Hs0 Hs1 Hs2 Hs3 Hs4 Hs5 Hs6 Hs7 Hs8 Hs9 Hs10 Hs11 HO]
  · iapply (tile_run (F := F) (d := d) (L := L) (Y := Y) (I := I) (M := M) (qy := qy) (O := O) (W := W) hI hO
      aV1 aV2 (Memref.isWhole_whole _) (Memref.isWhole_whole _) oV1 oV2 (Memref.isWhole_whole _) (Memref.isWhole_whole _)
      cc0_scoped1 cc0_scoped3 cc0_scoped7 cc0_scoped9 cc0_scoped4 cc0_scoped5 cc0_scoped10 cc0_scoped11 (qA qt) (qB qt))
    rw [free_eq, free_eq]
    isplitl [HI0 HI1 HA0 HA1 HB0 HB1 Hs0 Hs1 Hs2 Hs3]
    · isplitl [HA0 HI0 Hs0]
      · isplitl [HA0]; · iexact HA0
        isplitl [HI0]; · iexact HI0
        iexact Hs0
      isplitl [HA1 HI1 Hs1]
      · isplitl [HA1]; · iexact HA1
        isplitl [HI1]; · iexact HI1
        iexact Hs1
      isplitl [HB0 Hs2]
      · isplitl [HB0]; · iexact HB0
        iexact Hs2
      isplitl [HB1]; · iexact HB1
      iexact Hs3
    isplitl [HI2 HI3 HA2 HA3 HB2 HB3 Hs6 Hs7 Hs8 Hs9]
    · isplitl [HA2 HI2 Hs6]
      · isplitl [HA2]; · iexact HA2
        isplitl [HI2]; · iexact HI2
        iexact Hs6
      isplitl [HA3 HI3 Hs7]
      · isplitl [HA3]; · iexact HA3
        isplitl [HI3]; · iexact HI3
        iexact Hs7
      isplitl [HB2 Hs8]
      · isplitl [HB2]; · iexact HB2
        iexact Hs8
      isplitl [HB3]; · iexact HB3
      iexact Hs9
    isplitl [HT]; · iexact HT
    isplitl [HT']; · iexact HT'
    isplitl [HY]; · iexact HY
    isplitl [Hs4 Hs5]
    · isplitl [Hs4]; · iexact Hs4
      iexact Hs5
    isplitl [Hs10 Hs11]
    · isplitl [Hs10]; · iexact Hs10
      iexact Hs11
    unfold Ow
    isplitr; · iexact Hlv
    iexists W; isplitr
    · ipureintro; exact fun p hp => .inl hp
    · iexact HO
  iintro %_ H
  rw [free_eq, free_eq]
  icases H with ⟨⟨⟨HA0, HI0, Hs0⟩, ⟨HA1, HI1, Hs1⟩, ⟨HB0, Hs2⟩, ⟨HB1, Hs3⟩⟩, ⟨⟨HA2, HI2, Hs6⟩, ⟨HA3, HI3, Hs7⟩, ⟨HB2, Hs8⟩, ⟨HB3, Hs9⟩⟩,
    HD, HD', HY, ⟨Hs4, Hs5⟩, ⟨Hs10, Hs11⟩, HO⟩
  isplitl [HY HI0 HI1 HI2 HI3 HD HD']
  · isplitl [HY]; · iexact HY
    isplitl [HI0 HI1 HI2 HI3]
    · isplitl [HI0 HI1]
      · isplitl [HI0]; · iexact HI0
        iexact HI1
      isplitl [HI2]; · iexact HI2
      iexact HI3
    isplitl [HD]; · iexact HD
    iexact HD'
  ihave HA := (aslots_join (F := F) d L aV1) $$ [HA0 HA1]
  · isplitl [HA0]; · iexact HA0
    iexact HA1
  ihave HB := (oslots_join (F := F) d L oV1) $$ [HB0 HB1]
  · isplitl [HB0]; · iexact HB0
    iexact HB1
  ihave HA' := (aslots_join (F := F) d L aV2) $$ [HA2 HA3]
  · isplitl [HA2]; · iexact HA2
    iexact HA3
  ihave HB' := (oslots_join (F := F) d L oV2) $$ [HB2 HB3]
  · isplitl [HB2]; · iexact HB2
    iexact HB3
  rw [wa1, wo1, wa2, wo2]
  isplitl [HA HB HA' HB' Hbr]
  · isplitl [HA HB HA' HB']
    · isplitl [HA]; · iexact HA
      isplitl [HB]; · iexact HB
      isplitl [HA']; · iexact HA'
      iexact HB'
    iexact Hbr
  isplitl [Hs0 Hs1 Hs2 Hs3 Hs4 Hs5 Hs6 Hs7 Hs8 Hs9 Hs10 Hs11 Hsr]
  · isplitr [Hsr]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact Hsr
  unfold Ow
  icases HO with ⟨-, HO⟩
  iexact HO

end Cert.Proof

end
-- ==== Proof.Split.lean ====
/-
  The three arrays shared out over the 32 tiles: the rows and the row numbers by halving the full share five times, the output by
  its 256 × 2 blocks.
-/
module

public import proofs.«01_k».proof.Proof.Body

@[expose] public section

set_option maxRecDepth 65536

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A staging buffer is its two slots -/

/-! ## Shares: the full share halved five times -/

/-- Piece `i` of share `q` halved `n` times. -/
def piece : (n : ℕ) → PosShare TreeShare → Fin (2 ^ n) → PosShare TreeShare
  | 0, q, _ => q
  | n + 1, q, i => if h : i.val < 2 ^ n then piece n q.left ⟨i.val, h⟩ else piece n q.right ⟨i.val - 2 ^ n, by have := i.isLt; have := pow_succ 2 n; omega⟩

theorem piece_succ (n : ℕ) (q : PosShare TreeShare) (i : Fin (2 ^ (n + 1))) : piece (n + 1) q i =
    if h : i.val < 2 ^ n then piece n q.left ⟨i.val, h⟩ else piece n q.right ⟨i.val - 2 ^ n, by have := i.isLt; have := pow_succ 2 n; omega⟩ := rfl

/-- Indices below and from the middle. -/
def halves (n : ℕ) : Fin (2 ^ n) ⊕ Fin (2 ^ n) ≃ Fin (2 ^ (n + 1)) := finSumFinEquiv.trans (finCongr (by rw [pow_succ]; omega))

theorem piece_low (n : ℕ) (q : PosShare TreeShare) (i : Fin (2 ^ n)) : piece (n + 1) q (halves n (Sum.inl i)) = piece n q.left i := by
  have e : (halves n (Sum.inl i)).val = i.val := by simp [halves]
  have h : (halves n (Sum.inl i)).val < 2 ^ n := e ▸ i.isLt
  rw [piece_succ, dif_pos h]
  exact congrArg (piece n q.left) (Fin.ext e)

theorem piece_high (n : ℕ) (q : PosShare TreeShare) (i : Fin (2 ^ n)) : piece (n + 1) q (halves n (Sum.inr i)) = piece n q.right i := by
  have e : (halves n (Sum.inr i)).val = 2 ^ n + i.val := by simp [halves]; omega
  have h : ¬ (halves n (Sum.inr i)).val < 2 ^ n := by omega
  rw [piece_succ, dif_neg h]
  exact congrArg (piece n q.right) (Fin.ext (by show (halves n (Sum.inr i)).val - 2 ^ n = i.val; omega))

/-- An array held at a share is held at the share's pieces. -/
theorem pieces {ℓ : Loc nD τ sig} (f : Buf (Elt F) ℓ) :
    ∀ (n : ℕ) (q : PosShare TreeShare), (ℓ ↦{q} f : sProp 𝕄) = bigSep Finset.univ fun i : Fin (2 ^ n) => ℓ ↦{piece n q i} f
  | 0, q => (bigSep_univ_of_subsingleton (0 : Fin 1) (Φ := fun i : Fin (2 ^ 0) => (ℓ ↦{piece 0 q i} f : sProp 𝕄))).symm
  | n + 1, q => by
    have hl := pieces f n q.left
    have hr := pieces f n q.right
    rw [BI.Entails.antisymm (pointsTo_share (PosShare.mem_left_op_right q)).1 (pointsTo_share (PosShare.mem_left_op_right q)).2, hl, hr,
      bigSep_univ_equiv (halves n) (fun i : Fin (2 ^ (n + 1)) => (ℓ ↦{piece (n + 1) q i} f : sProp 𝕄)), bigSep_univ_sum]
    congr 1 <;> refine bigSep_congr fun i _ => ?_
    · rw [piece_low]
    · rw [piece_high]

/-- Tile `t`'s share of the rows and of the row numbers. -/
abbrev tq (t : Fin 32) : PosShare TreeShare := piece 5 fullShare t

/-! ## Tiles by core and place -/

/-- What 32 tiles hold is what the 16 tiles of each core hold. -/
theorem by_core (Φ : Fin 32 → sProp 𝕄) :
    bigSep Finset.univ Φ = bigSep Finset.univ fun c : Fin 2 => bigSep Finset.univ fun i : Fin 16 => Φ (finProdFinEquiv (c, i)) := by
  rw [bigSep_univ_equiv (finProdFinEquiv : Fin 2 × Fin 16 ≃ Fin 32) Φ, bigSep_univ_prod]

/-! ## The output's blocks -/

abbrev blkRect (b : Fin 256) (s : Fin 2) : Rect S32768x512 := Rect.unit (s := S32768x512) ![128 * b.val, 256 * s.val] S128x256.size (inbO b s)

theorem mem_blk {b : Fin 256} {s : Fin 2} {x : S32768x512.Idx} :
    x ∈ (blkRect b s).set ↔ (x 0).val / 128 = b.val ∧ (x 1).val / 256 = s.val := by
  rw [Rect.mem_set_unit]
  constructor
  · intro h
    have h0 : 128 * b.val ≤ (x 0).val ∧ (x 0).val < 128 * b.val + 128 := h 0
    have h1 : 256 * s.val ≤ (x 1).val ∧ (x 1).val < 256 * s.val + 256 := h 1
    omega
  · intro h a
    match a with
    | 0 => show 128 * b.val ≤ (x 0).val ∧ (x 0).val < 128 * b.val + 128; omega
    | 1 => show 256 * s.val ≤ (x 1).val ∧ (x 1).val < 256 * s.val + 256; omega

theorem oBlk_set (b : Fin 256) (s : Fin 2) : (oBlk b s).view.set = (blkRect b s).set := View.set_slice_whole _ _

theorem blk_disjoint : ∀ p ∈ (Finset.univ : Finset (Fin 256 × Fin 2)), ∀ p' ∈ (Finset.univ : Finset (Fin 256 × Fin 2)), p ≠ p' →
    Disjoint (oBlk p.1 p.2).view.set (oBlk p'.1 p'.2).view.set := by
  intro p _ p' _ hne
  rw [oBlk_set, oBlk_set]
  refine Finset.disjoint_left.mpr fun x h h' => hne ?_
  rw [mem_blk] at h h'
  exact Prod.ext (Fin.ext (h.1.symm.trans h'.1)) (Fin.ext (h.2.symm.trans h'.2))

theorem blk_cover : (Finset.univ : Finset (Fin 256 × Fin 2)).biUnion (β := S32768x512.Idx) (fun p => (oBlk p.1 p.2).view.set) = Finset.univ := by
  ext x
  have h0 : (x 0).val < 32768 := (x 0).isLt
  have h1 : (x 1).val < 512 := (x 1).isLt
  simp only [Finset.mem_biUnion, Finset.mem_univ, true_and, iff_true]
  refine ⟨(⟨(x 0).val / 128, by omega⟩, ⟨(x 1).val / 256, by omega⟩), ?_⟩
  rw [oBlk_set]
  exact mem_blk.mpr ⟨rfl, rfl⟩

variable (d : Dev nD)

/-- The eight blocks of tile `t` in slab `s`, at contents `f`. -/
def Band (t : Fin 32) (s : Fin 2) (f : Buf (Elt F) (oLoc d)) : sProp 𝕄 :=
  bigSep Finset.univ fun j : Fin 8 => OBlk (F := F) d (finProdFinEquiv (t, j)) s f

/-- The whole output is the tiles' blocks. -/
theorem out_bands (f : Buf (Elt F) (oLoc d)) :
    (oLoc d ↦{fullShare} f : sProp 𝕄) = bigSep Finset.univ fun t : Fin 32 => iprop(Band d t 0 f ∗ Band d t 1 f) := by
  have h : (oLoc d ↦{fullShare} f : sProp 𝕄) = bigSep Finset.univ fun p : Fin 256 × Fin 2 => OBlk d p.1 p.2 f := by
    unfold OBlk
    rw [← pointsTo_biUnion Finset.univ (ℓ := oLoc d) (fun p : Fin 256 × Fin 2 => (oBlk p.1 p.2).view.set) blk_disjoint, blk_cover]; try rfl
  rw [h, bigSep_univ_prod, bigSep_univ_equiv (finProdFinEquiv : Fin 32 × Fin 8 ≃ Fin 256), bigSep_univ_prod]
  refine bigSep_congr fun t _ => ?_
  unfold Band
  rw [← bigSep_sep']
  refine bigSep_congr fun j _ => ?_
  rw [show (Finset.univ : Finset (Fin 2)) = {0, 1} by decide, SparseCore.bigSep_insert' (by decide), bigSep_singleton]

variable (L : grid0.Coords)

theorem blk_tile (j : Fin 8) : blk L j.val = finProdFinEquiv (tileNo L, j) := by
  refine Fin.ext ?_
  have := (tileNo L).isLt
  show (8 * (tileNo L).val + j.val) % 256 = j.val + 8 * (tileNo L).val
  omega

theorem band_eq (s : Fin 2) (f : Buf (Elt F) (oLoc d)) :
    (bigSep (Finset.range 8) (fun j => OBlk (F := F) d (blk L j) s f) : sProp 𝕄) = Band d (tileNo L) s f := by
  unfold Band
  rw [show Finset.range 8 = (Finset.univ : Finset (Fin 8)).map Fin.valEmbedding by decide, bigSep_map]
  exact bigSep_congr fun j _ => by rw [← blk_tile]; rfl

variable (Y : Buf (Elt F) (yLoc d)) (I : Buf (Elt F) (iLoc d)) (M : Buf (Elt F) (oLoc d))

theorem todo_band (s : Fin 2) : (Todo (F := F) d L M s 0 : sProp 𝕄) = Band d (tileNo L) s M := by
  rw [← band_eq]; unfold Todo
  rw [show Finset.Ico 0 8 = Finset.range 8 by decide]
theorem done_band (s : Fin 2) : (Done (F := F) d L Y I s 9 : sProp 𝕄) = Band d (tileNo L) s (GB d Y I) := band_eq d L s _

/-- What the tiles are handed, together: the three arrays. -/
theorem go_all :
    iprop((yLoc d ↦{fullShare} Y) ∗ (iLoc d ↦{fullShare} I) ∗ (oLoc d ↦{fullShare} M) : sProp 𝕄)
      = bigSep Finset.univ fun t : Fin 32 => iprop((yLoc d ↦{tq t} Y) ∗ (iLoc d ↦{tq t} I) ∗ Band d t 0 M ∗ Band d t 1 M) := by
  rw [bigSep_sep', bigSep_sep', ← out_bands]
  congr 1
  · exact pieces Y 5 fullShare
  · congr 1
    exact pieces I 5 fullShare

end Cert.Proof

end
-- ==== Proof.Launch.lean ====
/-
  The program's run: the row numbers laid out in one row, the launch on 2 × 16 tiles, the result laid out by batch.
-/
module

public import proofs.«01_k».proof.Proof.Split

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

abbrev dLoc (d : Dev nD) : Loc nD τ sig := (SparseCore.T d).loc main_arg1
abbrev rLoc (d : Dev nD) : Loc nD τ sig := (SparseCore.T d).loc main_v2

abbrev y' : DevRef τ sig := Proc.devRef .tc (main_arg0 : Ref sig .tc)
abbrev d' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two layouts of @main. -/
abbrev opIn : HloOp τ sig (Elt F) := StableHlo.reshape main_arg1 main_v0 (rfl : (.i32 : EltTy) = .i32) shapeCasts_S2x16384_S1x32768
abbrev opOut : HloOp τ sig (Elt F) := StableHlo.reshape main_v1 main_v2 (rfl : (.i32 : EltTy) = .i32) shapeCasts_S32768x512_S2x16384x512

/-- The rows, and the row numbers in one row, on device `d`. -/
abbrev Yw (d : Dev nD) : Buf (Elt F) (yLoc d) := m (yLoc d)
def Iw (d : Dev nD) : Buf (Elt F) (iLoc d) := fun i => shapeCast S1x32768 (fun j : S2x16384.Idx => (m (dLoc d) j : Elt F .i32)) shapeCasts_S2x16384_S1x32768 i
/-- The result: the gathered rows, by batch. -/
def Rw (d : Dev nD) : Buf (Elt F) (rLoc d) := fun i => shapeCast S2x16384x512 (fun j : S32768x512.Idx => (G (Yw m d) (Iw m d) j : Elt F .i32)) shapeCasts_S32768x512_S2x16384x512 i

/-- Every row number is below the number of rows. -/
def PreOK : Prop := ∀ (d : Dev nD) (j : S2x16384.Idx), (show BitVec 32 from m (dLoc d) j).toNat < 49152

theorem Iw_lt (h : PreOK m) (d : Dev nD) (x : S1x32768.Idx) : (show BitVec 32 from Iw m d x).toNat < 49152 := h d _

/-! ## What the launch hands over -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl
theorem nSub_zero : (K (F := F)).nSub 0 = 16 := rfl

/-- What tile `(c, i)` is handed, and what it hands back. -/
abbrev GoT (d : Dev nD) (c : Fin 2) (i : Fin 16) : sProp 𝕄 :=
  TGo d (coordsV c i) (Yw m d) (Iw m d) (m (oLoc d)) (tq (finProdFinEquiv (c, i))) (tq (finProdFinEquiv (c, i)))
abbrev TdT (d : Dev nD) (c : Fin 2) (i : Fin 16) : sProp 𝕄 :=
  TDone d (coordsV c i) (Yw m d) (Iw m d) (tq (finProdFinEquiv (c, i))) (tq (finProdFinEquiv (c, i)))

def P : (K (F := F)).Pay (nD := nD) (Val := Elt F) (Name := ℕ) (U := UU) where
  st := fun q d c => match q with
    | 0 => bigSep Finset.univ fun i : Fin 16 => GoT m d (Fin.cast nCore_zero c) i
  dn := fun q d c => match q with
    | 0 => bigSep Finset.univ fun i : Fin 16 => TdT m d (Fin.cast nCore_zero c) i
  go := fun q d c i => match q with
    | 0 => GoT m d (Fin.cast nCore_zero c) (Fin.cast nSub_zero i)
  td := fun q d c i => match q with
    | 0 => TdT m d (Fin.cast nCore_zero c) (Fin.cast nSub_zero i)
  x := fun _ _ => iprop(emp)

instance go_storable (d : Dev nD) (c : Fin 2) (i : Fin 16) : BI.Storable (upEmb : UEmb _ 𝕄) (GoT m d c i) := by
  unfold GoT TGo YAll IAll Todo OBlk; infer_instance
instance td_storable (d : Dev nD) (c : Fin 2) (i : Fin 16) : BI.Storable (upEmb : UEmb _ 𝕄) (TdT m d c i) := by
  unfold TdT TDone YAll IAll Done OBlk; infer_instance

instance P_storable : (P m).IsStorable where
  st q d c := match q with | 0 => inferInstanceAs (BI.Storable (upEmb : UEmb _ 𝕄) (bigSep Finset.univ fun i : Fin 16 => GoT m d (Fin.cast nCore_zero c) i))
  dn q d c := match q with | 0 => inferInstanceAs (BI.Storable (upEmb : UEmb _ 𝕄) (bigSep Finset.univ fun i : Fin 16 => TdT m d (Fin.cast nCore_zero c) i))
  go q d c i := match q with | 0 => inferInstanceAs (BI.Storable (upEmb : UEmb _ 𝕄) (GoT m d (Fin.cast nCore_zero c) (Fin.cast nSub_zero i)))
  td q d c i := match q with | 0 => inferInstanceAs (BI.Storable (upEmb : UEmb _ 𝕄) (TdT m d (Fin.cast nCore_zero c) (Fin.cast nSub_zero i)))

/-! ## The obligation of a tile -/

theorem defs₀_vector (c : Fin τ.nSC) (s : Fin τ.nSub) :
    defs₀ (F := F) (.scVector c s) 0 ()
      = SparseCore.onTile hcore0 hsub0 (fun c s => cc0_gather (coordsV c s) yM (Memref.isWhole_whole _) iM (Memref.isWhole_whole _) oM (Memref.isWhole_whole _)
            aV1 (Memref.isWhole_whole _) cc0_scoped1 oV1 (Memref.isWhole_whole _) cc0_scoped3 cc0_scoped4 cc0_scoped5
            aV2 (Memref.isWhole_whole _) cc0_scoped7 oV2 (Memref.isWhole_whole _) cc0_scoped9 cc0_scoped10 cc0_scoped11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (L := coordsV ⟨_, hci.1⟩ ⟨_, hci.2⟩) (Y := Yw m d) (I := Iw m d) (M := m (oLoc d))
    (qy := tq (finProdFinEquiv ((Fin.cast nCore_zero c : Fin 2), (Fin.cast nSub_zero i : Fin 16))))
    (qt := tq (finProdFinEquiv ((Fin.cast nCore_zero c : Fin 2), (Fin.cast nSub_zero i : Fin 16)))) hF (Iw_lt m hpre d) O W hO).trans (wp_mono frame _ _ fun _ => obl_post)

theorem tileNo_coords (c : Fin 2) (i : Fin 16) : tileNo (coordsV c i) = finProdFinEquiv (c, i) := by
  refine Fin.ext ?_
  show 16 * c.val + i.val = i.val + 16 * c.val
  omega

/-! ## A core's tiles -/

theorem by_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem by_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => GoT m d (Fin.cast nCore_zero c) i) ⊢ |={Set.univ}=> iprop(
      (bigSep Finset.univ fun i : Fin ((K (F := F)).nSub 0) => GoT m d (Fin.cast nCore_zero c) (Fin.cast nSub_zero i))
      ∗ ((bigSep Finset.univ fun i : Fin ((K (F := F)).nSub 0) => TdT m d (Fin.cast nCore_zero c) (Fin.cast nSub_zero i))
          -∗ bigSep Finset.univ fun i : Fin 16 => TdT m d (Fin.cast nCore_zero c) i))
  rw [by_tasks (F := F) (fun i => GoT m d (Fin.cast nCore_zero c) i), by_tasks (F := F) (fun i => TdT m d (Fin.cast nCore_zero c) i)]
  iintro H; imodintro
  isplitl [H]; · iexact H
  iintro H; iexact H

/-! ## The launch element of the ghost state -/

def u₀ : UU := (initOf (K (F := F)).hsCells (K (F := F)).hsToks, 1)

theorem bigSep_emps {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iempintro

/-! ## @main -/

abbrev S5 : Finset (DevRef τ sig) := {y', d', i', o', r'}

theorem held_S5 (d : Dev nD) (W : Valuation τ sig (Elt F)) :
    (held (T d) S5 W : sProp 𝕄)
      = iprop((yLoc d ↦{fullShare} W y') ∗ (dLoc d ↦{fullShare} W d') ∗ (iLoc d ↦{fullShare} W i') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((yLoc d ↦{fullShare} W main_arg0) ∗ (dLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at launch, before the call, and after it. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (GB d (Yw m d) (Iw m d))

theorem unscoped_held (d : Dev nD) : (unscopedBufs d (fun b => m ((SparseCore.T d).loc b)) : sProp 𝕄) = held (T d) S5 (V0 m d) := by
  rw [unscopedBufs_eq, held_S5]; rfl

theorem V1_of_ne (d : Dev nD) {b : DevRef τ sig} (h : b ∉ ({i'} : Finset (DevRef τ sig))) : V1 m d b = m (d, b) :=
  (opIn (F := F)).result_of_not_mem _ h
theorem V1_i (d : Dev nD) : V1 m d i' = Iw m d := by
  unfold V1 opIn
  rw [StableHlo.reshape_result]
  rfl
theorem V2_o (d : Dev nD) : V2 m d o' = GB d (Yw m d) (Iw m d) := Function.update_self _ _ _
theorem V2_of_ne (d : Dev nD) {b : DevRef τ sig} (h : b ≠ o') : V2 m d b = V1 m d b := Function.update_of_ne h _ _

theorem held_V1 (d : Dev nD) :
    (held (T d) S5 ((opIn (F := F)).result (V0 m d)) : sProp 𝕄)
      = iprop((yLoc d ↦{fullShare} Yw m d) ∗ (dLoc d ↦{fullShare} m (dLoc d)) ∗ (iLoc d ↦{fullShare} Iw m d) ∗ (oLoc d ↦{fullShare} m (oLoc d)) ∗ rLoc d ↦{fullShare} m (rLoc d)) := by
  show held (SparseCore.T d) S5 (V1 m d) = _
  rw [held_S5, V1_i, V1_of_ne m d (b := y') (by decide), V1_of_ne m d (b := d') (by decide), V1_of_ne m d (b := o') (by decide), V1_of_ne m d (b := r') (by decide)]
theorem held_V2 (d : Dev nD) :
    (held (T d) S5 (V2 m d) : sProp 𝕄)
      = iprop((yLoc d ↦{fullShare} Yw m d) ∗ (dLoc d ↦{fullShare} m (dLoc d)) ∗ (iLoc d ↦{fullShare} Iw m d) ∗ (oLoc d ↦{fullShare} GB d (Yw m d) (Iw m d)) ∗ rLoc d ↦{fullShare} m (rLoc d)) := by
  rw [held_S5, V2_o, V2_of_ne m d (b := y') (by decide), V2_of_ne m d (b := d') (by decide), V2_of_ne m d (b := i') (by decide), V2_of_ne m d (b := r') (by decide),
    V1_i, V1_of_ne m d (b := y') (by decide), V1_of_ne m d (b := d') (by decide), V1_of_ne m d (b := r') (by decide)]
theorem held_V3 (d : Dev nD) :
    (held (T d) S5 ((opOut (F := F)).result (V2 m d)) : sProp 𝕄)
      = iprop((yLoc d ↦{fullShare} Yw m d) ∗ (dLoc d ↦{fullShare} m (dLoc d)) ∗ (iLoc d ↦{fullShare} (opOut (F := F)).result (V2 m d) i')
          ∗ (oLoc d ↦{fullShare} (opOut (F := F)).result (V2 m d) o') ∗ rLoc d ↦{fullShare} Rw m d) := by
  have hr : (opOut (F := F)).result (V2 m d) r' = Rw m d := by
    unfold opOut
    rw [StableHlo.reshape_result, V2_o]
    rfl
  rw [held_S5, hr, (opOut (F := F)).result_of_not_mem (V2 m d) (b := y') (show y' ∉ ({r'} : Finset (DevRef τ sig)) by decide),
    (opOut (F := F)).result_of_not_mem (V2 m d) (b := d') (show d' ∉ ({r'} : Finset (DevRef τ sig)) by decide),
    V2_of_ne m d (b := y') (by decide), V2_of_ne m d (b := d') (by decide), V1_of_ne m d (b := y') (by decide), V1_of_ne m d (b := d') (by decide)]

/-- What the two cores are handed is the three arrays, -/
theorem st0_eq (d : Dev nD) :
    (bigSep Finset.univ fun c : Fin ((K (F := F)).nCore 0) => (P m).st 0 d c)
      = iprop((yLoc d ↦{fullShare} Yw m d) ∗ (iLoc d ↦{fullShare} Iw m d) ∗ (oLoc d ↦{fullShare} m (oLoc d))) := by
  refine (by_cores (F := F) fun c => bigSep Finset.univ fun i : Fin 16 => GoT m d c i).trans ?_
  rw [go_all, by_core]
  refine bigSep_congr fun c _ => bigSep_congr fun i _ => ?_
  unfold GoT TGo
  rw [todo_band, todo_band, tileNo_coords]
  rfl

/-- and what they hand back is the three arrays, the output gathered. -/
theorem dn0_eq (d : Dev nD) :
    (bigSep Finset.univ fun c : Fin ((K (F := F)).nCore 0) => (P m).dn 0 d c)
      = iprop((yLoc d ↦{fullShare} Yw m d) ∗ (iLoc d ↦{fullShare} Iw m d) ∗ (oLoc d ↦{fullShare} GB d (Yw m d) (Iw m d))) := by
  refine (by_cores (F := F) fun c => bigSep Finset.univ fun i : Fin 16 => TdT m d c i).trans ?_
  rw [go_all, by_core]
  refine bigSep_congr fun c _ => bigSep_congr fun i _ => ?_
  unfold TdT TDone
  rw [done_band, done_band, tileNo_coords]
  rfl

theorem hIn : (opIn (F := F)).bufs ⊆ S5 := show ({d', i'} : Finset (DevRef τ sig)) ⊆ S5 by decide
theorem hOut : (opOut (F := F)).bufs ⊆ S5 := show ({o', r'} : Finset (DevRef τ sig)) ⊆ S5 by decide

/-- What @main leaves the claims. -/
abbrev FIN (d : Dev nD) : sProp 𝕄 := iprop((yLoc d ↦{fullShare} m (yLoc d)) ∗ (dLoc d ↦{fullShare} m (dLoc d)) ∗ rLoc d ↦{fullShare} Rw m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hy, Hd, Hi, Ho, Hr⟩
  iapply ((K (F := F)).wp_run (D (F := F)) 𝒱 (EH := EH) (P := P m) κ d 0) $$ [Hst Hy Hi Ho Hb Hd Hr Hts]
  isplitr; · iexact Hctx
  isplitl [Hst]; · iexact Hst
  isplitl [Hy Hi Ho]
  · rw [st0_eq]
    isplitl [Hy]; · iexact Hy
    isplitl [Hi]; · iexact Hi
    iexact Ho
  iintro ⟨Hst, Hdn⟩
  ihave Hdn' := (Entails.of_eq (dn0_eq m d)) $$ Hdn
  icases Hdn' with ⟨Hy, Hi, Ho⟩
  iapply (wp_hlo_within 𝒱 (SparseCore.T d) none Set.univ (op := opOut) (S := S5) hOut (V := V2 m d)) $$ [Hb Hy Hd Hi Ho Hr]
  · isplitl [Hb]; · iexact Hb
    rw [held_V2]
    isplitl [Hy]; · iexact Hy
    isplitl [Hd]; · iexact Hd
    isplitl [Hi]; · iexact Hi
    isplitl [Ho]; · iexact Ho
    iexact Hr
  iintro ⟨Hb, Hheld⟩
  ihave Hh := (Entails.of_eq (held_V3 (F := F) m d)) $$ Hheld
  icases Hh with ⟨Hy, Hd, -, -, Hr⟩
  rw [wp_ret]; imodintro; imodintro
  isplitl [Hst]; · iexact Hst
  isplitr [Hb Hts]
  · isplitl [Hy]; · iexact Hy
    isplitl [Hd]; · iexact Hd
    iexact Hr
  isplitl [Hb] <;> iassumption

/-- What the claims read of the final state. -/
def fq (d : Dev nD) (s' : Phys nD τ sig (Elt F)) : Prop :=
  s'.mem.mem (rLoc d) = Rw m d ∧ s'.mem.mem (yLoc d) = m (yLoc d) ∧ s'.mem.mem (dLoc d) = m (dLoc d)

theorem hfin (d : Dev nD) (s' : Phys nD τ sig (Elt F)) : iprop(FIN m d ∗ SI s') ⊢ (⌜fq m d s'⌝ : sProp 𝕄) := by
  iintro ⟨⟨Hy, Hd, Hr⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h2, HSI, -⟩
  ihave H := (SI_pointsTo_agree (st := s') (ℓ := rLoc d) (I := Finset.univ) (q := fullShare) (f := Rw m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  (∀ c : Dev nD, r.2.mem (rLoc c) = Rw m c ∧ r.2.mem (yLoc c) = m (yLoc c) ∧ r.2.mem (dLoc c) = m (dLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Value.lean ====
/-
  The kernel's result and the reference's are one array: row `dest[b, t]` of the rows at `[b, t]`.
-/
module

public import proofs.«01_k».proof.Proof.Launch
public import proofs.«01_k».proof.Proof.Gen.ReferenceIdeal
public import proofs.«01_k».proof.Proof.Gen.ReferenceIdeal.Run
public import Idealize.ShloMosaic.Lib.Pipeline.Value
public import Idealize.ShloMosaic.Lib.ValueIdxCore

@[expose] public section

set_option maxRecDepth 65536

noncomputable section

namespace Cert.Proof

open Idealize.ShloMosaic

/-- A row number that the precondition lets pass is below 49152 as a natural number. -/
theorem in_rows (v : BitVec 32) (e : IntOp.andi (IntOp.cmpi .sge v 0#32) (IntOp.cmpi .slt v 49152#32) = 1#1) : v.toNat < 49152 := by
  have both : ∀ p q : Bool, IntOp.andi (BitVec.ofBool p) (BitVec.ofBool q) = 1#1 → p = true ∧ q = true := by decide
  obtain ⟨h0, h1⟩ := both _ _ e
  simp only [BitVec.sle_eq_decide, BitVec.slt_eq_decide, decide_eq_true_eq, BitVec.toInt_eq_toNat_cond, BitVec.toNat_ofNat, Nat.reducePow, Nat.reduceMod] at h0 h1
  omega

/-- The kernel's result at `[b, t, j]`. -/
theorem kernel_at (Y : Cert.KernelIdeal.S49152x512.Idx → BitVec 32) (D : Cert.KernelIdeal.S2x16384.Idx → BitVec 32)
    (h1 : Cert.KernelIdeal.S2x16384.ShapeCasts Cert.KernelIdeal.S1x32768) (h2 : Cert.KernelIdeal.S32768x512.ShapeCasts Cert.KernelIdeal.S2x16384x512)
    (x : Cert.KernelIdeal.S2x16384x512.Idx) :
    shapeCast Cert.KernelIdeal.S2x16384x512 (G Y (shapeCast Cert.KernelIdeal.S1x32768 D h1)) h2 x
      = Y (ix2 (dims := ![49152, 512]) (rowNo (D (ix2 (dims := ![2, 16384]) (x 0) (x 1))).toNat) (x 2)) := by
  have h0 : (x 0).val < 2 := (x 0).isLt
  have h1' : (x 1).val < 16384 := (x 1).isLt
  have h2' : (x 2).val < 512 := (x 2).isLt
  have hr : 16384 * (x 0).val + (x 1).val < 32768 := by omega
  rw [shapeCast_apply _ h2 x (ix2 (dims := ![32768, 512]) ⟨16384 * (x 0).val + (x 1).val, hr⟩ (x 2)) (by
    rw [Shape.rowMajor_val_two, Shape.rowMajor_val_three]
    show (16384 * (x 0).val + (x 1).val) * 512 + (x 2).val = ((x 0).val * 16384 + (x 1).val) * 512 + (x 2).val
    omega)]
  unfold G
  rw [shapeCast_apply D h1 _ (ix2 (dims := ![2, 16384]) (x 0) (x 1)) (by
    rw [Shape.rowMajor_val_two, Shape.rowMajor_val_two]
    show (x 0).val * 16384 + (x 1).val = 0 * 32768 + (16384 * (x 0).val + (x 1).val)
    omega)]
  rfl

section Ref

open Cert.ReferenceIdeal Cert.ReferenceIdeal.Facts₀

/-- The reference's row numbers: the given ones, 49152 added to the negative ones. -/
abbrev refIdx (D : S2x16384.Idx → BitVec 32) : IVec S2x16384x1 32 :=
  broadcastInDim S2x16384x1 ![0, 1] bcast_S2x16384_S2x16384x1_0_1
    (select (cmpi .slt D (broadcastInDim S2x16384 ![] bcast_S_S2x16384 (constantI S_ 32 0#32)))
      (addi D (broadcastInDim S2x16384 ![] bcast_S_S2x16384 (constantI S_ 32 49152#32))) D)

theorem refIdx_at (D : S2x16384.Idx → BitVec 32) (hD : ∀ j, (D j).toNat < 49152) (i : S2x16384x1.Idx) :
    refIdx D i = D (ix2 (dims := ![2, 16384]) (i 0) (i 1)) := by
  have hb : refIdx D i = select (cmpi .slt D (broadcastInDim S2x16384 ![] bcast_S_S2x16384 (constantI S_ 32 0#32)))
      (addi D (broadcastInDim S2x16384 ![] bcast_S_S2x16384 (constantI S_ 32 49152#32))) D (ix2 (dims := ![2, 16384]) (i 0) (i 1)) :=
    broadcastInDim_apply _ _ _ i _ (fun a => by match a with
      | ⟨0, _⟩ => exact (if_neg (show ¬ (2 : ℕ) = 1 by decide)).symm
      | ⟨1, _⟩ => exact (if_neg (show ¬ (16384 : ℕ) = 1 by decide)).symm)
  rw [hb]
  have h := hD (ix2 (dims := ![2, 16384]) (i 0) (i 1))
  have hn : IntOp.cmpi .slt (D (ix2 (dims := ![2, 16384]) (i 0) (i 1))) 0#32 = 0#1 := by
    show BitVec.ofBool (BitVec.slt _ _) = BitVec.ofBool false
    rw [BitVec.slt_eq_decide]
    congr 1
    simp only [decide_eq_false_iff_not, BitVec.toInt_eq_toNat_cond, BitVec.toNat_ofNat, Nat.reducePow, Nat.reduceMod]
    omega
  show (if IntOp.cmpi .slt (D (ix2 (dims := ![2, 16384]) (i 0) (i 1))) 0#32 = 1#1 then _ else _) = _
  rw [hn, if_neg (by decide)]

/-- The reference's gather of rows. -/
abbrev gD : GatherDims S49152x512 S2x16384x1 S2x16384x512 := gather_S49152x512_S2x16384x1_S2x16384x512_2_0_n_n_0_2_1512

/-- The reference's result at `[b, t, j]`. -/
theorem reference_at (Y : S49152x512.Idx → BitVec 32) (D : S2x16384.Idx → BitVec 32) (hD : ∀ j, (D j).toNat < 49152) (x : S2x16384x512.Idx) :
    Host.gather gD Y (refIdx D) x
      = Y (ix2 (dims := ![49152, 512]) (rowNo (D (ix2 (dims := ![2, 16384]) (x 0) (x 1))).toNat) (x 2)) := by
  have m0 : (0 : Fin 2) ∈ gD.startIndexMap := List.mem_singleton.mpr rfl
  have m1 : (1 : Fin 2) ∉ gD.startIndexMap := by show (1 : Fin 2) ∉ ([0] : List (Fin 2)); decide
  have b (a : Fin 2) : gD.batchCoord x a = 0 := gD.batchCoord_eq_zero x a List.not_mem_nil
  have o0 : gD.offCoord x (0 : Fin 2) = 0 := gD.offCoord_eq_zero x _ fun h => ((gD.mem_sKept _).mp h).1 (List.mem_singleton.mpr rfl)
  have o1 : gD.offCoord x (1 : Fin 2) = (x 2).val := rfl
  have s1 : gD.start x (refIdx D) (1 : Fin 2) = 0 := dif_neg m1
  have s0 : gD.start x (refIdx D) (0 : Fin 2) = (D (ix2 (dims := ![2, 16384]) (x 0) (x 1))).toNat % 49152 := by
    have h := hD (ix2 (dims := ![2, 16384]) (x 0) (x 1))
    have hv : (D (ix2 (dims := ![2, 16384]) (x 0) (x 1))).toInt.toNat = (D (ix2 (dims := ![2, 16384]) (x 0) (x 1))).toNat := by
      rw [BitVec.toInt_eq_toNat_cond]; omega
    refine (dif_pos m0).trans ?_
    rw [refIdx_at D hD]
    show min (D (ix2 (dims := ![2, 16384]) (x 0) (x 1))).toInt.toNat 49151 = _
    rw [hv]; omega
  unfold Host.gather
  refine congrArg Y (funext fun a => Fin.ext ?_)
  show gD.start x (refIdx D) a + gD.batchCoord x a + gD.offCoord x a = _
  rcases (by revert a; decide : ∀ a : Fin 2, a = 0 ∨ a = 1) a with rfl | rfl
  · rw [b, o0, s0]; rfl
  · rw [b, o1, s1, Nat.zero_add]; rfl

end Ref

end Cert.Proof

end
-- ==== Proof.OutValue.lean ====
/-
  The output projection's launch: the array it leaves is `x2 + (o * sg) @ w_out`.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Proof.Out

open Idealize.ShloMosaic Idealize.ShloMosaic.TcCoe Idealize.ShloMosaic.Pipeline
open Cert.Kernel4Ideal Cert.Kernel4Ideal.Gen

/-- Row `r`, column `q` of `x + (o * sg) @ w`. -/
def cell {n : ℕ} (x o s : Fin n → Fin 1024 → EReal) (w : Fin 1024 → Fin 1024 → EReal) (r : Fin n) (q : Fin 1024) : EReal :=
  x r q + ∑ k : Fin 1024, (o r k * s r k) * w k q

theorem upper_at (o sg : Vec Ideal S256x1024 .bf16) (x : Vec Ideal S256x1024 .f32) (w : Vec Ideal S1024x1024 .bf16) (r : Fin 256) (q : Fin 1024) :
    k0_pay2 (F := Ideal) o sg x w (ix2 r q)
      = cell (fun r k => x (ix2 r k)) (fun r k => o (ix2 r k)) (fun r k => sg (ix2 r k)) (fun k q => w (ix2 k q)) r q := by
  unfold cell
  pointwise [k0_pay2]

theorem lower_at (o sg : Vec Ideal S256x1024 .bf16) (x : Vec Ideal S256x1024 .f32) (w : Vec Ideal S1024x1024 .bf16) (r : Fin 256) (q : Fin 1024) :
    k0_pay4 (F := Ideal) o sg x w (ix2 r q)
      = cell (fun r k => x (ix2 r k)) (fun r k => o (ix2 r k)) (fun r k => sg (ix2 r k)) (fun k q => w (ix2 k q)) r q := by
  unfold cell
  pointwise [k0_pay4]

variable (m : (ℓ : Loc nD τ sig) → Buf (Elt Ideal) ℓ)

theorem cast_at (X : FVec Ideal S1x1024x1024 .f32) (a b : Fin 1024) :
    (truncf .bf16 (shapeCast S1024x1024 X shapeCasts_S1x1024x1024_S1024x1024) bitsLt_bf16_f32 : FVec Ideal S1024x1024 .bf16) (ix2 a b) = X (ix3 0 a b) := by
  pointwise

theorem w_at (c : Dev nD) : V m c main_v1 = (truncf .bf16 (shapeCast S1024x1024 (m ((c : Thread nD τ).loc main_arg3)) shapeCasts_S1x1024x1024_S1024x1024) bitsLt_bf16_f32 : FVec Ideal S1024x1024 .bf16) := by
  unfold_abbrev_sides
  after_results
  rfl

/-- The array the launch leaves. -/
def X3 (c : Dev nD) : S16384x1024.Idx → EReal := fun y =>
  cell (n := 16384) (fun r k => m ((c : Thread nD τ).loc main_arg0) (ix2 r k)) (fun r k => m ((c : Thread nD τ).loc main_arg1) (ix2 r k))
    (fun r k => m ((c : Thread nD τ).loc main_arg2) (ix2 r k)) (fun k q => m ((c : Thread nD τ).loc main_arg3) (ix3 0 k q)) (y 0) (y 1)

theorem idx (t : Fin cfg0.N) : (cfg0.win 0).index t = ![t.val, 0] ∧ (cfg0.win 1).index t = ![t.val, 0] ∧ (cfg0.win 2).index t = ![t.val, 0]
    ∧ (cfg0.win 3).index t = ![0, 0] ∧ (cfg0.win 6).index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_6.index t = ![t.val, 0]) t

/-- Row `a` of the rows of point `t`, among all the rows. -/
def row (t : Fin cfg0.N) (a : Fin 512) : Fin 16384 :=
  ⟨512 * t.val + a.val, by have := t.isLt; have e : cfg0.N = 32 := rfl; omega⟩

theorem x_at (c : Dev nD) (t : Fin cfg0.N) (a : Fin 512) (b : Fin 1024) :
    iblk m c 0 t (ix2 a b) = m ((c : Thread nD τ).loc main_arg0) (ix2 (row t a) b) := by
  rw [← V_main_arg0 m c]
  blk_ext [iblk, row, idx t]
theorem o_at (c : Dev nD) (t : Fin cfg0.N) (a : Fin 512) (b : Fin 1024) :
    iblk m c 1 t (ix2 a b) = m ((c : Thread nD τ).loc main_arg1) (ix2 (row t a) b) := by
  rw [← V_main_arg1 m c]
  blk_ext [iblk, row, idx t]
theorem s_at (c : Dev nD) (t : Fin cfg0.N) (a : Fin 512) (b : Fin 1024) :
    iblk m c 2 t (ix2 a b) = m ((c : Thread nD τ).loc main_arg2) (ix2 (row t a) b) := by
  rw [← V_main_arg2 m c]
  blk_ext [iblk, row, idx t]
theorem wblk_at (c : Dev nD) (t : Fin cfg0.N) (a b : Fin 1024) :
    iblk m c 3 t (ix2 a b) = m ((c : Thread nD τ).loc main_arg3) (ix3 0 a b) := by
  have e : iblk m c 3 t (ix2 a b) = V m c main_v1 (ix2 a b) := by
    unfold iblk
    generalize hW : V m c (arrRef spec0 3) = W
    show _ = W (ix2 a b)
    blk_ext [idx t]
  rw [e, w_at]
  exact cast_at _ a b

theorem cell_congr {n n' : ℕ} {x o s : Fin n → Fin 1024 → EReal} {x' o' s' : Fin n' → Fin 1024 → EReal} {w w' : Fin 1024 → Fin 1024 → EReal}
    {r : Fin n} {r' : Fin n'} {q q' : Fin 1024} (hx : ∀ k, x r k = x' r' k) (ho : ∀ k, o r k = o' r' k) (hs : ∀ k, s r k = s' r' k)
    (hw : ∀ j k, w j k = w' j k) (hq : q = q') : cell x o s w r q = cell x' o' s' w' r' q' := by
  subst hq
  simp only [cell, hx, ho, hs, hw]

/-- What one point writes back, at row `a`, column `q` of its rows. -/
theorem out_at (x0 : Vec Ideal S512x1024 .f32) (x1 x2 : Vec Ideal S512x1024 .bf16) (x3 : Vec Ideal S1024x1024 .bf16) (x4 : Vec Ideal S1x1024 .f32)
    (x5 : Vec Ideal S2048x256 .bf16) (y : S512x1024.Idx) :
    out0_6 x0 x1 x2 x3 x4 x5 y
      = cell (n := 512) (fun r k => x0 (ix2 r k)) (fun r k => x1 (ix2 r k)) (fun r k => x2 (ix2 r k)) (fun k q => x3 (ix2 k q)) (y 0) (y 1) := by
  canon_tiles x h
  all_goals
    obtain ⟨r, q, rfl⟩ : ∃ (r : Fin 256) (q : Fin 1024), x = ix2 r q := ⟨x 0, x 1, eq_ix2 x⟩
    have hq : y 1 = q := Fin.ext h1
    have lw (j k : Fin 1024) : View.ld x3 r0_1 (ix2 j k) = x3 (ix2 j k) := by pointwise
  · have hr : y 0 = (⟨256 + r.val, by have := r.isLt; omega⟩ : Fin 512) := Fin.ext h0
    have l (A : Vec Ideal S512x1024 .f32) (k : Fin 1024) : View.ld A r0_5 (ix2 r k) = A (ix2 ⟨256 + r.val, by omega⟩ k) := by pointwise
    have l' (A : Vec Ideal S512x1024 .bf16) (k : Fin 1024) : View.ld A r0_5 (ix2 r k) = A (ix2 ⟨256 + r.val, by omega⟩ k) := by pointwise
    rw [lower_at, hr, hq]
    exact cell_congr (l x0) (l' x1) (l' x2) lw rfl
  · have hr : y 0 = (⟨r.val, by have := r.isLt; omega⟩ : Fin 512) := Fin.ext h0
    have l (A : Vec Ideal S512x1024 .f32) (k : Fin 1024) : View.ld A r0_0 (ix2 r k) = A (ix2 ⟨r.val, by omega⟩ k) := by pointwise
    have l' (A : Vec Ideal S512x1024 .bf16) (k : Fin 1024) : View.ld A r0_0 (ix2 r k) = A (ix2 ⟨r.val, by omega⟩ k) := by pointwise
    rw [upper_at, hr, hq]
    exact cell_congr (l x0) (l' x1) (l' x2) lw rfl

theorem final (c : Dev nD) : (dats m 0 c).arrAt 6 cfg0.N = X3 m c := by
  refine (dats m 0 c).arrAt_eq_of_covers 6 _ (by decide +kernel) fun t hf y => ?_
  blk_simp
  rw [after0_6]
  have e : (win0_6.blk t).view.emb y = ix2 (row t (y 0)) (y 1) := by blk_ext [row, idx t]
  rw [e]
  exact (out_at _ _ _ _ _ _ y).trans (cell_congr (fun k => x_at m c t _ k) (fun k => o_at m c t _ k) (fun k => s_at m c t _ k)
    (fun j k => wblk_at m c t j k) rfl)

/-- The reference's array is the same one. -/
theorem ref_eq (c : Dev nD)
    (A B : FVec Ideal S16384x1024 .bf16) (x : FVec Ideal S16384x1024 .f32) (w : FVec Ideal S1x1024x1024 .f32)
    (hx : x = m ((c : Thread nD τ).loc main_arg0)) (hA : A = m ((c : Thread nD τ).loc main_arg1)) (hB : B = m ((c : Thread nD τ).loc main_arg2))
    (hw : w = m ((c : Thread nD τ).loc main_arg3)) :
    addf x (Host.dotGeneral Cert.Reference4Ideal.dot_S16384x1024_S1024x1024_S16384x1024_1_0_0_1_n_n none
      (mulf (extf .f32 A bitsLt_bf16_f32) (extf .f32 B bitsLt_bf16_f32)) (shapeCast _ w shapeCasts_S1x1024x1024_S1024x1024)) = X3 m c := by
  subst hx hA hB hw
  funext j
  obtain ⟨r, q, rfl⟩ : ∃ (r : Fin 16384) (q : Fin 1024), j = ix2 r q := ⟨j 0, j 1, eq_ix2 j⟩
  pointwise [X3, cell]

end Cert.Proof.Out

end
-- ==== Proof.SguSpec.lean ====
/-
  The spatial gating layer on one block of 128 rows, at the extended reals: the function that the launch and the
  reference are both shown to compute.
-/
module

public import Idealize.ShloMosaic.Lib.Pointwise

@[expose] public section

noncomputable section

namespace Cert.Proof.Sgu

open Idealize.ShloMosaic

/-- The layer's weights. -/
structure Par where
  an : Fin 1024 → EReal
  win : Fin 1024 → Fin 4096 → EReal
  bin : Fin 4096 → EReal
  vn : Fin 2048 → EReal
  ws : Fin 8 → Fin 128 → Fin 128 → EReal
  bs : Fin 8 → Fin 128 → EReal
  wout : Fin 2048 → Fin 1024 → EReal

/-- A row over the root of its mean square, scaled column by column; `n` is the number of its columns. -/
def norm {d : ℕ} (n : EReal) (x w : Fin d → EReal) (k : Fin d) : EReal :=
  x k * Ideal.rsqrt (Ideal.div (∑ j, x j * x j) n + Ideal.ofBits FTy.f32 897988541#32) * w k

/-- The activation. -/
def act (z : EReal) : EReal :=
  z * (Ideal.ofBits FTy.f32 1056964608#32 * (1 + Ideal.tanh (Ideal.ofBits FTy.f32 1061962282#32 *
    (z + Ideal.ofBits FTy.f32 1027024659#32 * (z * z * z)))))

/-- Column `q` of the first projection of the row `x`, activated. -/
def proj (P : Par) (x : Fin 1024 → EReal) (q : Fin 4096) : EReal :=
  act (∑ j, norm (Ideal.ofBits FTy.f32 1149239296#32) x P.an j * P.win j q + P.bin q)

def uCol (k : Fin 2048) : Fin 4096 := ⟨k.val, by omega⟩
def vCol (k : Fin 2048) : Fin 4096 := ⟨2048 + k.val, by omega⟩
def grp (k : Fin 2048) : Fin 8 := ⟨k.val / 256, by omega⟩

/-- The gate's half of the row `x`, normed. -/
def vRow (P : Par) (x : Fin 1024 → EReal) (k : Fin 2048) : EReal :=
  norm (Ideal.ofBits FTy.f32 1157627904#32) (fun k => proj P x (vCol k)) P.vn k

/-- The mixing weight of rows `s'` for row `s`: none from a later chunk of 64 rows. -/
def mixW (P : Par) (g : Fin 8) (s s' : Fin 128) : EReal :=
  if s'.val / 64 ≤ s.val / 64 then P.ws g s s' else 0

/-- Row `s`, column `k` of the gated block. -/
def gated (P : Par) (x : Fin 128 → Fin 1024 → EReal) (s : Fin 128) (k : Fin 2048) : EReal :=
  proj P (x s) (uCol k) * (∑ s', mixW P (grp k) s s' * vRow P (x s') k + P.bs (grp k) s)

/-- Row `s`, column `q` of the layer's result on the block `x`. -/
def layer (P : Par) (x : Fin 128 → Fin 1024 → EReal) (s : Fin 128) (q : Fin 1024) : EReal :=
  x s q + ∑ k, gated P x s k * P.wout k q

end Cert.Proof.Sgu

end
-- ==== Proof.ProjPay.lean ====
/-
  The projections' payloads at an index.
-/
module

public import proofs.«01_k».proof.Proof.SguSpec
public import proofs.«01_k».proof.Proof.Gen.Kernel5Ideal.Skeleton
public import Idealize.ShloMosaic.Lib.Pointwise

@[expose] public section

set_option maxRecDepth 16384

noncomputable section

namespace Cert.Proof.Proj

open Idealize.ShloMosaic Idealize.ShloMosaic.TcCoe
open Cert.Kernel5Ideal Cert.Kernel5Ideal.Gen

/-- A row normed by its root mean square. -/
abbrev nrm (x w : Fin 1024 → EReal) (k : Fin 1024) : EReal := Sgu.norm (Ideal.ofBits FTy.f32 1149239296#32) x w k

/-- The logistic function. -/
def sigm (z : EReal) : EReal := Ideal.div 1 (1 + Ideal.exp (-z))

/-- The experts' rows added to the residual. -/
theorem x_at (w : Vec Ideal S256x8 .f32) (y0 y1 : Vec Ideal S1x256x1024 .bf16) (x : Vec Ideal S256x1024 .f32) (r : Fin 256) (k : Fin 1024) :
    k0_pay27 (F := Ideal) w y0 y1 x (ix2 r k) = x (ix2 r k) + (w (ix2 r 0) * y0 (ix3 0 r k) + w (ix2 r 1) * y1 (ix3 0 r k)) := by
  pointwise [k0_pay27]

theorem hkv_at (w : Vec Ideal S256x8 .f32) (y0 y1 : Vec Ideal S1x256x1024 .bf16) (x : Vec Ideal S256x1024 .f32) (kn : Vec Ideal S1x1024 .f32)
    (r : Fin 256) (k : Fin 1024) :
    k0_pay28 (F := Ideal) w y0 y1 x kn (ix2 r k) = nrm (fun k => k0_pay27 (F := Ideal) w y0 y1 x (ix2 r k)) (fun k => kn (ix2 0 k)) k := by
  unfold nrm Sgu.norm k0_pay28
  generalize k0_pay27 (F := Ideal) w y0 y1 x = X
  pointwise

theorem hq_at (X : FVec Ideal S256x1024 .f32) (bn : Vec Ideal S1x1024 .f32) (r : Fin 256) (k : Fin 1024) :
    k0_pay29 (F := Ideal) X bn (ix2 r k) = nrm (fun k => X (ix2 r k)) (fun k => bn (ix2 0 k)) k := by
  unfold nrm Sgu.norm
  pointwise [k0_pay29]

theorem v_at (h : FVec Ideal S256x1024 .bf16) (w : Vec Ideal S1024x1024 .bf16) (r : Fin 256) (k : Fin 1024) :
    k0_pay30 (F := Ideal) h w (ix2 r k) = ∑ j : Fin 1024, h (ix2 r j) * w (ix2 j k) := by
  pointwise [k0_pay30]

theorem sg_at (X : FVec Ideal S256x1024 .f32) (bn : Vec Ideal S1x1024 .f32) (w : Vec Ideal S1024x1024 .bf16) (r : Fin 256) (k : Fin 1024) :
    k0_pay31 (F := Ideal) X bn w (ix2 r k) = sigm (∑ j : Fin 1024, nrm (fun k => X (ix2 r k)) (fun k => bn (ix2 0 k)) j * w (ix2 j k)) := by
  simp only [← hq_at]
  unfold sigm k0_pay31
  generalize k0_pay29 (F := Ideal) X bn = H
  pointwise
  rfl

theorem wv_at (w : Vec Ideal S1024x1024 .f32) (j k : Fin 1024) : k0_pay3 (F := Ideal) w (ix2 j k) = w (ix2 k j) := by
  pointwise [k0_pay3]

theorem wg_at (w : Vec Ideal S1024x1024 .f32) (j k : Fin 1024) : k0_pay5 (F := Ideal) w (ix2 j k) = w (ix2 j k) := by
  pointwise [k0_pay5]

end Cert.Proof.Proj

end
-- ==== Proof.ProjPoint.lean ====
/-
  The projections' launch: what a grid point stores and the weights it carries.
-/
module

public import proofs.«01_k».proof.Proof.ProjPay
public import proofs.«01_k».proof.Proof.Gen.Kernel5Ideal.Frame
public import Idealize.ShloMosaic.Lib.Pipeline.ValueKit
public import Idealize.ShloMosaic.Lib.Pipeline.ReadBack

@[expose] public section

set_option maxRecDepth 16384
set_option maxHeartbeats 4000000

noncomputable section

namespace Cert.Proof.Proj

open Idealize.ShloMosaic Idealize.ShloMosaic.TcCoe Idealize.ShloMosaic.Pipeline
open Cert.Kernel5Ideal Cert.Kernel5Ideal.Gen

variable (m : (ℓ : Loc nD τ sig) → Buf (Elt Ideal) ℓ)

/-! ## A point's outputs and the weights it carries -/

/-- The values' weight, as stored at the first point. -/
abbrev freshV (x6 : Vec Ideal S2064x1024 .f32) : Vec Ideal S1024x1024 .bf16 :=
  k0_pay3 (View.ld x6 (Rect.unit (s := S2064x1024) ![1024, 0] S1024x1024.size inb_S2064x1024_S1024x1024_1024_0))

/-- The gate's weight, as stored at the first point. -/
abbrev freshG (x8 : Vec Ideal S1024x2048 .f32) : Vec Ideal S1024x1024 .bf16 :=
  k0_pay5 (View.ld x8 (Rect.unit (s := S1024x2048) ![0, 1024] S1024x1024.size inb_S1024x2048_S1024x1024_0_1024))

abbrev carV (c : Dev nD) (n : ℕ) (h : n < cfg0.N) : Vec Ideal S1024x1024 .bf16 := (outsAt0 m c n h).2.2.2.2.2.2.2.1
abbrev carG (c : Dev nD) (n : ℕ) (h : n < cfg0.N) : Vec Ideal S1024x1024 .bf16 := (outsAt0 m c n h).2.2.2.2.2.2.2.2.2.2

/-- A point's rows. -/
abbrev ptX (c : Dev nD) (t : Fin cfg0.N) : Vec Ideal S256x1024 .f32 := k0_pay27 (iblk m c 1 t) (iblk m c 2 t) (iblk m c 3 t) (iblk m c 0 t)

theorem x_A (c : Dev nD) (t : Fin cfg0.N) (h0 : t.val % 64 = 0) (h1 : t.val % 16 = 0) : (outsAt0 m c t.val t.isLt).1 = ptX m c t := by
  rw [outsAt0_A m c t h0 h1]
  frame_out
  try rfl

theorem x_B (c : Dev nD) (t : Fin cfg0.N) (h0 : ¬ t.val % 64 = 0) (h1 : ¬ t.val % 16 = 0) : (outsAt0 m c t.val t.isLt).1 = ptX m c t := by
  rw [outsAt0_B m c t h0 h1]
  frame_out
  try rfl

theorem x_C (c : Dev nD) (t : Fin cfg0.N) (h0 : ¬ t.val % 64 = 0) (h1 : t.val % 16 = 0) : (outsAt0 m c t.val t.isLt).1 = ptX m c t := by
  rw [outsAt0_C m c t h0 h1]
  frame_out
  try rfl

theorem v_A (c : Dev nD) (t : Fin cfg0.N) (h0 : t.val % 64 = 0) (h1 : t.val % 16 = 0) :
    (outsAt0 m c t.val t.isLt).2.2.2.1
      = k0_pay30 (k0_pay28 (iblk m c 1 t) (iblk m c 2 t) (iblk m c 3 t) (iblk m c 0 t) (iblk m c 4 t)) (freshV (iblk m c 6 t)) := by
  rw [outsAt0_A m c t h0 h1]
  frame_out
  try rfl

theorem v_B (c : Dev nD) (t : Fin cfg0.N) (h0 : ¬ t.val % 64 = 0) (h1 : ¬ t.val % 16 = 0) :
    (outsAt0 m c t.val t.isLt).2.2.2.1
      = k0_pay30 (k0_pay28 (iblk m c 1 t) (iblk m c 2 t) (iblk m c 3 t) (iblk m c 0 t) (iblk m c 4 t)) (carV m c (t.val - 1) (by omega)) := by
  refine (congrArg (fun p => p.2.2.2.1) (outsAt0_B m c t h0 h1)).trans ?_
  dsimp only
  frame_out
  rw [read_unread_whole]

theorem v_C (c : Dev nD) (t : Fin cfg0.N) (h0 : ¬ t.val % 64 = 0) (h1 : t.val % 16 = 0) :
    (outsAt0 m c t.val t.isLt).2.2.2.1
      = k0_pay30 (k0_pay28 (iblk m c 1 t) (iblk m c 2 t) (iblk m c 3 t) (iblk m c 0 t) (iblk m c 4 t)) (carV m c (t.val - 1) (by omega)) := by
  refine (congrArg (fun p => p.2.2.2.1) (outsAt0_C m c t h0 h1)).trans ?_
  dsimp only
  frame_out
  rw [read_unread_whole]

theorem g_A (c : Dev nD) (t : Fin cfg0.N) (h0 : t.val % 64 = 0) (h1 : t.val % 16 = 0) :
    (outsAt0 m c t.val t.isLt).2.2.2.2.1 = k0_pay31 (ptX m c t) (iblk m c 5 t) (freshG (iblk m c 8 t)) := by
  rw [outsAt0_A m c t h0 h1]
  frame_out
  try rfl

theorem g_B (c : Dev nD) (t : Fin cfg0.N) (h0 : ¬ t.val % 64 = 0) (h1 : ¬ t.val % 16 = 0) :
    (outsAt0 m c t.val t.isLt).2.2.2.2.1 = k0_pay31 (ptX m c t) (iblk m c 5 t) (carG m c (t.val - 1) (by omega)) := by
  refine (congrArg (fun p => p.2.2.2.2.1) (outsAt0_B m c t h0 h1)).trans ?_
  dsimp only
  frame_out
  rw [read_unread_whole]

theorem g_C (c : Dev nD) (t : Fin cfg0.N) (h0 : ¬ t.val % 64 = 0) (h1 : t.val % 16 = 0) :
    (outsAt0 m c t.val t.isLt).2.2.2.2.1 = k0_pay31 (ptX m c t) (iblk m c 5 t) (carG m c (t.val - 1) (by omega)) := by
  refine (congrArg (fun p => p.2.2.2.2.1) (outsAt0_C m c t h0 h1)).trans ?_
  dsimp only
  frame_out
  rw [read_unread_whole]

theorem carV_A (c : Dev nD) (t : Fin cfg0.N) (h0 : t.val % 64 = 0) (h1 : t.val % 16 = 0) : carV m c t.val t.isLt = freshV (iblk m c 6 t) := by
  unfold carV
  rw [outsAt0_A m c t h0 h1]
  frame_out
  try rfl

theorem carG_A (c : Dev nD) (t : Fin cfg0.N) (h0 : t.val % 64 = 0) (h1 : t.val % 16 = 0) : carG m c t.val t.isLt = freshG (iblk m c 8 t) := by
  unfold carG
  rw [outsAt0_A m c t h0 h1]
  frame_out
  try rfl

theorem carV_later (c : Dev nD) (t : Fin cfg0.N) (h0 : ¬ t.val % 64 = 0) : carV m c t.val t.isLt = carV m c (t.val - 1) (by omega) := by
  unfold carV
  by_cases h1 : t.val % 16 = 0
  · rw [outsAt0_C m c t h0 h1]; rfl
  · rw [outsAt0_B m c t h0 h1]; rfl

theorem carG_later (c : Dev nD) (t : Fin cfg0.N) (h0 : ¬ t.val % 64 = 0) : carG m c t.val t.isLt = carG m c (t.val - 1) (by omega) := by
  unfold carG
  by_cases h1 : t.val % 16 = 0
  · rw [outsAt0_C m c t h0 h1]; rfl
  · rw [outsAt0_B m c t h0 h1]; rfl

end Cert.Proof.Proj

end
-- ==== Proof.ProjRef.lean ====
/-
  The projections' reference at an index.
-/
module

public import proofs.«01_k».proof.Proof.SguSpec
public import proofs.«01_k».proof.Proof.Gen.Reference5Ideal.Run
public import Idealize.ShloMosaic.Lib.Pointwise

@[expose] public section

set_option maxRecDepth 16384

noncomputable section

namespace Cert.Proof.Proj

open Idealize.ShloMosaic Idealize.ShloMosaic.TcCoe
open Cert.Reference5Ideal Cert.Reference5Ideal.Gen

/-- The experts' rows added to the residual. -/
def rX (x : FVec Ideal S16384x1024 .f32) (w : FVec Ideal S16384x8 .f32) (y : FVec Ideal S2x16384x1024 .bf16) : FVec Ideal S16384x1024 .f32 :=
  addf x (addf (mulf (broadcastInDim S16384x1024 ![0, 1] bcast_S16384x1_S16384x1024_0_1 (extractStridedSlice S16384x1 ![0, 0] w slices_S16384x8_S16384x1_0_0))
      (shapeCast S16384x1024 (extractStridedSlice S1x16384x1024 ![0, 0, 0] (extf .f32 y bitsLt_bf16_f32) slices_S2x16384x1024_S1x16384x1024_0_0_0) shapeCasts_S1x16384x1024_S16384x1024))
    (mulf (broadcastInDim S16384x1024 ![0, 1] bcast_S16384x1_S16384x1024_0_1 (extractStridedSlice S16384x1 ![0, 1] w slices_S16384x8_S16384x1_0_1))
      (shapeCast S16384x1024 (extractStridedSlice S1x16384x1024 ![1, 0, 0] (extf .f32 y bitsLt_bf16_f32) slices_S2x16384x1024_S1x16384x1024_1_0_0) shapeCasts_S1x16384x1024_S16384x1024)))

/-- The rows, normed. -/
def rN (x : FVec Ideal S16384x1024 .f32) (w : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
        (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

/-- The values. -/
def rV (h : FVec Ideal S16384x1024 .f32) (w : FVec Ideal S1024x2064 .f32) : FVec Ideal S16384x1024 .bf16 :=
  truncf .bf16 (extractStridedSlice S16384x1024 ![0, 1024] (Host.dotGeneral dot_S16384x1024_S1024x2064_S16384x2064_1_0_0_1_n_n none h w)
    slices_S16384x2064_S16384x1024_0_1024) bitsLt_bf16_f32

/-- The logistic function of the gate. -/
def rG (h : FVec Ideal S16384x1024 .f32) (w : FVec Ideal S1x1024x2048 .f32) : FVec Ideal S16384x1024 .bf16 :=
  truncf .bf16 (Host.divf (broadcastInDim S16384x1024 ![] bcast_S_S16384x1024 (constant S_ .f32 0x3F800000#32))
    (addf (broadcastInDim S16384x1024 ![] bcast_S_S16384x1024 (constant S_ .f32 0x3F800000#32))
      (Host.exp (Host.negf (extractStridedSlice S16384x1024 ![0, 1024]
        (Host.dotGeneral dot_S16384x1024_S1024x2048_S16384x2048_1_0_0_1_n_n none h (shapeCast S1024x2048 w shapeCasts_S1x1024x2048_S1024x2048))
        slices_S16384x2048_S16384x1024_0_1024))))) bitsLt_bf16_f32

/-! ## They are what the reference's run leaves -/

section

variable (m : (ℓ : Loc nD τ sig) → Buf (Elt Ideal) ℓ) (g : Dev nD → PrngReg)

theorem ref_run : θ_run defs (onTc (τ := τ) (main (F := Ideal))) ⟨m, fun _ => 0, g⟩ fun r => ∀ c : Dev nD,
      (r.2.mem ((c.tc : Thread nD τ).loc main_v12) = rX (m ((c.tc : Thread nD τ).loc main_arg0)) (m ((c.tc : Thread nD τ).loc main_arg1)) (m ((c.tc : Thread nD τ).loc main_arg2))
      ∧ r.2.mem ((c.tc : Thread nD τ).loc main_v48)
        = rV (rN (rX (m ((c.tc : Thread nD τ).loc main_arg0)) (m ((c.tc : Thread nD τ).loc main_arg1)) (m ((c.tc : Thread nD τ).loc main_arg2))) (m ((c.tc : Thread nD τ).loc main_arg3)))
            (m ((c.tc : Thread nD τ).loc main_arg4))
      ∧ r.2.mem ((c.tc : Thread nD τ).loc main_v55)
        = rG (rN (rX (m ((c.tc : Thread nD τ).loc main_arg0)) (m ((c.tc : Thread nD τ).loc main_arg1)) (m ((c.tc : Thread nD τ).loc main_arg2)))
            (shapeCast S1024 (m ((c.tc : Thread nD τ).loc main_arg7)) shapeCasts_S1x1024_S1024)) (m ((c.tc : Thread nD τ).loc main_arg8)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨⟨(h c).1, (h c).2.1, (h c).2.2.1⟩, (h c).2.2.2⟩) (Cert.Reference5Ideal.Value.run (F := Ideal) m g)

end

/-! ## At an index -/

theorem rX_at (x : FVec Ideal S16384x1024 .f32) (w : FVec Ideal S16384x8 .f32) (y : FVec Ideal S2x16384x1024 .bf16) (R : Fin 16384) (k : Fin 1024) :
    rX x w y (ix2 R k) = x (ix2 R k) + (w (ix2 R 0) * y (ix3 0 R k) + w (ix2 R 1) * y (ix3 1 R k)) := by
  pointwise [rX]

theorem rN_at (x : FVec Ideal S16384x1024 .f32) (w : FVec Ideal S1024 .f32) (R : Fin 16384) (k : Fin 1024) :
    rN x w (ix2 R k) = Sgu.norm (Ideal.ofBits FTy.f32 1149239296#32) (fun k => x (ix2 R k)) (fun k => w (ix1 k)) k := by
  unfold Sgu.norm
  pointwise [rN]

theorem rV_at (h : FVec Ideal S16384x1024 .f32) (w : FVec Ideal S1024x2064 .f32) (R : Fin 16384) (k : Fin 1024) :
    rV h w (ix2 R k) = ∑ j : Fin 1024, h (ix2 R j) * w (ix2 j ⟨1024 + k.val, by omega⟩) := by
  pointwise [rV]

theorem rG_at (h : FVec Ideal S16384x1024 .f32) (w : FVec Ideal S1x1024x2048 .f32) (R : Fin 16384) (k : Fin 1024) :
    rG h w (ix2 R k) = Ideal.div 1 (1 + Ideal.exp (-(∑ j : Fin 1024, h (ix2 R j) * w (ix3 0 j ⟨1024 + k.val, by omega⟩)))) := by
  pointwise [rG]

theorem cast_at (w : FVec Ideal S1x1024 .f32) (k : Fin 1024) :
    (shapeCast S1024 w shapeCasts_S1x1024_S1024 : FVec Ideal S1024 .f32) (ix1 k) = w (ix2 0 k) := by
  pointwise

end Cert.Proof.Proj

end
-- ==== Proof.ProjValue.lean ====
/-
  The projections' launch: the residual's rows, the values and the gate it leaves.
-/
module

public import proofs.«01_k».proof.Proof.ProjPoint
public import proofs.«01_k».proof.Proof.ProjRef
public import Idealize.ShloMosaic.Lib.Pipeline.ValueKit

@[expose] public section

set_option maxRecDepth 16384
set_option maxHeartbeats 4000000

noncomputable section

namespace Cert.Proof.Proj

open Idealize.ShloMosaic Idealize.ShloMosaic.TcCoe Idealize.ShloMosaic.Pipeline
open Cert.Kernel5Ideal Cert.Kernel5Ideal.Gen

variable (m : (ℓ : Loc nD τ sig) → Buf (Elt Ideal) ℓ)

/-! ## The launch's blocks -/

theorem idx (t : Fin cfg0.N) : (cfg0.win 0).index t = ![t.val, 0] ∧ (cfg0.win 1).index t = ![t.val, 0] ∧ (cfg0.win 2).index t = ![0, t.val, 0]
    ∧ (cfg0.win 3).index t = ![1, t.val, 0] ∧ (cfg0.win 4).index t = ![0, 0] ∧ (cfg0.win 5).index t = ![0, 0] ∧ (cfg0.win 6).index t = ![0, 0]
    ∧ (cfg0.win 8).index t = ![0, 0] ∧ (cfg0.win 11).index t = ![t.val, 0] ∧ (cfg0.win 14).index t = ![t.val, 0] ∧ (cfg0.win 15).index t = ![t.val, 0] :=
  (by decide +kernel : ∀ t : Fin grid0.N, win0_0.index t = ![t.val, 0] ∧ win0_1.index t = ![t.val, 0] ∧ win0_2.index t = ![0, t.val, 0]
    ∧ win0_3.index t = ![1, t.val, 0] ∧ win0_4.index t = ![0, 0] ∧ win0_5.index t = ![0, 0] ∧ win0_6.index t = ![0, 0]
    ∧ win0_8.index t = ![0, 0] ∧ win0_11.index t = ![t.val, 0] ∧ win0_14.index t = ![t.val, 0] ∧ win0_15.index t = ![t.val, 0]) t

/-- Row `a` of the rows of point `t`, among all the rows. -/
def row (t : Fin cfg0.N) (a : Fin 256) : Fin 16384 :=
  ⟨256 * t.val + a.val, by have := t.isLt; have e : cfg0.N = 64 := rfl; omega⟩

theorem x_blk (c : Dev nD) (t : Fin cfg0.N) (a : Fin 256) (k : Fin 1024) :
    iblk m c 0 t (ix2 a k) = m ((c : Thread nD τ).loc main_arg0) (ix2 (row t a) k) := by
  have e : iblk m c 0 t (ix2 a k) = V m c main_arg0 (ix2 (row t a) k) := by
    unfold iblk
    generalize hW : V m c (arrRef spec0 0) = W
    show _ = W (ix2 (row t a) k)
    blk_ext [row, idx t]
  rw [e, V_main_arg0]

theorem w_blk (c : Dev nD) (t : Fin cfg0.N) (a : Fin 256) (k : Fin 8) :
    iblk m c 1 t (ix2 a k) = m ((c : Thread nD τ).loc main_arg1) (ix2 (row t a) k) := by
  have e : iblk m c 1 t (ix2 a k) = V m c main_arg1 (ix2 (row t a) k) := by
    unfold iblk
    generalize hW : V m c (arrRef spec0 1) = W
    show _ = W (ix2 (row t a) k)
    blk_ext [row, idx t]
  rw [e, V_main_arg1]

theorem y0_blk (c : Dev nD) (t : Fin cfg0.N) (a : Fin 256) (k : Fin 1024) :
    iblk m c 2 t (ix3 0 a k) = m ((c : Thread nD τ).loc main_arg2) (ix3 0 (row t a) k) := by
  have e : iblk m c 2 t (ix3 0 a k) = V m c main_arg2 (ix3 0 (row t a) k) := by
    unfold iblk
    generalize hW : V m c (arrRef spec0 2) = W
    show _ = W (ix3 0 (row t a) k)
    blk_ext [row, idx t]
  rw [e, V_main_arg2]

theorem y1_blk (c : Dev nD) (t : Fin cfg0.N) (a : Fin 256) (k : Fin 1024) :
    iblk m c 3 t (ix3 0 a k) = m ((c : Thread nD τ).loc main_arg2) (ix3 1 (row t a) k) := by
  have e : iblk m c 3 t (ix3 0 a k) = V m c main_arg2 (ix3 1 (row t a) k) := by
    unfold iblk
    generalize hW : V m c (arrRef spec0 3) = W
    show _ = W (ix3 1 (row t a) k)
    blk_ext [row, idx t]
  rw [e, V_main_arg2]

theorem kn_host (c : Dev nD) : V m c main_v6 = (shapeCast S1x1024 (m ((c : Thread nD τ).loc main_arg3)) shapeCasts_S1024_S1x1024 : FVec Ideal S1x1024 .f32) := by
  unfold_abbrev_sides
  simp only [hostOps0, hostOps0_1, hostOps0_2, hostOps0_3, hostOps0_4, List.flatten_cons, List.flatten_nil, List.append_nil, List.cons_append, List.nil_append]
  after_results
  rfl

theorem kn_val (X : FVec Ideal S1024 .f32) (k : Fin 1024) : (shapeCast S1x1024 X shapeCasts_S1024_S1x1024 : FVec Ideal S1x1024 .f32) (ix2 0 k) = X (ix1 k) := by
  pointwise

theorem kn_blk (c : Dev nD) (t : Fin cfg0.N) (k : Fin 1024) : iblk m c 4 t (ix2 0 k) = m ((c : Thread nD τ).loc main_arg3) (ix1 k) := by
  have e : iblk m c 4 t (ix2 0 k) = V m c main_v6 (ix2 0 k) := by
    unfold iblk
    generalize hW : V m c (arrRef spec0 4) = W
    show _ = W (ix2 0 k)
    blk_ext [idx t]
  rw [e, kn_host]
  exact kn_val _ k

theorem bn_host (c : Dev nD) : V m c main_v8 = (shapeCast S1x1024 (shapeCast S1024 (m ((c : Thread nD τ).loc main_arg7)) shapeCasts_S1x1024_S1024) shapeCasts_S1024_S1x1024 : FVec Ideal S1x1024 .f32) := by
  unfold_abbrev_sides
  simp only [hostOps0, hostOps0_1, hostOps0_2, hostOps0_3, hostOps0_4, List.flatten_cons, List.flatten_nil, List.append_nil, List.cons_append, List.nil_append]
  after_results
  rfl

theorem bn_val (X : FVec Ideal S1x1024 .f32) (k : Fin 1024) :
    (shapeCast S1x1024 (shapeCast S1024 X shapeCasts_S1x1024_S1024) shapeCasts_S1024_S1x1024 : FVec Ideal S1x1024 .f32) (ix2 0 k) = X (ix2 0 k) := by
  pointwise

theorem bn_blk (c : Dev nD) (t : Fin cfg0.N) (k : Fin 1024) : iblk m c 5 t (ix2 0 k) = m ((c : Thread nD τ).loc main_arg7) (ix2 0 k) := by
  have e : iblk m c 5 t (ix2 0 k) = V m c main_v8 (ix2 0 k) := by
    unfold iblk
    generalize hW : V m c (arrRef spec0 5) = W
    show _ = W (ix2 0 k)
    blk_ext [idx t]
  rw [e, bn_host]
  exact bn_val _ k

theorem kvw_host (c : Dev nD) : V m c main_v9 = (transpose S2064x1024 [1, 0] (m ((c : Thread nD τ).loc main_arg4)) transposes_S1024x2064_S2064x1024_1_0 : FVec Ideal S2064x1024 .f32) := by
  unfold_abbrev_sides
  simp only [hostOps0, hostOps0_1, hostOps0_2, hostOps0_3, hostOps0_4, List.flatten_cons, List.flatten_nil, List.append_nil, List.cons_append, List.nil_append]
  after_results

theorem kvw_val (X : FVec Ideal S1024x2064 .f32) (q : Fin 2064) (j : Fin 1024) :
    (transpose S2064x1024 [1, 0] X transposes_S1024x2064_S2064x1024_1_0 : FVec Ideal S2064x1024 .f32) (ix2 q j) = X (ix2 j q) := by
  pointwise

theorem kvw_blk (c : Dev nD) (t : Fin cfg0.N) (q : Fin 2064) (j : Fin 1024) : iblk m c 6 t (ix2 q j) = m ((c : Thread nD τ).loc main_arg4) (ix2 j q) := by
  have e : iblk m c 6 t (ix2 q j) = V m c main_v9 (ix2 q j) := by
    unfold iblk
    generalize hW : V m c (arrRef spec0 6) = W
    show _ = W (ix2 q j)
    blk_ext [idx t]
  rw [e, kvw_host]
  exact kvw_val _ q j

theorem qgw_host (c : Dev nD) : V m c main_v10 = (shapeCast S1024x2048 (m ((c : Thread nD τ).loc main_arg8)) shapeCasts_S1x1024x2048_S1024x2048 : FVec Ideal S1024x2048 .f32) := by
  unfold_abbrev_sides
  simp only [hostOps0, hostOps0_1, hostOps0_2, hostOps0_3, hostOps0_4, List.flatten_cons, List.flatten_nil, List.append_nil, List.cons_append, List.nil_append]
  after_results
  rfl

theorem qgw_val (X : FVec Ideal S1x1024x2048 .f32) (j : Fin 1024) (q : Fin 2048) :
    (shapeCast S1024x2048 X shapeCasts_S1x1024x2048_S1024x2048 : FVec Ideal S1024x2048 .f32) (ix2 j q) = X (ix3 0 j q) := by
  pointwise

theorem qgw_blk (c : Dev nD) (t : Fin cfg0.N) (j : Fin 1024) (q : Fin 2048) : iblk m c 8 t (ix2 j q) = m ((c : Thread nD τ).loc main_arg8) (ix3 0 j q) := by
  have e : iblk m c 8 t (ix2 j q) = V m c main_v10 (ix2 j q) := by
    unfold iblk
    generalize hW : V m c (arrRef spec0 8) = W
    show _ = W (ix2 j q)
    blk_ext [idx t]
  rw [e, qgw_host]
  exact qgw_val _ j q

/-! ## The carried weights -/

theorem freshV_at (x6 : Vec Ideal S2064x1024 .f32) (j k : Fin 1024) : freshV x6 (ix2 j k) = x6 (ix2 ⟨1024 + k.val, by omega⟩ j) := by
  unfold freshV
  rw [wv_at]
  pointwise

theorem freshG_at (x8 : Vec Ideal S1024x2048 .f32) (j k : Fin 1024) : freshG x8 (ix2 j k) = x8 (ix2 j ⟨1024 + k.val, by omega⟩) := by
  unfold freshG
  rw [wg_at]
  pointwise

/-- The weight of the values, of the launch's arguments. -/
def wV (c : Dev nD) (j k : Fin 1024) : EReal := m ((c : Thread nD τ).loc main_arg4) (ix2 j ⟨1024 + k.val, by omega⟩)

/-- The weight of the gate. -/
def wG (c : Dev nD) (j k : Fin 1024) : EReal := m ((c : Thread nD τ).loc main_arg8) (ix3 0 j ⟨1024 + k.val, by omega⟩)

theorem freshV_w (c : Dev nD) (t : Fin cfg0.N) (j k : Fin 1024) : freshV (iblk m c 6 t) (ix2 j k) = wV m c j k :=
  (freshV_at _ j k).trans (kvw_blk m c t _ j)

theorem freshG_w (c : Dev nD) (t : Fin cfg0.N) (j k : Fin 1024) : freshG (iblk m c 8 t) (ix2 j k) = wG m c j k :=
  (freshG_at _ j k).trans (qgw_blk m c t j _)

theorem carV_at (c : Dev nD) : ∀ (n : ℕ) (h : n < cfg0.N) (j k : Fin 1024), carV m c n h (ix2 j k) = wV m c j k
  | 0, h, j, k => (congrFun (carV_A m c ⟨0, h⟩ rfl rfl) _).trans (freshV_w m c ⟨0, h⟩ j k)
  | n + 1, h, j, k => by
    have hn : ¬ (n + 1) % 64 = 0 := by have e : cfg0.N = 64 := rfl; omega
    exact (congrFun (carV_later m c ⟨n + 1, h⟩ hn) _).trans (carV_at c n (by omega) j k)

theorem carG_at (c : Dev nD) : ∀ (n : ℕ) (h : n < cfg0.N) (j k : Fin 1024), carG m c n h (ix2 j k) = wG m c j k
  | 0, h, j, k => (congrFun (carG_A m c ⟨0, h⟩ rfl rfl) _).trans (freshG_w m c ⟨0, h⟩ j k)
  | n + 1, h, j, k => by
    have hn : ¬ (n + 1) % 64 = 0 := by have e : cfg0.N = 64 := rfl; omega
    exact (congrFun (carG_later m c ⟨n + 1, h⟩ hn) _).trans (carG_at c n (by omega) j k)

/-! ## The arrays the launch leaves -/

/-- An entry with its two experts' entries added, each at its weight. -/
def comb (x w0 y0 w1 y1 : EReal) : EReal := x + (w0 * y0 + w1 * y1)

/-- Row `R`, column `k` of the residual with the experts' rows added. -/
def cellX (c : Dev nD) (R : Fin 16384) (k : Fin 1024) : EReal :=
  comb (m ((c : Thread nD τ).loc main_arg0) (ix2 R k)) (m ((c : Thread nD τ).loc main_arg1) (ix2 R 0)) (m ((c : Thread nD τ).loc main_arg2) (ix3 0 R k))
    (m ((c : Thread nD τ).loc main_arg1) (ix2 R 1)) (m ((c : Thread nD τ).loc main_arg2) (ix3 1 R k))

def cellV (c : Dev nD) (R : Fin 16384) (k : Fin 1024) : EReal :=
  ∑ j : Fin 1024, nrm (fun k => cellX m c R k) (fun k => m ((c : Thread nD τ).loc main_arg3) (ix1 k)) j * wV m c j k

def cellG (c : Dev nD) (R : Fin 16384) (k : Fin 1024) : EReal :=
  sigm (∑ j : Fin 1024, nrm (fun k => cellX m c R k) (fun k => m ((c : Thread nD τ).loc main_arg7) (ix2 0 k)) j * wG m c j k)

def XA (c : Dev nD) : S16384x1024.Idx → EReal := fun y => cellX m c (y 0) (y 1)
def VA (c : Dev nD) : S16384x1024.Idx → EReal := fun y => cellV m c (y 0) (y 1)
def GA (c : Dev nD) : S16384x1024.Idx → EReal := fun y => cellG m c (y 0) (y 1)

theorem ptX_at (c : Dev nD) (t : Fin cfg0.N) (a : Fin 256) (k : Fin 1024) : ptX m c t (ix2 a k) = cellX m c (row t a) k := by
  refine (x_at _ _ _ _ a k).trans ?_
  unfold cellX comb
  exact congrArg₂ (· + ·) (x_blk m c t a k) (congrArg₂ (· + ·) (congrArg₂ (· * ·) (w_blk m c t a 0) (y0_blk m c t a k))
    (congrArg₂ (· * ·) (w_blk m c t a 1) (y1_blk m c t a k)))

theorem ptV_at (c : Dev nD) (t : Fin cfg0.N) {w : Vec Ideal S1024x1024 .bf16} (hw : ∀ j k, w (ix2 j k) = wV m c j k) (a : Fin 256) (k : Fin 1024) :
    k0_pay30 (F := Ideal) (k0_pay28 (iblk m c 1 t) (iblk m c 2 t) (iblk m c 3 t) (iblk m c 0 t) (iblk m c 4 t)) w (ix2 a k) = cellV m c (row t a) k := by
  refine (v_at _ _ a k).trans (Finset.sum_congr rfl fun j _ => congrArg₂ (· * ·) ((hkv_at _ _ _ _ _ a j).trans ?_) (hw j k))
  exact congrArg₂ (fun x w => nrm x w j) (funext fun k => ptX_at m c t a k) (funext fun k => kn_blk m c t k)

theorem ptG_at (c : Dev nD) (t : Fin cfg0.N) {w : Vec Ideal S1024x1024 .bf16} (hw : ∀ j k, w (ix2 j k) = wG m c j k) (a : Fin 256) (k : Fin 1024) :
    k0_pay31 (F := Ideal) (ptX m c t) (iblk m c 5 t) w (ix2 a k) = cellG m c (row t a) k := by
  refine (sg_at _ _ _ a k).trans (congrArg sigm (Finset.sum_congr rfl fun j _ => congrArg₂ (· * ·) ?_ (hw j k)))
  exact congrArg₂ (fun x w => nrm x w j) (funext fun k => ptX_at m c t a k) (funext fun k => bn_blk m c t k)

theorem finalX (c : Dev nD) : (dats m 0 c).arrAt 11 cfg0.N = XA m c := by
  refine (dats m 0 c).arrAt_eq_of_covers 11 _ (by decide +kernel) fun t hf y => ?_
  blk_simp
  rw [after0_11]
  have e : (win0_11.blk t).view.emb y = ix2 (row t (y 0)) (y 1) := by blk_ext [row, idx t]
  rw [e]
  obtain ⟨a, q, rfl⟩ : ∃ (a : Fin 256) (q : Fin 1024), y = ix2 a q := ⟨y 0, y 1, eq_ix2 y⟩
  by_cases h0 : t.val % 64 = 0
  · exact (congrFun (x_A m c t h0 (by omega)) _).trans (ptX_at m c t a q)
  by_cases h1 : t.val % 16 = 0
  · exact (congrFun (x_C m c t h0 h1) _).trans (ptX_at m c t a q)
  · exact (congrFun (x_B m c t h0 h1) _).trans (ptX_at m c t a q)

theorem finalV (c : Dev nD) : (dats m 0 c).arrAt 14 cfg0.N = VA m c := by
  refine (dats m 0 c).arrAt_eq_of_covers 14 _ (by decide +kernel) fun t hf y => ?_
  blk_simp
  rw [after0_14]
  have e : (win0_14.blk t).view.emb y = ix2 (row t (y 0)) (y 1) := by blk_ext [row, idx t]
  rw [e]
  obtain ⟨a, q, rfl⟩ : ∃ (a : Fin 256) (q : Fin 1024), y = ix2 a q := ⟨y 0, y 1, eq_ix2 y⟩
  by_cases h0 : t.val % 64 = 0
  · exact (congrFun (v_A m c t h0 (by omega)) _).trans (ptV_at m c t (fun j k => freshV_w m c t j k) a q)
  by_cases h1 : t.val % 16 = 0
  · exact (congrFun (v_C m c t h0 h1) _).trans (ptV_at m c t (fun j k => carV_at m c _ _ j k) a q)
  · exact (congrFun (v_B m c t h0 h1) _).trans (ptV_at m c t (fun j k => carV_at m c _ _ j k) a q)

theorem finalG (c : Dev nD) : (dats m 0 c).arrAt 15 cfg0.N = GA m c := by
  refine (dats m 0 c).arrAt_eq_of_covers 15 _ (by decide +kernel) fun t hf y => ?_
  blk_simp
  rw [after0_15]
  have e : (win0_15.blk t).view.emb y = ix2 (row t (y 0)) (y 1) := by blk_ext [row, idx t]
  rw [e]
  obtain ⟨a, q, rfl⟩ : ∃ (a : Fin 256) (q : Fin 1024), y = ix2 a q := ⟨y 0, y 1, eq_ix2 y⟩
  by_cases h0 : t.val % 64 = 0
  · exact (congrFun (g_A m c t h0 (by omega)) _).trans (ptG_at m c t (fun j k => freshG_w m c t j k) a q)
  by_cases h1 : t.val % 16 = 0
  · exact (congrFun (g_C m c t h0 h1) _).trans (ptG_at m c t (fun j k => carG_at m c _ _ j k) a q)
  · exact (congrFun (g_B m c t h0 h1) _).trans (ptG_at m c t (fun j k => carG_at m c _ _ j k) a q)

/-! ## The reference's arrays are the same -/

section

variable (c : Dev nD) {x : FVec Ideal S16384x1024 .f32} {w : FVec Ideal S16384x8 .f32} {y : FVec Ideal S2x16384x1024 .bf16}
  (h0 : x = m ((c : Thread nD τ).loc main_arg0)) (h1 : w = m ((c : Thread nD τ).loc main_arg1)) (h2 : y = m ((c : Thread nD τ).loc main_arg2))

include h0 h1 h2

theorem rX_cell (R : Fin 16384) (k : Fin 1024) : rX x w y (ix2 R k) = cellX m c R k := by
  subst h0 h1 h2
  exact rX_at _ _ _ R k

theorem refX : rX x w y = XA m c := by
  funext i
  obtain ⟨R, q, rfl⟩ : ∃ (R : Fin 16384) (q : Fin 1024), i = ix2 R q := ⟨i 0, i 1, eq_ix2 i⟩
  exact rX_cell m c h0 h1 h2 R q

theorem refV {kn : FVec Ideal S1024 .f32} {kw : FVec Ideal S1024x2064 .f32} (h3 : kn = m ((c : Thread nD τ).loc main_arg3))
    (h4 : kw = m ((c : Thread nD τ).loc main_arg4)) : rV (rN (rX x w y) kn) kw = VA m c := by
  funext i
  obtain ⟨R, q, rfl⟩ : ∃ (R : Fin 16384) (q : Fin 1024), i = ix2 R q := ⟨i 0, i 1, eq_ix2 i⟩
  subst h4
  refine (rV_at _ _ R q).trans ?_
  refine Finset.sum_congr rfl fun j _ => congrArg₂ (· * ·) ((rN_at _ _ R j).trans ?_) rfl
  exact congrArg₂ (fun x w => nrm x w j) (funext fun k => rX_cell m c h0 h1 h2 R k) (funext fun k => by rw [h3])

theorem refG {bn : FVec Ideal S1x1024 .f32} {gw : FVec Ideal S1x1024x2048 .f32} (h7 : bn = m ((c : Thread nD τ).loc main_arg7))
    (h8 : gw = m ((c : Thread nD τ).loc main_arg8)) :
    rG (rN (rX x w y) (shapeCast Cert.Reference5Ideal.S1024 bn Cert.Reference5Ideal.Gen.shapeCasts_S1x1024_S1024)) gw = GA m c := by
  funext i
  obtain ⟨R, q, rfl⟩ : ∃ (R : Fin 16384) (q : Fin 1024), i = ix2 R q := ⟨i 0, i 1, eq_ix2 i⟩
  subst h8
  refine (rG_at _ _ R q).trans ?_
  refine congrArg sigm (Finset.sum_congr rfl fun j _ => congrArg₂ (· * ·) ((rN_at _ _ R j).trans ?_) rfl)
  exact congrArg₂ (fun x w => nrm x w j) (funext fun k => rX_cell m c h0 h1 h2 R k) (funext fun k => (cast_at _ k).trans (by rw [h7]))

end

end Cert.Proof.Proj

end
-- ==== Proof.SguPay.lean ====
/-
  The launch's payloads at an index.
-/
module

public import proofs.«01_k».proof.Proof.SguSpec
public import proofs.«01_k».proof.Proof.Gen.Kernel2Ideal.Skeleton
public import Idealize.ShloMosaic.Lib.Pointwise

@[expose] public section

set_option maxRecDepth 16384

noncomputable section

namespace Cert.Proof.Sgu

open Idealize.ShloMosaic Idealize.ShloMosaic.TcCoe
open Cert.Kernel2Ideal Cert.Kernel2Ideal.Gen

theorem h_at (x : Vec Ideal S512x1024 .f32) (an : Vec Ideal S1x1024 .f32) (r : Fin 512) (k : Fin 1024) :
    k0_pay4 (F := Ideal) x an (ix2 r k) = norm (Ideal.ofBits FTy.f32 1149239296#32) (fun k => x (ix2 r k)) (fun k => an (ix2 0 k)) k := by
  unfold norm
  pointwise [k0_pay4, k0_pay3]

theorem v_at (x : Vec Ideal S512x1024 .f32) (an : Vec Ideal S1x1024 .f32) (w : Vec Ideal S1024x2048 .bf16) (b : Vec Ideal S1x2048 .f32) (r : Fin 512) (k : Fin 2048) :
    k0_pay5 (F := Ideal) x an w b (ix2 r k) = act (∑ j, k0_pay4 (F := Ideal) x an (ix2 r j) * w (ix2 j k) + b (ix2 0 k)) := by
  unfold act
  pointwise [k0_pay5]

theorem u_at (h : FVec Ideal S512x1024 .bf16) (w : Vec Ideal S1024x2048 .bf16) (b : Vec Ideal S1x2048 .f32) (r : Fin 512) (k : Fin 2048) :
    k0_pay7 (F := Ideal) h w b (ix2 r k) = act (∑ j, h (ix2 r j) * w (ix2 j k) + b (ix2 0 k)) := by
  unfold act
  pointwise [k0_pay7]

theorem vn_at (v : FVec Ideal S512x2048 .f32) (w : Vec Ideal S1x2048 .f32) (r : Fin 512) (k : Fin 2048) :
    k0_pay6 (F := Ideal) v w (ix2 r k) = norm (Ideal.ofBits FTy.f32 1157627904#32) (fun k => v (ix2 r k)) (fun k => w (ix2 0 k)) k := by
  unfold norm
  pointwise [k0_pay6]

theorem win_at (w : Vec Ideal S1024x4096 .f32) (j : Fin 1024) (q : Fin 4096) : k0_pay2 (F := Ideal) w (ix2 j q) = w (ix2 j q) := by
  pointwise [k0_pay2]

/-- The first 256 rows of the result. -/
theorem first_at (x : Vec Ideal S512x1024 .f32) (g : FVec Ideal S256x2048 .bf16) (w : FVec Ideal S2048x1024 .bf16) (r : Fin 256) (q : Fin 1024) :
    k0_pay41 (F := Ideal) (k0_pay3 x) g w (ix2 r q) = x (ix2 ⟨r.val, by omega⟩ q) + ∑ k, g (ix2 r k) * w (ix2 k q) := by
  pointwise [k0_pay41, k0_pay3]

/-- The other 256. -/
theorem second_at (x : Vec Ideal S512x1024 .f32) (g : FVec Ideal S256x2048 .bf16) (w : FVec Ideal S2048x1024 .bf16) (r : Fin 256) (q : Fin 1024) :
    k0_pay66 (F := Ideal) (k0_pay65 (k0_pay3 x)) g w (ix2 r q) = x (ix2 ⟨256 + r.val, by omega⟩ q) + ∑ k, g (ix2 r k) * w (ix2 k q) := by
  pointwise [k0_pay66, k0_pay65, k0_pay3]

/-! ## The mixing weights, masked -/

theorem sge_shift (s s' : Fin 128) :
    IntOp.cmpi .sge (IntOp.shrsi .vector (BitVec.ofNat 32 s.val) 6#32) (IntOp.shrsi .vector (BitVec.ofNat 32 s'.val) 6#32)
      = if s'.val / 64 ≤ s.val / 64 then 1#1 else 0#1 := by
  have e : ∀ a : Fin 128, IntOp.shrsi .vector (BitVec.ofNat 32 a.val) 6#32 = BitVec.ofNat 32 (a.val / 64) := by decide +kernel
  have key : ∀ a b : Fin 2, IntOp.cmpi .sge (BitVec.ofNat 32 a.val) (BitVec.ofNat 32 b.val) = if b.val ≤ a.val then 1#1 else 0#1 := by decide
  rw [e, e]
  exact key ⟨s.val / 64, by omega⟩ ⟨s'.val / 64, by omega⟩

/-- The row numbers of a block. -/
abbrev rowNos : IVec S128x128 32 := iota .tc S128x128 32 [0] iota_S128x128_d0_w32

theorem mask_at (s s' : Fin 128) : k0_pay8 rowNos (ix2 s s') = if s'.val / 64 ≤ s.val / 64 then 1#1 else 0#1 := by
  rw [← sge_shift]
  pointwise [k0_pay8, rowNos]

theorem sel_at (p : Prop) [Decidable p] (a b : EReal) : Scalar.select (if p then 1#1 else 0#1) a b = if p then a else b := by
  split_ifs <;> rfl

/-- A group's weights with those of the later chunk's rows at zero. -/
abbrev Masked (W : Vec Ideal S1x128x128 .f32) (w : FVec Ideal S128x128 .bf16) : Prop :=
  ∀ s s' : Fin 128, w (ix2 s s') = if s'.val / 64 ≤ s.val / 64 then W (ix3 0 s s') else 0

theorem mw0 (W : Vec Ideal S1x128x128 .f32) : Masked W (k0_pay9 rowNos W) := fun s s' => by
  rw [← sel_at, ← mask_at]
  generalize hM : k0_pay8 rowNos = M
  pointwise [k0_pay9, hM]

theorem mw1 (W : Vec Ideal S1x128x128 .f32) : Masked W (k0_pay10 rowNos W) := fun s s' => by
  rw [← sel_at, ← mask_at]
  generalize hM : k0_pay8 rowNos = M
  pointwise [k0_pay10, hM]

theorem mw2 (W : Vec Ideal S1x128x128 .f32) : Masked W (k0_pay11 rowNos W) := fun s s' => by
  rw [← sel_at, ← mask_at]
  generalize hM : k0_pay8 rowNos = M
  pointwise [k0_pay11, hM]

theorem mw3 (W : Vec Ideal S1x128x128 .f32) : Masked W (k0_pay12 rowNos W) := fun s s' => by
  rw [← sel_at, ← mask_at]
  generalize hM : k0_pay8 rowNos = M
  pointwise [k0_pay12, hM]

theorem mw4 (W : Vec Ideal S1x128x128 .f32) : Masked W (k0_pay13 rowNos W) := fun s s' => by
  rw [← sel_at, ← mask_at]
  generalize hM : k0_pay8 rowNos = M
  pointwise [k0_pay13, hM]

theorem mw5 (W : Vec Ideal S1x128x128 .f32) : Masked W (k0_pay16 (k0_pay8 rowNos) (k0_pay14 W) k0_pay15) := fun s s' => by
  rw [← sel_at, ← mask_at]
  generalize hM : k0_pay8 rowNos = M
  pointwise [k0_pay16, k0_pay14, k0_pay15, hM]

theorem mw6 (W : Vec Ideal S1x128x128 .f32) : Masked W (k0_pay17 (k0_pay8 rowNos) W) := fun s s' => by
  rw [← sel_at, ← mask_at]
  generalize hM : k0_pay8 rowNos = M
  pointwise [k0_pay17, hM]

theorem mw7 (W : Vec Ideal S1x128x128 .f32) : Masked W (k0_pay18 (k0_pay8 rowNos) W) := fun s s' => by
  rw [← sel_at, ← mask_at]
  generalize hM : k0_pay8 rowNos = M
  pointwise [k0_pay18, hM]

/-! ## The gated blocks -/

/-- A gated block: its rows of the first half times the mixed gate. -/
abbrev Gate (w : FVec Ideal S128x128 .bf16) (v : Vec Ideal S128x256 .bf16) (b : Vec Ideal S128x1 .f32) (u : Vec Ideal S128x256 .f32)
    (p : FVec Ideal S128x256 .bf16) : Prop :=
  ∀ (s : Fin 128) (d : Fin 256), p (ix2 s d) = u (ix2 s d) * (∑ s' : Fin 128, w (ix2 s s') * v (ix2 s' d) + b (ix2 s 0))

section

variable (w : FVec Ideal S128x128 .bf16) (v : Vec Ideal S128x256 .bf16) (b : Vec Ideal S128x1 .f32) (u : Vec Ideal S128x256 .f32)

theorem ga0 : Gate w v b u (k0_pay19 w v b u) := fun s d => by pointwise [k0_pay19]
theorem ga1 : Gate w v b u (k0_pay21 (k0_pay20 w v b u)) := fun s d => by pointwise [k0_pay21, k0_pay20]
theorem ga2 : Gate w v b u (k0_pay22 w v b u) := fun s d => by pointwise [k0_pay22]
theorem ga3 : Gate w v b u (k0_pay23 w v b u) := fun s d => by pointwise [k0_pay23]
theorem ga4 : Gate w v b u (k0_pay25 (k0_pay24 w v b) u) := fun s d => by pointwise [k0_pay25, k0_pay24]
theorem ga5 : Gate w v b u (k0_pay26 w v b u) := fun s d => by pointwise [k0_pay26]
theorem ga6 : Gate w v b u (k0_pay27 w v b u) := fun s d => by pointwise [k0_pay27]
theorem ga7 : Gate w v b u (k0_pay29 (k0_pay28 w v) b u) := fun s d => by pointwise [k0_pay29, k0_pay28]
theorem ga8 : Gate w v b u (k0_pay30 w v b u) := fun s d => by pointwise [k0_pay30]
theorem ga9 : Gate w v b u (k0_pay31 w v b u) := fun s d => by pointwise [k0_pay31]
theorem ga10 : Gate w v b u (k0_pay32 w v b u) := fun s d => by pointwise [k0_pay32]
theorem ga11 : Gate w v b u (k0_pay33 w v b u) := fun s d => by pointwise [k0_pay33]
theorem ga12 : Gate w v b u (k0_pay35 (k0_pay34 w v b u)) := fun s d => by pointwise [k0_pay35, k0_pay34]
theorem ga13 : Gate w v b u (k0_pay36 w v b u) := fun s d => by pointwise [k0_pay36]
theorem ga14 : Gate w v b u (k0_pay37 w v b u) := fun s d => by pointwise [k0_pay37]
theorem ga15 : Gate w v b u (k0_pay40 (k0_pay38 w v) (k0_pay39 b) u) := fun s d => by pointwise [k0_pay40, k0_pay38, k0_pay39]
theorem gb0 : Gate w v b u (k0_pay44 w v b u) := fun s d => by pointwise [k0_pay44]
theorem gb1 : Gate w v b u (k0_pay45 w v b u) := fun s d => by pointwise [k0_pay45]
theorem gb2 : Gate w v b u (k0_pay48 (k0_pay46 w v) (k0_pay47 b) u) := fun s d => by pointwise [k0_pay48, k0_pay46, k0_pay47]
theorem gb3 : Gate w v b u (k0_pay49 w v b u) := fun s d => by pointwise [k0_pay49]
theorem gb4 : Gate w v b u (k0_pay50 w v b u) := fun s d => by pointwise [k0_pay50]
theorem gb5 : Gate w v b u (k0_pay51 w v (constant S128x256 .f32 0x00000000#32) b u) := fun s d => by pointwise [k0_pay51]
theorem gb6 : Gate w v b u (k0_pay52 w v b u) := fun s d => by pointwise [k0_pay52]
theorem gb7 : Gate w v b u (k0_pay54 (k0_pay53 w v b u)) := fun s d => by pointwise [k0_pay54, k0_pay53]
theorem gb8 : Gate w v b u (k0_pay55 w v b u) := fun s d => by pointwise [k0_pay55]
theorem gb9 : Gate w v b u (k0_pay56 w v b u) := fun s d => by pointwise [k0_pay56]
theorem gb10 : Gate w v b u (k0_pay58 (k0_pay57 w v b) u) := fun s d => by pointwise [k0_pay58, k0_pay57]
theorem gb11 : Gate w v b u (k0_pay59 w v b u) := fun s d => by pointwise [k0_pay59]
theorem gb12 : Gate w v b u (k0_pay60 w v b u) := fun s d => by pointwise [k0_pay60]
theorem gb13 : Gate w v b u (k0_pay62 (k0_pay61 w v) b u) := fun s d => by pointwise [k0_pay62, k0_pay61]
theorem gb14 : Gate w v b u (k0_pay63 w v b u) := fun s d => by pointwise [k0_pay63]
theorem gb15 : Gate w v b u (k0_pay64 w v b u) := fun s d => by pointwise [k0_pay64]

end

end Cert.Proof.Sgu

end
-- ==== Proof.SguScr.lean ====
/-
  One grid point of the launch as a function of its blocks: the gated blocks stored in a scratch and loaded again, and
  the two halves of the result.
-/
module

public import proofs.«01_k».proof.Proof.SguPay
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Proof.Sgu

open Idealize.ShloMosaic Idealize.ShloMosaic.TcCoe Idealize.ShloMosaic.Pipeline
open Cert.Kernel2Ideal Cert.Kernel2Ideal.Gen

/-- The gated blocks of rows 0 to 255, the last stored first. -/
def firstBlocks (V : Vec Ideal S512x2048 .bf16) (U : Vec Ideal S512x2048 .f32) (x5 : Vec Ideal S8x128x128 .f32) (x6 : Vec Ideal S128x8 .f32) :
    List (View.Piece (Elt Ideal) S512x2048 .bf16) :=
  [⟨Rect.unit (s := S512x2048) ![128, 1792] S128x256.size inb_S512x2048_S128x256_128_1792, k0_pay40 (k0_pay38 (k0_pay18 (k0_pay8 rowNos) (View.ld x5 (Rect.unit (s := S8x128x128) ![7, 0, 0] S1x128x128.size inb_S8x128x128_S1x128x128_7_0_0))) (View.ld V (Rect.unit (s := S512x2048) ![128, 1792] S128x256.size inb_S512x2048_S128x256_128_1792))) (k0_pay39 (View.ld x6 (Rect.unit (s := S128x8) ![0, 7] S128x1.size inb_S128x8_S128x1_0_7))) (View.ld U (Rect.unit (s := S512x2048) ![128, 1792] S128x256.size inb_S512x2048_S128x256_128_1792))⟩,
    ⟨Rect.unit (s := S512x2048) ![0, 1792] S128x256.size inb_S512x2048_S128x256_0_1792, k0_pay37 (k0_pay18 (k0_pay8 rowNos) (View.ld x5 (Rect.unit (s := S8x128x128) ![7, 0, 0] S1x128x128.size inb_S8x128x128_S1x128x128_7_0_0))) (View.ld V (Rect.unit (s := S512x2048) ![0, 1792] S128x256.size inb_S512x2048_S128x256_0_1792)) (View.ld x6 (Rect.unit (s := S128x8) ![0, 7] S128x1.size inb_S128x8_S128x1_0_7)) (View.ld U (Rect.unit (s := S512x2048) ![0, 1792] S128x256.size inb_S512x2048_S128x256_0_1792))⟩,
    ⟨Rect.unit (s := S512x2048) ![128, 1536] S128x256.size inb_S512x2048_S128x256_128_1536, k0_pay36 (k0_pay17 (k0_pay8 rowNos) (View.ld x5 (Rect.unit (s := S8x128x128) ![6, 0, 0] S1x128x128.size inb_S8x128x128_S1x128x128_6_0_0))) (View.ld V (Rect.unit (s := S512x2048) ![128, 1536] S128x256.size inb_S512x2048_S128x256_128_1536)) (View.ld x6 (Rect.unit (s := S128x8) ![0, 6] S128x1.size inb_S128x8_S128x1_0_6)) (View.ld U (Rect.unit (s := S512x2048) ![128, 1536] S128x256.size inb_S512x2048_S128x256_128_1536))⟩,
    ⟨Rect.unit (s := S512x2048) ![0, 1536] S128x256.size inb_S512x2048_S128x256_0_1536, k0_pay35 (k0_pay34 (k0_pay17 (k0_pay8 rowNos) (View.ld x5 (Rect.unit (s := S8x128x128) ![6, 0, 0] S1x128x128.size inb_S8x128x128_S1x128x128_6_0_0))) (View.ld V (Rect.unit (s := S512x2048) ![0, 1536] S128x256.size inb_S512x2048_S128x256_0_1536)) (View.ld x6 (Rect.unit (s := S128x8) ![0, 6] S128x1.size inb_S128x8_S128x1_0_6)) (View.ld U (Rect.unit (s := S512x2048) ![0, 1536] S128x256.size inb_S512x2048_S128x256_0_1536)))⟩,
    ⟨Rect.unit (s := S512x2048) ![128, 1280] S128x256.size inb_S512x2048_S128x256_128_1280, k0_pay33 (k0_pay16 (k0_pay8 rowNos) (k0_pay14 (View.ld x5 (Rect.unit (s := S8x128x128) ![5, 0, 0] S1x128x128.size inb_S8x128x128_S1x128x128_5_0_0))) k0_pay15) (View.ld V (Rect.unit (s := S512x2048) ![128, 1280] S128x256.size inb_S512x2048_S128x256_128_1280)) (View.ld x6 (Rect.unit (s := S128x8) ![0, 5] S128x1.size inb_S128x8_S128x1_0_5)) (View.ld U (Rect.unit (s := S512x2048) ![128, 1280] S128x256.size inb_S512x2048_S128x256_128_1280))⟩,
    ⟨Rect.unit (s := S512x2048) ![0, 1280] S128x256.size inb_S512x2048_S128x256_0_1280, k0_pay32 (k0_pay16 (k0_pay8 rowNos) (k0_pay14 (View.ld x5 (Rect.unit (s := S8x128x128) ![5, 0, 0] S1x128x128.size inb_S8x128x128_S1x128x128_5_0_0))) k0_pay15) (View.ld V (Rect.unit (s := S512x2048) ![0, 1280] S128x256.size inb_S512x2048_S128x256_0_1280)) (View.ld x6 (Rect.unit (s := S128x8) ![0, 5] S128x1.size inb_S128x8_S128x1_0_5)) (View.ld U (Rect.unit (s := S512x2048) ![0, 1280] S128x256.size inb_S512x2048_S128x256_0_1280))⟩,
    ⟨Rect.unit (s := S512x2048) ![128, 1024] S128x256.size inb_S512x2048_S128x256_128_1024, k0_pay31 (k0_pay13 rowNos (View.ld x5 (Rect.unit (s := S8x128x128) ![4, 0, 0] S1x128x128.size inb_S8x128x128_S1x128x128_4_0_0))) (View.ld V (Rect.unit (s := S512x2048) ![128, 1024] S128x256.size inb_S512x2048_S128x256_128_1024)) (View.ld x6 (Rect.unit (s := S128x8) ![0, 4] S128x1.size inb_S128x8_S128x1_0_4)) (View.ld U (Rect.unit (s := S512x2048) ![128, 1024] S128x256.size inb_S512x2048_S128x256_128_1024))⟩,
    ⟨Rect.unit (s := S512x2048) ![0, 1024] S128x256.size inb_S512x2048_S128x256_0_1024, k0_pay30 (k0_pay13 rowNos (View.ld x5 (Rect.unit (s := S8x128x128) ![4, 0, 0] S1x128x128.size inb_S8x128x128_S1x128x128_4_0_0))) (View.ld V (Rect.unit (s := S512x2048) ![0, 1024] S128x256.size inb_S512x2048_S128x256_0_1024)) (View.ld x6 (Rect.unit (s := S128x8) ![0, 4] S128x1.size inb_S128x8_S128x1_0_4)) (View.ld U (Rect.unit (s := S512x2048) ![0, 1024] S128x256.size inb_S512x2048_S128x256_0_1024))⟩,
    ⟨Rect.unit (s := S512x2048) ![128, 768] S128x256.size inb_S512x2048_S128x256_128_768, k0_pay29 (k0_pay28 (k0_pay12 rowNos (View.ld x5 (Rect.unit (s := S8x128x128) ![3, 0, 0] S1x128x128.size inb_S8x128x128_S1x128x128_3_0_0))) (View.ld V (Rect.unit (s := S512x2048) ![128, 768] S128x256.size inb_S512x2048_S128x256_128_768))) (View.ld x6 (Rect.unit (s := S128x8) ![0, 3] S128x1.size inb_S128x8_S128x1_0_3)) (View.ld U (Rect.unit (s := S512x2048) ![128, 768] S128x256.size inb_S512x2048_S128x256_128_768))⟩,
    ⟨Rect.unit (s := S512x2048) ![0, 768] S128x256.size inb_S512x2048_S128x256_0_768, k0_pay27 (k0_pay12 rowNos (View.ld x5 (Rect.unit (s := S8x128x128) ![3, 0, 0] S1x128x128.size inb_S8x128x128_S1x128x128_3_0_0))) (View.ld V (Rect.unit (s := S512x2048) ![0, 768] S128x256.size inb_S512x2048_S128x256_0_768)) (View.ld x6 (Rect.unit (s := S128x8) ![0, 3] S128x1.size inb_S128x8_S128x1_0_3)) (View.ld U (Rect.unit (s := S512x2048) ![0, 768] S128x256.size inb_S512x2048_S128x256_0_768))⟩,
    ⟨Rect.unit (s := S512x2048) ![128, 512] S128x256.size inb_S512x2048_S128x256_128_512, k0_pay26 (k0_pay11 rowNos (View.ld x5 (Rect.unit (s := S8x128x128) ![2, 0, 0] S1x128x128.size inb_S8x128x128_S1x128x128_2_0_0))) (View.ld V (Rect.unit (s := S512x2048) ![128, 512] S128x256.size inb_S512x2048_S128x256_128_512)) (View.ld x6 (Rect.unit (s := S128x8) ![0, 2] S128x1.size inb_S128x8_S128x1_0_2)) (View.ld U (Rect.unit (s := S512x2048) ![128, 512] S128x256.size inb_S512x2048_S128x256_128_512))⟩,
    ⟨Rect.unit (s := S512x2048) ![0, 512] S128x256.size inb_S512x2048_S128x256_0_512, k0_pay25 (k0_pay24 (k0_pay11 rowNos (View.ld x5 (Rect.unit (s := S8x128x128) ![2, 0, 0] S1x128x128.size inb_S8x128x128_S1x128x128_2_0_0))) (View.ld V (Rect.unit (s := S512x2048) ![0, 512] S128x256.size inb_S512x2048_S128x256_0_512)) (View.ld x6 (Rect.unit (s := S128x8) ![0, 2] S128x1.size inb_S128x8_S128x1_0_2))) (View.ld U (Rect.unit (s := S512x2048) ![0, 512] S128x256.size inb_S512x2048_S128x256_0_512))⟩,
    ⟨Rect.unit (s := S512x2048) ![128, 256] S128x256.size inb_S512x2048_S128x256_128_256, k0_pay23 (k0_pay10 rowNos (View.ld x5 (Rect.unit (s := S8x128x128) ![1, 0, 0] S1x128x128.size inb_S8x128x128_S1x128x128_1_0_0))) (View.ld V (Rect.unit (s := S512x2048) ![128, 256] S128x256.size inb_S512x2048_S128x256_128_256)) (View.ld x6 (Rect.unit (s := S128x8) ![0, 1] S128x1.size inb_S128x8_S128x1_0_1)) (View.ld U (Rect.unit (s := S512x2048) ![128, 256] S128x256.size inb_S512x2048_S128x256_128_256))⟩,
    ⟨Rect.unit (s := S512x2048) ![0, 256] S128x256.size inb_S512x2048_S128x256_0_256, k0_pay22 (k0_pay10 rowNos (View.ld x5 (Rect.unit (s := S8x128x128) ![1, 0, 0] S1x128x128.size inb_S8x128x128_S1x128x128_1_0_0))) (View.ld V (Rect.unit (s := S512x2048) ![0, 256] S128x256.size inb_S512x2048_S128x256_0_256)) (View.ld x6 (Rect.unit (s := S128x8) ![0, 1] S128x1.size inb_S128x8_S128x1_0_1)) (View.ld U (Rect.unit (s := S512x2048) ![0, 256] S128x256.size inb_S512x2048_S128x256_0_256))⟩,
    ⟨Rect.unit (s := S512x2048) ![128, 0] S128x256.size inb_S512x2048_S128x256_128_0, k0_pay21 (k0_pay20 (k0_pay9 rowNos (View.ld x5 (Rect.unit (s := S8x128x128) ![0, 0, 0] S1x128x128.size inb_S8x128x128_S1x128x128_0_0_0))) (View.ld V (Rect.unit (s := S512x2048) ![128, 0] S128x256.size inb_S512x2048_S128x256_128_0)) (View.ld x6 (Rect.unit (s := S128x8) ![0, 0] S128x1.size inb_S128x8_S128x1_0_0)) (View.ld U (Rect.unit (s := S512x2048) ![128, 0] S128x256.size inb_S512x2048_S128x256_128_0)))⟩,
    ⟨Rect.unit (s := S512x2048) ![0, 0] S128x256.size inb_S512x2048_S128x256_0_0, k0_pay19 (k0_pay9 rowNos (View.ld x5 (Rect.unit (s := S8x128x128) ![0, 0, 0] S1x128x128.size inb_S8x128x128_S1x128x128_0_0_0))) (View.ld V (Rect.unit (s := S512x2048) ![0, 0] S128x256.size inb_S512x2048_S128x256_0_0)) (View.ld x6 (Rect.unit (s := S128x8) ![0, 0] S128x1.size inb_S128x8_S128x1_0_0)) (View.ld U (Rect.unit (s := S512x2048) ![0, 0] S128x256.size inb_S512x2048_S128x256_0_0))⟩]

/-- Those of rows 256 to 511. -/
def secondBlocks (V : Vec Ideal S512x2048 .bf16) (U : Vec Ideal S512x2048 .f32) (x5 : Vec Ideal S8x128x128 .f32) (x6 : Vec Ideal S128x8 .f32) :
    List (View.Piece (Elt Ideal) S512x2048 .bf16) :=
  [⟨Rect.unit (s := S512x2048) ![384, 1792] S128x256.size inb_S512x2048_S128x256_384_1792, k0_pay64 (k0_pay18 (k0_pay8 rowNos) (View.ld x5 (Rect.unit (s := S8x128x128) ![7, 0, 0] S1x128x128.size inb_S8x128x128_S1x128x128_7_0_0))) (View.ld V (Rect.unit (s := S512x2048) ![384, 1792] S128x256.size inb_S512x2048_S128x256_384_1792)) (View.ld x6 (Rect.unit (s := S128x8) ![0, 7] S128x1.size inb_S128x8_S128x1_0_7)) (View.ld U (Rect.unit (s := S512x2048) ![384, 1792] S128x256.size inb_S512x2048_S128x256_384_1792))⟩,
    ⟨Rect.unit (s := S512x2048) ![256, 1792] S128x256.size inb_S512x2048_S128x256_256_1792, k0_pay63 (k0_pay18 (k0_pay8 rowNos) (View.ld x5 (Rect.unit (s := S8x128x128) ![7, 0, 0] S1x128x128.size inb_S8x128x128_S1x128x128_7_0_0))) (View.ld V (Rect.unit (s := S512x2048) ![256, 1792] S128x256.size inb_S512x2048_S128x256_256_1792)) (View.ld x6 (Rect.unit (s := S128x8) ![0, 7] S128x1.size inb_S128x8_S128x1_0_7)) (View.ld U (Rect.unit (s := S512x2048) ![256, 1792] S128x256.size inb_S512x2048_S128x256_256_1792))⟩,
    ⟨Rect.unit (s := S512x2048) ![384, 1536] S128x256.size inb_S512x2048_S128x256_384_1536, k0_pay62 (k0_pay61 (k0_pay17 (k0_pay8 rowNos) (View.ld x5 (Rect.unit (s := S8x128x128) ![6, 0, 0] S1x128x128.size inb_S8x128x128_S1x128x128_6_0_0))) (View.ld V (Rect.unit (s := S512x2048) ![384, 1536] S128x256.size inb_S512x2048_S128x256_384_1536))) (View.ld x6 (Rect.unit (s := S128x8) ![0, 6] S128x1.size inb_S128x8_S128x1_0_6)) (View.ld U (Rect.unit (s := S512x2048) ![384, 1536] S128x256.size inb_S512x2048_S128x256_384_1536))⟩,
    ⟨Rect.unit (s := S512x2048) ![256, 1536] S128x256.size inb_S512x2048_S128x256_256_1536, k0_pay60 (k0_pay17 (k0_pay8 rowNos) (View.ld x5 (Rect.unit (s := S8x128x128) ![6, 0, 0] S1x128x128.size inb_S8x128x128_S1x128x128_6_0_0))) (View.ld V (Rect.unit (s := S512x2048) ![256, 1536] S128x256.size inb_S512x2048_S128x256_256_1536)) (View.ld x6 (Rect.unit (s := S128x8) ![0, 6] S128x1.size inb_S128x8_S128x1_0_6)) (View.ld U (Rect.unit (s := S512x2048) ![256, 1536] S128x256.size inb_S512x2048_S128x256_256_1536))⟩,
    ⟨Rect.unit (s := S512x2048) ![384, 1280] S128x256.size inb_S512x2048_S128x256_384_1280, k0_pay59 (k0_pay16 (k0_pay8 rowNos) (k0_pay14 (View.ld x5 (Rect.unit (s := S8x128x128) ![5, 0, 0] S1x128x128.size inb_S8x128x128_S1x128x128_5_0_0))) k0_pay15) (View.ld V (Rect.unit (s := S512x2048) ![384, 1280] S128x256.size inb_S512x2048_S128x256_384_1280)) (View.ld x6 (Rect.unit (s := S128x8) ![0, 5] S128x1.size inb_S128x8_S128x1_0_5)) (View.ld U (Rect.unit (s := S512x2048) ![384, 1280] S128x256.size inb_S512x2048_S128x256_384_1280))⟩,
    ⟨Rect.unit (s := S512x2048) ![256, 1280] S128x256.size inb_S512x2048_S128x256_256_1280, k0_pay58 (k0_pay57 (k0_pay16 (k0_pay8 rowNos) (k0_pay14 (View.ld x5 (Rect.unit (s := S8x128x128) ![5, 0, 0] S1x128x128.size inb_S8x128x128_S1x128x128_5_0_0))) k0_pay15) (View.ld V (Rect.unit (s := S512x2048) ![256, 1280] S128x256.size inb_S512x2048_S128x256_256_1280)) (View.ld x6 (Rect.unit (s := S128x8) ![0, 5] S128x1.size inb_S128x8_S128x1_0_5))) (View.ld U (Rect.unit (s := S512x2048) ![256, 1280] S128x256.size inb_S512x2048_S128x256_256_1280))⟩,
    ⟨Rect.unit (s := S512x2048) ![384, 1024] S128x256.size inb_S512x2048_S128x256_384_1024, k0_pay56 (k0_pay13 rowNos (View.ld x5 (Rect.unit (s := S8x128x128) ![4, 0, 0] S1x128x128.size inb_S8x128x128_S1x128x128_4_0_0))) (View.ld V (Rect.unit (s := S512x2048) ![384, 1024] S128x256.size inb_S512x2048_S128x256_384_1024)) (View.ld x6 (Rect.unit (s := S128x8) ![0, 4] S128x1.size inb_S128x8_S128x1_0_4)) (View.ld U (Rect.unit (s := S512x2048) ![384, 1024] S128x256.size inb_S512x2048_S128x256_384_1024))⟩,
    ⟨Rect.unit (s := S512x2048) ![256, 1024] S128x256.size inb_S512x2048_S128x256_256_1024, k0_pay55 (k0_pay13 rowNos (View.ld x5 (Rect.unit (s := S8x128x128) ![4, 0, 0] S1x128x128.size inb_S8x128x128_S1x128x128_4_0_0))) (View.ld V (Rect.unit (s := S512x2048) ![256, 1024] S128x256.size inb_S512x2048_S128x256_256_1024)) (View.ld x6 (Rect.unit (s := S128x8) ![0, 4] S128x1.size inb_S128x8_S128x1_0_4)) (View.ld U (Rect.unit (s := S512x2048) ![256, 1024] S128x256.size inb_S512x2048_S128x256_256_1024))⟩,
    ⟨Rect.unit (s := S512x2048) ![384, 768] S128x256.size inb_S512x2048_S128x256_384_768, k0_pay54 (k0_pay53 (k0_pay12 rowNos (View.ld x5 (Rect.unit (s := S8x128x128) ![3, 0, 0] S1x128x128.size inb_S8x128x128_S1x128x128_3_0_0))) (View.ld V (Rect.unit (s := S512x2048) ![384, 768] S128x256.size inb_S512x2048_S128x256_384_768)) (View.ld x6 (Rect.unit (s := S128x8) ![0, 3] S128x1.size inb_S128x8_S128x1_0_3)) (View.ld U (Rect.unit (s := S512x2048) ![384, 768] S128x256.size inb_S512x2048_S128x256_384_768)))⟩,
    ⟨Rect.unit (s := S512x2048) ![256, 768] S128x256.size inb_S512x2048_S128x256_256_768, k0_pay52 (k0_pay12 rowNos (View.ld x5 (Rect.unit (s := S8x128x128) ![3, 0, 0] S1x128x128.size inb_S8x128x128_S1x128x128_3_0_0))) (View.ld V (Rect.unit (s := S512x2048) ![256, 768] S128x256.size inb_S512x2048_S128x256_256_768)) (View.ld x6 (Rect.unit (s := S128x8) ![0, 3] S128x1.size inb_S128x8_S128x1_0_3)) (View.ld U (Rect.unit (s := S512x2048) ![256, 768] S128x256.size inb_S512x2048_S128x256_256_768))⟩,
    ⟨Rect.unit (s := S512x2048) ![384, 512] S128x256.size inb_S512x2048_S128x256_384_512, k0_pay51 (k0_pay11 rowNos (View.ld x5 (Rect.unit (s := S8x128x128) ![2, 0, 0] S1x128x128.size inb_S8x128x128_S1x128x128_2_0_0))) (View.ld V (Rect.unit (s := S512x2048) ![384, 512] S128x256.size inb_S512x2048_S128x256_384_512)) (constant S128x256 .f32 0x00000000#32) (View.ld x6 (Rect.unit (s := S128x8) ![0, 2] S128x1.size inb_S128x8_S128x1_0_2)) (View.ld U (Rect.unit (s := S512x2048) ![384, 512] S128x256.size inb_S512x2048_S128x256_384_512))⟩,
    ⟨Rect.unit (s := S512x2048) ![256, 512] S128x256.size inb_S512x2048_S128x256_256_512, k0_pay50 (k0_pay11 rowNos (View.ld x5 (Rect.unit (s := S8x128x128) ![2, 0, 0] S1x128x128.size inb_S8x128x128_S1x128x128_2_0_0))) (View.ld V (Rect.unit (s := S512x2048) ![256, 512] S128x256.size inb_S512x2048_S128x256_256_512)) (View.ld x6 (Rect.unit (s := S128x8) ![0, 2] S128x1.size inb_S128x8_S128x1_0_2)) (View.ld U (Rect.unit (s := S512x2048) ![256, 512] S128x256.size inb_S512x2048_S128x256_256_512))⟩,
    ⟨Rect.unit (s := S512x2048) ![384, 256] S128x256.size inb_S512x2048_S128x256_384_256, k0_pay49 (k0_pay10 rowNos (View.ld x5 (Rect.unit (s := S8x128x128) ![1, 0, 0] S1x128x128.size inb_S8x128x128_S1x128x128_1_0_0))) (View.ld V (Rect.unit (s := S512x2048) ![384, 256] S128x256.size inb_S512x2048_S128x256_384_256)) (View.ld x6 (Rect.unit (s := S128x8) ![0, 1] S128x1.size inb_S128x8_S128x1_0_1)) (View.ld U (Rect.unit (s := S512x2048) ![384, 256] S128x256.size inb_S512x2048_S128x256_384_256))⟩,
    ⟨Rect.unit (s := S512x2048) ![256, 256] S128x256.size inb_S512x2048_S128x256_256_256, k0_pay48 (k0_pay46 (k0_pay10 rowNos (View.ld x5 (Rect.unit (s := S8x128x128) ![1, 0, 0] S1x128x128.size inb_S8x128x128_S1x128x128_1_0_0))) (View.ld V (Rect.unit (s := S512x2048) ![256, 256] S128x256.size inb_S512x2048_S128x256_256_256))) (k0_pay47 (View.ld x6 (Rect.unit (s := S128x8) ![0, 1] S128x1.size inb_S128x8_S128x1_0_1))) (View.ld U (Rect.unit (s := S512x2048) ![256, 256] S128x256.size inb_S512x2048_S128x256_256_256))⟩,
    ⟨Rect.unit (s := S512x2048) ![384, 0] S128x256.size inb_S512x2048_S128x256_384_0, k0_pay45 (k0_pay9 rowNos (View.ld x5 (Rect.unit (s := S8x128x128) ![0, 0, 0] S1x128x128.size inb_S8x128x128_S1x128x128_0_0_0))) (View.ld V (Rect.unit (s := S512x2048) ![384, 0] S128x256.size inb_S512x2048_S128x256_384_0)) (View.ld x6 (Rect.unit (s := S128x8) ![0, 0] S128x1.size inb_S128x8_S128x1_0_0)) (View.ld U (Rect.unit (s := S512x2048) ![384, 0] S128x256.size inb_S512x2048_S128x256_384_0))⟩,
    ⟨Rect.unit (s := S512x2048) ![256, 0] S128x256.size inb_S512x2048_S128x256_256_0, k0_pay44 (k0_pay9 rowNos (View.ld x5 (Rect.unit (s := S8x128x128) ![0, 0, 0] S1x128x128.size inb_S8x128x128_S1x128x128_0_0_0))) (View.ld V (Rect.unit (s := S512x2048) ![256, 0] S128x256.size inb_S512x2048_S128x256_256_0)) (View.ld x6 (Rect.unit (s := S128x8) ![0, 0] S128x1.size inb_S128x8_S128x1_0_0)) (View.ld U (Rect.unit (s := S512x2048) ![256, 0] S128x256.size inb_S512x2048_S128x256_256_0))⟩]

/-- The gate's half of the point's rows, normed; `win` is the first projection's weight. -/
def ptV (x0 : Vec Ideal S512x1024 .f32) (x1 : Vec Ideal S1x1024 .f32) (win : Vec Ideal S1024x4096 .bf16) (x3 : Vec Ideal S1x4096 .f32) (x4 : Vec Ideal S1x2048 .f32) :
    Vec Ideal S512x2048 .bf16 :=
  k0_pay6 (k0_pay5 x0 x1 (View.ld win (Rect.unit (s := S1024x4096) ![0, 2048] S1024x2048.size inb_S1024x4096_S1024x2048_0_2048))
    (View.ld x3 (Rect.unit (s := S1x4096) ![0, 2048] S1x2048.size inb_S1x4096_S1x2048_0_2048))) x4

/-- The first half of the point's rows. -/
def ptU (x0 : Vec Ideal S512x1024 .f32) (x1 : Vec Ideal S1x1024 .f32) (win : Vec Ideal S1024x4096 .bf16) (x3 : Vec Ideal S1x4096 .f32) :
    Vec Ideal S512x2048 .f32 :=
  k0_pay7 (k0_pay4 x0 x1) (View.ld win (Rect.unit (s := S1024x4096) ![0, 0] S1024x2048.size inb_S1024x4096_S1024x2048_0_0))
    (View.ld x3 (Rect.unit (s := S1x4096) ![0, 0] S1x2048.size inb_S1x4096_S1x2048_0_0))

/-- The point's result over its blocks, from the two halves `V` and `U`. -/
def ptOut (x0 : Vec Ideal S512x1024 .f32) (V : Vec Ideal S512x2048 .bf16) (U : Vec Ideal S512x2048 .f32) (x5 : Vec Ideal S8x128x128 .f32) (x6 : Vec Ideal S128x8 .f32)
    (x7 : Vec Ideal S2048x1024 .bf16) : Vec Ideal S512x1024 .f32 :=
  View.canon [⟨Rect.unit (s := S512x1024) ![256, 0] S256x1024.size inb_S512x1024_S256x1024_256_0,
      k0_pay66 (k0_pay65 (k0_pay3 x0)) (fun j => View.canon (secondBlocks V U x5 x6 ++ firstBlocks V U x5 x6)
        ((Rect.unit (s := S512x2048) ![256, 0] S256x2048.size inb_S512x2048_S256x2048_256_0).toLoadRect.idx j)) x7⟩,
    ⟨Rect.unit (s := S512x1024) ![0, 0] S256x1024.size inb_S512x1024_S256x1024_0_0,
      k0_pay41 (k0_pay3 x0) (fun j => View.canon (firstBlocks V U x5 x6)
        ((Rect.unit (s := S512x2048) ![0, 0] S256x2048.size inb_S512x2048_S256x2048_0_0).toLoadRect.idx j)) x7⟩]

variable (m : (ℓ : Loc nD τ sig) → Buf (Elt Ideal) ℓ)

/-- What the scratch that carries the first projection's weight holds after point `t`. -/
abbrev carried (c : Dev nD) (n : ℕ) (h : n < cfg0.N) : Vec Ideal S1024x4096 .bf16 := (outsAt0 m c n h).2.2

theorem later (c : Dev nD) (t : Fin cfg0.N) (h : ¬ t.val % 32 = 0) :
    (outsAt0 m c t.val t.isLt).1 = ptOut (iblk m c 0 t)
      (ptV (iblk m c 0 t) (iblk m c 1 t) (carried m c (t.val - 1) (by omega)) (iblk m c 3 t) (iblk m c 4 t))
      (ptU (iblk m c 0 t) (iblk m c 1 t) (carried m c (t.val - 1) (by omega)) (iblk m c 3 t)) (iblk m c 5 t) (iblk m c 6 t) (iblk m c 7 t) := by
  rw [outsAt0_B m c t h]
  frame_open
  simp (disch := decide) only [↓ View.readCov_skip, ↓ View.readCov_cons_toLoadRect, ↓ View.readCov_fill]
  frame_out
  simp only [read_unread_whole, View.readCov_eq_canon']
  rfl

theorem later_win (c : Dev nD) (t : Fin cfg0.N) (h : ¬ t.val % 32 = 0) :
    carried m c t.val t.isLt = carried m c (t.val - 1) (by omega) := by
  unfold carried
  rw [outsAt0_B m c t h]
  rfl

theorem first (c : Dev nD) (t : Fin cfg0.N) (h : t.val % 32 = 0) :
    (outsAt0 m c t.val t.isLt).1 = ptOut (iblk m c 0 t)
      (ptV (iblk m c 0 t) (iblk m c 1 t) (k0_pay2 (iblk m c 2 t)) (iblk m c 3 t) (iblk m c 4 t))
      (ptU (iblk m c 0 t) (iblk m c 1 t) (k0_pay2 (iblk m c 2 t)) (iblk m c 3 t)) (iblk m c 5 t) (iblk m c 6 t) (iblk m c 7 t) := by
  rw [outsAt0_A m c t h]
  frame_open
  simp (disch := decide) only [↓ View.readCov_skip, ↓ View.readCov_cons_toLoadRect, ↓ View.readCov_fill]
  frame_out
  simp only [read_unread_whole, View.readCov_eq_canon']
  rfl

theorem first_win (c : Dev nD) (t : Fin cfg0.N) (h : t.val % 32 = 0) :
    carried m c t.val t.isLt = k0_pay2 (iblk m c 2 t) := by
  unfold carried
  rw [outsAt0_A m c t h]
  frame_out

end Cert.Proof.Sgu

end
-- ==== Proof.SguGate.lean ====
/-
  What the gated blocks hold: the first half times the mixed gate, at every row and column.
-/
module

public import proofs.«01_k».proof.Proof.SguScr

@[expose] public section

set_option maxRecDepth 16384

noncomputable section

namespace Cert.Proof.Sgu

open Idealize.ShloMosaic Idealize.ShloMosaic.TcCoe Idealize.ShloMosaic.Pipeline
open Cert.Kernel2Ideal Cert.Kernel2Ideal.Gen

variable (V : Vec Ideal S512x2048 .bf16) (U : Vec Ideal S512x2048 .f32) (x5 : Vec Ideal S8x128x128 .f32) (x6 : Vec Ideal S128x8 .f32)

/-- Row `128 b + s`, column `k` of group `g`, gated. -/
def gateAt (b : Fin 4) (s : Fin 128) (g : Fin 8) (k : Fin 2048) : EReal :=
  U (ix2 ⟨128 * b.val + s.val, by omega⟩ k) *
    (∑ s' : Fin 128, (if s'.val / 64 ≤ s.val / 64 then x5 (ix3 g s s') else 0) * V (ix2 ⟨128 * b.val + s'.val, by omega⟩ k) + x6 (ix2 s g))

/-- The gated rows, at an index of the scratch. -/
def gateOf (y : S512x2048.Idx) : EReal :=
  gateAt V U x5 x6 ⟨(y 0).val / 128, by have := (y 0).isLt; simp at this; omega⟩ ⟨(y 0).val % 128, by omega⟩
    ⟨(y 1).val / 256, by have := (y 1).isLt; simp at this; omega⟩ (y 1)

theorem block (sb g : ℕ) (hsb : sb < 4) (hg : g < 8)
    (i : ∀ a, (![128 * sb, 256 * g] : Fin S512x2048.rank → ℕ) a + S128x256.size a ≤ S512x2048.size a)
    (i5 : ∀ a, (![g, 0, 0] : Fin S8x128x128.rank → ℕ) a + S1x128x128.size a ≤ S8x128x128.size a)
    (i6 : ∀ a, (![0, g] : Fin S128x8.rank → ℕ) a + S128x1.size a ≤ S128x8.size a)
    (w : FVec Ideal S128x128 .bf16) (p : FVec Ideal S128x256 .bf16)
    (hw : Masked (View.ld x5 (Rect.unit (s := S8x128x128) ![g, 0, 0] S1x128x128.size i5)) w)
    (hp : Gate w (View.ld V (Rect.unit (s := S512x2048) ![128 * sb, 256 * g] S128x256.size i)) (View.ld x6 (Rect.unit (s := S128x8) ![0, g] S128x1.size i6))
      (View.ld U (Rect.unit (s := S512x2048) ![128 * sb, 256 * g] S128x256.size i)) p)
    (x : (Rect.unit (s := S512x2048) ![128 * sb, 256 * g] S128x256.size i).shape.Idx) :
    p x = gateOf V U x5 x6 ((Rect.unit (s := S512x2048) ![128 * sb, 256 * g] S128x256.size i).emb x) := by
  obtain ⟨s, d, rfl⟩ : ∃ (s : Fin 128) (d : Fin 256), x = ix2 s d := ⟨x 0, x 1, eq_ix2 x⟩
  have e : ∀ s' : Fin 128, (Rect.unit (s := S512x2048) ![128 * sb, 256 * g] S128x256.size i).emb (ix2 s' d)
      = ix2 ⟨128 * sb + s'.val, by omega⟩ ⟨256 * g + d.val, by omega⟩ := by
    intro s'
    refine funext fun a => Fin.ext ?_
    fin_cases a <;> simp [Rect.emb_apply, ix2]
  have e5 : ∀ s' : Fin 128, (Rect.unit (s := S8x128x128) ![g, 0, 0] S1x128x128.size i5).emb (ix3 0 s s') = ix3 ⟨g, hg⟩ s s' := by
    intro s'
    refine funext fun a => Fin.ext ?_
    fin_cases a <;> simp [Rect.emb_apply, ix3]
  have e6 : (Rect.unit (s := S128x8) ![0, g] S128x1.size i6).emb (ix2 s 0) = ix2 s ⟨g, hg⟩ := by
    refine funext fun a => Fin.ext ?_
    fin_cases a <;> simp [Rect.emb_apply, ix2]
  have hg2 : gateOf V U x5 x6 ((Rect.unit (s := S512x2048) ![128 * sb, 256 * g] S128x256.size i).emb (ix2 s d))
      = gateAt V U x5 x6 ⟨sb, hsb⟩ s ⟨g, hg⟩ ⟨256 * g + d.val, by omega⟩ := by
    rw [e s]
    unfold gateOf
    congr 1
    · exact Fin.ext (show (128 * sb + s.val) / 128 = sb by omega)
    · exact Fin.ext (show (128 * sb + s.val) % 128 = s.val by omega)
    · exact Fin.ext (show (256 * g + d.val) / 256 = g by omega)
  refine (hp s d).trans (Eq.trans ?_ hg2.symm)
  unfold gateAt
  refine congrArg₂ (· * ·) (congrArg U (e s)) (congrArg₂ (· + ·) (Finset.sum_congr rfl fun s' _ => congrArg₂ (· * ·) ((hw s s').trans ?_) (congrArg V (e s'))) (congrArg x6 e6))
  split_ifs
  · exact congrArg x5 (e5 s')
  · rfl

theorem inBlock (y : S512x2048.Idx) (sb g : ℕ) (i : ∀ a, (![128 * sb, 256 * g] : Fin S512x2048.rank → ℕ) a + S128x256.size a ≤ S512x2048.size a)
    (h0 : (y 0).val / 128 = sb) (h1 : (y 1).val / 256 = g) :
    y ∈ (Rect.unit (s := S512x2048) ![128 * sb, 256 * g] S128x256.size i).set := by
  rw [Rect.mem_set_unit]
  intro a
  fin_cases a
  · simp; omega
  · simp; omega

theorem firstBlocks_gated : ∀ p ∈ firstBlocks V U x5 x6, ∀ x : p.1.shape.Idx, p.2 x = gateOf V U x5 x6 (p.1.emb x) := by
  unfold firstBlocks
  refine List.forall_mem_cons.mpr ⟨block V U x5 x6 1 7 (by omega) (by omega) _ _ _ _ _ (mw7 _) (ga15 _ _ _ _), ?_⟩
  refine List.forall_mem_cons.mpr ⟨block V U x5 x6 0 7 (by omega) (by omega) _ _ _ _ _ (mw7 _) (ga14 _ _ _ _), ?_⟩
  refine List.forall_mem_cons.mpr ⟨block V U x5 x6 1 6 (by omega) (by omega) _ _ _ _ _ (mw6 _) (ga13 _ _ _ _), ?_⟩
  refine List.forall_mem_cons.mpr ⟨block V U x5 x6 0 6 (by omega) (by omega) _ _ _ _ _ (mw6 _) (ga12 _ _ _ _), ?_⟩
  refine List.forall_mem_cons.mpr ⟨block V U x5 x6 1 5 (by omega) (by omega) _ _ _ _ _ (mw5 _) (ga11 _ _ _ _), ?_⟩
  refine List.forall_mem_cons.mpr ⟨block V U x5 x6 0 5 (by omega) (by omega) _ _ _ _ _ (mw5 _) (ga10 _ _ _ _), ?_⟩
  refine List.forall_mem_cons.mpr ⟨block V U x5 x6 1 4 (by omega) (by omega) _ _ _ _ _ (mw4 _) (ga9 _ _ _ _), ?_⟩
  refine List.forall_mem_cons.mpr ⟨block V U x5 x6 0 4 (by omega) (by omega) _ _ _ _ _ (mw4 _) (ga8 _ _ _ _), ?_⟩
  refine List.forall_mem_cons.mpr ⟨block V U x5 x6 1 3 (by omega) (by omega) _ _ _ _ _ (mw3 _) (ga7 _ _ _ _), ?_⟩
  refine List.forall_mem_cons.mpr ⟨block V U x5 x6 0 3 (by omega) (by omega) _ _ _ _ _ (mw3 _) (ga6 _ _ _ _), ?_⟩
  refine List.forall_mem_cons.mpr ⟨block V U x5 x6 1 2 (by omega) (by omega) _ _ _ _ _ (mw2 _) (ga5 _ _ _ _), ?_⟩
  refine List.forall_mem_cons.mpr ⟨block V U x5 x6 0 2 (by omega) (by omega) _ _ _ _ _ (mw2 _) (ga4 _ _ _ _), ?_⟩
  refine List.forall_mem_cons.mpr ⟨block V U x5 x6 1 1 (by omega) (by omega) _ _ _ _ _ (mw1 _) (ga3 _ _ _ _), ?_⟩
  refine List.forall_mem_cons.mpr ⟨block V U x5 x6 0 1 (by omega) (by omega) _ _ _ _ _ (mw1 _) (ga2 _ _ _ _), ?_⟩
  refine List.forall_mem_cons.mpr ⟨block V U x5 x6 1 0 (by omega) (by omega) _ _ _ _ _ (mw0 _) (ga1 _ _ _ _), ?_⟩
  refine List.forall_mem_cons.mpr ⟨block V U x5 x6 0 0 (by omega) (by omega) _ _ _ _ _ (mw0 _) (ga0 _ _ _ _), ?_⟩
  exact fun p hp => absurd hp List.not_mem_nil

theorem secondBlocks_gated : ∀ p ∈ secondBlocks V U x5 x6, ∀ x : p.1.shape.Idx, p.2 x = gateOf V U x5 x6 (p.1.emb x) := by
  unfold secondBlocks
  refine List.forall_mem_cons.mpr ⟨block V U x5 x6 3 7 (by omega) (by omega) _ _ _ _ _ (mw7 _) (gb15 _ _ _ _), ?_⟩
  refine List.forall_mem_cons.mpr ⟨block V U x5 x6 2 7 (by omega) (by omega) _ _ _ _ _ (mw7 _) (gb14 _ _ _ _), ?_⟩
  refine List.forall_mem_cons.mpr ⟨block V U x5 x6 3 6 (by omega) (by omega) _ _ _ _ _ (mw6 _) (gb13 _ _ _ _), ?_⟩
  refine List.forall_mem_cons.mpr ⟨block V U x5 x6 2 6 (by omega) (by omega) _ _ _ _ _ (mw6 _) (gb12 _ _ _ _), ?_⟩
  refine List.forall_mem_cons.mpr ⟨block V U x5 x6 3 5 (by omega) (by omega) _ _ _ _ _ (mw5 _) (gb11 _ _ _ _), ?_⟩
  refine List.forall_mem_cons.mpr ⟨block V U x5 x6 2 5 (by omega) (by omega) _ _ _ _ _ (mw5 _) (gb10 _ _ _ _), ?_⟩
  refine List.forall_mem_cons.mpr ⟨block V U x5 x6 3 4 (by omega) (by omega) _ _ _ _ _ (mw4 _) (gb9 _ _ _ _), ?_⟩
  refine List.forall_mem_cons.mpr ⟨block V U x5 x6 2 4 (by omega) (by omega) _ _ _ _ _ (mw4 _) (gb8 _ _ _ _), ?_⟩
  refine List.forall_mem_cons.mpr ⟨block V U x5 x6 3 3 (by omega) (by omega) _ _ _ _ _ (mw3 _) (gb7 _ _ _ _), ?_⟩
  refine List.forall_mem_cons.mpr ⟨block V U x5 x6 2 3 (by omega) (by omega) _ _ _ _ _ (mw3 _) (gb6 _ _ _ _), ?_⟩
  refine List.forall_mem_cons.mpr ⟨block V U x5 x6 3 2 (by omega) (by omega) _ _ _ _ _ (mw2 _) (gb5 _ _ _ _), ?_⟩
  refine List.forall_mem_cons.mpr ⟨block V U x5 x6 2 2 (by omega) (by omega) _ _ _ _ _ (mw2 _) (gb4 _ _ _ _), ?_⟩
  refine List.forall_mem_cons.mpr ⟨block V U x5 x6 3 1 (by omega) (by omega) _ _ _ _ _ (mw1 _) (gb3 _ _ _ _), ?_⟩
  refine List.forall_mem_cons.mpr ⟨block V U x5 x6 2 1 (by omega) (by omega) _ _ _ _ _ (mw1 _) (gb2 _ _ _ _), ?_⟩
  refine List.forall_mem_cons.mpr ⟨block V U x5 x6 3 0 (by omega) (by omega) _ _ _ _ _ (mw0 _) (gb1 _ _ _ _), ?_⟩
  refine List.forall_mem_cons.mpr ⟨block V U x5 x6 2 0 (by omega) (by omega) _ _ _ _ _ (mw0 _) (gb0 _ _ _ _), ?_⟩
  exact fun p hp => absurd hp List.not_mem_nil

theorem firstBlocks_cover (y : S512x2048.Idx) (h : (y 0).val < 256) : ∃ p ∈ firstBlocks V U x5 x6, y ∈ p.1.set := by
  have h1 : (y 1).val < 2048 := (y 1).isLt
  have e0 : (y 0).val / 128 = 0 ∨ (y 0).val / 128 = 1 := by omega
  have e1 : (y 1).val / 256 = 0 ∨ (y 1).val / 256 = 1 ∨ (y 1).val / 256 = 2 ∨ (y 1).val / 256 = 3 ∨ (y 1).val / 256 = 4 ∨ (y 1).val / 256 = 5
    ∨ (y 1).val / 256 = 6 ∨ (y 1).val / 256 = 7 := by omega
  rcases e1 with e1 | e1 | e1 | e1 | e1 | e1 | e1 | e1 <;> rcases e0 with e0 | e0
  · exact ⟨(firstBlocks V U x5 x6)[15]'(Nat.lt_of_sub_eq_succ rfl), List.getElem_mem _, inBlock y 0 0 inb_S512x2048_S128x256_0_0 (by omega) (by omega)⟩
  · exact ⟨(firstBlocks V U x5 x6)[14]'(Nat.lt_of_sub_eq_succ rfl), List.getElem_mem _, inBlock y 1 0 inb_S512x2048_S128x256_128_0 (by omega) (by omega)⟩
  · exact ⟨(firstBlocks V U x5 x6)[13]'(Nat.lt_of_sub_eq_succ rfl), List.getElem_mem _, inBlock y 0 1 inb_S512x2048_S128x256_0_256 (by omega) (by omega)⟩
  · exact ⟨(firstBlocks V U x5 x6)[12]'(Nat.lt_of_sub_eq_succ rfl), List.getElem_mem _, inBlock y 1 1 inb_S512x2048_S128x256_128_256 (by omega) (by omega)⟩
  · exact ⟨(firstBlocks V U x5 x6)[11]'(Nat.lt_of_sub_eq_succ rfl), List.getElem_mem _, inBlock y 0 2 inb_S512x2048_S128x256_0_512 (by omega) (by omega)⟩
  · exact ⟨(firstBlocks V U x5 x6)[10]'(Nat.lt_of_sub_eq_succ rfl), List.getElem_mem _, inBlock y 1 2 inb_S512x2048_S128x256_128_512 (by omega) (by omega)⟩
  · exact ⟨(firstBlocks V U x5 x6)[9]'(Nat.lt_of_sub_eq_succ rfl), List.getElem_mem _, inBlock y 0 3 inb_S512x2048_S128x256_0_768 (by omega) (by omega)⟩
  · exact ⟨(firstBlocks V U x5 x6)[8]'(Nat.lt_of_sub_eq_succ rfl), List.getElem_mem _, inBlock y 1 3 inb_S512x2048_S128x256_128_768 (by omega) (by omega)⟩
  · exact ⟨(firstBlocks V U x5 x6)[7]'(Nat.lt_of_sub_eq_succ rfl), List.getElem_mem _, inBlock y 0 4 inb_S512x2048_S128x256_0_1024 (by omega) (by omega)⟩
  · exact ⟨(firstBlocks V U x5 x6)[6]'(Nat.lt_of_sub_eq_succ rfl), List.getElem_mem _, inBlock y 1 4 inb_S512x2048_S128x256_128_1024 (by omega) (by omega)⟩
  · exact ⟨(firstBlocks V U x5 x6)[5]'(Nat.lt_of_sub_eq_succ rfl), List.getElem_mem _, inBlock y 0 5 inb_S512x2048_S128x256_0_1280 (by omega) (by omega)⟩
  · exact ⟨(firstBlocks V U x5 x6)[4]'(Nat.lt_of_sub_eq_succ rfl), List.getElem_mem _, inBlock y 1 5 inb_S512x2048_S128x256_128_1280 (by omega) (by omega)⟩
  · exact ⟨(firstBlocks V U x5 x6)[3]'(Nat.lt_of_sub_eq_succ rfl), List.getElem_mem _, inBlock y 0 6 inb_S512x2048_S128x256_0_1536 (by omega) (by omega)⟩
  · exact ⟨(firstBlocks V U x5 x6)[2]'(Nat.lt_of_sub_eq_succ rfl), List.getElem_mem _, inBlock y 1 6 inb_S512x2048_S128x256_128_1536 (by omega) (by omega)⟩
  · exact ⟨(firstBlocks V U x5 x6)[1]'(Nat.lt_of_sub_eq_succ rfl), List.getElem_mem _, inBlock y 0 7 inb_S512x2048_S128x256_0_1792 (by omega) (by omega)⟩
  · exact ⟨(firstBlocks V U x5 x6)[0]'(Nat.lt_of_sub_eq_succ rfl), List.getElem_mem _, inBlock y 1 7 inb_S512x2048_S128x256_128_1792 (by omega) (by omega)⟩

theorem secondBlocks_cover (y : S512x2048.Idx) (h : 256 ≤ (y 0).val) : ∃ p ∈ secondBlocks V U x5 x6, y ∈ p.1.set := by
  have h0 : (y 0).val < 512 := (y 0).isLt
  have h1 : (y 1).val < 2048 := (y 1).isLt
  have e0 : (y 0).val / 128 = 2 ∨ (y 0).val / 128 = 3 := by omega
  have e1 : (y 1).val / 256 = 0 ∨ (y 1).val / 256 = 1 ∨ (y 1).val / 256 = 2 ∨ (y 1).val / 256 = 3 ∨ (y 1).val / 256 = 4 ∨ (y 1).val / 256 = 5
    ∨ (y 1).val / 256 = 6 ∨ (y 1).val / 256 = 7 := by omega
  rcases e1 with e1 | e1 | e1 | e1 | e1 | e1 | e1 | e1 <;> rcases e0 with e0 | e0
  · exact ⟨(secondBlocks V U x5 x6)[15]'(Nat.lt_of_sub_eq_succ rfl), List.getElem_mem _, inBlock y 2 0 inb_S512x2048_S128x256_256_0 (by omega) (by omega)⟩
  · exact ⟨(secondBlocks V U x5 x6)[14]'(Nat.lt_of_sub_eq_succ rfl), List.getElem_mem _, inBlock y 3 0 inb_S512x2048_S128x256_384_0 (by omega) (by omega)⟩
  · exact ⟨(secondBlocks V U x5 x6)[13]'(Nat.lt_of_sub_eq_succ rfl), List.getElem_mem _, inBlock y 2 1 inb_S512x2048_S128x256_256_256 (by omega) (by omega)⟩
  · exact ⟨(secondBlocks V U x5 x6)[12]'(Nat.lt_of_sub_eq_succ rfl), List.getElem_mem _, inBlock y 3 1 inb_S512x2048_S128x256_384_256 (by omega) (by omega)⟩
  · exact ⟨(secondBlocks V U x5 x6)[11]'(Nat.lt_of_sub_eq_succ rfl), List.getElem_mem _, inBlock y 2 2 inb_S512x2048_S128x256_256_512 (by omega) (by omega)⟩
  · exact ⟨(secondBlocks V U x5 x6)[10]'(Nat.lt_of_sub_eq_succ rfl), List.getElem_mem _, inBlock y 3 2 inb_S512x2048_S128x256_384_512 (by omega) (by omega)⟩
  · exact ⟨(secondBlocks V U x5 x6)[9]'(Nat.lt_of_sub_eq_succ rfl), List.getElem_mem _, inBlock y 2 3 inb_S512x2048_S128x256_256_768 (by omega) (by omega)⟩
  · exact ⟨(secondBlocks V U x5 x6)[8]'(Nat.lt_of_sub_eq_succ rfl), List.getElem_mem _, inBlock y 3 3 inb_S512x2048_S128x256_384_768 (by omega) (by omega)⟩
  · exact ⟨(secondBlocks V U x5 x6)[7]'(Nat.lt_of_sub_eq_succ rfl), List.getElem_mem _, inBlock y 2 4 inb_S512x2048_S128x256_256_1024 (by omega) (by omega)⟩
  · exact ⟨(secondBlocks V U x5 x6)[6]'(Nat.lt_of_sub_eq_succ rfl), List.getElem_mem _, inBlock y 3 4 inb_S512x2048_S128x256_384_1024 (by omega) (by omega)⟩
  · exact ⟨(secondBlocks V U x5 x6)[5]'(Nat.lt_of_sub_eq_succ rfl), List.getElem_mem _, inBlock y 2 5 inb_S512x2048_S128x256_256_1280 (by omega) (by omega)⟩
  · exact ⟨(secondBlocks V U x5 x6)[4]'(Nat.lt_of_sub_eq_succ rfl), List.getElem_mem _, inBlock y 3 5 inb_S512x2048_S128x256_384_1280 (by omega) (by omega)⟩
  · exact ⟨(secondBlocks V U x5 x6)[3]'(Nat.lt_of_sub_eq_succ rfl), List.getElem_mem _, inBlock y 2 6 inb_S512x2048_S128x256_256_1536 (by omega) (by omega)⟩
  · exact ⟨(secondBlocks V U x5 x6)[2]'(Nat.lt_of_sub_eq_succ rfl), List.getElem_mem _, inBlock y 3 6 inb_S512x2048_S128x256_384_1536 (by omega) (by omega)⟩
  · exact ⟨(secondBlocks V U x5 x6)[1]'(Nat.lt_of_sub_eq_succ rfl), List.getElem_mem _, inBlock y 2 7 inb_S512x2048_S128x256_256_1792 (by omega) (by omega)⟩
  · exact ⟨(secondBlocks V U x5 x6)[0]'(Nat.lt_of_sub_eq_succ rfl), List.getElem_mem _, inBlock y 3 7 inb_S512x2048_S128x256_384_1792 (by omega) (by omega)⟩

theorem first_gated (y : S512x2048.Idx) (h : (y 0).val < 256) : View.canon (firstBlocks V U x5 x6) y = gateOf V U x5 x6 y :=
  View.canon_eq_of_allAt _ _ _ (firstBlocks_cover V U x5 x6 y h) fun p hp x hx => hx ▸ firstBlocks_gated V U x5 x6 p hp x

theorem second_gated (y : S512x2048.Idx) (h : 256 ≤ (y 0).val) :
    View.canon (secondBlocks V U x5 x6 ++ firstBlocks V U x5 x6) y = gateOf V U x5 x6 y := by
  obtain ⟨p, hp, hy⟩ := secondBlocks_cover V U x5 x6 y h
  refine View.canon_eq_of_allAt _ _ _ ⟨p, List.mem_append_left _ hp, hy⟩ fun p hp x hx => ?_
  rcases List.mem_append.mp hp with hp | hp
  · exact hx ▸ secondBlocks_gated V U x5 x6 p hp x
  · exact hx ▸ firstBlocks_gated V U x5 x6 p hp x

/-- A point's result at row `128 b + s`, column `q`. -/
theorem ptOut_at (x0 : Vec Ideal S512x1024 .f32) (x7 : Vec Ideal S2048x1024 .bf16) (r : Fin 512) (q : Fin 1024) :
    ptOut x0 V U x5 x6 x7 (ix2 r q) = x0 (ix2 r q) + ∑ k : Fin 2048, gateAt V U x5 x6 ⟨r.val / 128, by omega⟩ ⟨r.val % 128, by omega⟩
      ⟨k.val / 256, by omega⟩ k * x7 (ix2 k q) := by
  unfold ptOut
  canon_tiles x h
  · obtain ⟨a, b, rfl⟩ : ∃ (a : Fin 256) (b : Fin 1024), x = ix2 a b := ⟨x 0, x 1, eq_ix2 x⟩
    obtain rfl : r = (⟨256 + a.val, Nat.add_lt_add_left a.isLt 256⟩ : Fin 512) := Fin.ext h0
    obtain rfl : q = b := Fin.ext h1
    refine (second_at x0 _ x7 a q).trans (congrArg (x0 (ix2 ⟨256 + a.val, Nat.add_lt_add_left a.isLt 256⟩ q) + ·) (Finset.sum_congr rfl fun k _ => congrArg (· * x7 (ix2 k q)) ?_))
    have e : (Rect.unit (s := S512x2048) ![256, 0] S256x2048.size inb_S512x2048_S256x2048_256_0).toLoadRect.idx (ix2 a k)
        = ix2 ⟨256 + a.val, by omega⟩ k := by
      refine funext fun i => Fin.ext ?_
      fin_cases i <;> simp [LoadRect.idx, ix2]
    exact (congrArg _ e).trans (second_gated V U x5 x6 _ (by show 256 ≤ 256 + a.val; omega))
  · obtain ⟨a, b, rfl⟩ : ∃ (a : Fin 256) (b : Fin 1024), x = ix2 a b := ⟨x 0, x 1, eq_ix2 x⟩
    obtain rfl : r = (⟨a.val, a.isLt.trans (by decide)⟩ : Fin 512) := Fin.ext h0
    obtain rfl : q = b := Fin.ext h1
    refine (first_at x0 _ x7 a q).trans (congrArg (x0 (ix2 ⟨a.val, a.isLt.trans (by decide)⟩ q) + ·) (Finset.sum_congr rfl fun k _ => congrArg (· * x7 (ix2 k q)) ?_))
    have e : (Rect.unit (s := S512x2048) ![0, 0] S256x2048.size inb_S512x2048_S256x2048_0_0).toLoadRect.idx (ix2 a k)
        = ix2 ⟨a.val, by omega⟩ k := by
      refine funext fun i => Fin.ext ?_
      fin_cases i <;> simp [LoadRect.idx, ix2]
    exact (congrArg _ e).trans (first_gated V U x5 x6 _ (by exact a.isLt))

end Cert.Proof.Sgu

end
-- ==== Proof.SguRef.lean ====
/-
  The reference's array at an index: the layer on the block of its row.
-/
module

public import proofs.«01_k».proof.Proof.SguSpec
public import proofs.«01_k».proof.Proof.Gen.Reference2Ideal.Run

@[expose] public section

set_option maxRecDepth 16384

noncomputable section

namespace Cert.Proof.Sgu

open Idealize.ShloMosaic Idealize.ShloMosaic.TcCoe
open Cert.Reference2Ideal Cert.Reference2Ideal.Gen

/-- The rows, normed. -/
def rH (x : FVec Ideal S4x4096x1024 .f32) (an : FVec Ideal S1x1024 .f32) : FVec Ideal S4x4096x1024 .f32 :=
  mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2
      (shapeCast S1024 an shapeCasts_S1x1024_S1024)))

/-- The first projection. -/
def rZ (h : FVec Ideal S4x4096x1024 .f32) (w : FVec Ideal S1x1024x4096 .f32) (b : FVec Ideal S1x4096 .f32) : FVec Ideal S4x4096x4096 .f32 :=
  addf (Host.dotGeneral dot_S4x4096x1024_S1024x4096_S4x4096x4096_2_0_01_1_n_n none h (shapeCast S1024x4096 w shapeCasts_S1x1024x4096_S1024x4096))
    (broadcastInDim S4x4096x4096 ![0, 1, 2] bcast_S1x1x4096_S4x4096x4096_0_1_2 (broadcastInDim S1x1x4096 ![2] bcast_S4096_S1x1x4096_2
      (shapeCast S4096 b shapeCasts_S1x4096_S4096)))

/-- The activation. -/
def rAct (z : FVec Ideal S4x4096x4096 .f32) : FVec Ideal S4x4096x4096 .f32 :=
  mulf z (mulf (broadcastInDim S4x4096x4096 ![] bcast_S_S4x4096x4096 (constant S_ .f32 0x3F000000#32))
    (addf (broadcastInDim S4x4096x4096 ![] bcast_S_S4x4096x4096 (constant S_ .f32 0x3F800000#32))
      (Host.tanh (mulf (broadcastInDim S4x4096x4096 ![] bcast_S_S4x4096x4096 (constant S_ .f32 0x3F4C422A#32))
        (addf z (mulf (broadcastInDim S4x4096x4096 ![] bcast_S_S4x4096x4096 (constant S_ .f32 0x3D372713#32)) (mulf (mulf z z) z)))))))

/-- The gate's half, normed. -/
def rV (v : FVec Ideal S4x4096x2048 .f32) (vn : FVec Ideal S1x2048 .f32) : FVec Ideal S4x4096x2048 .f32 :=
  mulf (mulf v (broadcastInDim S4x4096x2048 ![0, 1, 2] bcast_S4x4096x1_S4x4096x2048_0_1_2
    (Host.rsqrt (addf (Host.divf (broadcastInDim S4x4096x1 ![0, 1] bcast_S4x4096_S4x4096x1_0_1
        (Host.reduceAdd (mulf v v) (constant S_ .f32 0x00000000#32) reducesTo_S4x4096x2048_S4x4096_d2 h_S_))
      (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2
      (shapeCast S2048 vn shapeCasts_S1x2048_S2048)))

/-- The chunk of each of the 128 rows of a block: the row's number over 64, rounded down. -/
def rChunk : IVec S128 32 :=
  have i : IVec S128 32 := iotaInDim S128 32 0
  have c : IVec S_ 32 := constantI S_ 32 64#32
  select (andi (cmpi .ne (signi i) (broadcastInDim S128 ![] bcast_S_S128 (signi c)))
      (cmpi .ne (Host.remsi i (broadcastInDim S128 ![] bcast_S_S128 c)) (broadcastInDim S128 ![] bcast_S_S128 (constantI S_ 32 0#32))))
    (subi (Host.divsi i (broadcastInDim S128 ![] bcast_S_S128 c)) (broadcastInDim S128 ![] bcast_S_S128 (constantI S_ 32 1#32)))
    (Host.divsi i (broadcastInDim S128 ![] bcast_S_S128 c))

/-- The mixing weights, masked. -/
def rW (ch : IVec S128 32) (ws : FVec Ideal S1x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
      (cmpi .sge (broadcastInDim S128x128 ![0, 1] bcast_S128x1_S128x128_0_1 (broadcastInDim S128x1 ![0] bcast_S128_S128x1_0 ch))
        (broadcastInDim S128x128 ![0, 1] bcast_S1x128_S128x128_0_1 (broadcastInDim S1x128 ![1] bcast_S128_S1x128_1 ch)))))
    (shapeCast S8x128x128 ws shapeCasts_S1x8x128x128_S8x128x128)
    (broadcastInDim S8x128x128 ![] bcast_S_S8x128x128 (constant S_ .f32 0x00000000#32))

/-- The mixed gate. -/
def rMix (v : FVec Ideal S4x4096x2048 .f32) (w : FVec Ideal S8x128x128 .f32) (bs : FVec Ideal S1x8x128 .f32) : FVec Ideal S4x32x128x8x256 .f32 :=
  addf (transpose S4x32x128x8x256 [1, 2, 4, 0, 3]
      (Host.dotGeneral dot_S4x32x128x8x256_S8x128x128_S8x4x32x256x128_2_2_014_1_3_0 none
        (shapeCast S4x32x128x8x256 v shapeCasts_S4x4096x2048_S4x32x128x8x256) w) transposes_S8x4x32x256x128_S4x32x128x8x256_1_2_4_0_3)
    (broadcastInDim S4x32x128x8x256 ![0, 1, 2, 3, 4] bcast_S1x1x128x8x1_S4x32x128x8x256_0_1_2_3_4
      (broadcastInDim S1x1x128x8x1 ![2, 3] bcast_S128x8_S1x1x128x8x1_2_3
        (transpose S128x8 [1, 0] (shapeCast S8x128 bs shapeCasts_S1x8x128_S8x128) transposes_S8x128_S128x8_1_0)))

/-- The result. -/
def rOut (x : FVec Ideal S4x4096x1024 .f32) (u : FVec Ideal S4x4096x2048 .f32) (mx : FVec Ideal S4x32x128x8x256 .f32) (wout : FVec Ideal S1x2048x1024 .f32) :
    FVec Ideal S16384x1024 .f32 :=
  shapeCast S16384x1024 (addf x (Host.dotGeneral dot_S4x4096x2048_S2048x1024_S4x4096x1024_2_0_01_1_n_n none
    (mulf u (shapeCast S4x4096x2048 mx shapeCasts_S4x32x128x8x256_S4x4096x2048))
    (shapeCast S2048x1024 wout shapeCasts_S1x2048x1024_S2048x1024))) shapeCasts_S4x4096x1024_S16384x1024

/-- The reference, from its arguments. -/
def rAll (x : FVec Ideal S4x4096x1024 .f32) (an : FVec Ideal S1x1024 .f32) (w : FVec Ideal S1x1024x4096 .f32) (b : FVec Ideal S1x4096 .f32)
    (vn : FVec Ideal S1x2048 .f32) (ws : FVec Ideal S1x8x128x128 .f32) (bs : FVec Ideal S1x8x128 .f32) (wout : FVec Ideal S1x2048x1024 .f32) :
    FVec Ideal S16384x1024 .f32 :=
  rOut x (extractStridedSlice S4x4096x2048 ![0, 0, 0] (rAct (rZ (rH x an) w b)) slices_S4x4096x4096_S4x4096x2048_0_0_0)
    (rMix (rV (extractStridedSlice S4x4096x2048 ![0, 0, 2048] (rAct (rZ (rH x an) w b)) slices_S4x4096x4096_S4x4096x2048_0_0_2048) vn)
      (rW rChunk ws) bs) wout

/-- It is what the reference's run leaves. -/
theorem rAll_eq (m : (ℓ : Loc nD τ sig) → Buf (Elt Ideal) ℓ) (c : Dev nD) :
    Cert.Reference2Ideal.Value.res_main_v73 m c
      = rAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.Reference2Ideal.Value.res_main_v73
  rfl

/-! ## The parts at an index -/

theorem rH_at (x : FVec Ideal S4x4096x1024 .f32) (an : FVec Ideal S1x1024 .f32) (b : Fin 4) (t : Fin 4096) (k : Fin 1024) :
    rH x an (ix3 b t k) = norm (Ideal.ofBits FTy.f32 1149239296#32) (fun k => x (ix3 b t k)) (fun k => an (ix2 0 k)) k := by
  unfold norm
  pointwise [rH]

theorem rZ_at (h : FVec Ideal S4x4096x1024 .f32) (w : FVec Ideal S1x1024x4096 .f32) (bi : FVec Ideal S1x4096 .f32) (b : Fin 4) (t : Fin 4096) (k : Fin 4096) :
    rZ h w bi (ix3 b t k) = ∑ j, h (ix3 b t j) * w (ix3 0 j k) + bi (ix2 0 k) := by
  pointwise [rZ]

theorem rAct_at (z : FVec Ideal S4x4096x4096 .f32) (b : Fin 4) (t : Fin 4096) (k : Fin 4096) :
    rAct z (ix3 b t k) = act (z (ix3 b t k)) := by
  unfold act
  pointwise [rAct]

theorem rV_at (v : FVec Ideal S4x4096x2048 .f32) (vn : FVec Ideal S1x2048 .f32) (b : Fin 4) (t : Fin 4096) (k : Fin 2048) :
    rV v vn (ix3 b t k) = norm (Ideal.ofBits FTy.f32 1157627904#32) (fun k => v (ix3 b t k)) (fun k => vn (ix2 0 k)) k := by
  unfold norm
  pointwise [rV]

theorem rMix_at (v : FVec Ideal S4x4096x2048 .f32) (w : FVec Ideal S8x128x128 .f32) (bs : FVec Ideal S1x8x128 .f32)
    (b : Fin 4) (n : Fin 32) (s : Fin 128) (g : Fin 8) (d : Fin 256) :
    rMix v w bs (ix5 b n s g d)
      = ∑ s' : Fin 128, w (ix3 g s s') * v (ix3 b ⟨n.val * 128 + s'.val, by omega⟩ ⟨g.val * 256 + d.val, by omega⟩) + bs (ix3 0 g s) := by
  pointwise [rMix]
  congr 1
  exact Finset.sum_congr rfl fun k _ => mul_comm _ _

theorem rOut_at (x : FVec Ideal S4x4096x1024 .f32) (u : FVec Ideal S4x4096x2048 .f32) (mx : FVec Ideal S4x32x128x8x256 .f32) (wout : FVec Ideal S1x2048x1024 .f32)
    (R : Fin 16384) (q : Fin 1024) :
    rOut x u mx wout (ix2 R q)
      = x (ix3 ⟨R.val / 4096, by omega⟩ ⟨R.val % 4096, by omega⟩ q)
        + ∑ k : Fin 2048, u (ix3 ⟨R.val / 4096, by omega⟩ ⟨R.val % 4096, by omega⟩ k)
            * mx (ix5 ⟨R.val / 4096, by omega⟩ ⟨R.val % 4096 / 128, by omega⟩ ⟨R.val % 4096 % 128, by omega⟩ ⟨k.val / 256, by omega⟩ ⟨k.val % 256, by omega⟩)
            * wout (ix3 0 k q) := by
  pointwise [rOut]

theorem rChunk_at (s : Fin 128) : rChunk (ix1 s) = BitVec.ofNat 32 (s.val / 64) := by
  pointwise [rChunk]
  revert s
  decide +kernel

theorem sge_chunk (s s' : Fin 128) :
    IntOp.cmpi .sge (BitVec.ofNat 32 (s.val / 64)) (BitVec.ofNat 32 (s'.val / 64)) = if s'.val / 64 ≤ s.val / 64 then 1#1 else 0#1 := by
  have key : ∀ a b : Fin 2, IntOp.cmpi .sge (BitVec.ofNat 32 a.val) (BitVec.ofNat 32 b.val) = if b.val ≤ a.val then 1#1 else 0#1 := by decide
  exact key ⟨s.val / 64, by omega⟩ ⟨s'.val / 64, by omega⟩

theorem rW_at (ch : IVec S128 32) (ws : FVec Ideal S1x8x128x128 .f32) (g : Fin 8) (s s' : Fin 128) :
    rW ch ws (ix3 g s s') = Scalar.select (IntOp.cmpi .sge (ch (ix1 s)) (ch (ix1 s'))) (ws (ix4 0 g s s')) 0 := by
  pointwise [rW]

theorem rWC_at (ws : FVec Ideal S1x8x128x128 .f32) (g : Fin 8) (s s' : Fin 128) :
    rW rChunk ws (ix3 g s s') = if s'.val / 64 ≤ s.val / 64 then ws (ix4 0 g s s') else 0 := by
  rw [rW_at, rChunk_at, rChunk_at, sge_chunk]
  split_ifs <;> rfl

theorem lo_at (z : FVec Ideal S4x4096x4096 .f32) (b : Fin 4) (t : Fin 4096) (k : Fin 2048) :
    extractStridedSlice S4x4096x2048 ![0, 0, 0] z slices_S4x4096x4096_S4x4096x2048_0_0_0 (ix3 b t k) = z (ix3 b t (uCol k)) := by
  unfold uCol
  pointwise
theorem hi_at (z : FVec Ideal S4x4096x4096 .f32) (b : Fin 4) (t : Fin 4096) (k : Fin 2048) :
    extractStridedSlice S4x4096x2048 ![0, 0, 2048] z slices_S4x4096x4096_S4x4096x2048_0_0_2048 (ix3 b t k) = z (ix3 b t (vCol k)) := by
  unfold vCol
  pointwise

/-- The weights of the arguments. -/
def par (an : FVec Ideal S1x1024 .f32) (w : FVec Ideal S1x1024x4096 .f32) (b : FVec Ideal S1x4096 .f32)
    (vn : FVec Ideal S1x2048 .f32) (ws : FVec Ideal S1x8x128x128 .f32) (bs : FVec Ideal S1x8x128 .f32) (wout : FVec Ideal S1x2048x1024 .f32) : Par where
  an k := an (ix2 0 k)
  win j q := w (ix3 0 j q)
  bin q := b (ix2 0 q)
  vn k := vn (ix2 0 k)
  ws g s s' := ws (ix4 0 g s s')
  bs g s := bs (ix3 0 g s)
  wout k q := wout (ix3 0 k q)

/-- The block of 128 rows that row `R` is in. -/
def blockOf (x : FVec Ideal S4x4096x1024 .f32) (R : Fin 16384) (s : Fin 128) (k : Fin 1024) : EReal :=
  x (ix3 ⟨R.val / 4096, by omega⟩ ⟨R.val % 4096 / 128 * 128 + s.val, by omega⟩ k)

section

variable (x : FVec Ideal S4x4096x1024 .f32) (an : FVec Ideal S1x1024 .f32) (w : FVec Ideal S1x1024x4096 .f32) (b : FVec Ideal S1x4096 .f32)
    (vn : FVec Ideal S1x2048 .f32) (ws : FVec Ideal S1x8x128x128 .f32) (bs : FVec Ideal S1x8x128 .f32) (wout : FVec Ideal S1x2048x1024 .f32)

theorem proj_at (β : Fin 4) (t : Fin 4096) (q : Fin 4096) :
    rAct (rZ (rH x an) w b) (ix3 β t q) = proj (par an w b vn ws bs wout) (fun k => x (ix3 β t k)) q := by
  rw [rAct_at, rZ_at]
  simp only [rH_at]
  rfl

theorem vRow_at (β : Fin 4) (t : Fin 4096) (k : Fin 2048) :
    rV (extractStridedSlice S4x4096x2048 ![0, 0, 2048] (rAct (rZ (rH x an) w b)) slices_S4x4096x4096_S4x4096x2048_0_0_2048) vn (ix3 β t k)
      = vRow (par an w b vn ws bs wout) (fun k => x (ix3 β t k)) k := by
  rw [rV_at]
  simp only [hi_at, proj_at x an w b vn ws bs wout]
  rfl

/-- The reference's array at row `R`, column `q`. -/
theorem rAll_at (R : Fin 16384) (q : Fin 1024) :
    rAll x an w b vn ws bs wout (ix2 R q)
      = layer (par an w b vn ws bs wout) (blockOf x R) ⟨R.val % 128, by omega⟩ q := by
  have hR : (⟨R.val % 4096 / 128 * 128 + R.val % 128, by omega⟩ : Fin 4096) = ⟨R.val % 4096, by omega⟩ := Fin.ext (by simp only []; omega)
  have hs : (⟨R.val % 4096 % 128, by omega⟩ : Fin 128) = ⟨R.val % 128, by omega⟩ := Fin.ext (by simp only []; omega)
  have hb : blockOf x R ⟨R.val % 128, by omega⟩ = fun k => x (ix3 ⟨R.val / 4096, by omega⟩ ⟨R.val % 4096, by omega⟩ k) := by
    funext k
    unfold blockOf
    rw [hR]
  have hk (k : Fin 2048) : (⟨k.val / 256 * 256 + k.val % 256, by omega⟩ : Fin 2048) = k := Fin.ext (by simp only []; omega)
  unfold rAll
  rw [rOut_at]
  simp only [rMix_at, rWC_at, vRow_at x an w b vn ws bs wout, lo_at, proj_at x an w b vn ws bs wout, hs, hk]
  unfold layer gated
  simp only [hb]
  rfl

end

end Cert.Proof.Sgu

end
-- ==== Proof.SguValue.lean ====
/-
  The gated layer's launch: its result array is the reference's layer on every block of 128 rows.
-/
module

public import proofs.«01_k».proof.Proof.SguGate
public import proofs.«01_k».proof.Proof.SguRef

@[expose] public section

set_option maxRecDepth 16384

noncomputable section

namespace Cert.Proof.Sgu

open Idealize.ShloMosaic Idealize.ShloMosaic.TcCoe Idealize.ShloMosaic.Pipeline
open Cert.Kernel2Ideal Cert.Kernel2Ideal.Gen

section

variable {x1 : Vec Ideal S1x1024 .f32} {win : Vec Ideal S1024x4096 .bf16} {x3 : Vec Ideal S1x4096 .f32} {x4 : Vec Ideal S1x2048 .f32}
  {x5 : Vec Ideal S8x128x128 .f32} {x6 : Vec Ideal S128x8 .f32} {x7 : Vec Ideal S2048x1024 .bf16}

/-- The blocks a point reads are the layer's weights. -/
structure Fits (P : Par) (x1 : Vec Ideal S1x1024 .f32) (win : Vec Ideal S1024x4096 .bf16) (x3 : Vec Ideal S1x4096 .f32) (x4 : Vec Ideal S1x2048 .f32)
    (x5 : Vec Ideal S8x128x128 .f32) (x6 : Vec Ideal S128x8 .f32) (x7 : Vec Ideal S2048x1024 .bf16) : Prop where
  an : ∀ k, x1 (ix2 0 k) = P.an k
  win : ∀ j q, win (ix2 j q) = P.win j q
  bin : ∀ q, x3 (ix2 0 q) = P.bin q
  vn : ∀ k, x4 (ix2 0 k) = P.vn k
  ws : ∀ g s s', x5 (ix3 g s s') = P.ws g s s'
  bs : ∀ g s, x6 (ix2 s g) = P.bs g s
  wout : ∀ k q, x7 (ix2 k q) = P.wout k q

theorem fits_proj {P : Par} (F : Fits P x1 win x3 x4 x5 x6 x7) (x : Fin 1024 → EReal) (q : Fin 4096) :
    act (∑ j, norm (Ideal.ofBits FTy.f32 1149239296#32) x (fun k => x1 (ix2 0 k)) j * win (ix2 j q) + x3 (ix2 0 q)) = proj P x q := by
  unfold proj
  rw [show (fun k => x1 (ix2 0 k)) = P.an from funext F.an, F.bin]
  simp only [F.win]

theorem ptU_at {P : Par} (F : Fits P x1 win x3 x4 x5 x6 x7) (x0 : Vec Ideal S512x1024 .f32) (r : Fin 512) (k : Fin 2048) :
    ptU x0 x1 win x3 (ix2 r k) = proj P (fun j => x0 (ix2 r j)) (uCol k) := by
  unfold ptU
  rw [u_at, ← fits_proj F]
  have e (j : Fin 1024) : View.ld win (Rect.unit (s := S1024x4096) ![0, 0] S1024x2048.size inb_S1024x4096_S1024x2048_0_0) (ix2 j k) = win (ix2 j (uCol k)) := by
    unfold uCol; pointwise
  have e' : View.ld x3 (Rect.unit (s := S1x4096) ![0, 0] S1x2048.size inb_S1x4096_S1x2048_0_0) (ix2 0 k) = x3 (ix2 0 (uCol k)) := by
    unfold uCol; pointwise
  refine congrArg act (congrArg₂ (· + ·) (Finset.sum_congr rfl fun j _ => congrArg₂ (· * ·) (h_at x0 x1 r j) (e j)) e')

theorem ptV_at {P : Par} (F : Fits P x1 win x3 x4 x5 x6 x7) (x0 : Vec Ideal S512x1024 .f32) (r : Fin 512) (k : Fin 2048) :
    ptV x0 x1 win x3 x4 (ix2 r k) = vRow P (fun j => x0 (ix2 r j)) k := by
  unfold ptV vRow
  rw [vn_at, show (fun k => x4 (ix2 0 k)) = P.vn from funext F.vn]
  refine congrArg (fun f => norm _ f P.vn k) (funext fun k => ?_)
  rw [v_at, ← fits_proj F]
  have e (j : Fin 1024) : View.ld win (Rect.unit (s := S1024x4096) ![0, 2048] S1024x2048.size inb_S1024x4096_S1024x2048_0_2048) (ix2 j k) = win (ix2 j (vCol k)) := by
    unfold vCol; pointwise
  have e' : View.ld x3 (Rect.unit (s := S1x4096) ![0, 2048] S1x2048.size inb_S1x4096_S1x2048_0_2048) (ix2 0 k) = x3 (ix2 0 (vCol k)) := by
    unfold vCol; pointwise
  refine congrArg act (congrArg₂ (· + ·) (Finset.sum_congr rfl fun j _ => congrArg₂ (· * ·) (h_at x0 x1 r j) (e j)) e')

/-- A point's result is the layer on the block of 128 rows its row lies in. -/
theorem pt_layer {P : Par} (F : Fits P x1 win x3 x4 x5 x6 x7) (x0 : Vec Ideal S512x1024 .f32) (r : Fin 512) (q : Fin 1024) :
    ptOut x0 (ptV x0 x1 win x3 x4) (ptU x0 x1 win x3) x5 x6 x7 (ix2 r q)
      = layer P (fun s k => x0 (ix2 ⟨128 * (r.val / 128) + s.val, by omega⟩ k)) ⟨r.val % 128, by omega⟩ q := by
  have hr : (⟨128 * (r.val / 128) + r.val % 128, by omega⟩ : Fin 512) = r := Fin.ext (by show 128 * (r.val / 128) + r.val % 128 = r.val; omega)
  rw [ptOut_at]
  unfold layer gated gateAt mixW grp
  simp only [hr, F.ws, F.bs, F.wout, ptU_at F, ptV_at F]

end

/-! ## The launch's blocks -/

section

variable (m : (ℓ : Loc nD τ sig) → Buf (Elt Ideal) ℓ)

theorem idx (t : Fin cfg0.N) : (cfg0.win 0).index t = ![t.val, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0, 0] ∧ (cfg0.win 6).index t = ![0, 0]
    ∧ (cfg0.win 7).index t = ![0, 0] ∧ (cfg0.win 10).index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![0, 0] ∧ win0_10.index t = ![t.val, 0]) t

/-- Row `a` of the rows of point `t`, among all the rows. -/
def row (t : Fin cfg0.N) (a : Fin 512) : Fin 16384 :=
  ⟨512 * t.val + a.val, by have := t.isLt; have e : cfg0.N = 32 := rfl; omega⟩

theorem an_host (c : Dev nD) : V m c main_v2 = (shapeCast S1x1024 (shapeCast S1024 (m ((c : Thread nD τ).loc main_arg1)) shapeCasts_S1x1024_S1024) shapeCasts_S1024_S1x1024 : FVec Ideal S1x1024 .f32) := by
  unfold_abbrev_sides
  after_results
  rfl

theorem an_val (X : FVec Ideal S1x1024 .f32) (k : Fin 1024) : (shapeCast S1x1024 (shapeCast S1024 X shapeCasts_S1x1024_S1024) shapeCasts_S1024_S1x1024 : FVec Ideal S1x1024 .f32) (ix2 0 k) = X (ix2 0 k) := by
  pointwise

theorem an_blk (c : Dev nD) (t : Fin cfg0.N) (k : Fin 1024) : iblk m c 1 t (ix2 0 k) = m ((c : Thread nD τ).loc main_arg1) (ix2 0 k) := by
  have e : iblk m c 1 t (ix2 0 k) = V m c main_v2 (ix2 0 k) := by
    unfold iblk
    generalize hW : V m c (arrRef spec0 1) = W
    show _ = W (ix2 0 k)
    blk_ext [idx t]
  rw [e, an_host]
  exact an_val _ k

theorem win_host (c : Dev nD) : V m c main_v3 = (shapeCast S1024x4096 (m ((c : Thread nD τ).loc main_arg2)) shapeCasts_S1x1024x4096_S1024x4096 : FVec Ideal S1024x4096 .f32) := by
  unfold_abbrev_sides
  after_results
  rfl

theorem win_val (X : FVec Ideal S1x1024x4096 .f32) (j : Fin 1024) (q : Fin 4096) : (shapeCast S1024x4096 X shapeCasts_S1x1024x4096_S1024x4096 : FVec Ideal S1024x4096 .f32) (ix2 j q) = X (ix3 0 j q) := by
  pointwise

theorem win_blk (c : Dev nD) (t : Fin cfg0.N) (j : Fin 1024) (q : Fin 4096) : iblk m c 2 t (ix2 j q) = m ((c : Thread nD τ).loc main_arg2) (ix3 0 j q) := by
  have e : iblk m c 2 t (ix2 j q) = V m c main_v3 (ix2 j q) := by
    unfold iblk
    generalize hW : V m c (arrRef spec0 2) = W
    show _ = W (ix2 j q)
    blk_ext [idx t]
  rw [e, win_host]
  exact win_val _ j q

theorem bin_host (c : Dev nD) : V m c main_v5 = (shapeCast S1x4096 (shapeCast S4096 (m ((c : Thread nD τ).loc main_arg3)) shapeCasts_S1x4096_S4096) shapeCasts_S4096_S1x4096 : FVec Ideal S1x4096 .f32) := by
  unfold_abbrev_sides
  after_results
  rfl

theorem bin_val (X : FVec Ideal S1x4096 .f32) (q : Fin 4096) : (shapeCast S1x4096 (shapeCast S4096 X shapeCasts_S1x4096_S4096) shapeCasts_S4096_S1x4096 : FVec Ideal S1x4096 .f32) (ix2 0 q) = X (ix2 0 q) := by
  pointwise

theorem bin_blk (c : Dev nD) (t : Fin cfg0.N) (q : Fin 4096) : iblk m c 3 t (ix2 0 q) = m ((c : Thread nD τ).loc main_arg3) (ix2 0 q) := by
  have e : iblk m c 3 t (ix2 0 q) = V m c main_v5 (ix2 0 q) := by
    unfold iblk
    generalize hW : V m c (arrRef spec0 3) = W
    show _ = W (ix2 0 q)
    blk_ext [idx t]
  rw [e, bin_host]
  exact bin_val _ q

theorem vn_host (c : Dev nD) : V m c main_v7 = (shapeCast S1x2048 (shapeCast S2048 (m ((c : Thread nD τ).loc main_arg4)) shapeCasts_S1x2048_S2048) shapeCasts_S2048_S1x2048 : FVec Ideal S1x2048 .f32) := by
  unfold_abbrev_sides
  after_results
  rfl

theorem vn_val (X : FVec Ideal S1x2048 .f32) (k : Fin 2048) : (shapeCast S1x2048 (shapeCast S2048 X shapeCasts_S1x2048_S2048) shapeCasts_S2048_S1x2048 : FVec Ideal S1x2048 .f32) (ix2 0 k) = X (ix2 0 k) := by
  pointwise

theorem vn_blk (c : Dev nD) (t : Fin cfg0.N) (k : Fin 2048) : iblk m c 4 t (ix2 0 k) = m ((c : Thread nD τ).loc main_arg4) (ix2 0 k) := by
  have e : iblk m c 4 t (ix2 0 k) = V m c main_v7 (ix2 0 k) := by
    unfold iblk
    generalize hW : V m c (arrRef spec0 4) = W
    show _ = W (ix2 0 k)
    blk_ext [idx t]
  rw [e, vn_host]
  exact vn_val _ k

theorem ws_host (c : Dev nD) : V m c main_v8 = (shapeCast S8x128x128 (m ((c : Thread nD τ).loc main_arg5)) shapeCasts_S1x8x128x128_S8x128x128 : FVec Ideal S8x128x128 .f32) := by
  unfold_abbrev_sides
  after_results
  rfl

theorem ws_val (X : FVec Ideal S1x8x128x128 .f32) (g : Fin 8) (s s' : Fin 128) : (shapeCast S8x128x128 X shapeCasts_S1x8x128x128_S8x128x128 : FVec Ideal S8x128x128 .f32) (ix3 g s s') = X (ix4 0 g s s') := by
  pointwise

theorem ws_blk (c : Dev nD) (t : Fin cfg0.N) (g : Fin 8) (s s' : Fin 128) : iblk m c 5 t (ix3 g s s') = m ((c : Thread nD τ).loc main_arg5) (ix4 0 g s s') := by
  have e : iblk m c 5 t (ix3 g s s') = V m c main_v8 (ix3 g s s') := by
    unfold iblk
    generalize hW : V m c (arrRef spec0 5) = W
    show _ = W (ix3 g s s')
    blk_ext [idx t]
  rw [e, ws_host]
  exact ws_val _ g s s'

theorem bs_host (c : Dev nD) : V m c main_v10 = (transpose S128x8 [1, 0] (shapeCast S8x128 (m ((c : Thread nD τ).loc main_arg6)) shapeCasts_S1x8x128_S8x128) transposes_S8x128_S128x8_1_0 : FVec Ideal S128x8 .f32) := by
  unfold_abbrev_sides
  after_results
  rfl

theorem bs_val (X : FVec Ideal S1x8x128 .f32) (g : Fin 8) (s : Fin 128) : (transpose S128x8 [1, 0] (shapeCast S8x128 X shapeCasts_S1x8x128_S8x128) transposes_S8x128_S128x8_1_0 : FVec Ideal S128x8 .f32) (ix2 s g) = X (ix3 0 g s) := by
  pointwise

theorem bs_blk (c : Dev nD) (t : Fin cfg0.N) (g : Fin 8) (s : Fin 128) : iblk m c 6 t (ix2 s g) = m ((c : Thread nD τ).loc main_arg6) (ix3 0 g s) := by
  have e : iblk m c 6 t (ix2 s g) = V m c main_v10 (ix2 s g) := by
    unfold iblk
    generalize hW : V m c (arrRef spec0 6) = W
    show _ = W (ix2 s g)
    blk_ext [idx t]
  rw [e, bs_host]
  exact bs_val _ g s

theorem wout_host (c : Dev nD) : V m c main_v12 = (truncf .bf16 (shapeCast S2048x1024 (m ((c : Thread nD τ).loc main_arg7)) shapeCasts_S1x2048x1024_S2048x1024) bitsLt_bf16_f32 : FVec Ideal S2048x1024 .bf16) := by
  unfold_abbrev_sides
  after_results
  rfl

theorem wout_val (X : FVec Ideal S1x2048x1024 .f32) (k : Fin 2048) (q : Fin 1024) : (truncf .bf16 (shapeCast S2048x1024 X shapeCasts_S1x2048x1024_S2048x1024) bitsLt_bf16_f32 : FVec Ideal S2048x1024 .bf16) (ix2 k q) = X (ix3 0 k q) := by
  pointwise

theorem wout_blk (c : Dev nD) (t : Fin cfg0.N) (k : Fin 2048) (q : Fin 1024) : iblk m c 7 t (ix2 k q) = m ((c : Thread nD τ).loc main_arg7) (ix3 0 k q) := by
  have e : iblk m c 7 t (ix2 k q) = V m c main_v12 (ix2 k q) := by
    unfold iblk
    generalize hW : V m c (arrRef spec0 7) = W
    show _ = W (ix2 k q)
    blk_ext [idx t]
  rw [e, wout_host]
  exact wout_val _ k q

theorem x_host (c : Dev nD) : V m c main_v0 = (shapeCast S16384x1024 (m ((c : Thread nD τ).loc main_arg0)) shapeCasts_S4x4096x1024_S16384x1024 : FVec Ideal S16384x1024 .f32) := by
  unfold_abbrev_sides
  after_results
  rfl

theorem x_val (X : FVec Ideal S4x4096x1024 .f32) (R : Fin 16384) (k : Fin 1024) :
    (shapeCast S16384x1024 X shapeCasts_S4x4096x1024_S16384x1024 : FVec Ideal S16384x1024 .f32) (ix2 R k)
      = X (ix3 ⟨R.val / 4096, by omega⟩ ⟨R.val % 4096, by omega⟩ k) := by
  pointwise

theorem x_blk (c : Dev nD) (t : Fin cfg0.N) (a : Fin 512) (k : Fin 1024) : iblk m c 0 t (ix2 a k)
    = m ((c : Thread nD τ).loc main_arg0) (ix3 ⟨(row t a).val / 4096, by omega⟩ ⟨(row t a).val % 4096, by omega⟩ k) := by
  have e : iblk m c 0 t (ix2 a k) = V m c main_v0 (ix2 (row t a) k) := by
    unfold iblk
    generalize hW : V m c (arrRef spec0 0) = W
    show _ = W (ix2 (row t a) k)
    blk_ext [row, idx t]
  rw [e, x_host]
  exact x_val _ (row t a) k

/-- The layer's weights, of the launch's arguments. -/
def weights (c : Dev nD) : Par :=
  par (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The carried scratch holds the first projection's weight from the first point on. -/
theorem carried_at (c : Dev nD) : ∀ (n : ℕ) (h : n < cfg0.N) (j : Fin 1024) (q : Fin 4096),
    carried m c n h (ix2 j q) = (weights m c).win j q
  | 0, h, j, q => by
    refine (congrFun (first_win m c ⟨0, h⟩ rfl) _).trans ((win_at _ j q).trans (win_blk m c ⟨0, h⟩ j q))
  | n + 1, h, j, q => by
    have hn : ¬ (n + 1) % 32 = 0 := by have e : cfg0.N = 32 := rfl; omega
    exact (congrFun (later_win m c ⟨n + 1, h⟩ hn) _).trans (carried_at c n (by omega) j q)

/-- The array the launch leaves: the layer on every block of 128 rows. -/
def X1 (c : Dev nD) : S16384x1024.Idx → EReal := fun y =>
  layer (weights m c) (blockOf (m ((c : Thread nD τ).loc main_arg0)) (y 0)) ⟨(y 0).val % 128, by omega⟩ (y 1)

theorem fits (c : Dev nD) (t : Fin cfg0.N) {win : Vec Ideal S1024x4096 .bf16} (hw : ∀ j q, win (ix2 j q) = (weights m c).win j q) :
    Fits (weights m c) (iblk m c 1 t) win (iblk m c 3 t) (iblk m c 4 t) (iblk m c 5 t) (iblk m c 6 t) (iblk m c 7 t) where
  an k := an_blk m c t k
  win := hw
  bin q := bin_blk m c t q
  vn k := vn_blk m c t k
  ws g s s' := ws_blk m c t g s s'
  bs g s := bs_blk m c t g s
  wout k q := wout_blk m c t k q

theorem point_layer (c : Dev nD) (t : Fin cfg0.N) {win : Vec Ideal S1024x4096 .bf16} (hw : ∀ j q, win (ix2 j q) = (weights m c).win j q)
    (a : Fin 512) (q : Fin 1024) :
    ptOut (iblk m c 0 t) (ptV (iblk m c 0 t) (iblk m c 1 t) win (iblk m c 3 t) (iblk m c 4 t)) (ptU (iblk m c 0 t) (iblk m c 1 t) win (iblk m c 3 t))
      (iblk m c 5 t) (iblk m c 6 t) (iblk m c 7 t) (ix2 a q) = X1 m c (ix2 (row t a) q) := by
  refine (pt_layer (fits m c t hw) (iblk m c 0 t) a q).trans ?_
  unfold X1
  refine congrArg₂ (fun X s => layer (weights m c) X s q) (funext fun s => funext fun k => ?_) (Fin.ext ?_)
  · refine (x_blk m c t _ k).trans ?_
    unfold blockOf
    congr 2
    · refine Fin.ext ?_
      show (512 * t.val + (128 * (a.val / 128) + s.val)) / 4096 = (512 * t.val + a.val) / 4096
      omega
    · refine Fin.ext ?_
      show (512 * t.val + (128 * (a.val / 128) + s.val)) % 4096 = (512 * t.val + a.val) % 4096 / 128 * 128 + s.val
      omega
  · show a.val % 128 = (512 * t.val + a.val) % 128
    omega

theorem final (c : Dev nD) : (dats m 0 c).arrAt 10 cfg0.N = X1 m c := by
  refine (dats m 0 c).arrAt_eq_of_covers 10 _ (by decide +kernel) fun t hf y => ?_
  blk_simp
  rw [after0_10]
  have e : (win0_10.blk t).view.emb y = ix2 (row t (y 0)) (y 1) := by blk_ext [row, idx t]
  rw [e]
  obtain ⟨a, q, rfl⟩ : ∃ (a : Fin 512) (q : Fin 1024), y = ix2 a q := ⟨y 0, y 1, eq_ix2 y⟩
  by_cases h : t.val % 32 = 0
  · exact (congrFun (first m c t h) _).trans (point_layer m c t (fun j q => (win_at _ j q).trans (win_blk m c t j q)) a q)
  · exact (congrFun (later m c t h) _).trans (point_layer m c t (fun j q => carried_at m c _ _ j q) a q)

/-- The reference's array is the same one. -/
theorem reference_eq (c : Dev nD) {x : FVec Ideal S4x4096x1024 .f32} {an : FVec Ideal S1x1024 .f32} {w : FVec Ideal S1x1024x4096 .f32} {b : FVec Ideal S1x4096 .f32}
    {vn : FVec Ideal S1x2048 .f32} {ws : FVec Ideal S1x8x128x128 .f32} {bs : FVec Ideal S1x8x128 .f32} {wout : FVec Ideal S1x2048x1024 .f32}
    (h0 : x = m ((c : Thread nD τ).loc main_arg0)) (h1 : an = m ((c : Thread nD τ).loc main_arg1)) (h2 : w = m ((c : Thread nD τ).loc main_arg2))
    (h3 : b = m ((c : Thread nD τ).loc main_arg3)) (h4 : vn = m ((c : Thread nD τ).loc main_arg4)) (h5 : ws = m ((c : Thread nD τ).loc main_arg5))
    (h6 : bs = m ((c : Thread nD τ).loc main_arg6)) (h7 : wout = m ((c : Thread nD τ).loc main_arg7)) :
    rAll x an w b vn ws bs wout = X1 m c := by
  subst h0 h1 h2 h3 h4 h5 h6 h7
  funext y
  obtain ⟨R, q, rfl⟩ : ∃ (R : Fin 16384) (q : Fin 1024), y = ix2 R q := ⟨y 0, y 1, eq_ix2 y⟩
  exact rAll_at _ _ _ _ _ _ _ _ R q

end

end Cert.Proof.Sgu

end
-- ==== Proof.AttnIdealLoops.lean ====
module

public import proofs.«01_k».proof.Proof.Gen.Kernel3Ideal.Frame
public import proofs.«01_k».proof.Proof.Gen.Kernel3Ideal.Skeleton
public import Idealize.ShloMosaic.Lib.Exec
public import Idealize.ShloMosaic.Lib.Tactic

@[expose] public section

set_option maxRecDepth 16384
set_option warn.classDefReducibility false

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Loop 1 of the body keeps what it reads and leaves the buffers it writes at some contents. -/
@[sl_loop] def anyInv_t1 (𝒱 : Variants) (c : Dev nD) (bd : Option 𝒱.V) (E : Set ℕ) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole)  (X3 : BufTy.Contents (Elt F) arg3.view.ty) (X4 : BufTy.Contents (Elt F) arg4.view.ty) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) () (k0_t1_body (F := F) i arg3 harg3 arg4 harg4 arg5 harg5 arg6 harg6 arg7 harg7 arg8 harg8 arg9 harg9 arg10 harg10) where
  inv _ _ := iprop((arg3.view.loc (c : Thread nD τ) ↦[arg3.view.set]{fullShare} X3) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)))
  step k acc := by
    unfold k0_t1_body
    iintro ⟨H3, H4, ⟨%f7, H7⟩, ⟨%f8, H8⟩⟩
    sl_exec
    sl_step
    isplitl [H3]; · iexact H3
    isplitl [H4]; · iexact H4
    isplitl [H7]; · iexists _; iexact H7
    iexists _; iexact H8

/-- Loop 2 of the body keeps what it reads and leaves the buffers it writes at some contents. -/
@[sl_loop] def anyInv_t2 (𝒱 : Variants) (c : Dev nD) (bd : Option 𝒱.V) (E : Set ℕ) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole) (v8 : BitVec 32) (X3 : BufTy.Contents (Elt F) arg3.view.ty) (X4 : BufTy.Contents (Elt F) arg4.view.ty) :
    Idealize.ShloMosaic.LoopInv (M := 𝕄) Idealize.ShloMosaic.frame (wpE (defs₀ (F := F)) 𝒱 (c : Thread nD τ) bd) E
      (k0_t2_loop i).lb (k0_t2_loop i).ub (k0_t2_loop i).st (k0_t2_ok i) () (k0_t2_body (F := F) i arg3 harg3 arg4 harg4 arg5 harg5 arg6 harg6 arg7 harg7 arg8 harg8 arg9 harg9 arg10 harg10 v8) where
  inv _ _ := iprop((arg3.view.loc (c : Thread nD τ) ↦[arg3.view.set]{fullShare} X3) ∗ (arg4.view.loc (c : Thread nD τ) ↦[arg4.view.set]{fullShare} X4) ∗ (∃ f, (arg7.view.loc (c : Thread nD τ) ↦[arg7.view.set]{fullShare} f)) ∗ (∃ f, (arg8.view.loc (c : Thread nD τ) ↦[arg8.view.set]{fullShare} f)))
  step k acc := by
    unfold k0_t2_body
    iintro ⟨H3, H4, ⟨%f7, H7⟩, ⟨%f8, H8⟩⟩
    sl_exec
    sl_step
    isplitl [H3]; · iexact H3
    isplitl [H4]; · iexact H4
    isplitl [H7]; · iexists _; iexact H7
    iexists _; iexact H8

/-- Loop 3 of the body keeps what it reads and leaves the buffers it writes at some contents. -/
@[sl_loop] def anyInv_t3 (𝒱 : Variants) (c : Dev nD) (bd : Option 𝒱.V) (E : Set ℕ) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole) (arg2 : BitVec 32) (v194 : FVec F S1024x128 .f32) (X5 : BufTy.Contents (Elt F) arg5.view.ty) :
    Idealize.ShloMosaic.LoopInv (M := 𝕄) Idealize.ShloMosaic.frame (wpE (defs₀ (F := F)) 𝒱 (c : Thread nD τ) bd) E
      (k0_t3_loop i).lb (k0_t3_loop i).ub (k0_t3_loop i).st (k0_t3_ok i) () (k0_t3_body (F := F) i arg3 harg3 arg4 harg4 arg5 harg5 arg6 harg6 arg7 harg7 arg8 harg8 arg9 harg9 arg10 harg10 arg2 v194) where
  inv _ _ := iprop((arg5.view.loc (c : Thread nD τ) ↦[arg5.view.set]{fullShare} X5) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)))
  step k acc := by
    unfold k0_t3_body
    iintro ⟨H5, ⟨%f7, H7⟩, ⟨%f8, H8⟩, ⟨%f9, H9⟩, ⟨%f10, H10⟩⟩
    sl_exec
    sl_step
    isplitl [H5]; · iexact H5
    isplitl [H7]; · iexists _; iexact H7
    isplitl [H8]; · iexists _; iexact H8
    isplitl [H9]; · iexists _; iexact H9
    iexists _; iexact H10

/-- Loop 4 of the body keeps what it reads and leaves the buffers it writes at some contents. -/
@[sl_loop] def anyInv_t4 (𝒱 : Variants) (c : Dev nD) (bd : Option 𝒱.V) (E : Set ℕ) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole) (arg2 : BitVec 32) (v194 : FVec F S1024x128 .f32) (v219 : BitVec 32) (X5 : BufTy.Contents (Elt F) arg5.view.ty) :
    Idealize.ShloMosaic.LoopInv (M := 𝕄) Idealize.ShloMosaic.frame (wpE (defs₀ (F := F)) 𝒱 (c : Thread nD τ) bd) E
      (k0_t4_loop i).lb (k0_t4_loop i).ub (k0_t4_loop i).st (k0_t4_ok i) () (k0_t4_body (F := F) i arg3 harg3 arg4 harg4 arg5 harg5 arg6 harg6 arg7 harg7 arg8 harg8 arg9 harg9 arg10 harg10 arg2 v194 v219) where
  inv _ _ := iprop((arg5.view.loc (c : Thread nD τ) ↦[arg5.view.set]{fullShare} X5) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)))
  step k acc := by
    unfold k0_t4_body
    iintro ⟨H5, ⟨%f7, H7⟩, ⟨%f8, H8⟩, ⟨%f9, H9⟩, ⟨%f10, H10⟩⟩
    sl_exec
    sl_step
    isplitl [H5]; · iexact H5
    isplitl [H7]; · iexists _; iexact H7
    isplitl [H8]; · iexists _; iexact H8
    isplitl [H9]; · iexists _; iexact H9
    iexists _; iexact H10

end Cert.Kernel3Ideal.Attn
-- ==== Proof.AttnIdealBody.lean ====
module

public import proofs.«01_k».proof.Proof.Gen.Kernel3Ideal.Frame
public import proofs.«01_k».proof.Proof.Gen.Kernel3Ideal.Skeleton
public import proofs.«01_k».proof.Proof.AttnIdealLoops
public import Idealize.ShloMosaic.Lib.Exec
public import Idealize.ShloMosaic.Lib.Tactic

@[expose] public section

set_option maxRecDepth 16384
set_option warn.classDefReducibility false

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body on whole staging buffers: the inputs end as they were, everything else at some contents. -/
theorem body_any (c : Dev nD) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole)
    (x3 : Vec F S1024x256 .bf16) (x4 : Vec F S16x256x256 .bf16) (x5 : Vec F S4096x128 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)) -∗ K ⟨⟩))
      ⊢ wp frame (wpE (defs₀ (F := F)) Variants.none c none) E (cc0_attn i arg3 harg3 arg4 harg4 arg5 harg5 arg6 harg6 arg7 harg7 arg8 harg8 arg9 harg9 arg10 harg10) K := by
  simp only [cc0_attn_eq_skeleton]; unfold cc0_attn_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; iexists _; isplitr; swap; · iexact H6
                  ipureintro; rfl
  isplitl [H7]; · iexists _; iexists _; isplitr; swap; · iexact H7
                  ipureintro; rfl
  isplitl [H8]; · iexists _; iexists _; isplitr; swap; · iexact H8
                  ipureintro; rfl
  isplitl [H9]; · iexists _; iexists _; isplitr; swap; · iexact H9
                  ipureintro; rfl
  iexists _; iexists _; isplitr; swap; · iexact H10
  ipureintro; rfl

end Cert.Kernel3Ideal.Attn
-- ==== Proof.AttnIdealFrame.lean ====
/-
  The attention's launch: whatever the body leaves in the output tile, the run ends, the arguments are unchanged and every semaphore is at zero.
-/
module

public import proofs.«01_k».proof.Proof.Gen.Kernel3Ideal.Frame
public import proofs.«01_k».proof.Proof.AttnIdealBody
public import Idealize.ShloMosaic.Lib.Tactic

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch buffers, whole. -/
abbrev sc0 : Memref sig .tc .vmem S2x16x1024x256 .f32 := Memref.whole cc0_scratch0
abbrev sc1 : Memref sig .tc .vmem S2x1024x128 .f32 := Memref.whole cc0_scratch1
abbrev sc2 : Memref sig .tc .vmem S2x1024x128 .f32 := Memref.whole cc0_scratch2
abbrev sc3 : Memref sig .tc .vmem S2x1024x128 .f32 := Memref.whole cc0_scratch3

/-- The invariant between points: each scratch buffer at some contents, the generator register at some state. -/
theorem phi_eq (c : Dev nD) :
    (Pipeline.ΦA spec0 c : sProp 𝕄)
      = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The launch's data: the arrays as found, each input's block kept; what is said of the output tile is given up. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output window is the one that is given up. -/
def given (w : Fin cfg0.W) : Bool := match w with
  | ⟨3, _⟩ => true
  | _ => false

theorem row_eq (t : Fin cfg0.N) : defs₀ (F := F) .tc cfg0.body (cfg0.bodyArgs t (cfg0.slots t)) = bodyAt0 t := by
  unfold defs₀; rw [Defs.onTc_tc]

set_option maxHeartbeats 1600000 in
/-- One point: the inputs' blocks are kept, the rest is at some contents. -/
theorem point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ (∃ X, owns (c : Thread nD τ) (st0_3 t) fullShare X))) := by
  unfold bodyAt0
  simp only [before_0, before_1, before_2]
  rw [show (dats m 0 c).owesAt () t.succ = (dats m 0 c).owesAt () t.castSucc from rfl, after_0, after_1, after_2,
    show (dats m 0 c).Φ t.succ = Pipeline.ΦA spec0 c from rfl, show (dats m 0 c).Φ t.castSucc = Pipeline.ΦA spec0 c from rfl, phi_eq]
  iintro ⟨⟨⟨H7, H8, H9, H10⟩, Hg⟩, Ho, ⟨%d0, H0⟩, ⟨%d1, H1⟩, ⟨%d2, H2⟩, H3⟩
  iapply (body_any c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  iintro ⟨H0, H1, H2, H3, H7, H8, H9, H10⟩
  isplitl [H7 H8 H9 H10 Hg]
  · isplitl [H7 H8 H9 H10]
    · isplitl [H7]; · iexact H7
      isplitl [H8]; · iexact H8
      isplitl [H9]; · iexact H9
      iexact H10
    · iexact Hg
  isplitl [Ho]; · iexact Ho
  isplitl [H0]; · iexact H0
  isplitl [H1]; · iexact H1
  isplitl [H2]; · iexact H2
  iexact H3

theorem body_ok (c : Dev nD) : BodyObligation (dats m 0 c) (defs₀ (F := F)) Variants.none () Set.univ given := fun t => by
  rw [bigSep_W0, bigSep_W0, row_eq]
  exact triple_restated (point m c t) rfl .rfl fun _ => .rfl

/-- The launch ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget (Q' := _) cfgs (dats m) (0 : Fin 1) launch0 defs₀ Variants.none given m ρ main
    (hbody := fun c => (body_ok m c).loose) (hshare := fun c => (dats m 0 c).share_full fun _ => rfl)
    (howed := fun _ _ => rfl) (V := V m) (hmain := hmain m Variants.none) (hA := A_eq m) (hΦ := fun _ _ => rfl)
    (hQ' := fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c))⟩, h.2⟩)

end Cert.Kernel3Ideal.Attn

end
-- ==== Proof.AttnSpec.lean ====
/-
  The attention of one block of 1024 queries and a pair of heads, in the order in which it is computed: scores per key
  tile, running lane maxima, the row maximum, powers, their running lane sums and the running weighted sums of values.
-/
module

public import proofs.«01_k».proof.Proof.Gen.Kernel3Ideal.Frame
public import proofs.«01_k».proof.Proof.Gen.Kernel3Ideal.Skeleton
public import Idealize.ShloMosaic.Lib.WritesUnit
public import Idealize.ShloMosaic.Lib.Pointwise
public import Idealize.ShloMosaic.Lib.Exec
public import Idealize.ShloMosaic.Lib.Tactic

@[expose] public section

set_option maxRecDepth 16384

noncomputable section

namespace Cert.Kernel3Ideal.Attn

open Cert.Kernel3Ideal.Gen
open Idealize.ShloMosaic Idealize.ShloMosaic.TcCoe

/-- The lanes of a tile's two halves. -/
def lo (l : Fin 128) : Fin 256 := ⟨l.val, by omega⟩
def hi (l : Fin 128) : Fin 256 := ⟨128 + l.val, by omega⟩
/-- Component `d` of head `h` of the pair. -/
def col (h : Fin 2) (d : Fin 128) : Fin 256 := ⟨128 * h.val + d.val, by omega⟩
/-- Key tile `j` and its key `c` among all keys. -/
def tile (j : ℕ) : Fin 16 := ⟨j % 16, Nat.mod_lt _ (by decide)⟩
def key (j : ℕ) (c : Fin 256) : Fin 4096 := ⟨(256 * j + c.val) % 4096, Nat.mod_lt _ (by decide)⟩

section

variable (x3 : Vec Ideal S1024x256 .bf16) (x4 : Vec Ideal S16x256x256 .bf16) (x5 : Vec Ideal S4096x128 .bf16) (q : ℕ)

/-- Score of query `r` and key `c` of tile `j`. -/
def score (h : Fin 2) (j : ℕ) (r : Fin 1024) (c : Fin 256) : EReal :=
  ∑ d : Fin 128, x3 (ix2 r (col h d)) * x4 (ix3 (tile j) (col h d) c)
/-- The same under the causal mask, for query block `q`. -/
def mscore (h : Fin 2) (j : ℕ) (r : Fin 1024) (c : Fin 256) : EReal :=
  if 256 * j + c.val ≤ 1024 * q + r.val then score x3 x4 h j r c else ⊥
/-- Lane maxima over the first tiles. -/
def lmax (h : Fin 2) : ℕ → Fin 1024 → Fin 128 → EReal
  | 0, _, _ => ⊥
  | j + 1, r, l => max (max (lmax h j r l) (mscore x3 x4 q h j r (lo l))) (mscore x3 x4 q h j r (hi l))
/-- The row's maximum. -/
def rmax (h : Fin 2) (r : Fin 1024) : EReal := Finset.univ.sup fun l : Fin 128 => lmax x3 x4 q h (4 * q + 4) r l
/-- A key's power of two. -/
def pw (h : Fin 2) (j : ℕ) (r : Fin 1024) (c : Fin 256) : EReal := Ideal.exp2 (mscore x3 x4 q h j r c - rmax x3 x4 q h r)
/-- Lane sums of the powers over the first tiles. -/
def lsum (h : Fin 2) : ℕ → Fin 1024 → Fin 128 → EReal
  | 0, _, _ => 0
  | j + 1, r, l => lsum h j r l + (pw x3 x4 q h j r (lo l) + pw x3 x4 q h j r (hi l))
/-- Weighted sums of the values over the first tiles. -/
def wsum (h : Fin 2) : ℕ → Fin 1024 → Fin 128 → EReal
  | 0, _, _ => 0
  | j + 1, r, n => wsum h j r n + ∑ c : Fin 256, pw x3 x4 q h j r c * x5 (ix2 (key j c) n)
/-- The block's result. -/
def outv (r : Fin 1024) (n : Fin 128) : EReal :=
  if n.val < 64 then Ideal.div (wsum x3 x4 x5 q 0 (4 * q + 4) r n) (∑ l : Fin 128, lsum x3 x4 q 0 (4 * q + 4) r l)
  else Ideal.div (wsum x3 x4 x5 q 1 (4 * q + 4) r n) (∑ l : Fin 128, lsum x3 x4 q 1 (4 * q + 4) r l)

end

/-! ## Reading a buffer after stores to row ranges of one head -/

section

variable {κ : Kind} {sp : Space} {e : EltTy}

/-- Half `h` of the buffer reads `S`. -/
def Half (R : S2x1024x128.Idx → Elt Ideal e) (h : Fin 2) (S : Fin 1024 → Fin 128 → Elt Ideal e) : Prop :=
  ∀ r l, R (ix3 h r l) = S r l

theorem half_same (v : View sig κ sp S2x1024x128 e) (f : v.ty.Contents (Elt Ideal)) (L : List (View.Piece (Elt Ideal) S2x1024x128 e))
    (h : Fin 2) (o n : ℕ) (hn : o + n = 1024) (inb) (w) (S S' : Fin 1024 → Fin 128 → Elt Ideal e)
    (hw : ∀ (r : Fin 1024) (hr : o ≤ r.val) l, w (ix3 (0 : Fin 1) (⟨r.val - o, by omega⟩ : Fin n) l) = S' r l)
    (hL : ∀ r : Fin 1024, r.val < o → ∀ l, v.read _ (v.writes _ f L) (ix3 h r l) = S' r l) :
    Half (v.read _ (v.writes (Elt Ideal) f ((⟨Rect.unit (s := S2x1024x128) ![h.val, o, 0] ![1, n, 128] inb, w⟩ : View.Piece _ _ e) :: L))) h S' := by
  intro r l
  by_cases hr : o ≤ r.val
  · refine (View.read_writes_cons_unit_of_mem v f inb w L _ (ix3 (0 : Fin 1) (⟨r.val - o, by omega⟩ : Fin n) l) rfl fun a => ?_).trans (hw r hr l)
    match a with
    | ⟨0, _⟩ => rfl
    | ⟨1, _⟩ => show r.val = o + (r.val - o); omega
    | ⟨2, _⟩ => show l.val = 0 + l.val; omega
  · exact (View.read_writes_cons_unit_of_not_mem v f inb w L _ rfl 1 (.inl (by show r.val < o; omega))).trans (hL r (by omega) l)

theorem half_other (v : View sig κ sp S2x1024x128 e) (f : v.ty.Contents (Elt Ideal)) (L : List (View.Piece (Elt Ideal) S2x1024x128 e))
    (h h' o n : ℕ) (k : Fin 2) (hk : k.val ≠ h) (inb) (w) (S : Fin 1024 → Fin 128 → Elt Ideal e)
    (hL : Half (v.read _ (v.writes _ f L)) k S) :
    Half (v.read _ (v.writes (Elt Ideal) f ((⟨Rect.unit (s := S2x1024x128) ![h, o, 0] ![1, n, 128] inb, w⟩ : View.Piece _ _ e) :: L))) k S := by
  intro r l
  refine (View.read_writes_cons_unit_of_not_mem v f inb w L _ rfl 0 ?_).trans (hL r l)
  show k.val < h ∨ h + 1 ≤ k.val
  omega

/-- The whole buffer filled. -/
theorem half_fill (v : View sig κ sp S2x1024x128 e) (f : v.ty.Contents (Elt Ideal)) (L : List (View.Piece (Elt Ideal) S2x1024x128 e))
    (h : Fin 2) (inb) (w) (S : Fin 1024 → Fin 128 → Elt Ideal e) (hw : ∀ r l, w (ix3 h r l) = S r l) :
    Half (v.read _ (v.writes (Elt Ideal) f ((⟨Rect.unit (s := S2x1024x128) ![0, 0, 0] ![2, 1024, 128] inb, w⟩ : View.Piece _ _ e) :: L))) h S := by
  intro r l
  refine (View.read_writes_cons_unit_of_mem v f inb w L _ (ix3 h r l) rfl fun a => ?_).trans (hw r l)
  match a with
  | ⟨0, _⟩ => show h.val = 0 + h.val; omega
  | ⟨1, _⟩ => show r.val = 0 + r.val; omega
  | ⟨2, _⟩ => show l.val = 0 + l.val; omega

theorem half_read (v : View sig κ sp S2x1024x128 e) (f : v.ty.Contents (Elt Ideal)) (h : Fin 2) (o n : ℕ) (hn : o + n = 1024) (inb)
    (S : Fin 1024 → Fin 128 → Elt Ideal e) (hf : Half (v.read _ f) h S) (r : Fin n) (l : Fin 128) :
    v.readAt (Elt Ideal) (Rect.unit (s := S2x1024x128) ![h.val, o, 0] ![1, n, 128] inb).toLoadRect f (ix3 (0 : Fin 1) r l)
      = S ⟨o + r.val, by omega⟩ l := by
  refine Eq.trans ?_ (hf _ l)
  show v.read (Elt Ideal) f _ = _
  congr 1
  funext a
  match a with
  | ⟨0, _⟩ => exact Fin.ext (by show h.val + 1 * 0 = h.val; omega)
  | ⟨1, _⟩ => exact Fin.ext (by show o + 1 * r.val = o + r.val; omega)
  | ⟨2, _⟩ => exact Fin.ext (by show 0 + 1 * l.val = l.val; omega)

/-! ## Reading the stored scores -/

/-- The first `n` tiles of head `h`, on the rows from which a key of the tile can be seen. -/
def Tiles (q : ℕ) (R : S2x16x1024x256.Idx → Elt Ideal e) (h : Fin 2) (n : ℕ) (S : ℕ → Fin 1024 → Fin 256 → Elt Ideal e) : Prop :=
  ∀ j (hj : j < 16), j < n → ∀ r : Fin 1024, 256 * j ≤ 1024 * q + r.val → ∀ c, R (ix4 h ⟨j, hj⟩ r c) = S j r c

theorem tiles_same (q : ℕ) (v : View sig κ sp S2x16x1024x256 e) (f : v.ty.Contents (Elt Ideal)) (L : List (View.Piece (Elt Ideal) S2x16x1024x256 e))
    (h : Fin 2) (j o n : ℕ) (hn : o + n = 1024) (ho : ∀ r : Fin 1024, 256 * j ≤ 1024 * q + r.val → o ≤ r.val) {off : Fin 4 → ℕ}
    (he : off = ![h.val, j, o, 0]) (inb) (w) (S : ℕ → Fin 1024 → Fin 256 → Elt Ideal e)
    (hw : ∀ (r : Fin 1024) (hr : o ≤ r.val) c, w (ix4 (0 : Fin 1) (0 : Fin 1) (⟨r.val - o, by omega⟩ : Fin n) c) = S j r c)
    (hL : Tiles q (v.read _ (v.writes _ f L)) h j S) :
    Tiles q (v.read _ (v.writes (Elt Ideal) f ((⟨Rect.unit (s := S2x16x1024x256) off ![1, 1, n, 256] inb, w⟩ : View.Piece _ _ e) :: L))) h (j + 1) S := by
  intro k hk hkn r hr c
  by_cases hj : k = j
  · subst hj
    refine (View.read_writes_cons_unit_of_mem v f inb w L _ (ix4 (0 : Fin 1) (0 : Fin 1) (⟨r.val - o, by have := ho r hr; omega⟩ : Fin n) c) he fun a => ?_).trans (hw r (ho r hr) c)
    match a with
    | ⟨0, _⟩ => rfl
    | ⟨1, _⟩ => rfl
    | ⟨2, _⟩ => show r.val = o + (r.val - o); have := ho r hr; omega
    | ⟨3, _⟩ => show c.val = 0 + c.val; omega
  · exact (View.read_writes_cons_unit_of_not_mem v f inb w L _ he 1 (by show k < j ∨ j + 1 ≤ k; omega)).trans (hL k hk (by omega) r hr c)

theorem tiles_other (q : ℕ) (v : View sig κ sp S2x16x1024x256 e) (f : v.ty.Contents (Elt Ideal)) (L : List (View.Piece (Elt Ideal) S2x16x1024x256 e))
    (h : ℕ) (k : Fin 2) (hk : k.val ≠ h) (j o n N : ℕ) {off : Fin 4 → ℕ}
    (he : off = ![h, j, o, 0]) (inb) (w) (S : ℕ → Fin 1024 → Fin 256 → Elt Ideal e)
    (hL : Tiles q (v.read _ (v.writes _ f L)) k N S) :
    Tiles q (v.read _ (v.writes (Elt Ideal) f ((⟨Rect.unit (s := S2x16x1024x256) off ![1, 1, n, 256] inb, w⟩ : View.Piece _ _ e) :: L))) k N S := by
  intro i hi hin r hr c
  refine (View.read_writes_cons_unit_of_not_mem v f inb w L _ he 0 ?_).trans (hL i hi hin r hr c)
  show k.val < h ∨ h + 1 ≤ k.val
  omega

theorem tiles_read (q : ℕ) (v : View sig κ sp S2x16x1024x256 e) (f : v.ty.Contents (Elt Ideal)) (h : Fin 2) (j o n N : ℕ) (hn : o + n = 1024)
    (hj : j < 16) (hN : j < N) (ho : 256 * j ≤ 1024 * q + o) {off : Fin 4 → ℕ} (he : off = ![h.val, j, o, 0]) (inb)
    (S : ℕ → Fin 1024 → Fin 256 → Elt Ideal e) (hf : Tiles q (v.read _ f) h N S) (r : Fin n) (c : Fin 256) :
    v.readAt (Elt Ideal) (Rect.unit (s := S2x16x1024x256) off ![1, 1, n, 256] inb).toLoadRect f (ix4 (0 : Fin 1) (0 : Fin 1) r c)
      = S j ⟨o + r.val, by omega⟩ c := by
  subst he
  refine Eq.trans ?_ (hf j hj hN ⟨o + r.val, by omega⟩ (by show 256 * j ≤ 1024 * q + (o + r.val); omega) c)
  show v.read (Elt Ideal) f _ = _
  congr 1
  funext a
  match a with
  | ⟨0, _⟩ => exact Fin.ext (by show h.val + 1 * 0 = h.val; omega)
  | ⟨1, _⟩ => exact Fin.ext (by show j + 1 * 0 = j; omega)
  | ⟨2, _⟩ => exact Fin.ext (by show o + 1 * r.val = o + r.val; omega)
  | ⟨3, _⟩ => exact Fin.ext (by show 0 + 1 * c.val = c.val; omega)

end

/-! ## Reading the inputs -/

theorem q_read {κ : Kind} {sp : Space} (v : View sig κ sp S1024x256 .bf16) (f : v.ty.Contents (Elt Ideal)) (h : Fin 2) (o n : ℕ) (hn : o + n = 1024) {off : Fin 2 → ℕ}
    (he : off = ![o, 128 * h.val]) (inb) (r : Fin n) (d : Fin 128) :
    v.readAt (Elt Ideal) (Rect.unit (s := S1024x256) off ![n, 128] inb).toLoadRect f (ix2 r d) = v.read _ f (ix2 ⟨o + r.val, by omega⟩ (col h d)) := by
  subst he
  show v.read (Elt Ideal) f _ = _
  congr 1
  funext a
  match a with
  | ⟨0, _⟩ => exact Fin.ext (by show o + 1 * r.val = o + r.val; omega)
  | ⟨1, _⟩ => exact Fin.ext (by show 128 * h.val + 1 * d.val = 128 * h.val + d.val; omega)

theorem k_read {κ : Kind} {sp : Space} (v : View sig κ sp S16x256x256 .bf16) (f : v.ty.Contents (Elt Ideal)) (h : Fin 2) (j : ℕ) (hj : j < 16) {off : Fin 3 → ℕ}
    (he : off = ![j, 128 * h.val, 0]) (inb) (d : Fin 128) (c : Fin 256) :
    v.readAt (Elt Ideal) (Rect.unit (s := S16x256x256) off ![1, 128, 256] inb).toLoadRect f (ix3 (0 : Fin 1) d c) = v.read _ f (ix3 (tile j) (col h d) c) := by
  subst he
  show v.read (Elt Ideal) f _ = _
  congr 1
  funext a
  match a with
  | ⟨0, _⟩ => exact Fin.ext (by show j + 1 * 0 = j % 16; omega)
  | ⟨1, _⟩ => exact Fin.ext (by show 128 * h.val + 1 * d.val = 128 * h.val + d.val; omega)
  | ⟨2, _⟩ => exact Fin.ext (by show 0 + 1 * c.val = c.val; omega)

theorem v_read {κ : Kind} {sp : Space} (v : View sig κ sp S4096x128 .bf16) (f : v.ty.Contents (Elt Ideal)) (o n : ℕ) (hn : o + n ≤ 4096) {off : Fin 2 → ℕ}
    (he : off = ![o, 0]) (inb) (r : Fin n) (d : Fin 128) :
    v.readAt (Elt Ideal) (Rect.unit (s := S4096x128) off ![n, 128] inb).toLoadRect f (ix2 r d) = v.read _ f (ix2 ⟨o + r.val, by omega⟩ d) := by
  subst he
  show v.read (Elt Ideal) f _ = _
  congr 1
  funext a
  match a with
  | ⟨0, _⟩ => exact Fin.ext (by show o + 1 * r.val = o + r.val; omega)
  | ⟨1, _⟩ => exact Fin.ext (by show 0 + 1 * d.val = d.val; omega)

end Cert.Kernel3Ideal.Attn

end
-- ==== Proof.AttnPay.lean ====
/-
  What the kernel's vector computations hold, element by element.
-/
module

public import proofs.«01_k».proof.Proof.AttnSpec
public import Idealize.ShloMosaic.Lib.Pointwise.Reduce

@[expose] public section

set_option maxRecDepth 16384

noncomputable section

namespace Cert.Kernel3Ideal.Attn

open Cert.Kernel3Ideal.Gen
open Idealize.ShloMosaic Idealize.ShloMosaic.TcCoe

/-- The lanes of a row of 256 are its two halves. -/
theorem sum_halves (f : Fin 256 → EReal) : ∑ c, f c = ∑ l : Fin 128, f (lo l) + ∑ l : Fin 128, f (hi l) :=
  (Fin.sum_univ_add (a := 128) (b := 128) f).trans rfl

theorem word_neg_inf : Ideal.ofBits .f32 0xFF800000#32 = ⊥ := by simp [Ideal.ofBits, Ideal.ieee]

theorem sel_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b
  · rw [decide_eq_true h, if_pos h]; rfl
  · rw [decide_eq_false h, if_neg h]; rfl

theorem sel_lt (a b : ℕ) (ha : a < 2 ^ 31) (hb : b < 2 ^ 31) (x y : EReal) :
    Scalar.select (IntOp.cmpi .slt (BitVec.ofNat 32 a) (BitVec.ofNat 32 b)) x y = if a < b then x else y := by
  rw [WordCmp.cmpi_slt_ofNat ha hb]
  by_cases h : a < b
  · rw [decide_eq_true h, if_pos h]; rfl
  · rw [decide_eq_false h, if_neg h]; rfl

theorem pay_s (q : Vec Ideal S1024x128 .bf16) (kt : Vec Ideal S1x128x256 .bf16) (r : Fin 1024) (c : Fin 256) :
    k0_pay3 q kt (ix4 (0 : Fin 1) (0 : Fin 1) r c) = ∑ d : Fin 128, q (ix2 r d) * kt (ix3 (0 : Fin 1) d c) := by
  pointwise [k0_pay3, k0_pay2]

theorem pay_m (q : Vec Ideal S1024x128 .bf16) (kt : Vec Ideal S1x128x256 .bf16) (m : Vec Ideal S1x1024x128 .f32) (r : Fin 1024) (l : Fin 128) :
    k0_pay4 q kt m (ix3 (0 : Fin 1) r l) = max (max (m (ix3 (0 : Fin 1) r l)) (∑ d : Fin 128, q (ix2 r d) * kt (ix3 (0 : Fin 1) d (lo l))))
      (∑ d : Fin 128, q (ix2 r d) * kt (ix3 (0 : Fin 1) d (hi l))) := by
  pointwise [k0_pay4, k0_pay2]
  rfl

theorem pay_bot (h : Fin 2) (r : Fin 1024) (l : Fin 128) : k0_pay120 (F := Ideal) (ix3 h r l) = ⊥ := by
  pointwise [k0_pay120]
  exact word_neg_inf

theorem pay_zero (h : Fin 2) (r : Fin 1024) (l : Fin 128) : k0_pay166 (F := Ideal) (ix3 h r l) = 0 := by
  pointwise [k0_pay166]

theorem pay_rmax (m : Vec Ideal S1x1024x128 .f32) (r : Fin 1024) (l : Fin 128) :
    k0_pay165 m (ix3 (0 : Fin 1) r l) = Finset.univ.sup fun l : Fin 128 => m (ix3 (0 : Fin 1) r l) := by
  pointwise [k0_pay165]
  rw [word_neg_inf]
  rfl

theorem pay_out (a0 l0 a1 l1 : Vec Ideal S1x1024x128 .f32) (r : Fin 1024) (n : Fin 128) :
    k0_pay1 (iota .tc S1024x128 32 [1] iota_S1024x128_d1_w32) a0 l0 a1 l1 (ix2 r n)
      = if n.val < 64 then Ideal.div (a0 (ix3 (0 : Fin 1) r n)) (∑ l : Fin 128, l0 (ix3 (0 : Fin 1) r l))
        else Ideal.div (a1 (ix3 (0 : Fin 1) r n)) (∑ l : Fin 128, l1 (ix3 (0 : Fin 1) r l)) := by
  pointwise [k0_pay1]
  exact sel_lt n.val 64 (by omega) (by omega) _ _

theorem pay_ds1024 (q : Vec Ideal S1024x128 .bf16) (kt : Vec Ideal S1x128x256 .bf16) (r : Fin 1024) (c : Fin 256) :
    k0_pay136 k0_pay129 q kt (ix4 (0 : Fin 1) (0 : Fin 1) r c) = if c.val ≤ r.val then ∑ d : Fin 128, q (ix2 r d) * kt (ix3 (0 : Fin 1) d c) else ⊥ := by
  pointwise [k0_pay129, k0_pay130, k0_pay131, k0_pay132, k0_pay133, k0_pay134, k0_pay135, k0_pay136, k0_pay137]
  rw [sel_le _ _ (by omega) (by omega), word_neg_inf]

theorem pay_dm1024 (q : Vec Ideal S1024x128 .bf16) (kt : Vec Ideal S1x128x256 .bf16) (m : Vec Ideal S1x1024x128 .f32) (r : Fin 1024) (l : Fin 128) :
    k0_pay137 k0_pay129 q kt m (ix3 (0 : Fin 1) r l) = max (max (m (ix3 (0 : Fin 1) r l)) (if (lo l).val ≤ r.val then ∑ d : Fin 128, q (ix2 r d) * kt (ix3 (0 : Fin 1) d (lo l)) else ⊥))
      (if (hi l).val ≤ r.val then ∑ d : Fin 128, q (ix2 r d) * kt (ix3 (0 : Fin 1) d (hi l)) else ⊥) := by
  pointwise [k0_pay129, k0_pay130, k0_pay131, k0_pay132, k0_pay133, k0_pay134, k0_pay135, k0_pay136, k0_pay137]
  rw [sel_le _ _ (by omega) (by omega), sel_le _ _ (by omega) (by omega), word_neg_inf]
  rfl

theorem pay_dl1024 (s : Vec Ideal S1x1x1024x256 .f32) (m a : Vec Ideal S1x1024x128 .f32) (r : Fin 1024) (l : Fin 128) :
    k0_pay174 s m a (ix3 (0 : Fin 1) r l) = a (ix3 (0 : Fin 1) r l) + (Ideal.exp2 (s (ix4 (0 : Fin 1) (0 : Fin 1) r (lo l)) - m (ix3 (0 : Fin 1) r l))
      + Ideal.exp2 (s (ix4 (0 : Fin 1) (0 : Fin 1) r (hi l)) - m (ix3 (0 : Fin 1) r l))) := by
  pointwise [k0_pay170, k0_pay171, k0_pay172, k0_pay173, k0_pay174, k0_pay175]
  rfl

theorem pay_da1024 (v : Vec Ideal S256x128 .bf16) (s : Vec Ideal S1x1x1024x256 .f32) (m a : Vec Ideal S1x1024x128 .f32) (r : Fin 1024) (n : Fin 128) (M : EReal)
    (hM : ∀ l, m (ix3 (0 : Fin 1) r l) = M) :
    k0_pay175 v s m a (ix3 (0 : Fin 1) r n) = a (ix3 (0 : Fin 1) r n) + ∑ c : Fin 256, Ideal.exp2 (s (ix4 (0 : Fin 1) (0 : Fin 1) r c) - M) * v (ix2 c n) := by
  rw [sum_halves]
  pointwise [k0_pay170, k0_pay171, k0_pay172, k0_pay173, k0_pay174, k0_pay175, hM]
  rfl

theorem pay_ds768 (q : Vec Ideal S768x128 .bf16) (kt : Vec Ideal S1x128x256 .bf16) (r : Fin 768) (c : Fin 256) :
    k0_pay144 k0_pay138 q kt (ix4 (0 : Fin 1) (0 : Fin 1) r c) = if c.val ≤ r.val then ∑ d : Fin 128, q (ix2 r d) * kt (ix3 (0 : Fin 1) d c) else ⊥ := by
  pointwise [k0_pay138, k0_pay139, k0_pay140, k0_pay141, k0_pay142, k0_pay143, k0_pay144, k0_pay145, k0_pay146]
  rw [sel_le _ _ (by omega) (by omega), word_neg_inf]

theorem pay_dm768 (q : Vec Ideal S768x128 .bf16) (kt : Vec Ideal S1x128x256 .bf16) (m : Vec Ideal S1x768x128 .f32) (r : Fin 768) (l : Fin 128) :
    k0_pay146 (k0_pay145 k0_pay138 q kt m) (ix3 (0 : Fin 1) r l) = max (max (m (ix3 (0 : Fin 1) r l)) (if (lo l).val ≤ r.val then ∑ d : Fin 128, q (ix2 r d) * kt (ix3 (0 : Fin 1) d (lo l)) else ⊥))
      (if (hi l).val ≤ r.val then ∑ d : Fin 128, q (ix2 r d) * kt (ix3 (0 : Fin 1) d (hi l)) else ⊥) := by
  pointwise [k0_pay138, k0_pay139, k0_pay140, k0_pay141, k0_pay142, k0_pay143, k0_pay144, k0_pay145, k0_pay146]
  rw [sel_le _ _ (by omega) (by omega), sel_le _ _ (by omega) (by omega), word_neg_inf]
  rfl

theorem pay_dl768 (s : Vec Ideal S1x1x768x256 .f32) (m a : Vec Ideal S1x768x128 .f32) (r : Fin 768) (l : Fin 128) :
    k0_pay194 (k0_pay193 s m a) (ix3 (0 : Fin 1) r l) = a (ix3 (0 : Fin 1) r l) + (Ideal.exp2 (s (ix4 (0 : Fin 1) (0 : Fin 1) r (lo l)) - m (ix3 (0 : Fin 1) r l))
      + Ideal.exp2 (s (ix4 (0 : Fin 1) (0 : Fin 1) r (hi l)) - m (ix3 (0 : Fin 1) r l))) := by
  pointwise [k0_pay182, k0_pay183, k0_pay184, k0_pay185, k0_pay186, k0_pay187, k0_pay188, k0_pay189, k0_pay190, k0_pay191, k0_pay192, k0_pay193, k0_pay194, k0_pay195]
  rfl

theorem pay_da768 (v : Vec Ideal S256x128 .bf16) (s : Vec Ideal S1x1x768x256 .f32) (m a : Vec Ideal S1x768x128 .f32) (r : Fin 768) (n : Fin 128) (M : EReal)
    (hM : ∀ l, m (ix3 (0 : Fin 1) r l) = M) :
    k0_pay195 v (k0_pay191 s m) (k0_pay192 s m) a (ix3 (0 : Fin 1) r n) = a (ix3 (0 : Fin 1) r n) + ∑ c : Fin 256, Ideal.exp2 (s (ix4 (0 : Fin 1) (0 : Fin 1) r c) - M) * v (ix2 c n) := by
  rw [sum_halves]
  pointwise [k0_pay182, k0_pay183, k0_pay184, k0_pay185, k0_pay186, k0_pay187, k0_pay188, k0_pay189, k0_pay190, k0_pay191, k0_pay192, k0_pay193, k0_pay194, k0_pay195, hM]
  rfl

theorem pay_ds512 (q : Vec Ideal S512x128 .bf16) (kt : Vec Ideal S1x128x256 .bf16) (r : Fin 512) (c : Fin 256) :
    k0_pay149 q kt (ix4 (0 : Fin 1) (0 : Fin 1) r c) = if c.val ≤ r.val then ∑ d : Fin 128, q (ix2 r d) * kt (ix3 (0 : Fin 1) d c) else ⊥ := by
  pointwise [k0_pay147, k0_pay148, k0_pay149, k0_pay150, k0_pay151, k0_pay152, k0_pay153, k0_pay154]
  rw [sel_le _ _ (by omega) (by omega), word_neg_inf]

theorem pay_dm512 (q : Vec Ideal S512x128 .bf16) (kt : Vec Ideal S1x128x256 .bf16) (m : Vec Ideal S1x512x128 .f32) (r : Fin 512) (l : Fin 128) :
    k0_pay150 q kt m (ix3 (0 : Fin 1) r l) = max (max (m (ix3 (0 : Fin 1) r l)) (if (lo l).val ≤ r.val then ∑ d : Fin 128, q (ix2 r d) * kt (ix3 (0 : Fin 1) d (lo l)) else ⊥))
      (if (hi l).val ≤ r.val then ∑ d : Fin 128, q (ix2 r d) * kt (ix3 (0 : Fin 1) d (hi l)) else ⊥) := by
  pointwise [k0_pay147, k0_pay148, k0_pay149, k0_pay150, k0_pay151, k0_pay152, k0_pay153, k0_pay154]
  rw [sel_le _ _ (by omega) (by omega), sel_le _ _ (by omega) (by omega), word_neg_inf]
  rfl

theorem pay_dl512 (s : Vec Ideal S1x1x512x256 .f32) (m a : Vec Ideal S1x512x128 .f32) (r : Fin 512) (l : Fin 128) :
    k0_pay207 s m a (ix3 (0 : Fin 1) r l) = a (ix3 (0 : Fin 1) r l) + (Ideal.exp2 (s (ix4 (0 : Fin 1) (0 : Fin 1) r (lo l)) - m (ix3 (0 : Fin 1) r l))
      + Ideal.exp2 (s (ix4 (0 : Fin 1) (0 : Fin 1) r (hi l)) - m (ix3 (0 : Fin 1) r l))) := by
  pointwise [k0_pay196, k0_pay197, k0_pay198, k0_pay199, k0_pay200, k0_pay201, k0_pay202, k0_pay203, k0_pay204, k0_pay205, k0_pay206, k0_pay207, k0_pay208, k0_pay209, k0_pay210]
  rfl

theorem pay_da512 (v : Vec Ideal S256x128 .bf16) (s : Vec Ideal S1x1x512x256 .f32) (m a : Vec Ideal S1x512x128 .f32) (r : Fin 512) (n : Fin 128) (M : EReal)
    (hM : ∀ l, m (ix3 (0 : Fin 1) r l) = M) :
    k0_pay202 v (k0_pay198 s m) (k0_pay199 s m) a (ix3 (0 : Fin 1) r n) = a (ix3 (0 : Fin 1) r n) + ∑ c : Fin 256, Ideal.exp2 (s (ix4 (0 : Fin 1) (0 : Fin 1) r c) - M) * v (ix2 c n) := by
  rw [sum_halves]
  pointwise [k0_pay196, k0_pay197, k0_pay198, k0_pay199, k0_pay200, k0_pay201, k0_pay202, k0_pay203, k0_pay204, k0_pay205, k0_pay206, k0_pay207, k0_pay208, k0_pay209, k0_pay210, hM]
  rfl

theorem pay_ds256 (q : Vec Ideal S256x128 .bf16) (kt : Vec Ideal S1x128x256 .bf16) (r : Fin 256) (c : Fin 256) :
    k0_pay161 k0_pay155 q kt (ix4 (0 : Fin 1) (0 : Fin 1) r c) = if c.val ≤ r.val then ∑ d : Fin 128, q (ix2 r d) * kt (ix3 (0 : Fin 1) d c) else ⊥ := by
  pointwise [k0_pay155, k0_pay156, k0_pay157, k0_pay158, k0_pay159, k0_pay160, k0_pay161, k0_pay162]
  rw [sel_le _ _ (by omega) (by omega), word_neg_inf]

theorem pay_dm256 (q : Vec Ideal S256x128 .bf16) (kt : Vec Ideal S1x128x256 .bf16) (m : Vec Ideal S1x256x128 .f32) (r : Fin 256) (l : Fin 128) :
    k0_pay162 k0_pay155 q kt m (ix3 (0 : Fin 1) r l) = max (max (m (ix3 (0 : Fin 1) r l)) (if (lo l).val ≤ r.val then ∑ d : Fin 128, q (ix2 r d) * kt (ix3 (0 : Fin 1) d (lo l)) else ⊥))
      (if (hi l).val ≤ r.val then ∑ d : Fin 128, q (ix2 r d) * kt (ix3 (0 : Fin 1) d (hi l)) else ⊥) := by
  pointwise [k0_pay155, k0_pay156, k0_pay157, k0_pay158, k0_pay159, k0_pay160, k0_pay161, k0_pay162]
  rw [sel_le _ _ (by omega) (by omega), sel_le _ _ (by omega) (by omega), word_neg_inf]
  rfl

theorem pay_dl256 (s : Vec Ideal S1x1x256x256 .f32) (m a : Vec Ideal S1x256x128 .f32) (r : Fin 256) (l : Fin 128) :
    k0_pay223 s m a (ix3 (0 : Fin 1) r l) = a (ix3 (0 : Fin 1) r l) + (Ideal.exp2 (s (ix4 (0 : Fin 1) (0 : Fin 1) r (lo l)) - m (ix3 (0 : Fin 1) r l))
      + Ideal.exp2 (s (ix4 (0 : Fin 1) (0 : Fin 1) r (hi l)) - m (ix3 (0 : Fin 1) r l))) := by
  pointwise [k0_pay211, k0_pay212, k0_pay213, k0_pay214, k0_pay215, k0_pay216, k0_pay217, k0_pay218, k0_pay219, k0_pay220, k0_pay221, k0_pay222, k0_pay223, k0_pay224]
  rfl

theorem pay_da256 (v : Vec Ideal S256x128 .bf16) (s : Vec Ideal S1x1x256x256 .f32) (m a : Vec Ideal S1x256x128 .f32) (r : Fin 256) (n : Fin 128) (M : EReal)
    (hM : ∀ l, m (ix3 (0 : Fin 1) r l) = M) :
    k0_pay224 v s m a (ix3 (0 : Fin 1) r n) = a (ix3 (0 : Fin 1) r n) + ∑ c : Fin 256, Ideal.exp2 (s (ix4 (0 : Fin 1) (0 : Fin 1) r c) - M) * v (ix2 c n) := by
  rw [sum_halves]
  pointwise [k0_pay211, k0_pay212, k0_pay213, k0_pay214, k0_pay215, k0_pay216, k0_pay217, k0_pay218, k0_pay219, k0_pay220, k0_pay221, k0_pay222, k0_pay223, k0_pay224, hM]
  rfl

/-- Lane sums of the powers of two of one tile. -/
def two (s : Vec Ideal S1x1x1024x256 .f32) (m : Vec Ideal S1x1024x128 .f32) (r : Fin 1024) (l : Fin 128) : EReal :=
  Ideal.exp2 (s (ix4 (0 : Fin 1) (0 : Fin 1) r (lo l)) - m (ix3 (0 : Fin 1) r l)) + Ideal.exp2 (s (ix4 (0 : Fin 1) (0 : Fin 1) r (hi l)) - m (ix3 (0 : Fin 1) r l))

theorem pay_l4 (s0 s1 s2 s3 : Vec Ideal S1x1x1024x256 .f32) (m a : Vec Ideal S1x1024x128 .f32) (r : Fin 1024) (l : Fin 128) :
    k0_pay63 (k0_pay46 m) (k0_pay54 m a s0 s1) s2 s3 (ix3 (0 : Fin 1) r l) = a (ix3 (0 : Fin 1) r l) + two s0 m r l + two s1 m r l + two s2 m r l + two s3 m r l := by
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  rfl

/-- One tile's weighted sum of values, the tile's keys at `o` in the rows read. -/
def wv (s : Vec Ideal S1x1x1024x256 .f32) (v : Vec Ideal S512x128 .bf16) (M : EReal) (o : ℕ) (ho : o + 256 ≤ 512) (r : Fin 1024) (n : Fin 128) : EReal :=
  ∑ c : Fin 256, Ideal.exp2 (s (ix4 (0 : Fin 1) (0 : Fin 1) r c) - M) * v (ix2 ⟨o + c.val, by omega⟩ n)

/-- A sum over two tiles' keys laid out as four pieces of 128. -/
theorem sum_four (G0 G1 : Fin 256 → EReal) (V : Fin 512 → EReal) :
    (∑ x : Fin 512, (if h : x.val < 128 then G0 ⟨x.val, by omega⟩ else if h : x.val - 128 < 128 then G0 ⟨128 + (x.val - 128), by omega⟩
      else if h : x.val - 128 - 128 < 128 then G1 ⟨x.val - 128 - 128, by omega⟩ else G1 ⟨128 + (x.val - 128 - 128 - 128), by omega⟩) * V x)
      = (∑ c, G0 c * V ⟨0 + c.val, by omega⟩) + ∑ c, G1 c * V ⟨256 + c.val, by omega⟩ := by
  refine (Fin.sum_univ_add (a := 256) (b := 256) _).trans (congrArg₂ (· + ·) (Finset.sum_congr rfl fun c _ => ?_) (Finset.sum_congr rfl fun c _ => ?_))
  · refine congrArg₂ (· * ·) ?_ (congrArg V (Fin.ext (Nat.zero_add _).symm))
    simp only [Fin.val_castAdd]
    split_ifs
    · rfl
    · exact congrArg G0 (Fin.ext (by show 128 + (c.val - 128) = c.val; omega))
    · omega
    · omega
  · refine congrArg₂ (· * ·) ?_ (congrArg V (Fin.ext rfl))
    simp only [Fin.val_natAdd]
    split_ifs
    · omega
    · omega
    · exact congrArg G1 (Fin.ext (by show 256 + c.val - 128 - 128 = c.val; omega))
    · exact congrArg G1 (Fin.ext (by show 128 + (256 + c.val - 128 - 128 - 128) = c.val; omega))

theorem pay_a4 (s0 s1 s2 s3 : Vec Ideal S1x1x1024x256 .f32) (v v' : Vec Ideal S512x128 .bf16) (m a : Vec Ideal S1x1024x128 .f32) (r : Fin 1024) (n : Fin 128) (M : EReal)
    (hM : ∀ l, m (ix3 (0 : Fin 1) r l) = M) :
    k0_pay64 (k0_pay62 (k0_pay46 m) (k0_pay47 a) v (k0_pay55 m s0 s1) v' s2 s3) (ix3 (0 : Fin 1) r n) =
      a (ix3 (0 : Fin 1) r n) + (wv s0 v M 0 (by decide) r n + wv s1 v M 256 (by decide) r n) + (wv s2 v' M 0 (by decide) r n + wv s3 v' M 256 (by decide) r n) := by
  pointwise [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, hM]
  exact congrArg₂ (· + ·) (congrArg (a (ix3 (0 : Fin 1) r n) + ·) (sum_four (fun c => Ideal.exp2 (s0 (ix4 (0 : Fin 1) (0 : Fin 1) r c) - M))
    (fun c => Ideal.exp2 (s1 (ix4 (0 : Fin 1) (0 : Fin 1) r c) - M)) fun x => v (ix2 x n))) (sum_four (fun c => Ideal.exp2 (s2 (ix4 (0 : Fin 1) (0 : Fin 1) r c) - M))
    (fun c => Ideal.exp2 (s3 (ix4 (0 : Fin 1) (0 : Fin 1) r c) - M)) fun x => v' (ix2 x n))

end Cert.Kernel3Ideal.Attn

end
-- ==== Proof.AttnMath.lean ====
/-
  What one block computes is the softmax-weighted sum of the values: the tile-by-tile maxima and sums are those over all 4096
  keys (a masked key weighs nothing), and dividing the weighted sum is dividing each weight.
-/
module

public import proofs.«01_k».proof.Proof.AttnPay

@[expose] public section

set_option maxRecDepth 16384

noncomputable section

namespace Cert.Kernel3Ideal.Attn

open Cert.Kernel3Ideal.Gen
open Idealize.ShloMosaic Idealize.ShloMosaic.TcCoe

/-! ## The weighted sum over all keys -/

/-- The base-2 softmax of the scores `s`, applied to the values `v`. -/
def attn (s v : Fin 4096 → EReal) : EReal :=
  ∑ k, v k * Ideal.div (Ideal.exp2 (s k - Finset.univ.sup s)) (∑ k', Ideal.exp2 (s k' - Finset.univ.sup s))

theorem exp2_nonneg (x : EReal) : 0 ≤ Ideal.exp2 x := by
  induction x with
  | bot => exact le_refl _
  | top => exact le_top
  | coe r => exact EReal.coe_nonneg.2 (Real.rpow_nonneg (by norm_num) r)

theorem inv_ne_top (x : EReal) : x⁻¹ ≠ ⊤ := by
  induction x with
  | bot => simp
  | top => simp
  | coe r => rw [← EReal.coe_inv]; exact EReal.coe_ne_top _

theorem sum_mul_of {ι : Type} (t : Finset ι) (f : ι → EReal) (c : EReal) (h0 : 0 ≤ c) (h1 : c ≠ ⊤) : (∑ i ∈ t, f i) * c = ∑ i ∈ t, f i * c := by
  classical
  induction t using Finset.induction_on with
  | empty => simp
  | insert a t ha ih => rw [Finset.sum_insert ha, Finset.sum_insert ha, EReal.right_distrib_of_nonneg_of_ne_top h0 h1, ih]

/-- Dividing the sum is dividing each weight, where the weights' sum is not zero. -/
theorem div_sum (p v : Fin 4096 → EReal) (hp : ∀ k, 0 ≤ p k) (h0 : ∑ k, p k ≠ 0) :
    Ideal.div (∑ k, p k * v k) (∑ k, p k) = ∑ k, v k * Ideal.div (p k) (∑ k, p k) := by
  unfold Ideal.div
  rw [if_neg h0, sum_mul_of _ _ _ (EReal.inv_nonneg_of_nonneg (Finset.sum_nonneg fun k _ => hp k)) (inv_ne_top _)]
  refine Finset.sum_congr rfl fun k _ => ?_
  rw [if_neg h0, mul_comm (p k) (v k), mul_assoc]

/-- The weights' sum is not zero where some score is the maximum and is a real. -/
theorem weights_ne (s : Fin 4096 → EReal) (ht : ∀ k, s k ≠ ⊤) (hb : s 0 ≠ ⊥) : ∑ k, Ideal.exp2 (s k - Finset.univ.sup s) ≠ 0 := by
  obtain ⟨k, -, hk⟩ := Finset.exists_mem_eq_sup (Finset.univ : Finset (Fin 4096)) ⟨0, Finset.mem_univ _⟩ s
  have hkb : s k ≠ ⊥ := fun e => hb (le_bot_iff.1 (e ▸ hk ▸ Finset.le_sup (f := s) (Finset.mem_univ 0)))
  have e1 : Ideal.exp2 (s k - Finset.univ.sup s) = 1 := by
    rw [hk, EReal.sub_self (ht k) hkb]
    show ((Real.rpow 2 0 : ℝ) : EReal) = 1
    norm_num
  intro h
  have := (Finset.sum_eq_zero_iff_of_nonneg fun k _ => exp2_nonneg _).1 h k (Finset.mem_univ k)
  rw [e1] at this
  exact one_ne_zero this

/-- A sum over `n = a * b` indices, block by block. -/
theorem sum_blocks (a b n : ℕ) (hn : n = a * b) (F : Fin n → EReal) :
    ∑ k, F k = ∑ j : Fin a, ∑ c : Fin b, F ⟨b * j.val + c.val, by
      have h := (finProdFinEquiv (j, c)).isLt
      have e : (finProdFinEquiv (j, c)).val = c.val + b * j.val := rfl
      omega⟩ := by
  subst hn
  rw [← finProdFinEquiv.sum_comp, Fintype.sum_prod_type]
  exact Finset.sum_congr rfl fun j _ => Finset.sum_congr rfl fun c _ => congrArg F (Fin.ext (Nat.add_comm _ _))

/-- A sum over all keys, tile by tile; the tiles from `J` on add nothing. -/
theorem sum_tiles (F : Fin 4096 → EReal) (J : ℕ) (hJ : J ≤ 16) (h0 : ∀ j c, J ≤ j → j < 16 → F (key j c) = 0) :
    ∑ k, F k = ∑ j ∈ Finset.range J, ∑ c, F (key j c) := by
  have e : ∑ k, F k = ∑ j : Fin 16, ∑ c : Fin 256, F (key j.val c) := by
    refine (sum_blocks 16 256 4096 rfl F).trans (Finset.sum_congr rfl fun j _ => Finset.sum_congr rfl fun c _ => congrArg F (Fin.ext ?_))
    show 256 * j.val + c.val = (256 * j.val + c.val) % 4096
    omega
  rw [e, ← Finset.sum_range fun j => ∑ c : Fin 256, F (key j c)]
  refine (Finset.sum_subset (fun j hj => Finset.mem_range.2 (lt_of_lt_of_le (Finset.mem_range.1 hj) hJ)) fun j hj hn => ?_).symm
  exact Finset.sum_eq_zero fun c _ => h0 j c (Nat.le_of_not_lt fun h => hn (Finset.mem_range.2 h)) (Finset.mem_range.1 hj)

/-! ## One block -/

section

variable (x3 : Vec Ideal S1024x256 .bf16) (x4 : Vec Ideal S16x256x256 .bf16) (x5 : Vec Ideal S4096x128 .bf16) (q : ℕ)

/-- Masked score of query `r` and key `k`. -/
def full (h : Fin 2) (r : Fin 1024) (k : Fin 4096) : EReal :=
  if k.val ≤ 1024 * q + r.val then
    ∑ d : Fin 128, x3 (ix2 r (col h d)) * x4 (ix3 (⟨k.val / 256, by have := k.isLt; omega⟩ : Fin 16) (col h d) (⟨k.val % 256, Nat.mod_lt _ (by decide)⟩ : Fin 256))
  else ⊥

theorem full_key (h : Fin 2) (r : Fin 1024) (j : ℕ) (hj : j < 16) (c : Fin 256) : full x3 x4 q h r (key j c) = mscore x3 x4 q h j r c := by
  have e : (key j c).val = 256 * j + c.val := Nat.mod_eq_of_lt (by omega)
  have e1 : (⟨(key j c).val / 256, by have := (key j c).isLt; omega⟩ : Fin 16) = tile j := Fin.ext (by show (key j c).val / 256 = j % 16; omega)
  have e2 : (⟨(key j c).val % 256, Nat.mod_lt _ (by decide)⟩ : Fin 256) = c := Fin.ext (by show (key j c).val % 256 = c.val; omega)
  unfold full mscore score
  rw [e1, e2, e]

theorem key_split (k : Fin 4096) : k = key (k.val / 256) ⟨k.val % 256, Nat.mod_lt _ (by decide)⟩ :=
  Fin.ext (by show k.val = (256 * (k.val / 256) + k.val % 256) % 4096; omega)

theorem lmax_le (h : Fin 2) (r : Fin 1024) (l : Fin 128) (J : ℕ) (hJ : J ≤ 16) : lmax x3 x4 q h J r l ≤ Finset.univ.sup (full x3 x4 q h r) := by
  induction J with
  | zero => exact bot_le
  | succ j ih =>
    have t (c : Fin 256) : mscore x3 x4 q h j r c ≤ Finset.univ.sup (full x3 x4 q h r) := by
      rw [← full_key x3 x4 q h r j (by omega) c]
      exact Finset.le_sup (Finset.mem_univ _)
    exact max_le (max_le (ih (by omega)) (t _)) (t _)

theorem le_lmax (h : Fin 2) (r : Fin 1024) (c : Fin 256) (j J : ℕ) (hj : j < J) : ∃ l, mscore x3 x4 q h j r c ≤ lmax x3 x4 q h J r l := by
  induction J with
  | zero => exact absurd hj (Nat.not_lt_zero _)
  | succ J ih =>
    by_cases e : j = J
    · subst e
      by_cases hc : c.val < 128
      · refine ⟨⟨c.val, hc⟩, ?_⟩
        exact (le_max_right _ _).trans (le_max_left _ _)
      · refine ⟨⟨c.val - 128, by omega⟩, ?_⟩
        have ec : hi ⟨c.val - 128, by omega⟩ = c := Fin.ext (by show 128 + (c.val - 128) = c.val; omega)
        show _ ≤ max _ (mscore x3 x4 q h j r (hi ⟨c.val - 128, _⟩))
        rw [ec]
        exact le_max_right _ _
    · obtain ⟨l, hl⟩ := ih (by omega)
      exact ⟨l, hl.trans ((le_max_left _ _).trans (le_max_left _ _))⟩

/-- The row maximum is the one over all keys. -/
theorem rmax_eq (hq : q < 4) (h : Fin 2) (r : Fin 1024) : rmax x3 x4 q h r = Finset.univ.sup (full x3 x4 q h r) := by
  refine le_antisymm (Finset.sup_le fun l _ => lmax_le x3 x4 q h r l _ (by omega)) (Finset.sup_le fun k _ => ?_)
  by_cases hk : k.val ≤ 1024 * q + r.val
  · rw [key_split k, full_key x3 x4 q h r _ (by have := k.isLt; omega)]
    obtain ⟨l, hl⟩ := le_lmax x3 x4 q h r ⟨k.val % 256, Nat.mod_lt _ (by decide)⟩ (k.val / 256) (4 * q + 4) (by have := r.isLt; omega)
    exact hl.trans (Finset.le_sup (f := fun l => lmax x3 x4 q h (4 * q + 4) r l) (Finset.mem_univ l))
  · unfold full
    rw [if_neg hk]
    exact bot_le

/-- A key's weight. -/
def wt (h : Fin 2) (r : Fin 1024) (k : Fin 4096) : EReal := Ideal.exp2 (full x3 x4 q h r k - Finset.univ.sup (full x3 x4 q h r))

theorem pw_eq (hq : q < 4) (h : Fin 2) (r : Fin 1024) (j : ℕ) (hj : j < 16) (c : Fin 256) : pw x3 x4 q h j r c = wt x3 x4 q h r (key j c) := by
  unfold pw wt
  rw [full_key x3 x4 q h r j hj, rmax_eq x3 x4 q hq]

theorem wt_after (h : Fin 2) (r : Fin 1024) (j : ℕ) (c : Fin 256) (hj : 4 * q + 4 ≤ j) (hj' : j < 16) : wt x3 x4 q h r (key j c) = 0 := by
  have e : (key j c).val = 256 * j + c.val := Nat.mod_eq_of_lt (by omega)
  unfold wt full
  rw [if_neg (by have := r.isLt; omega), EReal.bot_sub]
  rfl

theorem lsum_eq (hq : q < 4) (h : Fin 2) (r : Fin 1024) (J : ℕ) (hJ : J ≤ 16) :
    ∑ l : Fin 128, lsum x3 x4 q h J r l = ∑ j ∈ Finset.range J, ∑ c, wt x3 x4 q h r (key j c) := by
  induction J with
  | zero => exact Finset.sum_eq_zero fun _ _ => rfl
  | succ j ih =>
    rw [Finset.sum_range_succ, ← ih (by omega), sum_halves, ← Finset.sum_add_distrib, ← Finset.sum_add_distrib]
    refine Finset.sum_congr rfl fun l _ => ?_
    rw [← pw_eq x3 x4 q hq h r j (by omega), ← pw_eq x3 x4 q hq h r j (by omega)]
    rfl

theorem wsum_eq (hq : q < 4) (h : Fin 2) (r : Fin 1024) (n : Fin 128) (J : ℕ) (hJ : J ≤ 16) :
    wsum x3 x4 x5 q h J r n = ∑ j ∈ Finset.range J, ∑ c, wt x3 x4 q h r (key j c) * x5 (ix2 (key j c) n) := by
  induction J with
  | zero => rfl
  | succ j ih =>
    rw [Finset.sum_range_succ, ← ih (by omega)]
    refine congrArg (wsum x3 x4 x5 q h j r n + ·) (Finset.sum_congr rfl fun c _ => ?_)
    rw [pw_eq x3 x4 q hq h r j (by omega)]

theorem div_eq (hq : q < 4) (h : Fin 2) (r : Fin 1024) (n : Fin 128) (ht : ∀ k, full x3 x4 q h r k ≠ ⊤) (hb : full x3 x4 q h r 0 ≠ ⊥) :
    Ideal.div (wsum x3 x4 x5 q h (4 * q + 4) r n) (∑ l : Fin 128, lsum x3 x4 q h (4 * q + 4) r l)
      = attn (full x3 x4 q h r) fun k => x5 (ix2 k n) := by
  rw [lsum_eq x3 x4 q hq h r _ (by omega), wsum_eq x3 x4 x5 q hq h r n _ (by omega),
    ← sum_tiles (wt x3 x4 q h r) _ (by omega) fun j c => wt_after x3 x4 q h r j c,
    ← sum_tiles (fun k => wt x3 x4 q h r k * x5 (ix2 k n)) _ (by omega) fun j c hj hj' => by
      show wt x3 x4 q h r (key j c) * _ = 0
      rw [wt_after x3 x4 q h r j c hj hj', zero_mul]]
  exact div_sum (wt x3 x4 q h r) (fun k => x5 (ix2 k n)) (fun k => exp2_nonneg _) (weights_ne _ ht hb)

/-- The head of output column `n`. -/
def head (n : Fin 128) : Fin 2 := if n.val < 64 then 0 else 1

/-- One block's result. -/
theorem outv_eq (hq : q < 4) (r : Fin 1024) (n : Fin 128) (ht : ∀ k, full x3 x4 q (head n) r k ≠ ⊤) (hb : full x3 x4 q (head n) r 0 ≠ ⊥) :
    outv x3 x4 x5 q r n = attn (full x3 x4 q (head n) r) fun k => x5 (ix2 k n) := by
  rw [← div_eq x3 x4 x5 q hq (head n) r n ht hb]
  unfold outv head
  by_cases hn : n.val < 64
  · simp only [if_pos hn]
  · simp only [if_neg hn]

end

/-! ## Scores of real numbers -/

/-- A sum of products of reals is a real. -/
theorem sum_real (a b : Fin 128 → EReal) (ha : ∀ d, ∃ x : ℝ, a d = x) (hb : ∀ d, ∃ x : ℝ, b d = x) : ∃ x : ℝ, ∑ d, a d * b d = x := by
  refine Finset.sum_induction (fun d => a d * b d) (fun y : EReal => ∃ x : ℝ, y = x) ?_ ⟨0, rfl⟩ fun d _ => ?_
  · rintro _ _ ⟨x, rfl⟩ ⟨y, rfl⟩
    exact ⟨x + y, rfl⟩
  · obtain ⟨x, hx⟩ := ha d
    obtain ⟨y, hy⟩ := hb d
    exact ⟨x * y, by rw [hx, hy]; rfl⟩

theorem full_real (x3 : Vec Ideal S1024x256 .bf16) (x4 : Vec Ideal S16x256x256 .bf16) (q : ℕ) (h : Fin 2) (r : Fin 1024)
    (h3 : ∀ y, ∃ x : ℝ, x3 y = x) (h4 : ∀ y, ∃ x : ℝ, x4 y = x) :
    (∀ k, full x3 x4 q h r k ≠ ⊤) ∧ full x3 x4 q h r 0 ≠ ⊥ := by
  have s (k : Fin 4096) := sum_real (fun d => x3 (ix2 r (col h d)))
    (fun d => x4 (ix3 (⟨k.val / 256, by have := k.isLt; omega⟩ : Fin 16) (col h d) (⟨k.val % 256, Nat.mod_lt _ (by decide)⟩ : Fin 256)))
    (fun d => h3 _) (fun d => h4 _)
  refine ⟨fun k => ?_, ?_⟩
  · unfold full
    split
    · obtain ⟨x, hx⟩ := s k
      rw [hx]
      exact EReal.coe_ne_top _
    · exact bot_ne_top
  · unfold full
    rw [if_pos (show (0 : Fin 4096).val ≤ 1024 * q + r.val from Nat.zero_le _)]
    obtain ⟨x, hx⟩ := s 0
    rw [hx]
    exact EReal.coe_ne_bot _

end Cert.Kernel3Ideal.Attn

end
-- ==== Proof.AttnRef.lean ====
/-
  The reference's attention at an index: for each row and head, the softmax-weighted sum of the head's values.
-/
module

public import proofs.«01_k».proof.Proof.Gen.Reference3Ideal.Run
public import proofs.«01_k».proof.Proof.AttnMath
public import Idealize.ShloMosaic.Lib.Pointwise

@[expose] public section

set_option maxRecDepth 16384

noncomputable section

namespace Cert.Reference3Ideal.Attn

open Cert.Reference3Ideal Cert.Reference3Ideal.Gen
open Idealize.ShloMosaic Idealize.ShloMosaic.TcCoe
open Cert.Kernel3Ideal.Attn (attn word_neg_inf)

/-- The reference's masked scores, row maxima, powers, row sums and result, as arrays. -/
def ms (A : FVec Ideal S16384x2048 .bf16) (K : FVec Ideal S64x2048x256 .bf16) : FVec Ideal S4x16x4096x4096 .f32 := select (broadcastInDim S4x16x4096x4096 ![2, 3] bcast_S4096x4096_S4x16x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (Host.dotGeneral dot_S4x4096x16x128_S4x4096x16x128_S4x16x4096x4096_3_3_1_1_02_02 none (shapeCast _ (extf .f32 A bitsLt_bf16_f32) shapeCasts_S16384x2048_S4x4096x16x128) (shapeCast _ (transpose S4x16x256x16x128 [0, 1, 4, 2, 3] (shapeCast _ (extf .f32 K bitsLt_bf16_f32) shapeCasts_S64x2048x256_S4x16x16x128x256) transposes_S4x16x16x128x256_S4x16x256x16x128_0_1_4_2_3) shapeCasts_S4x16x256x16x128_S4x4096x16x128)) (broadcastInDim S4x16x4096x4096 ![] bcast_S_S4x16x4096x4096 (id (constant S_ .f32 0xFF800000#32)))
def mx (A : FVec Ideal S16384x2048 .bf16) (K : FVec Ideal S64x2048x256 .bf16) : FVec Ideal S4x16x4096 .f32 := Host.reduce FloatOps.maximumf (ms A K) (constant S_ .f32 0xFF800000#32) reducesTo_S4x16x4096x4096_S4x16x4096_d3 h_S_
def ex (A : FVec Ideal S16384x2048 .bf16) (K : FVec Ideal S64x2048x256 .bf16) : FVec Ideal S4x16x4096x4096 .f32 := Host.powf (broadcastInDim S4x16x4096x4096 ![] bcast_S_S4x16x4096x4096 (constant S_ .f32 0x40000000#32)) (subf (ms A K) (broadcastInDim S4x16x4096x4096 ![0, 1, 2, 3] bcast_S4x16x4096x1_S4x16x4096x4096_0_1_2_3 (broadcastInDim S4x16x4096x1 ![0, 1, 2] bcast_S4x16x4096_S4x16x4096x1_0_1_2 (mx A K))))
def sm (A : FVec Ideal S16384x2048 .bf16) (K : FVec Ideal S64x2048x256 .bf16) : FVec Ideal S4x16x4096 .f32 := Host.reduceAdd (ex A K) (constant S_ .f32 0x00000000#32) reducesTo_S4x16x4096x4096_S4x16x4096_d3 h_S_
def res (A : FVec Ideal S16384x2048 .bf16) (K : FVec Ideal S64x2048x256 .bf16) (W : FVec Ideal S16384x1024 .bf16) : FVec Ideal S16384x1024 .bf16 := truncf .bf16 (shapeCast _ (transpose S4x4096x16x64 [0, 3, 1, 2] (Host.dotGeneral dot_S4x4096x16x64_S4x16x4096x4096_S4x16x64x4096_1_3_3_2_02_01 none (shapeCast _ (extf .f32 W bitsLt_bf16_f32) shapeCasts_S16384x1024_S4x4096x16x64) (Host.divf (ex A K) (broadcastInDim S4x16x4096x4096 ![0, 1, 2, 3] bcast_S4x16x4096x1_S4x16x4096x4096_0_1_2_3 (broadcastInDim S4x16x4096x1 ![0, 1, 2] bcast_S4x16x4096_S4x16x4096x1_0_1_2 (sm A K))))) transposes_S4x16x64x4096_S4x4096x16x64_0_3_1_2) shapeCasts_S4x4096x16x64_S16384x1024) bitsLt_bf16_f32

theorem res_eq (m : (ℓ : Loc nD τ sig) → Buf (Elt Ideal) ℓ) (c : Dev nD) :
    Value.res_main_v30 m c = res (m ((c.tc : Thread nD τ).loc main_arg0)) (m ((c.tc : Thread nD τ).loc main_arg1)) (m ((c.tc : Thread nD τ).loc main_arg2)) := rfl

/-- Two raised to a power. -/
theorem two_pow (y : EReal) : Ideal.pow (Ideal.ofBits .f32 0x40000000#32) y = Ideal.exp2 y := by
  have e : Ideal.ofBits .f32 0x40000000#32 = ((2 : ℝ) : EReal) := by
    simp [Ideal.ofBits, Ideal.ieee]
    rw [← EReal.coe_mul]
    norm_num
  rw [e]
  induction y with
  | bot => simp
  | top => simp
  | coe r => rfl

/-- A choice by a signed comparison of small numbers. -/
theorem sel_ge (a b : ℕ) (ha : a < 2 ^ 31) (hb : b < 2 ^ 31) (x y : EReal) :
    Scalar.select (IntOp.cmpi .sge (BitVec.ofNat 32 a) (BitVec.ofNat 32 b)) x y = if b ≤ a then x else y := by
  rw [WordCmp.cmpi_sge_ofNat (by omega) (by omega)]
  by_cases h : b ≤ a
  · simp [Scalar.select, h]
  · simp [Scalar.select, h]

section

variable (A : FVec Ideal S16384x2048 .bf16) (K : FVec Ideal S64x2048x256 .bf16) (W : FVec Ideal S16384x1024 .bf16)

/-- Masked score of query `s` and key `k` in batch `b`, head `h`. -/
def sc (b : Fin 4) (h : Fin 16) (s k : Fin 4096) : EReal :=
  if k.val ≤ s.val then
    ∑ d : Fin 128, A (ix2 (⟨b.val * 4096 + s.val, by have := b.isLt; have := s.isLt; omega⟩ : Fin 16384) (⟨h.val * 128 + d.val, by have := h.isLt; have := d.isLt; omega⟩ : Fin 2048))
      * K (ix3 (⟨b.val * 16 + k.val / 256, by have := b.isLt; have := k.isLt; omega⟩ : Fin 64) (⟨h.val * 128 + d.val, by have := h.isLt; have := d.isLt; omega⟩ : Fin 2048) (⟨k.val % 256, Nat.mod_lt _ (by decide)⟩ : Fin 256))
  else ⊥

theorem ms_at (b : Fin 4) (h : Fin 16) (s k : Fin 4096) : ms A K (ix4 b h s k) = sc A K b h s k := by
  pointwise [ms]
  rw [sel_ge _ _ (by have := s.isLt; omega) (by have := k.isLt; omega), show (id (constant S_ FTy.f32 4286578688#32 : FVec Ideal S_ .f32) ix0) = (⊥ : EReal) from word_neg_inf]
  rfl

theorem mx_at (b : Fin 4) (h : Fin 16) (s : Fin 4096) : mx A K (ix3 b h s) = Finset.univ.sup (sc A K b h s) := by
  pointwise [mx]
  rw [word_neg_inf, funext fun x => ms_at A K b h s x]
  rfl

theorem ex_at (b : Fin 4) (h : Fin 16) (s k : Fin 4096) : ex A K (ix4 b h s k) = Ideal.exp2 (sc A K b h s k - Finset.univ.sup (sc A K b h s)) := by
  pointwise [ex]
  rw [two_pow, ms_at, mx_at]

theorem sm_at (b : Fin 4) (h : Fin 16) (s : Fin 4096) : sm A K (ix3 b h s) = ∑ k, Ideal.exp2 (sc A K b h s k - Finset.univ.sup (sc A K b h s)) := by
  pointwise [sm]
  exact Finset.sum_congr rfl fun k _ => ex_at A K b h s k

theorem res_at (R : Fin 16384) (C : Fin 1024) : res A K W (ix2 R C)
    = attn (sc A K ⟨R.val / 4096, by have := R.isLt; omega⟩ ⟨C.val / 64, by have := C.isLt; omega⟩ ⟨R.val % 4096, Nat.mod_lt _ (by decide)⟩)
        fun k => W (ix2 (⟨R.val / 4096 * 4096 + k.val, by have := R.isLt; have := k.isLt; omega⟩ : Fin 16384) C) := by
  pointwise [res]
  unfold attn
  refine Finset.sum_congr rfl fun k _ => ?_
  rw [ex_at, sm_at]

end

end Cert.Reference3Ideal.Attn

end
-- ==== Proof.AttnStep.lean ====
/-
  One store at a time: what a buffer holds after the store of a tile's scores, lane maxima, lane sums or weighted sums,
  in terms of what it held before.
-/
module

public import proofs.«01_k».proof.Proof.AttnPay

@[expose] public section

set_option maxRecDepth 16384

noncomputable section

namespace Cert.Kernel3Ideal.Attn

open Cert.Kernel3Ideal.Gen
open Idealize.ShloMosaic Idealize.ShloMosaic.TcCoe

variable (x3 : Vec Ideal S1024x256 .bf16) (x4 : Vec Ideal S16x256x256 .bf16) (x5 : Vec Ideal S4096x128 .bf16) (q : ℕ)

/-! ## The masked scores -/

theorem mscore_before (h : Fin 2) (j : ℕ) (hj : j < 4 * q) (r : Fin 1024) (c : Fin 256) : mscore x3 x4 q h j r c = score x3 x4 h j r c :=
  if_pos (by omega)

theorem mscore_after (h : Fin 2) (j : ℕ) (r : Fin 1024) (hr : 1024 * q + r.val < 256 * j) (c : Fin 256) : mscore x3 x4 q h j r c = ⊥ :=
  if_neg (by omega)

theorem pw_after (h : Fin 2) (j : ℕ) (r : Fin 1024) (hr : 1024 * q + r.val < 256 * j) (c : Fin 256) : pw x3 x4 q h j r c = 0 := by
  unfold pw
  rw [mscore_after x3 x4 q h j r hr c, sub_eq_add_neg, EReal.bot_add]
  rfl

theorem lmax_after (h : Fin 2) (j : ℕ) (r : Fin 1024) (hr : 1024 * q + r.val < 256 * j) (l : Fin 128) : lmax x3 x4 q h (j + 1) r l = lmax x3 x4 q h j r l := by
  show max (max (lmax x3 x4 q h j r l) (mscore x3 x4 q h j r (lo l))) (mscore x3 x4 q h j r (hi l)) = _
  rw [mscore_after x3 x4 q h j r hr, mscore_after x3 x4 q h j r hr, max_bot_right, max_bot_right]

theorem lsum_after (h : Fin 2) (j : ℕ) (r : Fin 1024) (hr : 1024 * q + r.val < 256 * j) (l : Fin 128) : lsum x3 x4 q h (j + 1) r l = lsum x3 x4 q h j r l := by
  show lsum x3 x4 q h j r l + (pw x3 x4 q h j r (lo l) + pw x3 x4 q h j r (hi l)) = _
  rw [pw_after x3 x4 q h j r hr, pw_after x3 x4 q h j r hr, add_zero, add_zero]

theorem wsum_after (h : Fin 2) (j : ℕ) (r : Fin 1024) (hr : 1024 * q + r.val < 256 * j) (n : Fin 128) : wsum x3 x4 x5 q h (j + 1) r n = wsum x3 x4 x5 q h j r n := by
  show wsum x3 x4 x5 q h j r n + ∑ c : Fin 256, pw x3 x4 q h j r c * x5 (ix2 (key j c) n) = _
  rw [Finset.sum_eq_zero fun c _ => by rw [pw_after x3 x4 q h j r hr, zero_mul], add_zero]

/-- A computed tile of scores, on the rows from `o`. -/
theorem tile_before {n : ℕ} (h : Fin 2) (o : ℕ) (hn : o + n = 1024) (j : ℕ) (hj : j < 4 * q) (qv : Fin n → Fin 128 → EReal) (kv : Fin 128 → Fin 256 → EReal)
    (hq : ∀ r d, qv r d = x3 (ix2 ⟨o + r.val, by omega⟩ (col h d))) (hk : ∀ d c, kv d c = x4 (ix3 (tile j) (col h d) c)) (r : Fin n) (c : Fin 256) :
    (∑ d, qv r d * kv d c) = mscore x3 x4 q h j ⟨o + r.val, by omega⟩ c := by
  rw [mscore_before x3 x4 q h j hj]
  exact Finset.sum_congr rfl fun d _ => by rw [hq, hk]

theorem tile_diag {n : ℕ} (h : Fin 2) (t : ℕ) (hn : 256 * t + n = 1024) (j : ℕ) (hj : j = 4 * q + t) (qv : Fin n → Fin 128 → EReal) (kv : Fin 128 → Fin 256 → EReal)
    (hq : ∀ r d, qv r d = x3 (ix2 ⟨256 * t + r.val, by omega⟩ (col h d))) (hk : ∀ d c, kv d c = x4 (ix3 (tile j) (col h d) c)) (r : Fin n) (c : Fin 256) :
    (if c.val ≤ r.val then ∑ d, qv r d * kv d c else ⊥) = mscore x3 x4 q h j ⟨256 * t + r.val, by omega⟩ c := by
  unfold mscore
  refine if_congr ?_ (Finset.sum_congr rfl fun d _ => by rw [hq, hk]) rfl
  show c.val ≤ r.val ↔ 256 * j + c.val ≤ 1024 * q + (256 * t + r.val)
  omega

/-! ## The stores -/

section

variable {κ : Kind} {sp : Space}

theorem st_tile {n : ℕ} (v : View sig κ sp S2x16x1024x256 .f32) (L : List (View.Piece (Elt Ideal) S2x16x1024x256 .f32)) (f : v.ty.Contents (Elt Ideal))
    (h : Fin 2) (o : ℕ) (hn : o + n = 1024) (j : ℕ) (ho : ∀ r : Fin 1024, 256 * j ≤ 1024 * q + r.val → o ≤ r.val) {off : Fin 4 → ℕ}
    (he : off = ![h.val, j, o, 0]) (inb) (w) (D : Fin n → Fin 256 → EReal) (hw : ∀ r c, w (ix4 (0 : Fin 1) (0 : Fin 1) r c) = D r c)
    (hD : ∀ r c, D r c = mscore x3 x4 q h j ⟨o + r.val, by omega⟩ c)
    (hL : Tiles q (v.read _ (v.writes _ f L)) h j (mscore x3 x4 q h)) :
    Tiles q (v.read _ (v.writes (Elt Ideal) f ((⟨Rect.unit (s := S2x16x1024x256) off ![1, 1, n, 256] inb, w⟩ : View.Piece _ _ .f32) :: L))) h (j + 1) (mscore x3 x4 q h) :=
  tiles_same q v f L h j o n hn ho he inb w _ (fun r hr c => (hw _ c).trans ((hD _ c).trans (congrArg (fun r => mscore x3 x4 q h j r c)
    (Fin.ext (by show o + (r.val - o) = r.val; omega))))) hL

variable {n : ℕ} (v : View sig κ sp S2x1024x128 .f32) (L : List (View.Piece (Elt Ideal) S2x1024x128 .f32))
    (h : Fin 2) (o : ℕ) (hn : o + n = 1024) (j : ℕ) (inb : ∀ a, (![h.val, o, 0] : Fin 3 → ℕ) a + (![1, n, 128] : Fin 3 → ℕ) a ≤ S2x1024x128.size a)

theorem st_max (w) (m : Fin n → Fin 128 → EReal) (D : Fin n → Fin 256 → EReal)
    (hw : ∀ r l, w (ix3 (0 : Fin 1) r l) = max (max (m r l) (D r (lo l))) (D r (hi l)))
    (hm : ∀ r l, m r l = lmax x3 x4 q h j ⟨o + r.val, by omega⟩ l)
    (hD : ∀ r c, D r c = mscore x3 x4 q h j ⟨o + r.val, by omega⟩ c)
    (hL : o = 0 ∨ 1024 * q + o = 256 * j ∧ ∀ f, Half (v.read _ (v.writes (Elt Ideal) f L)) h (lmax x3 x4 q h j)) :
    ∀ f, Half (v.read _ (v.writes (Elt Ideal) f ((⟨Rect.unit (s := S2x1024x128) ![h.val, o, 0] ![1, n, 128] inb, w⟩ : View.Piece _ _ .f32) :: L))) h (lmax x3 x4 q h (j + 1)) := by
  refine fun f => half_same v f L h o n hn inb w (lmax x3 x4 q h j) _ (fun r hr l => ?_) (fun r hr l => ?_)
  · have e : (⟨o + (r.val - o), by omega⟩ : Fin 1024) = r := Fin.ext (by show o + (r.val - o) = r.val; omega)
    rw [hw, hm, hD, hD, e]
    rfl
  · rcases hL with h0 | ⟨h1, h2⟩
    · omega
    · exact (h2 f r l).trans (lmax_after x3 x4 q h j r (by omega) l).symm

theorem st_sum (w) (a : Fin n → Fin 128 → EReal) (m : Fin n → Fin 128 → EReal) (D : Fin n → Fin 256 → EReal)
    (hw : ∀ r l, w (ix3 (0 : Fin 1) r l) = a r l + (Ideal.exp2 (D r (lo l) - m r l) + Ideal.exp2 (D r (hi l) - m r l)))
    (ha : ∀ r l, a r l = lsum x3 x4 q h j ⟨o + r.val, by omega⟩ l)
    (hm : ∀ r l, m r l = rmax x3 x4 q h ⟨o + r.val, by omega⟩)
    (hD : ∀ r c, D r c = mscore x3 x4 q h j ⟨o + r.val, by omega⟩ c)
    (hL : o = 0 ∨ 1024 * q + o = 256 * j ∧ ∀ f, Half (v.read _ (v.writes (Elt Ideal) f L)) h (lsum x3 x4 q h j)) :
    ∀ f, Half (v.read _ (v.writes (Elt Ideal) f ((⟨Rect.unit (s := S2x1024x128) ![h.val, o, 0] ![1, n, 128] inb, w⟩ : View.Piece _ _ .f32) :: L))) h (lsum x3 x4 q h (j + 1)) := by
  refine fun f => half_same v f L h o n hn inb w (lsum x3 x4 q h j) _ (fun r hr l => ?_) (fun r hr l => ?_)
  · have e : (⟨o + (r.val - o), by omega⟩ : Fin 1024) = r := Fin.ext (by show o + (r.val - o) = r.val; omega)
    rw [hw, ha, hm, hD, hD, e]
    rfl
  · rcases hL with h0 | ⟨h1, h2⟩
    · omega
    · exact (h2 f r l).trans (lsum_after x3 x4 q h j r (by omega) l).symm

theorem st_acc (w) (a : Fin n → Fin 128 → EReal) (D : Fin n → Fin 256 → EReal) (vv : Fin 256 → Fin 128 → EReal)
    (hw : ∀ r (M : EReal), M = rmax x3 x4 q h ⟨o + r.val, by omega⟩ → ∀ l, w (ix3 (0 : Fin 1) r l) = a r l + ∑ c, Ideal.exp2 (D r c - M) * vv c l)
    (ha : ∀ r l, a r l = wsum x3 x4 x5 q h j ⟨o + r.val, by omega⟩ l)
    (hD : ∀ r c, D r c = mscore x3 x4 q h j ⟨o + r.val, by omega⟩ c)
    (hv : ∀ c l, vv c l = x5 (ix2 (key j c) l))
    (hL : o = 0 ∨ 1024 * q + o = 256 * j ∧ ∀ f, Half (v.read _ (v.writes (Elt Ideal) f L)) h (wsum x3 x4 x5 q h j)) :
    ∀ f, Half (v.read _ (v.writes (Elt Ideal) f ((⟨Rect.unit (s := S2x1024x128) ![h.val, o, 0] ![1, n, 128] inb, w⟩ : View.Piece _ _ .f32) :: L))) h (wsum x3 x4 x5 q h (j + 1)) := by
  refine fun f => half_same v f L h o n hn inb w (wsum x3 x4 x5 q h j) _ (fun r hr l => ?_) (fun r hr l => ?_)
  · have e : (⟨o + (r.val - o), by omega⟩ : Fin 1024) = r := Fin.ext (by show o + (r.val - o) = r.val; omega)
    rw [hw _ _ rfl, ha, e]
    show _ = wsum x3 x4 x5 q h j r l + ∑ c : Fin 256, pw x3 x4 q h j r c * x5 (ix2 (key j c) l)
    refine congrArg _ (Finset.sum_congr rfl fun c _ => ?_)
    rw [hD, hv, e]
    rfl
  · rcases hL with h0 | ⟨h1, h2⟩
    · omega
    · exact (h2 f r l).trans (wsum_after x3 x4 x5 q h j r (by omega) l).symm

end

/-! ## The stores of a whole tile before the diagonal -/

section

theorem st_max_before {κ : Kind} {sp : Space} (h : Fin 2) (j : ℕ) (hj : j < 4 * q)
    (qv : Vec Ideal S1024x128 .bf16) (kv : Vec Ideal S1x128x256 .bf16)
    (hq : ∀ (r : Fin 1024) d, qv (ix2 r d) = x3 (ix2 ⟨0 + r.val, by omega⟩ (col h d))) (hk : ∀ d c, kv (ix3 (0 : Fin 1) d c) = x4 (ix3 (tile j) (col h d) c))
    (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w) (m : Vec Ideal S1x1024x128 .f32)
    (hm : ∀ r l, m (ix3 (0 : Fin 1) r l) = lmax x3 x4 q h j ⟨0 + r.val, by omega⟩ l) (hw : w = k0_pay4 qv kv m) :
    ∀ f, Half (v.read _ (v.writes (Elt Ideal) f ((⟨Rect.unit (s := S2x1024x128) ![h.val, 0, 0] ![1, 1024, 128] inb, w⟩ : View.Piece _ _ .f32) :: L))) h (lmax x3 x4 q h (j + 1)) :=
  st_max x3 x4 q v L h 0 rfl j inb w (fun r l => m (ix3 (0 : Fin 1) r l)) (fun r c => ∑ d : Fin 128, qv (ix2 r d) * kv (ix3 (0 : Fin 1) d c))
    (fun r l => (congrFun hw _).trans (pay_m qv kv m r l)) hm
    (tile_before x3 x4 q h 0 rfl j hj (fun r d => qv (ix2 r d)) (fun d c => kv (ix3 (0 : Fin 1) d c)) hq hk) (.inl rfl)

theorem st_tile_before {κ : Kind} {sp : Space} (h : Fin 2) (j : ℕ) (hj : j < 4 * q)
    (qv : Vec Ideal S1024x128 .bf16) (kv : Vec Ideal S1x128x256 .bf16)
    (hq : ∀ (r : Fin 1024) d, qv (ix2 r d) = x3 (ix2 ⟨0 + r.val, by omega⟩ (col h d))) (hk : ∀ d c, kv (ix3 (0 : Fin 1) d c) = x4 (ix3 (tile j) (col h d) c))
    (v : View sig κ sp S2x16x1024x256 .f32) (L : List (View.Piece (Elt Ideal) S2x16x1024x256 .f32)) (f : v.ty.Contents (Elt Ideal)) {off : Fin 4 → ℕ}
    (he : off = ![h.val, j, 0, 0]) (inb) (w) (hw : w = k0_pay3 qv kv) (hL : Tiles q (v.read _ (v.writes _ f L)) h j (mscore x3 x4 q h)) :
    Tiles q (v.read _ (v.writes (Elt Ideal) f ((⟨Rect.unit (s := S2x16x1024x256) off ![1, 1, 1024, 256] inb, w⟩ : View.Piece _ _ .f32) :: L))) h (j + 1) (mscore x3 x4 q h) :=
  st_tile x3 x4 q v L f h 0 rfl j (fun _ _ => Nat.zero_le _) he inb w (fun r c => ∑ d : Fin 128, qv (ix2 r d) * kv (ix3 (0 : Fin 1) d c))
    (fun r c => (congrFun hw _).trans (pay_s qv kv r c))
    (tile_before x3 x4 q h 0 rfl j hj (fun r d => qv (ix2 r d)) (fun d c => kv (ix3 (0 : Fin 1) d c)) hq hk) hL

end

theorem key_at (j o : ℕ) (c : Fin 256) (e : o = 256 * j) (ho : o + c.val < 4096) : (⟨o + c.val, ho⟩ : Fin 4096) = key j c :=
  Fin.ext (by show o + c.val = (256 * j + c.val) % 4096; omega)

/-- Four tiles' lane sums at once. -/
theorem st_l4 {κ : Kind} {sp : Space} (h : Fin 2) (j : ℕ) (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w)
    (s0 s1 s2 s3 : Vec Ideal S1x1x1024x256 .f32) (m a : Vec Ideal S1x1024x128 .f32)
    (hm : ∀ (r : Fin 1024) l, m (ix3 (0 : Fin 1) r l) = rmax x3 x4 q h ⟨0 + r.val, by omega⟩)
    (ha : ∀ (r : Fin 1024) l, a (ix3 (0 : Fin 1) r l) = lsum x3 x4 q h j ⟨0 + r.val, by omega⟩ l)
    (h0 : ∀ (r : Fin 1024) c, s0 (ix4 (0 : Fin 1) (0 : Fin 1) r c) = mscore x3 x4 q h j ⟨0 + r.val, by omega⟩ c)
    (h1 : ∀ (r : Fin 1024) c, s1 (ix4 (0 : Fin 1) (0 : Fin 1) r c) = mscore x3 x4 q h (j + 1) ⟨0 + r.val, by omega⟩ c)
    (h2 : ∀ (r : Fin 1024) c, s2 (ix4 (0 : Fin 1) (0 : Fin 1) r c) = mscore x3 x4 q h (j + 2) ⟨0 + r.val, by omega⟩ c)
    (h3 : ∀ (r : Fin 1024) c, s3 (ix4 (0 : Fin 1) (0 : Fin 1) r c) = mscore x3 x4 q h (j + 3) ⟨0 + r.val, by omega⟩ c)
    (hw : w = k0_pay63 (k0_pay46 m) (k0_pay54 m a s0 s1) s2 s3) :
    ∀ f, Half (v.read _ (v.writes (Elt Ideal) f ((⟨Rect.unit (s := S2x1024x128) ![h.val, 0, 0] ![1, 1024, 128] inb, w⟩ : View.Piece _ _ .f32) :: L))) h (lsum x3 x4 q h (j + 4)) := by
  refine fun f => half_same v f L h 0 1024 rfl inb w (lsum x3 x4 q h j) _ (fun r hr l => ?_) (fun r hr l => absurd hr (Nat.not_lt_zero _))
  have e : (⟨0 + r.val, by omega⟩ : Fin 1024) = r := Fin.ext (Nat.zero_add _)
  refine (congrFun hw _).trans ((pay_l4 s0 s1 s2 s3 m a r l).trans ?_)
  unfold two
  rw [hm, ha, h0, h0, h1, h1, h2, h2, h3, h3, e]
  rfl

/-- Four tiles' weighted sums at once. -/
theorem st_a4 {κ : Kind} {sp : Space} (h : Fin 2) (j : ℕ) (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w)
    (s0 s1 s2 s3 : Vec Ideal S1x1x1024x256 .f32) (va vb : Vec Ideal S512x128 .bf16) (m a : Vec Ideal S1x1024x128 .f32)
    (hm : ∀ (r : Fin 1024) l, m (ix3 (0 : Fin 1) r l) = rmax x3 x4 q h ⟨0 + r.val, by omega⟩)
    (ha : ∀ (r : Fin 1024) l, a (ix3 (0 : Fin 1) r l) = wsum x3 x4 x5 q h j ⟨0 + r.val, by omega⟩ l)
    (h0 : ∀ (r : Fin 1024) c, s0 (ix4 (0 : Fin 1) (0 : Fin 1) r c) = mscore x3 x4 q h j ⟨0 + r.val, by omega⟩ c)
    (h1 : ∀ (r : Fin 1024) c, s1 (ix4 (0 : Fin 1) (0 : Fin 1) r c) = mscore x3 x4 q h (j + 1) ⟨0 + r.val, by omega⟩ c)
    (h2 : ∀ (r : Fin 1024) c, s2 (ix4 (0 : Fin 1) (0 : Fin 1) r c) = mscore x3 x4 q h (j + 2) ⟨0 + r.val, by omega⟩ c)
    (h3 : ∀ (r : Fin 1024) c, s3 (ix4 (0 : Fin 1) (0 : Fin 1) r c) = mscore x3 x4 q h (j + 3) ⟨0 + r.val, by omega⟩ c)
    (oa ob : ℕ) (hoa : oa = 256 * j) (hob : ob = 256 * (j + 2)) (hj : j + 4 ≤ 16)
    (hva : ∀ (c : Fin 512) n, va (ix2 c n) = x5 (ix2 ⟨oa + c.val, by omega⟩ n))
    (hvb : ∀ (c : Fin 512) n, vb (ix2 c n) = x5 (ix2 ⟨ob + c.val, by omega⟩ n))
    (hw : w = k0_pay64 (k0_pay62 (k0_pay46 m) (k0_pay47 a) va (k0_pay55 m s0 s1) vb s2 s3)) :
    ∀ f, Half (v.read _ (v.writes (Elt Ideal) f ((⟨Rect.unit (s := S2x1024x128) ![h.val, 0, 0] ![1, 1024, 128] inb, w⟩ : View.Piece _ _ .f32) :: L))) h (wsum x3 x4 x5 q h (j + 4)) := by
  refine fun f => half_same v f L h 0 1024 rfl inb w (wsum x3 x4 x5 q h j) _ (fun r hr l => ?_) (fun r hr l => absurd hr (Nat.not_lt_zero _))
  have e : (⟨0 + r.val, by omega⟩ : Fin 1024) = r := Fin.ext (Nat.zero_add _)
  refine (congrFun hw _).trans ((pay_a4 s0 s1 s2 s3 va vb m a r l (rmax x3 x4 q h r) fun l => (hm r l).trans (by rw [e])).trans ?_)
  have key4 : ∀ (s : Vec Ideal S1x1x1024x256 .f32) (vv : Vec Ideal S512x128 .bf16) (o o' i : ℕ) (ho : o + 256 ≤ 512) (ho' : o' + 512 ≤ 4096)
      (hs : ∀ (r : Fin 1024) c, s (ix4 (0 : Fin 1) (0 : Fin 1) r c) = mscore x3 x4 q h i ⟨0 + r.val, by omega⟩ c)
      (hv : ∀ (c : Fin 512) n, vv (ix2 c n) = x5 (ix2 ⟨o' + c.val, by omega⟩ n)) (hi : o' + o = 256 * i),
      wv s vv (rmax x3 x4 q h r) o ho r l = ∑ c : Fin 256, pw x3 x4 q h i r c * x5 (ix2 (key i c) l) := by
    intro s vv o o' i ho ho' hs hv hi
    refine Finset.sum_congr rfl fun c _ => ?_
    rw [hs, hv, e]
    have e' : (⟨o' + (⟨o + c.val, by omega⟩ : Fin 512).val, by have := c.isLt; show o' + (o + c.val) < 4096; omega⟩ : Fin 4096) = key i c :=
      Fin.ext (by show o' + (o + c.val) = (256 * i + c.val) % 4096; omega)
    rw [e']
    rfl
  rw [key4 s0 va 0 oa j _ (by omega) h0 hva (by omega), key4 s1 va 256 oa (j + 1) _ (by omega) h1 hva (by omega),
    key4 s2 vb 0 ob (j + 2) _ (by omega) h2 hvb (by omega), key4 s3 vb 256 ob (j + 3) _ (by omega) h3 hvb (by omega), ha, e]
  rw [← add_assoc, ← add_assoc]
  rfl

end Cert.Kernel3Ideal.Attn

end
-- ==== Proof.AttnLoopA.lean ====
/-
  The first pass over the tiles before the diagonal: scores and lane maxima.
-/
module

public import proofs.«01_k».proof.Proof.AttnStep
public import Idealize.ShloMosaic.Lib.Exec
public import Idealize.ShloMosaic.Lib.Tactic

@[expose] public section

set_option maxRecDepth 16384
set_option warn.classDefReducibility false

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem trips_t1 : ∀ i : grid0.Coords, (k0_t1_loop i).trips = (i 2).val := by decide +kernel

/-- Before trip `k` of the first pass: scores and lane maxima of the tiles of the trips before. -/
def PassA (i : grid0.Coords) {arg3 : Memref sig .tc .vmem S1024x256 .bf16} {arg4 : Memref sig .tc .vmem S16x256x256 .bf16} {arg7 : Memref sig .tc .vmem S2x16x1024x256 .f32} {arg8 : Memref sig .tc .vmem S2x1024x128 .f32}
    (X3 : BufTy.Contents (Elt Ideal) arg3.view.ty) (X4 : BufTy.Contents (Elt Ideal) arg4.view.ty) (k : ℕ) (f7 : BufTy.Contents (Elt Ideal) arg7.view.ty) (f8 : BufTy.Contents (Elt Ideal) arg8.view.ty) : Prop :=
  (∀ h, Tiles (i 2).val (arg7.view.read (Elt Ideal) f7) h (4 * k) (mscore (arg3.view.read (Elt Ideal) X3) (arg4.view.read (Elt Ideal) X4) (i 2).val h))
    ∧ ∀ h, Half (arg8.view.read (Elt Ideal) f8) h (lmax (arg3.view.read (Elt Ideal) X3) (arg4.view.read (Elt Ideal) X4) (i 2).val h (4 * k))

set_option maxHeartbeats 2000000 in
/-- The first pass over the tiles before the diagonal. -/
def inv_t1 (𝒱 : Variants) (c : Dev nD) (bd : Option 𝒱.V) (E : Set ℕ) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole) (X3 : BufTy.Contents (Elt Ideal) arg3.view.ty) (X4 : BufTy.Contents (Elt Ideal) arg4.view.ty) :
    Idealize.ShloMosaic.LoopInv (M := 𝕄) Idealize.ShloMosaic.frame (wpE (defs₀ (F := Ideal)) 𝒱 (c : Thread nD τ) bd) E
      (k0_t1_loop i).lb (k0_t1_loop i).ub (k0_t1_loop i).st (k0_t1_ok i) () (k0_t1_body (F := Ideal) i arg3 harg3 arg4 harg4 arg5 harg5 arg6 harg6 arg7 harg7 arg8 harg8 arg9 harg9 arg10 harg10) where
  inv k _ := iprop((arg3.view.loc (c : Thread nD τ) ↦[arg3.view.set]{fullShare} X3) ∗ (arg4.view.loc (c : Thread nD τ) ↦[arg4.view.set]{fullShare} X4) ∗ ∃ f7 f8, ⌜PassA i X3 X4 k f7 f8⌝ ∗ (arg7.view.loc (c : Thread nD τ) ↦[arg7.view.set]{fullShare} f7) ∗ (arg8.view.loc (c : Thread nD τ) ↦[arg8.view.set]{fullShare} f8))
  step k0_t1 acc := by
    unfold k0_t1_body
    iintro ⟨H3, H4, ⟨%f7, ⟨%f8, ⟨%hP, ⟨H7, H8⟩⟩⟩⟩⟩
    sl_exec
    sl_step
    isplitl [H3]; · iexact H3
    isplitl [H4]; · iexact H4
    iexists _
    iexists _
    isplitr; swap
    · isplitl [H7]; · iexact H7
      iexact H8
    · ipureintro
      have hk : k0_t1.val < (i 2).val := (trips_t1 i) ▸ k0_t1.isLt
      have hi : (i 2).val < 4 := (i 2).isLt
      unfold PassA at hP ⊢
      have m1 : ∀ f, Half (arg8.view.read (Elt Ideal) (arg8.view.writes (Elt Ideal) f (inv_t1.sl.H8_2 i arg3 arg4 arg8 X3 X4 k0_t1 f8))) 1 (lmax (arg3.view.read (Elt Ideal) X3) (arg4.view.read (Elt Ideal) X4) (i 2).val 1 (4 * k0_t1.val + 1)) := (st_max_before (arg3.view.read (Elt Ideal) X3) (arg4.view.read (Elt Ideal) X4) (i 2).val 1 (4 * k0_t1.val + 0) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 0)) S1x128x256.size (k0_off3_inb i k0_t1 ⟨0, by decide⟩)).toLoadRect X4) (q_read arg3.view X3 1 0 1024 rfl rfl _) (k_read arg4.view X4 1 (4 * k0_t1.val + 0) (by omega) (k0_off3_eq i k0_t1 ⟨0, by decide⟩) _) arg8.view _ _ _ (arg8.view.readAt (Elt Ideal) (Rect.unit (s := S2x1024x128) ![1, 0, 0] S1x1024x128.size inb_S2x1024x128_S1x1024x128_1_0_0).toLoadRect f8) (half_read arg8.view _ 1 0 1024 rfl _ _ (hP.2 1)) rfl)
      have m0 : ∀ f, Half (arg8.view.read (Elt Ideal) (arg8.view.writes (Elt Ideal) f (inv_t1.sl.H8_2 i arg3 arg4 arg8 X3 X4 k0_t1 f8))) 0 (lmax (arg3.view.read (Elt Ideal) X3) (arg4.view.read (Elt Ideal) X4) (i 2).val 0 (4 * k0_t1.val + 1)) := fun f => half_other arg8.view f _ 1 0 0 1024 0 (by decide) _ _ _ ((st_max_before (arg3.view.read (Elt Ideal) X3) (arg4.view.read (Elt Ideal) X4) (i 2).val 0 (4 * k0_t1.val + 0) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 0)) S1x128x256.size (k0_off1_inb i k0_t1 ⟨0, by decide⟩)).toLoadRect X4) (q_read arg3.view X3 0 0 1024 rfl rfl _) (k_read arg4.view X4 0 (4 * k0_t1.val + 0) (by omega) (k0_off1_eq i k0_t1 ⟨0, by decide⟩) _) arg8.view _ _ _ (arg8.view.readAt (Elt Ideal) (Rect.unit (s := S2x1024x128) ![0, 0, 0] S1x1024x128.size inb_S2x1024x128_S1x1024x128_0_0_0).toLoadRect f8) (half_read arg8.view _ 0 0 1024 rfl _ _ (hP.2 0)) rfl) f)
      have m0 : ∀ f, Half (arg8.view.read (Elt Ideal) (arg8.view.writes (Elt Ideal) f (inv_t1.sl.H8_3 i arg3 arg4 arg8 X3 X4 k0_t1 f8))) 0 (lmax (arg3.view.read (Elt Ideal) X3) (arg4.view.read (Elt Ideal) X4) (i 2).val 0 (4 * k0_t1.val + 2)) := (st_max_before (arg3.view.read (Elt Ideal) X3) (arg4.view.read (Elt Ideal) X4) (i 2).val 0 (4 * k0_t1.val + 1) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 1)) S1x128x256.size (k0_off1_inb i k0_t1 ⟨1, by decide⟩)).toLoadRect X4) (q_read arg3.view X3 0 0 1024 rfl rfl _) (k_read arg4.view X4 0 (4 * k0_t1.val + 1) (by omega) (k0_off1_eq i k0_t1 ⟨1, by decide⟩) _) arg8.view _ _ _ (arg8.view.readAt (Elt Ideal) (Rect.unit (s := S2x1024x128) ![0, 0, 0] S1x1024x128.size inb_S2x1024x128_S1x1024x128_0_0_0).toLoadRect (arg8.view.writes (Elt Ideal) arg8.view.junk (inv_t1.sl.H8_2 i arg3 arg4 arg8 X3 X4 k0_t1 f8))) (half_read arg8.view _ 0 0 1024 rfl _ _ (m0 _)) rfl)
      have m1 : ∀ f, Half (arg8.view.read (Elt Ideal) (arg8.view.writes (Elt Ideal) f (inv_t1.sl.H8_3 i arg3 arg4 arg8 X3 X4 k0_t1 f8))) 1 (lmax (arg3.view.read (Elt Ideal) X3) (arg4.view.read (Elt Ideal) X4) (i 2).val 1 (4 * k0_t1.val + 1)) := fun f => half_other arg8.view f _ 0 0 0 1024 1 (by decide) _ _ _ (m1 f)
      have m1' : ∀ f, Half (arg8.view.read (Elt Ideal) (arg8.view.writes (Elt Ideal) f (inv_t1.sl.H8_4 i arg3 arg4 arg8 X3 X4 k0_t1 f8))) 1 (lmax (arg3.view.read (Elt Ideal) X3) (arg4.view.read (Elt Ideal) X4) (i 2).val 1 (4 * k0_t1.val + 2)) := (st_max_before (arg3.view.read (Elt Ideal) X3) (arg4.view.read (Elt Ideal) X4) (i 2).val 1 (4 * k0_t1.val + 1) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 1)) S1x128x256.size (k0_off3_inb i k0_t1 ⟨1, by decide⟩)).toLoadRect X4) (q_read arg3.view X3 1 0 1024 rfl rfl _) (k_read arg4.view X4 1 (4 * k0_t1.val + 1) (by omega) (k0_off3_eq i k0_t1 ⟨1, by decide⟩) _) arg8.view _ _ _ (arg8.view.readAt (Elt Ideal) (Rect.unit (s := S2x1024x128) ![1, 0, 0] S1x1024x128.size inb_S2x1024x128_S1x1024x128_1_0_0).toLoadRect (arg8.view.writes (Elt Ideal) arg8.view.junk (inv_t1.sl.H8_3 i arg3 arg4 arg8 X3 X4 k0_t1 f8))) (half_read arg8.view _ 1 0 1024 rfl _ _ (m1 _)) rfl)
      have m0 : ∀ f, Half (arg8.view.read (Elt Ideal) (arg8.view.writes (Elt Ideal) f (inv_t1.sl.H8_4 i arg3 arg4 arg8 X3 X4 k0_t1 f8))) 0 (lmax (arg3.view.read (Elt Ideal) X3) (arg4.view.read (Elt Ideal) X4) (i 2).val 0 (4 * k0_t1.val + 2)) := fun f => half_other arg8.view f _ 1 0 0 1024 0 (by decide) _ _ _ (m0 f)
      have m1 := m1'
      have m0 : ∀ f, Half (arg8.view.read (Elt Ideal) (arg8.view.writes (Elt Ideal) f (inv_t1.sl.H8_5 i arg3 arg4 arg8 X3 X4 k0_t1 f8))) 0 (lmax (arg3.view.read (Elt Ideal) X3) (arg4.view.read (Elt Ideal) X4) (i 2).val 0 (4 * k0_t1.val + 3)) := (st_max_before (arg3.view.read (Elt Ideal) X3) (arg4.view.read (Elt Ideal) X4) (i 2).val 0 (4 * k0_t1.val + 2) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 2)) S1x128x256.size (k0_off1_inb i k0_t1 ⟨2, by decide⟩)).toLoadRect X4) (q_read arg3.view X3 0 0 1024 rfl rfl _) (k_read arg4.view X4 0 (4 * k0_t1.val + 2) (by omega) (k0_off1_eq i k0_t1 ⟨2, by decide⟩) _) arg8.view _ _ _ (arg8.view.readAt (Elt Ideal) (Rect.unit (s := S2x1024x128) ![0, 0, 0] S1x1024x128.size inb_S2x1024x128_S1x1024x128_0_0_0).toLoadRect (arg8.view.writes (Elt Ideal) arg8.view.junk (inv_t1.sl.H8_4 i arg3 arg4 arg8 X3 X4 k0_t1 f8))) (half_read arg8.view _ 0 0 1024 rfl _ _ (m0 _)) rfl)
      have m1 : ∀ f, Half (arg8.view.read (Elt Ideal) (arg8.view.writes (Elt Ideal) f (inv_t1.sl.H8_5 i arg3 arg4 arg8 X3 X4 k0_t1 f8))) 1 (lmax (arg3.view.read (Elt Ideal) X3) (arg4.view.read (Elt Ideal) X4) (i 2).val 1 (4 * k0_t1.val + 2)) := fun f => half_other arg8.view f _ 0 0 0 1024 1 (by decide) _ _ _ (m1 f)
      have m1' : ∀ f, Half (arg8.view.read (Elt Ideal) (arg8.view.writes (Elt Ideal) f (inv_t1.sl.H8_6 i arg3 arg4 arg8 X3 X4 k0_t1 f8))) 1 (lmax (arg3.view.read (Elt Ideal) X3) (arg4.view.read (Elt Ideal) X4) (i 2).val 1 (4 * k0_t1.val + 3)) := (st_max_before (arg3.view.read (Elt Ideal) X3) (arg4.view.read (Elt Ideal) X4) (i 2).val 1 (4 * k0_t1.val + 2) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 2)) S1x128x256.size (k0_off3_inb i k0_t1 ⟨2, by decide⟩)).toLoadRect X4) (q_read arg3.view X3 1 0 1024 rfl rfl _) (k_read arg4.view X4 1 (4 * k0_t1.val + 2) (by omega) (k0_off3_eq i k0_t1 ⟨2, by decide⟩) _) arg8.view _ _ _ (arg8.view.readAt (Elt Ideal) (Rect.unit (s := S2x1024x128) ![1, 0, 0] S1x1024x128.size inb_S2x1024x128_S1x1024x128_1_0_0).toLoadRect (arg8.view.writes (Elt Ideal) arg8.view.junk (inv_t1.sl.H8_5 i arg3 arg4 arg8 X3 X4 k0_t1 f8))) (half_read arg8.view _ 1 0 1024 rfl _ _ (m1 _)) rfl)
      have m0 : ∀ f, Half (arg8.view.read (Elt Ideal) (arg8.view.writes (Elt Ideal) f (inv_t1.sl.H8_6 i arg3 arg4 arg8 X3 X4 k0_t1 f8))) 0 (lmax (arg3.view.read (Elt Ideal) X3) (arg4.view.read (Elt Ideal) X4) (i 2).val 0 (4 * k0_t1.val + 3)) := fun f => half_other arg8.view f _ 1 0 0 1024 0 (by decide) _ _ _ (m0 f)
      have m1 := m1'
      have m0 : ∀ f, Half (arg8.view.read (Elt Ideal) (arg8.view.writes (Elt Ideal) f (inv_t1.sl.H8_7 i arg3 arg4 arg8 X3 X4 k0_t1 f8))) 0 (lmax (arg3.view.read (Elt Ideal) X3) (arg4.view.read (Elt Ideal) X4) (i 2).val 0 (4 * k0_t1.val + 4)) := (st_max_before (arg3.view.read (Elt Ideal) X3) (arg4.view.read (Elt Ideal) X4) (i 2).val 0 (4 * k0_t1.val + 3) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 3)) S1x128x256.size (k0_off1_inb i k0_t1 ⟨3, by decide⟩)).toLoadRect X4) (q_read arg3.view X3 0 0 1024 rfl rfl _) (k_read arg4.view X4 0 (4 * k0_t1.val + 3) (by omega) (k0_off1_eq i k0_t1 ⟨3, by decide⟩) _) arg8.view _ _ _ (arg8.view.readAt (Elt Ideal) (Rect.unit (s := S2x1024x128) ![0, 0, 0] S1x1024x128.size inb_S2x1024x128_S1x1024x128_0_0_0).toLoadRect (arg8.view.writes (Elt Ideal) arg8.view.junk (inv_t1.sl.H8_6 i arg3 arg4 arg8 X3 X4 k0_t1 f8))) (half_read arg8.view _ 0 0 1024 rfl _ _ (m0 _)) rfl)
      have m1 : ∀ f, Half (arg8.view.read (Elt Ideal) (arg8.view.writes (Elt Ideal) f (inv_t1.sl.H8_7 i arg3 arg4 arg8 X3 X4 k0_t1 f8))) 1 (lmax (arg3.view.read (Elt Ideal) X3) (arg4.view.read (Elt Ideal) X4) (i 2).val 1 (4 * k0_t1.val + 3)) := fun f => half_other arg8.view f _ 0 0 0 1024 1 (by decide) _ _ _ (m1 f)
      refine ⟨fun h => ?_, fun h => ?_⟩
      · match h with
        | 0 => exact (tiles_other (i 2).val arg7.view _ _ 1 0 (by decide) (4 * k0_t1.val + 3) 0 1024 _ (k0_off4_eq i k0_t1 ⟨3, by decide⟩) _ _ _ (st_tile_before (arg3.view.read (Elt Ideal) X3) (arg4.view.read (Elt Ideal) X4) (i 2).val 0 (4 * k0_t1.val + 3) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 3)) S1x128x256.size (k0_off1_inb i k0_t1 ⟨3, by decide⟩)).toLoadRect X4) (q_read arg3.view X3 0 0 1024 rfl rfl _) (k_read arg4.view X4 0 (4 * k0_t1.val + 3) (by omega) (k0_off1_eq i k0_t1 ⟨3, by decide⟩) _) arg7.view _ _ (k0_off2_eq i k0_t1 ⟨3, by decide⟩) _ _ rfl (tiles_other (i 2).val arg7.view _ _ 1 0 (by decide) (4 * k0_t1.val + 2) 0 1024 _ (k0_off4_eq i k0_t1 ⟨2, by decide⟩) _ _ _ (st_tile_before (arg3.view.read (Elt Ideal) X3) (arg4.view.read (Elt Ideal) X4) (i 2).val 0 (4 * k0_t1.val + 2) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 2)) S1x128x256.size (k0_off1_inb i k0_t1 ⟨2, by decide⟩)).toLoadRect X4) (q_read arg3.view X3 0 0 1024 rfl rfl _) (k_read arg4.view X4 0 (4 * k0_t1.val + 2) (by omega) (k0_off1_eq i k0_t1 ⟨2, by decide⟩) _) arg7.view _ _ (k0_off2_eq i k0_t1 ⟨2, by decide⟩) _ _ rfl (tiles_other (i 2).val arg7.view _ _ 1 0 (by decide) (4 * k0_t1.val + 1) 0 1024 _ (k0_off4_eq i k0_t1 ⟨1, by decide⟩) _ _ _ (st_tile_before (arg3.view.read (Elt Ideal) X3) (arg4.view.read (Elt Ideal) X4) (i 2).val 0 (4 * k0_t1.val + 1) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 1)) S1x128x256.size (k0_off1_inb i k0_t1 ⟨1, by decide⟩)).toLoadRect X4) (q_read arg3.view X3 0 0 1024 rfl rfl _) (k_read arg4.view X4 0 (4 * k0_t1.val + 1) (by omega) (k0_off1_eq i k0_t1 ⟨1, by decide⟩) _) arg7.view _ _ (k0_off2_eq i k0_t1 ⟨1, by decide⟩) _ _ rfl (tiles_other (i 2).val arg7.view _ _ 1 0 (by decide) (4 * k0_t1.val + 0) 0 1024 _ (k0_off4_eq i k0_t1 ⟨0, by decide⟩) _ _ _ (st_tile_before (arg3.view.read (Elt Ideal) X3) (arg4.view.read (Elt Ideal) X4) (i 2).val 0 (4 * k0_t1.val + 0) (by omega) (arg3.view.readAt (Elt Ideal) (Rect.unit (s := S1024x256) ![0, 0] S1024x128.size inb_S1024x256_S1024x128_0_0).toLoadRect X3) (arg4.view.readAt (Elt Ideal) (Rect.unit (s := S16x256x256) (k0_off1 i k0_t1 (BitVec.ofNat 32 0)) S1x128x256.size (k0_off1_inb i k0_t1 ⟨0, by decide⟩)).toLoadRect X4) (q_read arg3.view X3 0 0 1024 rfl rfl _) (k_read arg4.view X4 0 (4 * k0_t1.val + 0) (by omega) (k0_off1_eq i k0_t1 ⟨0, by decide⟩) _) arg7.view _ _ (k0_off2_eq i k0_t1 ⟨0, by decide⟩) _ _ rfl (hP.1 0)))))))))
        | 1 => exact (st_tile_before (arg3.view.read (Elt Ideal) X3) (arg4.view.read (Elt Ideal) X4) (i 2).val 1 (4 * k0_t1.val + 3) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 3)) S1x128x256.size (k0_off3_inb i k0_t1 ⟨3, by decide⟩)).toLoadRect X4) (q_read arg3.view X3 1 0 1024 rfl rfl _) (k_read arg4.view X4 1 (4 * k0_t1.val + 3) (by omega) (k0_off3_eq i k0_t1 ⟨3, by decide⟩) _) arg7.view _ _ (k0_off4_eq i k0_t1 ⟨3, by decide⟩) _ _ rfl (tiles_other (i 2).val arg7.view _ _ 0 1 (by decide) (4 * k0_t1.val + 3) 0 1024 _ (k0_off2_eq i k0_t1 ⟨3, by decide⟩) _ _ _ (st_tile_before (arg3.view.read (Elt Ideal) X3) (arg4.view.read (Elt Ideal) X4) (i 2).val 1 (4 * k0_t1.val + 2) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 2)) S1x128x256.size (k0_off3_inb i k0_t1 ⟨2, by decide⟩)).toLoadRect X4) (q_read arg3.view X3 1 0 1024 rfl rfl _) (k_read arg4.view X4 1 (4 * k0_t1.val + 2) (by omega) (k0_off3_eq i k0_t1 ⟨2, by decide⟩) _) arg7.view _ _ (k0_off4_eq i k0_t1 ⟨2, by decide⟩) _ _ rfl (tiles_other (i 2).val arg7.view _ _ 0 1 (by decide) (4 * k0_t1.val + 2) 0 1024 _ (k0_off2_eq i k0_t1 ⟨2, by decide⟩) _ _ _ (st_tile_before (arg3.view.read (Elt Ideal) X3) (arg4.view.read (Elt Ideal) X4) (i 2).val 1 (4 * k0_t1.val + 1) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 1)) S1x128x256.size (k0_off3_inb i k0_t1 ⟨1, by decide⟩)).toLoadRect X4) (q_read arg3.view X3 1 0 1024 rfl rfl _) (k_read arg4.view X4 1 (4 * k0_t1.val + 1) (by omega) (k0_off3_eq i k0_t1 ⟨1, by decide⟩) _) arg7.view _ _ (k0_off4_eq i k0_t1 ⟨1, by decide⟩) _ _ rfl (tiles_other (i 2).val arg7.view _ _ 0 1 (by decide) (4 * k0_t1.val + 1) 0 1024 _ (k0_off2_eq i k0_t1 ⟨1, by decide⟩) _ _ _ (st_tile_before (arg3.view.read (Elt Ideal) X3) (arg4.view.read (Elt Ideal) X4) (i 2).val 1 (4 * k0_t1.val + 0) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 0)) S1x128x256.size (k0_off3_inb i k0_t1 ⟨0, by decide⟩)).toLoadRect X4) (q_read arg3.view X3 1 0 1024 rfl rfl _) (k_read arg4.view X4 1 (4 * k0_t1.val + 0) (by omega) (k0_off3_eq i k0_t1 ⟨0, by decide⟩) _) arg7.view _ _ (k0_off4_eq i k0_t1 ⟨0, by decide⟩) _ _ rfl (tiles_other (i 2).val arg7.view _ _ 0 1 (by decide) (4 * k0_t1.val + 0) 0 1024 _ (k0_off2_eq i k0_t1 ⟨0, by decide⟩) _ _ _ (hP.1 1)))))))))
      · match h with
        | 0 => exact half_other arg8.view _ _ 1 0 0 1024 0 (by decide) _ _ _ (m0 _)
        | 1 => exact (st_max_before (arg3.view.read (Elt Ideal) X3) (arg4.view.read (Elt Ideal) X4) (i 2).val 1 (4 * k0_t1.val + 3) (by omega) (arg3.view.readAt (Elt Ideal) (Rect.unit (s := S1024x256) ![0, 128] S1024x128.size inb_S1024x256_S1024x128_0_128).toLoadRect X3) (arg4.view.readAt (Elt Ideal) (Rect.unit (s := S16x256x256) (k0_off3 i k0_t1 (BitVec.ofNat 32 3)) S1x128x256.size (k0_off3_inb i k0_t1 ⟨3, by decide⟩)).toLoadRect X4) (q_read arg3.view X3 1 0 1024 rfl rfl _) (k_read arg4.view X4 1 (4 * k0_t1.val + 3) (by omega) (k0_off3_eq i k0_t1 ⟨3, by decide⟩) _) arg8.view _ _ _ (arg8.view.readAt (Elt Ideal) (Rect.unit (s := S2x1024x128) ![1, 0, 0] S1x1024x128.size inb_S2x1024x128_S1x1024x128_1_0_0).toLoadRect (arg8.view.writes (Elt Ideal) arg8.view.junk (inv_t1.sl.H8_7 i arg3 arg4 arg8 X3 X4 k0_t1 f8))) (half_read arg8.view _ 1 0 1024 rfl _ _ (m1 _)) rfl) _

end Cert.Kernel3Ideal.Attn
-- ==== Proof.AttnDiag.lean ====
/-
  The stores of a tile on the diagonal: only the rows from which some key of the tile can be seen.
-/
module

public import proofs.«01_k».proof.Proof.AttnStep

@[expose] public section

set_option maxRecDepth 16384

noncomputable section

namespace Cert.Kernel3Ideal.Attn

open Cert.Kernel3Ideal.Gen
open Idealize.ShloMosaic Idealize.ShloMosaic.TcCoe

variable (x3 : Vec Ideal S1024x256 .bf16) (x4 : Vec Ideal S16x256x256 .bf16) (x5 : Vec Ideal S4096x128 .bf16) (q : ℕ)

/-- The row maximum stored in every lane. -/
theorem st_rmax {κ : Kind} {sp : Space} (h : Fin 2) (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w) (m : Vec Ideal S1x1024x128 .f32)
    (hm : ∀ (r : Fin 1024) l, m (ix3 (0 : Fin 1) r l) = lmax x3 x4 q h (4 * q + 4) ⟨0 + r.val, by omega⟩ l) (hw : w = k0_pay165 m) :
    ∀ f, Half (v.read _ (v.writes (Elt Ideal) f ((⟨Rect.unit (s := S2x1024x128) ![h.val, 0, 0] ![1, 1024, 128] inb, w⟩ : View.Piece _ _ .f32) :: L))) h (fun r _ => rmax x3 x4 q h r) := by
  refine fun f => half_same v f L h 0 1024 rfl inb w (fun r _ => rmax x3 x4 q h r) _ (fun r hr l => ?_) (fun r hr l => absurd hr (Nat.not_lt_zero _))
  have e : (⟨0 + r.val, by omega⟩ : Fin 1024) = r := Fin.ext (Nat.zero_add _)
  refine (congrFun hw _).trans ((pay_rmax m r l).trans ?_)
  unfold rmax
  exact congrArg _ (funext fun l => (hm r l).trans (by rw [e]))

theorem st_max_d1024 {κ : Kind} {sp : Space} (h : Fin 2) (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w) (qv : Vec Ideal S1024x128 .bf16) (kv : Vec Ideal S1x128x256 .bf16)
    (hq : ∀ (r : Fin 1024) d, qv (ix2 r d) = x3 (ix2 ⟨0 + r.val, by omega⟩ (col h d))) (hk : ∀ d c, kv (ix3 (0 : Fin 1) d c) = x4 (ix3 (tile (4 * q + 0)) (col h d) c))
    (m : Vec Ideal S1x1024x128 .f32) (hm : ∀ (r : Fin 1024) l, m (ix3 (0 : Fin 1) r l) = lmax x3 x4 q h (4 * q + 0) ⟨0 + r.val, by omega⟩ l)
    (hw : w = k0_pay137 k0_pay129 qv kv m)  :
    ∀ f, Half (v.read _ (v.writes (Elt Ideal) f ((⟨Rect.unit (s := S2x1024x128) ![h.val, 0, 0] ![1, 1024, 128] inb, w⟩ : View.Piece _ _ .f32) :: L))) h (lmax x3 x4 q h (4 * q + 1)) :=
  st_max x3 x4 q v L h 0 (by decide) (4 * q + 0) inb w (fun r l => m (ix3 (0 : Fin 1) r l)) (fun r c => if c.val ≤ r.val then ∑ d : Fin 128, qv (ix2 r d) * kv (ix3 (0 : Fin 1) d c) else ⊥)
    (fun r l => (congrFun hw _).trans (pay_dm1024 qv kv m r l)) hm (tile_diag x3 x4 q h 0 (by decide) (4 * q + 0) rfl (fun r d => qv (ix2 r d)) (fun d c => kv (ix3 (0 : Fin 1) d c)) hq hk) (.inl rfl)

theorem st_tile_d1024 {κ : Kind} {sp : Space} (h : Fin 2) (v : View sig κ sp S2x16x1024x256 .f32) (L : List (View.Piece (Elt Ideal) S2x16x1024x256 .f32))
    (f : v.ty.Contents (Elt Ideal)) (qv : Vec Ideal S1024x128 .bf16) (kv : Vec Ideal S1x128x256 .bf16)
    (hq : ∀ (r : Fin 1024) d, qv (ix2 r d) = x3 (ix2 ⟨0 + r.val, by omega⟩ (col h d))) (hk : ∀ d c, kv (ix3 (0 : Fin 1) d c) = x4 (ix3 (tile (4 * q + 0)) (col h d) c)) {off : Fin 4 → ℕ} (he : off = ![h.val, 4 * q + 0, 0, 0]) (inb) (w) (hw : w = k0_pay136 k0_pay129 qv kv)
    (hL : Tiles q (v.read _ (v.writes _ f L)) h (4 * q + 0) (mscore x3 x4 q h)) :
    Tiles q (v.read _ (v.writes (Elt Ideal) f ((⟨Rect.unit (s := S2x16x1024x256) off ![1, 1, 1024, 256] inb, w⟩ : View.Piece _ _ .f32) :: L))) h (4 * q + 1) (mscore x3 x4 q h) :=
  st_tile x3 x4 q v L f h 0 (by decide) (4 * q + 0) (fun r hr => by omega) he inb w (fun r c => if c.val ≤ r.val then ∑ d : Fin 128, qv (ix2 r d) * kv (ix3 (0 : Fin 1) d c) else ⊥)
    (fun r c => (congrFun hw _).trans (pay_ds1024 qv kv r c)) (tile_diag x3 x4 q h 0 (by decide) (4 * q + 0) rfl (fun r d => qv (ix2 r d)) (fun d c => kv (ix3 (0 : Fin 1) d c)) hq hk) hL

theorem st_sum_d1024 {κ : Kind} {sp : Space} (h : Fin 2) (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w) (s : Vec Ideal S1x1x1024x256 .f32) (m a : Vec Ideal S1x1024x128 .f32)
    (hs : ∀ (r : Fin 1024) c, s (ix4 (0 : Fin 1) (0 : Fin 1) r c) = mscore x3 x4 q h (4 * q + 0) ⟨0 + r.val, by omega⟩ c)
    (hm : ∀ (r : Fin 1024) l, m (ix3 (0 : Fin 1) r l) = rmax x3 x4 q h ⟨0 + r.val, by omega⟩)
    (ha : ∀ (r : Fin 1024) l, a (ix3 (0 : Fin 1) r l) = lsum x3 x4 q h (4 * q + 0) ⟨0 + r.val, by omega⟩ l)
    (hw : w = k0_pay174 s m a)  :
    ∀ f, Half (v.read _ (v.writes (Elt Ideal) f ((⟨Rect.unit (s := S2x1024x128) ![h.val, 0, 0] ![1, 1024, 128] inb, w⟩ : View.Piece _ _ .f32) :: L))) h (lsum x3 x4 q h (4 * q + 1)) :=
  st_sum x3 x4 q v L h 0 (by decide) (4 * q + 0) inb w (fun r l => a (ix3 (0 : Fin 1) r l)) (fun r l => m (ix3 (0 : Fin 1) r l)) (fun r c => s (ix4 (0 : Fin 1) (0 : Fin 1) r c))
    (fun r l => (congrFun hw _).trans (pay_dl1024 s m a r l)) ha hm hs (.inl rfl)

theorem st_acc_d1024 {κ : Kind} {sp : Space} (h : Fin 2) (v : View sig κ sp S2x1024x128 .f32) (L : List (View.Piece (Elt Ideal) S2x1024x128 .f32))
    (inb : ∀ a, (![h.val, 0, 0] : Fin 3 → ℕ) a + (![1, 1024, 128] : Fin 3 → ℕ) a ≤ S2x1024x128.size a) (w) (s : Vec Ideal S1x1x1024x256 .f32) (m a : Vec Ideal S1x1024x128 .f32)
    (hs : ∀ (r : Fin 1024) c, s (ix4 (0 : Fin 1) (0 : Fin 1) r c) = mscore x3 x4 q h (4 * q + 0) ⟨0 + r.val, by omega⟩ c)
    (hm : ∀ (r : Fin 1024) l, m (ix3 (0 : Fin 1) r l) = rmax x3 x4 q h ⟨0 + r.val, by omega⟩)
    (ha : ∀ (r : Fin 1024) l, a (ix3 (0 : Fin 1) r l) = wsum x3 x4 x5 q h (4 * q + 0) ⟨0 + r.val, by omega⟩ l)
    (vv : Vec Ideal S256x128 .bf16) (ov : ℕ) (hov : ov = 256 * (4 * q + 0)) (hqq : q < 4) (hv : ∀ (c : Fin 256) n, vv (ix2 c n) = x5 (ix2 ⟨ov + c.val, by omega⟩ n))
    (hw : w = k0_pay175 vv s m a)  :
    ∀ f, Half (v.read _ (v.writes (Elt Ideal) f ((⟨Rect.unit (s := S2x1024x128) ![h.val, 0, 0] ![1, 1024, 128] inb, w⟩ : View.Piece _ _ .f32) :: L))) h (wsum x3 x4 x5 q h (4 * q + 1)) :=
  st_acc x3 x4 x5 q v L h 0 (by decide) (4 * q + 0) inb w (fun r l => a (ix3 (0 : Fin 1) r l)) (fun r c => s (ix4 (0 : Fin 1) (0 : Fin 1) r c)) (fun c n => vv (ix2 c n))
    (fun r M hM l => (congrFun hw _).trans (pay_da1024 vv s m a r l M fun l => (hm r l).trans hM.symm)) ha hs
    (fun c n => (hv c n).trans (by rw [key_at (4 * q + 0) ov c hov])) (.inl rfl)

theorem st_max_d768 {κ : Kind} {sp : Space} (h : Fin 2) (v : View sig κ sp S2x1024x128 .f32) (L : List (View.Piece (Elt Ideal) S2x1024x128 .f32))
    (inb : ∀ a, (![h.val, 256, 0] : Fin 3 → ℕ) a + (![1, 768, 128] : Fin 3 → ℕ) a ≤ S2x1024x128.size a) (w) (qv : Vec Ideal S768x128 .bf16) (kv : Vec Ideal S1x128x256 .bf16)
    (hq : ∀ (r : Fin 768) d, qv (ix2 r d) = x3 (ix2 ⟨256 + r.val, by omega⟩ (col h d))) (hk : ∀ d c, kv (ix3 (0 : Fin 1) d c) = x4 (ix3 (tile (4 * q + 1)) (col h d) c))
    (m : Vec Ideal S1x768x128 .f32) (hm : ∀ (r : Fin 768) l, m (ix3 (0 : Fin 1) r l) = lmax x3 x4 q h (4 * q + 1) ⟨256 + r.val, by omega⟩ l)
    (hw : w = k0_pay146 (k0_pay145 k0_pay138 qv kv m)) (hL : ∀ f, Half (v.read _ (v.writes (Elt Ideal) f L)) h (lmax x3 x4 q h (4 * q + 1))) :
    ∀ f, Half (v.read _ (v.writes (Elt Ideal) f ((⟨Rect.unit (s := S2x1024x128) ![h.val, 256, 0] ![1, 768, 128] inb, w⟩ : View.Piece _ _ .f32) :: L))) h (lmax x3 x4 q h (4 * q + 2)) :=
  st_max x3 x4 q v L h 256 (by decide) (4 * q + 1) inb w (fun r l => m (ix3 (0 : Fin 1) r l)) (fun r c => if c.val ≤ r.val then ∑ d : Fin 128, qv (ix2 r d) * kv (ix3 (0 : Fin 1) d c) else ⊥)
    (fun r l => (congrFun hw _).trans (pay_dm768 qv kv m r l)) hm (tile_diag x3 x4 q h 1 (by decide) (4 * q + 1) rfl (fun r d => qv (ix2 r d)) (fun d c => kv (ix3 (0 : Fin 1) d c)) hq hk) (.inr ⟨by omega, hL⟩)

theorem st_tile_d768 {κ : Kind} {sp : Space} (h : Fin 2) (v : View sig κ sp S2x16x1024x256 .f32) (L : List (View.Piece (Elt Ideal) S2x16x1024x256 .f32))
    (f : v.ty.Contents (Elt Ideal)) (qv : Vec Ideal S768x128 .bf16) (kv : Vec Ideal S1x128x256 .bf16)
    (hq : ∀ (r : Fin 768) d, qv (ix2 r d) = x3 (ix2 ⟨256 + r.val, by omega⟩ (col h d))) (hk : ∀ d c, kv (ix3 (0 : Fin 1) d c) = x4 (ix3 (tile (4 * q + 1)) (col h d) c)) {off : Fin 4 → ℕ} (he : off = ![h.val, 4 * q + 1, 256, 0]) (inb) (w) (hw : w = k0_pay144 k0_pay138 qv kv)
    (hL : Tiles q (v.read _ (v.writes _ f L)) h (4 * q + 1) (mscore x3 x4 q h)) :
    Tiles q (v.read _ (v.writes (Elt Ideal) f ((⟨Rect.unit (s := S2x16x1024x256) off ![1, 1, 768, 256] inb, w⟩ : View.Piece _ _ .f32) :: L))) h (4 * q + 2) (mscore x3 x4 q h) :=
  st_tile x3 x4 q v L f h 256 (by decide) (4 * q + 1) (fun r hr => by omega) he inb w (fun r c => if c.val ≤ r.val then ∑ d : Fin 128, qv (ix2 r d) * kv (ix3 (0 : Fin 1) d c) else ⊥)
    (fun r c => (congrFun hw _).trans (pay_ds768 qv kv r c)) (tile_diag x3 x4 q h 1 (by decide) (4 * q + 1) rfl (fun r d => qv (ix2 r d)) (fun d c => kv (ix3 (0 : Fin 1) d c)) hq hk) hL

theorem st_sum_d768 {κ : Kind} {sp : Space} (h : Fin 2) (v : View sig κ sp S2x1024x128 .f32) (L : List (View.Piece (Elt Ideal) S2x1024x128 .f32))
    (inb : ∀ a, (![h.val, 256, 0] : Fin 3 → ℕ) a + (![1, 768, 128] : Fin 3 → ℕ) a ≤ S2x1024x128.size a) (w) (s : Vec Ideal S1x1x768x256 .f32) (m a : Vec Ideal S1x768x128 .f32)
    (hs : ∀ (r : Fin 768) c, s (ix4 (0 : Fin 1) (0 : Fin 1) r c) = mscore x3 x4 q h (4 * q + 1) ⟨256 + r.val, by omega⟩ c)
    (hm : ∀ (r : Fin 768) l, m (ix3 (0 : Fin 1) r l) = rmax x3 x4 q h ⟨256 + r.val, by omega⟩)
    (ha : ∀ (r : Fin 768) l, a (ix3 (0 : Fin 1) r l) = lsum x3 x4 q h (4 * q + 1) ⟨256 + r.val, by omega⟩ l)
    (hw : w = k0_pay194 (k0_pay193 s m a)) (hL : ∀ f, Half (v.read _ (v.writes (Elt Ideal) f L)) h (lsum x3 x4 q h (4 * q + 1))) :
    ∀ f, Half (v.read _ (v.writes (Elt Ideal) f ((⟨Rect.unit (s := S2x1024x128) ![h.val, 256, 0] ![1, 768, 128] inb, w⟩ : View.Piece _ _ .f32) :: L))) h (lsum x3 x4 q h (4 * q + 2)) :=
  st_sum x3 x4 q v L h 256 (by decide) (4 * q + 1) inb w (fun r l => a (ix3 (0 : Fin 1) r l)) (fun r l => m (ix3 (0 : Fin 1) r l)) (fun r c => s (ix4 (0 : Fin 1) (0 : Fin 1) r c))
    (fun r l => (congrFun hw _).trans (pay_dl768 s m a r l)) ha hm hs (.inr ⟨by omega, hL⟩)

theorem st_acc_d768 {κ : Kind} {sp : Space} (h : Fin 2) (v : View sig κ sp S2x1024x128 .f32) (L : List (View.Piece (Elt Ideal) S2x1024x128 .f32))
    (inb : ∀ a, (![h.val, 256, 0] : Fin 3 → ℕ) a + (![1, 768, 128] : Fin 3 → ℕ) a ≤ S2x1024x128.size a) (w) (s : Vec Ideal S1x1x768x256 .f32) (m a : Vec Ideal S1x768x128 .f32)
    (hs : ∀ (r : Fin 768) c, s (ix4 (0 : Fin 1) (0 : Fin 1) r c) = mscore x3 x4 q h (4 * q + 1) ⟨256 + r.val, by omega⟩ c)
    (hm : ∀ (r : Fin 768) l, m (ix3 (0 : Fin 1) r l) = rmax x3 x4 q h ⟨256 + r.val, by omega⟩)
    (ha : ∀ (r : Fin 768) l, a (ix3 (0 : Fin 1) r l) = wsum x3 x4 x5 q h (4 * q + 1) ⟨256 + r.val, by omega⟩ l)
    (vv : Vec Ideal S256x128 .bf16) (ov : ℕ) (hov : ov = 256 * (4 * q + 1)) (hqq : q < 4) (hv : ∀ (c : Fin 256) n, vv (ix2 c n) = x5 (ix2 ⟨ov + c.val, by omega⟩ n))
    (hw : w = k0_pay195 vv (k0_pay191 s m) (k0_pay192 s m) a) (hL : ∀ f, Half (v.read _ (v.writes (Elt Ideal) f L)) h (wsum x3 x4 x5 q h (4 * q + 1))) :
    ∀ f, Half (v.read _ (v.writes (Elt Ideal) f ((⟨Rect.unit (s := S2x1024x128) ![h.val, 256, 0] ![1, 768, 128] inb, w⟩ : View.Piece _ _ .f32) :: L))) h (wsum x3 x4 x5 q h (4 * q + 2)) :=
  st_acc x3 x4 x5 q v L h 256 (by decide) (4 * q + 1) inb w (fun r l => a (ix3 (0 : Fin 1) r l)) (fun r c => s (ix4 (0 : Fin 1) (0 : Fin 1) r c)) (fun c n => vv (ix2 c n))
    (fun r M hM l => (congrFun hw _).trans (pay_da768 vv s m a r l M fun l => (hm r l).trans hM.symm)) ha hs
    (fun c n => (hv c n).trans (by rw [key_at (4 * q + 1) ov c hov])) (.inr ⟨by omega, hL⟩)

theorem st_max_d512 {κ : Kind} {sp : Space} (h : Fin 2) (v : View sig κ sp S2x1024x128 .f32) (L : List (View.Piece (Elt Ideal) S2x1024x128 .f32))
    (inb : ∀ a, (![h.val, 512, 0] : Fin 3 → ℕ) a + (![1, 512, 128] : Fin 3 → ℕ) a ≤ S2x1024x128.size a) (w) (qv : Vec Ideal S512x128 .bf16) (kv : Vec Ideal S1x128x256 .bf16)
    (hq : ∀ (r : Fin 512) d, qv (ix2 r d) = x3 (ix2 ⟨512 + r.val, by omega⟩ (col h d))) (hk : ∀ d c, kv (ix3 (0 : Fin 1) d c) = x4 (ix3 (tile (4 * q + 2)) (col h d) c))
    (m : Vec Ideal S1x512x128 .f32) (hm : ∀ (r : Fin 512) l, m (ix3 (0 : Fin 1) r l) = lmax x3 x4 q h (4 * q + 2) ⟨512 + r.val, by omega⟩ l)
    (hw : w = k0_pay150 qv kv m) (hL : ∀ f, Half (v.read _ (v.writes (Elt Ideal) f L)) h (lmax x3 x4 q h (4 * q + 2))) :
    ∀ f, Half (v.read _ (v.writes (Elt Ideal) f ((⟨Rect.unit (s := S2x1024x128) ![h.val, 512, 0] ![1, 512, 128] inb, w⟩ : View.Piece _ _ .f32) :: L))) h (lmax x3 x4 q h (4 * q + 3)) :=
  st_max x3 x4 q v L h 512 (by decide) (4 * q + 2) inb w (fun r l => m (ix3 (0 : Fin 1) r l)) (fun r c => if c.val ≤ r.val then ∑ d : Fin 128, qv (ix2 r d) * kv (ix3 (0 : Fin 1) d c) else ⊥)
    (fun r l => (congrFun hw _).trans (pay_dm512 qv kv m r l)) hm (tile_diag x3 x4 q h 2 (by decide) (4 * q + 2) rfl (fun r d => qv (ix2 r d)) (fun d c => kv (ix3 (0 : Fin 1) d c)) hq hk) (.inr ⟨by omega, hL⟩)

theorem st_tile_d512 {κ : Kind} {sp : Space} (h : Fin 2) (v : View sig κ sp S2x16x1024x256 .f32) (L : List (View.Piece (Elt Ideal) S2x16x1024x256 .f32))
    (f : v.ty.Contents (Elt Ideal)) (qv : Vec Ideal S512x128 .bf16) (kv : Vec Ideal S1x128x256 .bf16)
    (hq : ∀ (r : Fin 512) d, qv (ix2 r d) = x3 (ix2 ⟨512 + r.val, by omega⟩ (col h d))) (hk : ∀ d c, kv (ix3 (0 : Fin 1) d c) = x4 (ix3 (tile (4 * q + 2)) (col h d) c)) {off : Fin 4 → ℕ} (he : off = ![h.val, 4 * q + 2, 512, 0]) (inb) (w) (hw : w = k0_pay149 qv kv)
    (hL : Tiles q (v.read _ (v.writes _ f L)) h (4 * q + 2) (mscore x3 x4 q h)) :
    Tiles q (v.read _ (v.writes (Elt Ideal) f ((⟨Rect.unit (s := S2x16x1024x256) off ![1, 1, 512, 256] inb, w⟩ : View.Piece _ _ .f32) :: L))) h (4 * q + 3) (mscore x3 x4 q h) :=
  st_tile x3 x4 q v L f h 512 (by decide) (4 * q + 2) (fun r hr => by omega) he inb w (fun r c => if c.val ≤ r.val then ∑ d : Fin 128, qv (ix2 r d) * kv (ix3 (0 : Fin 1) d c) else ⊥)
    (fun r c => (congrFun hw _).trans (pay_ds512 qv kv r c)) (tile_diag x3 x4 q h 2 (by decide) (4 * q + 2) rfl (fun r d => qv (ix2 r d)) (fun d c => kv (ix3 (0 : Fin 1) d c)) hq hk) hL

theorem st_sum_d512 {κ : Kind} {sp : Space} (h : Fin 2) (v : View sig κ sp S2x1024x128 .f32) (L : List (View.Piece (Elt Ideal) S2x1024x128 .f32))
    (inb : ∀ a, (![h.val, 512, 0] : Fin 3 → ℕ) a + (![1, 512, 128] : Fin 3 → ℕ) a ≤ S2x1024x128.size a) (w) (s : Vec Ideal S1x1x512x256 .f32) (m a : Vec Ideal S1x512x128 .f32)
    (hs : ∀ (r : Fin 512) c, s (ix4 (0 : Fin 1) (0 : Fin 1) r c) = mscore x3 x4 q h (4 * q + 2) ⟨512 + r.val, by omega⟩ c)
    (hm : ∀ (r : Fin 512) l, m (ix3 (0 : Fin 1) r l) = rmax x3 x4 q h ⟨512 + r.val, by omega⟩)
    (ha : ∀ (r : Fin 512) l, a (ix3 (0 : Fin 1) r l) = lsum x3 x4 q h (4 * q + 2) ⟨512 + r.val, by omega⟩ l)
    (hw : w = k0_pay207 s m a) (hL : ∀ f, Half (v.read _ (v.writes (Elt Ideal) f L)) h (lsum x3 x4 q h (4 * q + 2))) :
    ∀ f, Half (v.read _ (v.writes (Elt Ideal) f ((⟨Rect.unit (s := S2x1024x128) ![h.val, 512, 0] ![1, 512, 128] inb, w⟩ : View.Piece _ _ .f32) :: L))) h (lsum x3 x4 q h (4 * q + 3)) :=
  st_sum x3 x4 q v L h 512 (by decide) (4 * q + 2) inb w (fun r l => a (ix3 (0 : Fin 1) r l)) (fun r l => m (ix3 (0 : Fin 1) r l)) (fun r c => s (ix4 (0 : Fin 1) (0 : Fin 1) r c))
    (fun r l => (congrFun hw _).trans (pay_dl512 s m a r l)) ha hm hs (.inr ⟨by omega, hL⟩)

theorem st_acc_d512 {κ : Kind} {sp : Space} (h : Fin 2) (v : View sig κ sp S2x1024x128 .f32) (L : List (View.Piece (Elt Ideal) S2x1024x128 .f32))
    (inb : ∀ a, (![h.val, 512, 0] : Fin 3 → ℕ) a + (![1, 512, 128] : Fin 3 → ℕ) a ≤ S2x1024x128.size a) (w) (s : Vec Ideal S1x1x512x256 .f32) (m a : Vec Ideal S1x512x128 .f32)
    (hs : ∀ (r : Fin 512) c, s (ix4 (0 : Fin 1) (0 : Fin 1) r c) = mscore x3 x4 q h (4 * q + 2) ⟨512 + r.val, by omega⟩ c)
    (hm : ∀ (r : Fin 512) l, m (ix3 (0 : Fin 1) r l) = rmax x3 x4 q h ⟨512 + r.val, by omega⟩)
    (ha : ∀ (r : Fin 512) l, a (ix3 (0 : Fin 1) r l) = wsum x3 x4 x5 q h (4 * q + 2) ⟨512 + r.val, by omega⟩ l)
    (vv : Vec Ideal S256x128 .bf16) (ov : ℕ) (hov : ov = 256 * (4 * q + 2)) (hqq : q < 4) (hv : ∀ (c : Fin 256) n, vv (ix2 c n) = x5 (ix2 ⟨ov + c.val, by omega⟩ n))
    (hw : w = k0_pay202 vv (k0_pay198 s m) (k0_pay199 s m) a) (hL : ∀ f, Half (v.read _ (v.writes (Elt Ideal) f L)) h (wsum x3 x4 x5 q h (4 * q + 2))) :
    ∀ f, Half (v.read _ (v.writes (Elt Ideal) f ((⟨Rect.unit (s := S2x1024x128) ![h.val, 512, 0] ![1, 512, 128] inb, w⟩ : View.Piece _ _ .f32) :: L))) h (wsum x3 x4 x5 q h (4 * q + 3)) :=
  st_acc x3 x4 x5 q v L h 512 (by decide) (4 * q + 2) inb w (fun r l => a (ix3 (0 : Fin 1) r l)) (fun r c => s (ix4 (0 : Fin 1) (0 : Fin 1) r c)) (fun c n => vv (ix2 c n))
    (fun r M hM l => (congrFun hw _).trans (pay_da512 vv s m a r l M fun l => (hm r l).trans hM.symm)) ha hs
    (fun c n => (hv c n).trans (by rw [key_at (4 * q + 2) ov c hov])) (.inr ⟨by omega, hL⟩)

theorem st_max_d256 {κ : Kind} {sp : Space} (h : Fin 2) (v : View sig κ sp S2x1024x128 .f32) (L : List (View.Piece (Elt Ideal) S2x1024x128 .f32))
    (inb : ∀ a, (![h.val, 768, 0] : Fin 3 → ℕ) a + (![1, 256, 128] : Fin 3 → ℕ) a ≤ S2x1024x128.size a) (w) (qv : Vec Ideal S256x128 .bf16) (kv : Vec Ideal S1x128x256 .bf16)
    (hq : ∀ (r : Fin 256) d, qv (ix2 r d) = x3 (ix2 ⟨768 + r.val, by omega⟩ (col h d))) (hk : ∀ d c, kv (ix3 (0 : Fin 1) d c) = x4 (ix3 (tile (4 * q + 3)) (col h d) c))
    (m : Vec Ideal S1x256x128 .f32) (hm : ∀ (r : Fin 256) l, m (ix3 (0 : Fin 1) r l) = lmax x3 x4 q h (4 * q + 3) ⟨768 + r.val, by omega⟩ l)
    (hw : w = k0_pay162 k0_pay155 qv kv m) (hL : ∀ f, Half (v.read _ (v.writes (Elt Ideal) f L)) h (lmax x3 x4 q h (4 * q + 3))) :
    ∀ f, Half (v.read _ (v.writes (Elt Ideal) f ((⟨Rect.unit (s := S2x1024x128) ![h.val, 768, 0] ![1, 256, 128] inb, w⟩ : View.Piece _ _ .f32) :: L))) h (lmax x3 x4 q h (4 * q + 4)) :=
  st_max x3 x4 q v L h 768 (by decide) (4 * q + 3) inb w (fun r l => m (ix3 (0 : Fin 1) r l)) (fun r c => if c.val ≤ r.val then ∑ d : Fin 128, qv (ix2 r d) * kv (ix3 (0 : Fin 1) d c) else ⊥)
    (fun r l => (congrFun hw _).trans (pay_dm256 qv kv m r l)) hm (tile_diag x3 x4 q h 3 (by decide) (4 * q + 3) rfl (fun r d => qv (ix2 r d)) (fun d c => kv (ix3 (0 : Fin 1) d c)) hq hk) (.inr ⟨by omega, hL⟩)

theorem st_tile_d256 {κ : Kind} {sp : Space} (h : Fin 2) (v : View sig κ sp S2x16x1024x256 .f32) (L : List (View.Piece (Elt Ideal) S2x16x1024x256 .f32))
    (f : v.ty.Contents (Elt Ideal)) (qv : Vec Ideal S256x128 .bf16) (kv : Vec Ideal S1x128x256 .bf16)
    (hq : ∀ (r : Fin 256) d, qv (ix2 r d) = x3 (ix2 ⟨768 + r.val, by omega⟩ (col h d))) (hk : ∀ d c, kv (ix3 (0 : Fin 1) d c) = x4 (ix3 (tile (4 * q + 3)) (col h d) c)) {off : Fin 4 → ℕ} (he : off = ![h.val, 4 * q + 3, 768, 0]) (inb) (w) (hw : w = k0_pay161 k0_pay155 qv kv)
    (hL : Tiles q (v.read _ (v.writes _ f L)) h (4 * q + 3) (mscore x3 x4 q h)) :
    Tiles q (v.read _ (v.writes (Elt Ideal) f ((⟨Rect.unit (s := S2x16x1024x256) off ![1, 1, 256, 256] inb, w⟩ : View.Piece _ _ .f32) :: L))) h (4 * q + 4) (mscore x3 x4 q h) :=
  st_tile x3 x4 q v L f h 768 (by decide) (4 * q + 3) (fun r hr => by omega) he inb w (fun r c => if c.val ≤ r.val then ∑ d : Fin 128, qv (ix2 r d) * kv (ix3 (0 : Fin 1) d c) else ⊥)
    (fun r c => (congrFun hw _).trans (pay_ds256 qv kv r c)) (tile_diag x3 x4 q h 3 (by decide) (4 * q + 3) rfl (fun r d => qv (ix2 r d)) (fun d c => kv (ix3 (0 : Fin 1) d c)) hq hk) hL

theorem st_sum_d256 {κ : Kind} {sp : Space} (h : Fin 2) (v : View sig κ sp S2x1024x128 .f32) (L : List (View.Piece (Elt Ideal) S2x1024x128 .f32))
    (inb : ∀ a, (![h.val, 768, 0] : Fin 3 → ℕ) a + (![1, 256, 128] : Fin 3 → ℕ) a ≤ S2x1024x128.size a) (w) (s : Vec Ideal S1x1x256x256 .f32) (m a : Vec Ideal S1x256x128 .f32)
    (hs : ∀ (r : Fin 256) c, s (ix4 (0 : Fin 1) (0 : Fin 1) r c) = mscore x3 x4 q h (4 * q + 3) ⟨768 + r.val, by omega⟩ c)
    (hm : ∀ (r : Fin 256) l, m (ix3 (0 : Fin 1) r l) = rmax x3 x4 q h ⟨768 + r.val, by omega⟩)
    (ha : ∀ (r : Fin 256) l, a (ix3 (0 : Fin 1) r l) = lsum x3 x4 q h (4 * q + 3) ⟨768 + r.val, by omega⟩ l)
    (hw : w = k0_pay223 s m a) (hL : ∀ f, Half (v.read _ (v.writes (Elt Ideal) f L)) h (lsum x3 x4 q h (4 * q + 3))) :
    ∀ f, Half (v.read _ (v.writes (Elt Ideal) f ((⟨Rect.unit (s := S2x1024x128) ![h.val, 768, 0] ![1, 256, 128] inb, w⟩ : View.Piece _ _ .f32) :: L))) h (lsum x3 x4 q h (4 * q + 4)) :=
  st_sum x3 x4 q v L h 768 (by decide) (4 * q + 3) inb w (fun r l => a (ix3 (0 : Fin 1) r l)) (fun r l => m (ix3 (0 : Fin 1) r l)) (fun r c => s (ix4 (0 : Fin 1) (0 : Fin 1) r c))
    (fun r l => (congrFun hw _).trans (pay_dl256 s m a r l)) ha hm hs (.inr ⟨by omega, hL⟩)

theorem st_acc_d256 {κ : Kind} {sp : Space} (h : Fin 2) (v : View sig κ sp S2x1024x128 .f32) (L : List (View.Piece (Elt Ideal) S2x1024x128 .f32))
    (inb : ∀ a, (![h.val, 768, 0] : Fin 3 → ℕ) a + (![1, 256, 128] : Fin 3 → ℕ) a ≤ S2x1024x128.size a) (w) (s : Vec Ideal S1x1x256x256 .f32) (m a : Vec Ideal S1x256x128 .f32)
    (hs : ∀ (r : Fin 256) c, s (ix4 (0 : Fin 1) (0 : Fin 1) r c) = mscore x3 x4 q h (4 * q + 3) ⟨768 + r.val, by omega⟩ c)
    (hm : ∀ (r : Fin 256) l, m (ix3 (0 : Fin 1) r l) = rmax x3 x4 q h ⟨768 + r.val, by omega⟩)
    (ha : ∀ (r : Fin 256) l, a (ix3 (0 : Fin 1) r l) = wsum x3 x4 x5 q h (4 * q + 3) ⟨768 + r.val, by omega⟩ l)
    (vv : Vec Ideal S256x128 .bf16) (ov : ℕ) (hov : ov = 256 * (4 * q + 3)) (hqq : q < 4) (hv : ∀ (c : Fin 256) n, vv (ix2 c n) = x5 (ix2 ⟨ov + c.val, by omega⟩ n))
    (hw : w = k0_pay224 vv s m a) (hL : ∀ f, Half (v.read _ (v.writes (Elt Ideal) f L)) h (wsum x3 x4 x5 q h (4 * q + 3))) :
    ∀ f, Half (v.read _ (v.writes (Elt Ideal) f ((⟨Rect.unit (s := S2x1024x128) ![h.val, 768, 0] ![1, 256, 128] inb, w⟩ : View.Piece _ _ .f32) :: L))) h (wsum x3 x4 x5 q h (4 * q + 4)) :=
  st_acc x3 x4 x5 q v L h 768 (by decide) (4 * q + 3) inb w (fun r l => a (ix3 (0 : Fin 1) r l)) (fun r c => s (ix4 (0 : Fin 1) (0 : Fin 1) r c)) (fun c n => vv (ix2 c n))
    (fun r M hM l => (congrFun hw _).trans (pay_da256 vv s m a r l M fun l => (hm r l).trans hM.symm)) ha hs
    (fun c n => (hv c n).trans (by rw [key_at (4 * q + 3) ov c hov])) (.inr ⟨by omega, hL⟩)

end Cert.Kernel3Ideal.Attn

end
-- ==== Proof.AttnLoopB.lean ====
/-
  The second pass over the tiles before the diagonal: lane sums and weighted sums.
-/
module

public import proofs.«01_k».proof.Proof.AttnStep
public import Idealize.ShloMosaic.Lib.Exec
public import Idealize.ShloMosaic.Lib.Tactic

@[expose] public section

set_option maxRecDepth 16384
set_option warn.classDefReducibility false

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem trips_t3 : ∀ i : grid0.Coords, (k0_t3_loop i).trips = (i 2).val := by decide +kernel

/-- What the first pass leaves: every tile's masked scores, and each row's maximum in every lane. -/
def Seen (i : grid0.Coords) {arg7 : Memref sig .tc .vmem S2x16x1024x256 .f32} {arg8 : Memref sig .tc .vmem S2x1024x128 .f32} (x3 : Vec Ideal S1024x256 .bf16) (x4 : Vec Ideal S16x256x256 .bf16)
    (f7 : BufTy.Contents (Elt Ideal) arg7.view.ty) (f8 : BufTy.Contents (Elt Ideal) arg8.view.ty) : Prop :=
  (∀ h, Tiles (i 2).val (arg7.view.read (Elt Ideal) f7) h (4 * (i 2).val + 4) (mscore x3 x4 (i 2).val h))
    ∧ ∀ h, Half (arg8.view.read (Elt Ideal) f8) h (fun r _ => rmax x3 x4 (i 2).val h r)

/-- Before trip `k` of the second pass: lane sums and weighted sums of the tiles of the trips before. -/
def PassB (i : grid0.Coords) {arg9 arg10 : Memref sig .tc .vmem S2x1024x128 .f32} (x3 : Vec Ideal S1024x256 .bf16) (x4 : Vec Ideal S16x256x256 .bf16) (x5 : Vec Ideal S4096x128 .bf16) (k : ℕ)
    (f9 : BufTy.Contents (Elt Ideal) arg9.view.ty) (f10 : BufTy.Contents (Elt Ideal) arg10.view.ty) : Prop :=
  (∀ h, Half (arg9.view.read (Elt Ideal) f9) h (lsum x3 x4 (i 2).val h (4 * k)))
    ∧ ∀ h, Half (arg10.view.read (Elt Ideal) f10) h (wsum x3 x4 x5 (i 2).val h (4 * k))

set_option maxHeartbeats 2000000 in
/-- The second pass over the tiles before the diagonal. -/
def inv_t3 (𝒱 : Variants) (c : Dev nD) (bd : Option 𝒱.V) (E : Set ℕ) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole) (arg2 : BitVec 32) (v194 : FVec Ideal S1024x128 .f32) (X5 : BufTy.Contents (Elt Ideal) arg5.view.ty) (x3 : Vec Ideal S1024x256 .bf16) (x4 : Vec Ideal S16x256x256 .bf16) :
    Idealize.ShloMosaic.LoopInv (M := 𝕄) Idealize.ShloMosaic.frame (wpE (defs₀ (F := Ideal)) 𝒱 (c : Thread nD τ) bd) E
      (k0_t3_loop i).lb (k0_t3_loop i).ub (k0_t3_loop i).st (k0_t3_ok i) () (k0_t3_body (F := Ideal) i arg3 harg3 arg4 harg4 arg5 harg5 arg6 harg6 arg7 harg7 arg8 harg8 arg9 harg9 arg10 harg10 arg2 v194) where
  inv k _ := iprop((arg5.view.loc (c : Thread nD τ) ↦[arg5.view.set]{fullShare} X5) ∗ ∃ X7 X8 f9 f10, ⌜Seen i x3 x4 X7 X8 ∧ PassB i x3 x4 (arg5.view.read (Elt Ideal) X5) k f9 f10⌝ ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10))
  step k0_t3 acc := by
    unfold k0_t3_body
    iintro ⟨H5, ⟨%X7, ⟨%X8, ⟨%f9, ⟨%f10, ⟨%hXP, ⟨H7, H8, H9, H10⟩⟩⟩⟩⟩⟩⟩
    sl_exec
    sl_step
    isplitl [H5]; · iexact H5
    iexists _, _, _, _
    isplitr; swap
    · isplitl [H7]; · iexact H7
      isplitl [H8]; · iexact H8
      isplitl [H9]; · iexact H9
      iexact H10
    · ipureintro
      have hk : k0_t3.val < (i 2).val := (trips_t3 i) ▸ k0_t3.isLt
      have hi : (i 2).val < 4 := (i 2).isLt
      obtain ⟨⟨h7, h8⟩, hP⟩ := hXP
      unfold PassB at hP ⊢
      refine ⟨⟨h7, h8⟩, fun h => ?_, fun h => ?_⟩
      · match h with
        | 0 => exact half_other arg9.view _ _ 1 0 0 1024 0 (by decide) _ _ _ (st_l4 x3 x4 (i 2).val 0 (4 * k0_t3.val) arg9.view _ _ _ (arg7.view.readAt (Elt Ideal) (Rect.unit (s := S2x16x1024x256) (k0_off20 i k0_t3 (BitVec.ofNat 32 0) (BitVec.ofNat 32 0)) S1x1x1024x256.size (k0_off20_inb i k0_t3 ⟨0, by decide⟩ ⟨0, by decide⟩)).toLoadRect X7) (arg7.view.readAt (Elt Ideal) (Rect.unit (s := S2x16x1024x256) (k0_off20 i k0_t3 (BitVec.ofNat 32 0) (BitVec.ofNat 32 1)) S1x1x1024x256.size (k0_off20_inb i k0_t3 ⟨0, by decide⟩ ⟨1, by decide⟩)).toLoadRect X7) (arg7.view.readAt (Elt Ideal) (Rect.unit (s := S2x16x1024x256) (k0_off20 i k0_t3 (BitVec.ofNat 32 2) (BitVec.ofNat 32 0)) S1x1x1024x256.size (k0_off20_inb i k0_t3 ⟨1, by decide⟩ ⟨0, by decide⟩)).toLoadRect X7) (arg7.view.readAt (Elt Ideal) (Rect.unit (s := S2x16x1024x256) (k0_off20 i k0_t3 (BitVec.ofNat 32 2) (BitVec.ofNat 32 1)) S1x1x1024x256.size (k0_off20_inb i k0_t3 ⟨1, by decide⟩ ⟨1, by decide⟩)).toLoadRect X7) (arg8.view.readAt (Elt Ideal) (Rect.unit (s := S2x1024x128) ![0, 0, 0] S1x1024x128.size inb_S2x1024x128_S1x1024x128_0_0_0).toLoadRect X8) (arg9.view.readAt (Elt Ideal) (Rect.unit (s := S2x1024x128) ![0, 0, 0] S1x1024x128.size inb_S2x1024x128_S1x1024x128_0_0_0).toLoadRect f9) (half_read arg8.view X8 0 0 1024 rfl _ _ (h8 0)) (half_read arg9.view f9 0 0 1024 rfl _ _ (hP.1 0)) (tiles_read (i 2).val arg7.view X7 0 (4 * k0_t3.val + 0) 0 1024 _ rfl (by omega) (by omega) (by omega) (k0_off20_eq i k0_t3 ⟨0, by decide⟩ ⟨0, by decide⟩) _ _ (h7 0)) (tiles_read (i 2).val arg7.view X7 0 (4 * k0_t3.val + 1) 0 1024 _ rfl (by omega) (by omega) (by omega) (k0_off20_eq i k0_t3 ⟨0, by decide⟩ ⟨1, by decide⟩) _ _ (h7 0)) (tiles_read (i 2).val arg7.view X7 0 (4 * k0_t3.val + 2) 0 1024 _ rfl (by omega) (by omega) (by omega) (k0_off20_eq i k0_t3 ⟨1, by decide⟩ ⟨0, by decide⟩) _ _ (h7 0)) (tiles_read (i 2).val arg7.view X7 0 (4 * k0_t3.val + 3) 0 1024 _ rfl (by omega) (by omega) (by omega) (k0_off20_eq i k0_t3 ⟨1, by decide⟩ ⟨1, by decide⟩) _ _ (h7 0)) rfl _)
        | 1 => exact st_l4 x3 x4 (i 2).val 1 (4 * k0_t3.val) arg9.view _ _ _ (arg7.view.readAt (Elt Ideal) (Rect.unit (s := S2x16x1024x256) (k0_off21 i k0_t3 (BitVec.ofNat 32 0) (BitVec.ofNat 32 0)) S1x1x1024x256.size (k0_off21_inb i k0_t3 ⟨0, by decide⟩ ⟨0, by decide⟩)).toLoadRect X7) (arg7.view.readAt (Elt Ideal) (Rect.unit (s := S2x16x1024x256) (k0_off21 i k0_t3 (BitVec.ofNat 32 0) (BitVec.ofNat 32 1)) S1x1x1024x256.size (k0_off21_inb i k0_t3 ⟨0, by decide⟩ ⟨1, by decide⟩)).toLoadRect X7) (arg7.view.readAt (Elt Ideal) (Rect.unit (s := S2x16x1024x256) (k0_off21 i k0_t3 (BitVec.ofNat 32 2) (BitVec.ofNat 32 0)) S1x1x1024x256.size (k0_off21_inb i k0_t3 ⟨1, by decide⟩ ⟨0, by decide⟩)).toLoadRect X7) (arg7.view.readAt (Elt Ideal) (Rect.unit (s := S2x16x1024x256) (k0_off21 i k0_t3 (BitVec.ofNat 32 2) (BitVec.ofNat 32 1)) S1x1x1024x256.size (k0_off21_inb i k0_t3 ⟨1, by decide⟩ ⟨1, by decide⟩)).toLoadRect X7) (arg8.view.readAt (Elt Ideal) (Rect.unit (s := S2x1024x128) ![1, 0, 0] S1x1024x128.size inb_S2x1024x128_S1x1024x128_1_0_0).toLoadRect X8) (arg9.view.readAt (Elt Ideal) (Rect.unit (s := S2x1024x128) ![1, 0, 0] S1x1024x128.size inb_S2x1024x128_S1x1024x128_1_0_0).toLoadRect f9) (half_read arg8.view X8 1 0 1024 rfl _ _ (h8 1)) (half_read arg9.view f9 1 0 1024 rfl _ _ (hP.1 1)) (tiles_read (i 2).val arg7.view X7 1 (4 * k0_t3.val + 0) 0 1024 _ rfl (by omega) (by omega) (by omega) (k0_off21_eq i k0_t3 ⟨0, by decide⟩ ⟨0, by decide⟩) _ _ (h7 1)) (tiles_read (i 2).val arg7.view X7 1 (4 * k0_t3.val + 1) 0 1024 _ rfl (by omega) (by omega) (by omega) (k0_off21_eq i k0_t3 ⟨0, by decide⟩ ⟨1, by decide⟩) _ _ (h7 1)) (tiles_read (i 2).val arg7.view X7 1 (4 * k0_t3.val + 2) 0 1024 _ rfl (by omega) (by omega) (by omega) (k0_off21_eq i k0_t3 ⟨1, by decide⟩ ⟨0, by decide⟩) _ _ (h7 1)) (tiles_read (i 2).val arg7.view X7 1 (4 * k0_t3.val + 3) 0 1024 _ rfl (by omega) (by omega) (by omega) (k0_off21_eq i k0_t3 ⟨1, by decide⟩ ⟨1, by decide⟩) _ _ (h7 1)) rfl _
      · match h with
        | 0 => exact half_other arg10.view _ _ 1 0 0 1024 0 (by decide) _ _ _ (st_a4 x3 x4 (arg5.view.read (Elt Ideal) X5) (i 2).val 0 (4 * k0_t3.val) arg10.view _ _ _ (arg7.view.readAt (Elt Ideal) (Rect.unit (s := S2x16x1024x256) (k0_off20 i k0_t3 (BitVec.ofNat 32 0) (BitVec.ofNat 32 0)) S1x1x1024x256.size (k0_off20_inb i k0_t3 ⟨0, by decide⟩ ⟨0, by decide⟩)).toLoadRect X7) (arg7.view.readAt (Elt Ideal) (Rect.unit (s := S2x16x1024x256) (k0_off20 i k0_t3 (BitVec.ofNat 32 0) (BitVec.ofNat 32 1)) S1x1x1024x256.size (k0_off20_inb i k0_t3 ⟨0, by decide⟩ ⟨1, by decide⟩)).toLoadRect X7) (arg7.view.readAt (Elt Ideal) (Rect.unit (s := S2x16x1024x256) (k0_off20 i k0_t3 (BitVec.ofNat 32 2) (BitVec.ofNat 32 0)) S1x1x1024x256.size (k0_off20_inb i k0_t3 ⟨1, by decide⟩ ⟨0, by decide⟩)).toLoadRect X7) (arg7.view.readAt (Elt Ideal) (Rect.unit (s := S2x16x1024x256) (k0_off20 i k0_t3 (BitVec.ofNat 32 2) (BitVec.ofNat 32 1)) S1x1x1024x256.size (k0_off20_inb i k0_t3 ⟨1, by decide⟩ ⟨1, by decide⟩)).toLoadRect X7) (arg5.view.readAt (Elt Ideal) (Rect.unit (s := S4096x128) (k0_off19 i k0_t3 (BitVec.ofNat 32 0)) S512x128.size (k0_off19_inb i k0_t3 ⟨0, by decide⟩)).toLoadRect X5) (arg5.view.readAt (Elt Ideal) (Rect.unit (s := S4096x128) (k0_off19 i k0_t3 (BitVec.ofNat 32 2)) S512x128.size (k0_off19_inb i k0_t3 ⟨1, by decide⟩)).toLoadRect X5) (arg8.view.readAt (Elt Ideal) (Rect.unit (s := S2x1024x128) ![0, 0, 0] S1x1024x128.size inb_S2x1024x128_S1x1024x128_0_0_0).toLoadRect X8) (arg10.view.readAt (Elt Ideal) (Rect.unit (s := S2x1024x128) ![0, 0, 0] S1x1024x128.size inb_S2x1024x128_S1x1024x128_0_0_0).toLoadRect f10) (half_read arg8.view X8 0 0 1024 rfl _ _ (h8 0)) (half_read arg10.view f10 0 0 1024 rfl _ _ (hP.2 0)) (tiles_read (i 2).val arg7.view X7 0 (4 * k0_t3.val + 0) 0 1024 _ rfl (by omega) (by omega) (by omega) (k0_off20_eq i k0_t3 ⟨0, by decide⟩ ⟨0, by decide⟩) _ _ (h7 0)) (tiles_read (i 2).val arg7.view X7 0 (4 * k0_t3.val + 1) 0 1024 _ rfl (by omega) (by omega) (by omega) (k0_off20_eq i k0_t3 ⟨0, by decide⟩ ⟨1, by decide⟩) _ _ (h7 0)) (tiles_read (i 2).val arg7.view X7 0 (4 * k0_t3.val + 2) 0 1024 _ rfl (by omega) (by omega) (by omega) (k0_off20_eq i k0_t3 ⟨1, by decide⟩ ⟨0, by decide⟩) _ _ (h7 0)) (tiles_read (i 2).val arg7.view X7 0 (4 * k0_t3.val + 3) 0 1024 _ rfl (by omega) (by omega) (by omega) (k0_off20_eq i k0_t3 ⟨1, by decide⟩ ⟨1, by decide⟩) _ _ (h7 0)) (1024 * k0_t3.val + 512 * 0) (1024 * k0_t3.val + 512 * 1) (by omega) (by omega) (by omega) (v_read arg5.view X5 (1024 * k0_t3.val + 512 * 0) 512 (by omega) (k0_off19_eq i k0_t3 ⟨0, by decide⟩) _) (v_read arg5.view X5 (1024 * k0_t3.val + 512 * 1) 512 (by omega) (k0_off19_eq i k0_t3 ⟨1, by decide⟩) _) rfl _)
        | 1 => exact st_a4 x3 x4 (arg5.view.read (Elt Ideal) X5) (i 2).val 1 (4 * k0_t3.val) arg10.view _ _ _ (arg7.view.readAt (Elt Ideal) (Rect.unit (s := S2x16x1024x256) (k0_off21 i k0_t3 (BitVec.ofNat 32 0) (BitVec.ofNat 32 0)) S1x1x1024x256.size (k0_off21_inb i k0_t3 ⟨0, by decide⟩ ⟨0, by decide⟩)).toLoadRect X7) (arg7.view.readAt (Elt Ideal) (Rect.unit (s := S2x16x1024x256) (k0_off21 i k0_t3 (BitVec.ofNat 32 0) (BitVec.ofNat 32 1)) S1x1x1024x256.size (k0_off21_inb i k0_t3 ⟨0, by decide⟩ ⟨1, by decide⟩)).toLoadRect X7) (arg7.view.readAt (Elt Ideal) (Rect.unit (s := S2x16x1024x256) (k0_off21 i k0_t3 (BitVec.ofNat 32 2) (BitVec.ofNat 32 0)) S1x1x1024x256.size (k0_off21_inb i k0_t3 ⟨1, by decide⟩ ⟨0, by decide⟩)).toLoadRect X7) (arg7.view.readAt (Elt Ideal) (Rect.unit (s := S2x16x1024x256) (k0_off21 i k0_t3 (BitVec.ofNat 32 2) (BitVec.ofNat 32 1)) S1x1x1024x256.size (k0_off21_inb i k0_t3 ⟨1, by decide⟩ ⟨1, by decide⟩)).toLoadRect X7) (arg5.view.readAt (Elt Ideal) (Rect.unit (s := S4096x128) (k0_off19 i k0_t3 (BitVec.ofNat 32 0)) S512x128.size (k0_off19_inb i k0_t3 ⟨0, by decide⟩)).toLoadRect X5) (arg5.view.readAt (Elt Ideal) (Rect.unit (s := S4096x128) (k0_off19 i k0_t3 (BitVec.ofNat 32 2)) S512x128.size (k0_off19_inb i k0_t3 ⟨1, by decide⟩)).toLoadRect X5) (arg8.view.readAt (Elt Ideal) (Rect.unit (s := S2x1024x128) ![1, 0, 0] S1x1024x128.size inb_S2x1024x128_S1x1024x128_1_0_0).toLoadRect X8) (arg10.view.readAt (Elt Ideal) (Rect.unit (s := S2x1024x128) ![1, 0, 0] S1x1024x128.size inb_S2x1024x128_S1x1024x128_1_0_0).toLoadRect f10) (half_read arg8.view X8 1 0 1024 rfl _ _ (h8 1)) (half_read arg10.view f10 1 0 1024 rfl _ _ (hP.2 1)) (tiles_read (i 2).val arg7.view X7 1 (4 * k0_t3.val + 0) 0 1024 _ rfl (by omega) (by omega) (by omega) (k0_off21_eq i k0_t3 ⟨0, by decide⟩ ⟨0, by decide⟩) _ _ (h7 1)) (tiles_read (i 2).val arg7.view X7 1 (4 * k0_t3.val + 1) 0 1024 _ rfl (by omega) (by omega) (by omega) (k0_off21_eq i k0_t3 ⟨0, by decide⟩ ⟨1, by decide⟩) _ _ (h7 1)) (tiles_read (i 2).val arg7.view X7 1 (4 * k0_t3.val + 2) 0 1024 _ rfl (by omega) (by omega) (by omega) (k0_off21_eq i k0_t3 ⟨1, by decide⟩ ⟨0, by decide⟩) _ _ (h7 1)) (tiles_read (i 2).val arg7.view X7 1 (4 * k0_t3.val + 3) 0 1024 _ rfl (by omega) (by omega) (by omega) (k0_off21_eq i k0_t3 ⟨1, by decide⟩ ⟨1, by decide⟩) _ _ (h7 1)) (1024 * k0_t3.val + 512 * 0) (1024 * k0_t3.val + 512 * 1) (by omega) (by omega) (by omega) (v_read arg5.view X5 (1024 * k0_t3.val + 512 * 0) 512 (by omega) (k0_off19_eq i k0_t3 ⟨0, by decide⟩) _) (v_read arg5.view X5 (1024 * k0_t3.val + 512 * 1) 512 (by omega) (k0_off19_eq i k0_t3 ⟨1, by decide⟩) _) rfl _

end Cert.Kernel3Ideal.Attn
-- ==== Proof.AttnValue.lean ====
/-
  The body of one grid point, its loops by their invariants.
-/
module

public import proofs.«01_k».proof.Proof.AttnLoopA
public import proofs.«01_k».proof.Proof.AttnDiag
public import proofs.«01_k».proof.Proof.AttnLoopB
public import Idealize.ShloMosaic.Lib.Exec
public import Idealize.ShloMosaic.Lib.Tactic

@[expose] public section

set_option maxRecDepth 16384
set_option warn.classDefReducibility false

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem t2_none : ∀ i : grid0.Coords, (k0_t2_loop i).trips = 0 := by decide +kernel
theorem t4_none : ∀ i : grid0.Coords, (k0_t4_loop i).trips = 0 := by decide +kernel

set_option maxHeartbeats 8000000 in
/-- The body on whole staging buffers: the result's block is the attention of the block's queries. -/
theorem body_val (c : Dev nD) (i : grid0.Coords) (arg3 : Memref sig .tc .vmem S1024x256 .bf16) (harg3 : arg3.IsWhole) (arg4 : Memref sig .tc .vmem S16x256x256 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S2x16x1024x256 .f32) (harg7 : arg7.IsWhole) (arg8 : Memref sig .tc .vmem S2x1024x128 .f32) (harg8 : arg8.IsWhole) (arg9 : Memref sig .tc .vmem S2x1024x128 .f32) (harg9 : arg9.IsWhole) (arg10 : Memref sig .tc .vmem S2x1024x128 .f32) (harg10 : arg10.IsWhole)
    (x3 : Vec Ideal S1024x256 .bf16) (x4 : Vec Ideal S16x256x256 .bf16) (x5 : Vec Ideal S4096x128 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5
        ∗ owns (c : Thread nD τ) arg6 fullShare (fun y => outv x3 x4 x5 (i 2).val (y 0) (y 1)) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)) -∗ K ⟨⟩))
      ⊢ wp frame (wpE (defs₀ (F := Ideal)) Variants.none c none) E (cc0_attn i arg3 harg3 arg4 harg4 arg5 harg5 arg6 harg6 arg7 harg7 arg8 harg8 arg9 harg9 arg10 harg10) K := by
  have n2 := t2_none i
  have n4 := t4_none i
  simp only [cc0_attn_eq_skeleton]; unfold cc0_attn_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  sl_exec
  iapply (Idealize.ShloMosaic.exec_loop _ _ _ _ _ _ _ _ _ (inv_t1 Variants.none c none E i arg3 harg3 arg4 harg4 arg5 harg5 arg6 harg6 arg7 harg7 arg8 harg8 arg9 harg9 arg10 harg10 f3 f4)) $$ [H3 H4 H7 H8]
  · unfold inv_t1 Idealize.ShloMosaic.LoopInv.inv
    isplitl [H3]; · iexact H3
    isplitl [H4]; · iexact H4
    iexists _, _
    isplitr; swap
    · isplitl [H7]; · iexact H7
      iexact H8
    · ipureintro
      refine ⟨fun h j hj hj0 => absurd hj0 (Nat.not_lt_zero _), fun h => ?_⟩
      exact half_fill arg8.view _ _ h _ _ _ fun r l => pay_bot h r l
  iintro %acc HL
  unfold inv_t1 Idealize.ShloMosaic.LoopInv.inv
  icases HL with ⟨H3, H4, ⟨%g7, ⟨%g8, ⟨%hA, ⟨H7, H8⟩⟩⟩⟩⟩
  sl_exec
  iapply (Idealize.ShloMosaic.exec_loop _ _ _ _ _ _ _ _ _ (inv_t3 Variants.none c none E i arg3 harg3 arg4 harg4 arg5 harg5 arg6 harg6 arg7 harg7 arg8 harg8 arg9 harg9 arg10 harg10 _ _ f5 x3 x4)) $$ [H5 H7 H8 H9 H10]
  · unfold inv_t3 Idealize.ShloMosaic.LoopInv.inv
    isplitl [H5]; · iexact H5
    iexists _, _, _, _
    isplitr; swap
    · isplitl [H7]; · iexact H7
      isplitl [H8]; · iexact H8
      isplitl [H9]; · iexact H9
      iexact H10
    · ipureintro
      have hi : (i 2).val < 4 := (i 2).isLt
      subst hf3 hf4 hf5
      have hA' : PassA i f3 f4 ((k0_t1_loop i).trips) g7 g8 := hA
      rw [trips_t1 i] at hA'
      obtain ⟨hT, hH⟩ := hA'
      have b0 := hH 0
      have b1 := hH 1
      have m1 : ∀ f, Half (arg8.view.read (Elt Ideal) (arg8.view.writes (Elt Ideal) f (body_val.sl.H8_2 c i arg3 arg4 arg8 f3 f4 g8))) 1 (lmax (arg3.view.read (Elt Ideal) f3) (arg4.view.read (Elt Ideal) f4) (i 2).val 1 (4 * (i 2).val + 1)) := st_max_d1024 (arg3.view.read (Elt Ideal) f3) (arg4.view.read (Elt Ideal) f4) (i 2).val 1 arg8.view _ _ _ (arg3.view.readAt (Elt Ideal) (Rect.unit (s := S1024x256) ![0, 128] S1024x128.size inb_S1024x256_S1024x128_0_128).toLoadRect f3) (arg4.view.readAt (Elt Ideal) (Rect.unit (s := S16x256x256) (k0_off11 i (BitVec.ofNat 32 0)) S1x128x256.size (k0_off11_inb i ⟨0, by decide⟩)).toLoadRect f4) (q_read arg3.view f3 1 0 1024 rfl rfl _) (k_read arg4.view f4 1 (4 * (i 2).val + 0) (by omega) (k0_off11_eq i ⟨0, by decide⟩) _) (arg8.view.readAt (Elt Ideal) (Rect.unit (s := S2x1024x128) ![1, 0, 0] S1x1024x128.size inb_S2x1024x128_S1x1024x128_1_0_0).toLoadRect g8) (half_read arg8.view g8 1 0 1024 rfl _ _ (b1)) rfl
      have m0 : ∀ f, Half (arg8.view.read (Elt Ideal) (arg8.view.writes (Elt Ideal) f (body_val.sl.H8_2 c i arg3 arg4 arg8 f3 f4 g8))) 0 (lmax (arg3.view.read (Elt Ideal) f3) (arg4.view.read (Elt Ideal) f4) (i 2).val 0 (4 * (i 2).val + 1)) := fun f => half_other arg8.view f _ 1 0 0 1024 0 (by decide) _ _ _ ((st_max_d1024 (arg3.view.read (Elt Ideal) f3) (arg4.view.read (Elt Ideal) f4) (i 2).val 0 arg8.view _ _ _ (arg3.view.readAt (Elt Ideal) (Rect.unit (s := S1024x256) ![0, 0] S1024x128.size inb_S1024x256_S1024x128_0_0).toLoadRect f3) (arg4.view.readAt (Elt Ideal) (Rect.unit (s := S16x256x256) (k0_off9 i (BitVec.ofNat 32 0)) S1x128x256.size (k0_off9_inb i ⟨0, by decide⟩)).toLoadRect f4) (q_read arg3.view f3 0 0 1024 rfl rfl _) (k_read arg4.view f4 0 (4 * (i 2).val + 0) (by omega) (k0_off9_eq i ⟨0, by decide⟩) _) (arg8.view.readAt (Elt Ideal) (Rect.unit (s := S2x1024x128) ![0, 0, 0] S1x1024x128.size inb_S2x1024x128_S1x1024x128_0_0_0).toLoadRect g8) (half_read arg8.view g8 0 0 1024 rfl _ _ (b0)) rfl ) f)
      have n0 : ∀ f, Half (arg8.view.read (Elt Ideal) (arg8.view.writes (Elt Ideal) f (body_val.sl.H8_3 c i arg3 arg4 arg8 f3 f4 g8))) 0 (lmax (arg3.view.read (Elt Ideal) f3) (arg4.view.read (Elt Ideal) f4) (i 2).val 0 (4 * (i 2).val + 2)) := st_max_d768 (arg3.view.read (Elt Ideal) f3) (arg4.view.read (Elt Ideal) f4) (i 2).val 0 arg8.view _ _ _ (arg3.view.readAt (Elt Ideal) (Rect.unit (s := S1024x256) ![256, 0] S768x128.size inb_S1024x256_S768x128_256_0).toLoadRect f3) (arg4.view.readAt (Elt Ideal) (Rect.unit (s := S16x256x256) (k0_off9 i (BitVec.ofNat 32 1)) S1x128x256.size (k0_off9_inb i ⟨1, by decide⟩)).toLoadRect f4) (q_read arg3.view f3 0 256 768 rfl rfl _) (k_read arg4.view f4 0 (4 * (i 2).val + 1) (by omega) (k0_off9_eq i ⟨1, by decide⟩) _) (arg8.view.readAt (Elt Ideal) (Rect.unit (s := S2x1024x128) ![0, 256, 0] S1x768x128.size inb_S2x1024x128_S1x768x128_0_256_0).toLoadRect (arg8.view.writes (Elt Ideal) arg8.view.junk (body_val.sl.H8_2 c i arg3 arg4 arg8 f3 f4 g8))) (half_read arg8.view (arg8.view.writes (Elt Ideal) arg8.view.junk (body_val.sl.H8_2 c i arg3 arg4 arg8 f3 f4 g8)) 0 256 768 rfl _ _ (m0 _)) rfl m0
      have n1 : ∀ f, Half (arg8.view.read (Elt Ideal) (arg8.view.writes (Elt Ideal) f (body_val.sl.H8_3 c i arg3 arg4 arg8 f3 f4 g8))) 1 (lmax (arg3.view.read (Elt Ideal) f3) (arg4.view.read (Elt Ideal) f4) (i 2).val 1 (4 * (i 2).val + 1)) := fun f => half_other arg8.view f _ 0 0 256 768 1 (by decide) _ _ _ (m1 f)
      clear m0 m1
      have m0 := n0
      have m1 := n1
      clear n0 n1
      have n1 : ∀ f, Half (arg8.view.read (Elt Ideal) (arg8.view.writes (Elt Ideal) f (body_val.sl.H8_4 c i arg3 arg4 arg8 f3 f4 g8))) 1 (lmax (arg3.view.read (Elt Ideal) f3) (arg4.view.read (Elt Ideal) f4) (i 2).val 1 (4 * (i 2).val + 2)) := st_max_d768 (arg3.view.read (Elt Ideal) f3) (arg4.view.read (Elt Ideal) f4) (i 2).val 1 arg8.view _ _ _ (arg3.view.readAt (Elt Ideal) (Rect.unit (s := S1024x256) ![256, 128] S768x128.size inb_S1024x256_S768x128_256_128).toLoadRect f3) (arg4.view.readAt (Elt Ideal) (Rect.unit (s := S16x256x256) (k0_off11 i (BitVec.ofNat 32 1)) S1x128x256.size (k0_off11_inb i ⟨1, by decide⟩)).toLoadRect f4) (q_read arg3.view f3 1 256 768 rfl rfl _) (k_read arg4.view f4 1 (4 * (i 2).val + 1) (by omega) (k0_off11_eq i ⟨1, by decide⟩) _) (arg8.view.readAt (Elt Ideal) (Rect.unit (s := S2x1024x128) ![1, 256, 0] S1x768x128.size inb_S2x1024x128_S1x768x128_1_256_0).toLoadRect (arg8.view.writes (Elt Ideal) arg8.view.junk (body_val.sl.H8_3 c i arg3 arg4 arg8 f3 f4 g8))) (half_read arg8.view (arg8.view.writes (Elt Ideal) arg8.view.junk (body_val.sl.H8_3 c i arg3 arg4 arg8 f3 f4 g8)) 1 256 768 rfl _ _ (m1 _)) rfl m1
      have n0 : ∀ f, Half (arg8.view.read (Elt Ideal) (arg8.view.writes (Elt Ideal) f (body_val.sl.H8_4 c i arg3 arg4 arg8 f3 f4 g8))) 0 (lmax (arg3.view.read (Elt Ideal) f3) (arg4.view.read (Elt Ideal) f4) (i 2).val 0 (4 * (i 2).val + 2)) := fun f => half_other arg8.view f _ 1 0 256 768 0 (by decide) _ _ _ (m0 f)
      clear m0 m1
      have m0 := n0
      have m1 := n1
      clear n0 n1
      have n0 : ∀ f, Half (arg8.view.read (Elt Ideal) (arg8.view.writes (Elt Ideal) f (body_val.sl.H8_5 c i arg3 arg4 arg8 f3 f4 g8))) 0 (lmax (arg3.view.read (Elt Ideal) f3) (arg4.view.read (Elt Ideal) f4) (i 2).val 0 (4 * (i 2).val + 3)) := st_max_d512 (arg3.view.read (Elt Ideal) f3) (arg4.view.read (Elt Ideal) f4) (i 2).val 0 arg8.view _ _ _ (arg3.view.readAt (Elt Ideal) (Rect.unit (s := S1024x256) ![512, 0] S512x128.size inb_S1024x256_S512x128_512_0).toLoadRect f3) (arg4.view.readAt (Elt Ideal) (Rect.unit (s := S16x256x256) (k0_off9 i (BitVec.ofNat 32 2)) S1x128x256.size (k0_off9_inb i ⟨2, by decide⟩)).toLoadRect f4) (q_read arg3.view f3 0 512 512 rfl rfl _) (k_read arg4.view f4 0 (4 * (i 2).val + 2) (by omega) (k0_off9_eq i ⟨2, by decide⟩) _) (arg8.view.readAt (Elt Ideal) (Rect.unit (s := S2x1024x128) ![0, 512, 0] S1x512x128.size inb_S2x1024x128_S1x512x128_0_512_0).toLoadRect (arg8.view.writes (Elt Ideal) arg8.view.junk (body_val.sl.H8_4 c i arg3 arg4 arg8 f3 f4 g8))) (half_read arg8.view (arg8.view.writes (Elt Ideal) arg8.view.junk (body_val.sl.H8_4 c i arg3 arg4 arg8 f3 f4 g8)) 0 512 512 rfl _ _ (m0 _)) rfl m0
      have n1 : ∀ f, Half (arg8.view.read (Elt Ideal) (arg8.view.writes (Elt Ideal) f (body_val.sl.H8_5 c i arg3 arg4 arg8 f3 f4 g8))) 1 (lmax (arg3.view.read (Elt Ideal) f3) (arg4.view.read (Elt Ideal) f4) (i 2).val 1 (4 * (i 2).val + 2)) := fun f => half_other arg8.view f _ 0 0 512 512 1 (by decide) _ _ _ (m1 f)
      clear m0 m1
      have m0 := n0
      have m1 := n1
      clear n0 n1
      have n1 : ∀ f, Half (arg8.view.read (Elt Ideal) (arg8.view.writes (Elt Ideal) f (body_val.sl.H8_6 c i arg3 arg4 arg8 f3 f4 g8))) 1 (lmax (arg3.view.read (Elt Ideal) f3) (arg4.view.read (Elt Ideal) f4) (i 2).val 1 (4 * (i 2).val + 3)) := st_max_d512 (arg3.view.read (Elt Ideal) f3) (arg4.view.read (Elt Ideal) f4) (i 2).val 1 arg8.view _ _ _ (arg3.view.readAt (Elt Ideal) (Rect.unit (s := S1024x256) ![512, 128] S512x128.size inb_S1024x256_S512x128_512_128).toLoadRect f3) (arg4.view.readAt (Elt Ideal) (Rect.unit (s := S16x256x256) (k0_off11 i (BitVec.ofNat 32 2)) S1x128x256.size (k0_off11_inb i ⟨2, by decide⟩)).toLoadRect f4) (q_read arg3.view f3 1 512 512 rfl rfl _) (k_read arg4.view f4 1 (4 * (i 2).val + 2) (by omega) (k0_off11_eq i ⟨2, by decide⟩) _) (arg8.view.readAt (Elt Ideal) (Rect.unit (s := S2x1024x128) ![1, 512, 0] S1x512x128.size inb_S2x1024x128_S1x512x128_1_512_0).toLoadRect (arg8.view.writes (Elt Ideal) arg8.view.junk (body_val.sl.H8_5 c i arg3 arg4 arg8 f3 f4 g8))) (half_read arg8.view (arg8.view.writes (Elt Ideal) arg8.view.junk (body_val.sl.H8_5 c i arg3 arg4 arg8 f3 f4 g8)) 1 512 512 rfl _ _ (m1 _)) rfl m1
      have n0 : ∀ f, Half (arg8.view.read (Elt Ideal) (arg8.view.writes (Elt Ideal) f (body_val.sl.H8_6 c i arg3 arg4 arg8 f3 f4 g8))) 0 (lmax (arg3.view.read (Elt Ideal) f3) (arg4.view.read (Elt Ideal) f4) (i 2).val 0 (4 * (i 2).val + 3)) := fun f => half_other arg8.view f _ 1 0 512 512 0 (by decide) _ _ _ (m0 f)
      clear m0 m1
      have m0 := n0
      have m1 := n1
      clear n0 n1
      have n0 : ∀ f, Half (arg8.view.read (Elt Ideal) (arg8.view.writes (Elt Ideal) f (body_val.sl.H8_7 c i arg3 arg4 arg8 f3 f4 g8))) 0 (lmax (arg3.view.read (Elt Ideal) f3) (arg4.view.read (Elt Ideal) f4) (i 2).val 0 (4 * (i 2).val + 4)) := st_max_d256 (arg3.view.read (Elt Ideal) f3) (arg4.view.read (Elt Ideal) f4) (i 2).val 0 arg8.view _ _ _ (arg3.view.readAt (Elt Ideal) (Rect.unit (s := S1024x256) ![768, 0] S256x128.size inb_S1024x256_S256x128_768_0).toLoadRect f3) (arg4.view.readAt (Elt Ideal) (Rect.unit (s := S16x256x256) (k0_off9 i (BitVec.ofNat 32 3)) S1x128x256.size (k0_off9_inb i ⟨3, by decide⟩)).toLoadRect f4) (q_read arg3.view f3 0 768 256 rfl rfl _) (k_read arg4.view f4 0 (4 * (i 2).val + 3) (by omega) (k0_off9_eq i ⟨3, by decide⟩) _) (arg8.view.readAt (Elt Ideal) (Rect.unit (s := S2x1024x128) ![0, 768, 0] S1x256x128.size inb_S2x1024x128_S1x256x128_0_768_0).toLoadRect (arg8.view.writes (Elt Ideal) arg8.view.junk (body_val.sl.H8_6 c i arg3 arg4 arg8 f3 f4 g8))) (half_read arg8.view (arg8.view.writes (Elt Ideal) arg8.view.junk (body_val.sl.H8_6 c i arg3 arg4 arg8 f3 f4 g8)) 0 768 256 rfl _ _ (m0 _)) rfl m0
      have n1 : ∀ f, Half (arg8.view.read (Elt Ideal) (arg8.view.writes (Elt Ideal) f (body_val.sl.H8_7 c i arg3 arg4 arg8 f3 f4 g8))) 1 (lmax (arg3.view.read (Elt Ideal) f3) (arg4.view.read (Elt Ideal) f4) (i 2).val 1 (4 * (i 2).val + 3)) := fun f => half_other arg8.view f _ 0 0 768 256 1 (by decide) _ _ _ (m1 f)
      clear m0 m1
      have m0 := n0
      have m1 := n1
      clear n0 n1
      have n1 : ∀ f, Half (arg8.view.read (Elt Ideal) (arg8.view.writes (Elt Ideal) f (body_val.sl.H8_8 c i arg3 arg4 arg8 f3 f4 g8))) 1 (lmax (arg3.view.read (Elt Ideal) f3) (arg4.view.read (Elt Ideal) f4) (i 2).val 1 (4 * (i 2).val + 4)) := st_max_d256 (arg3.view.read (Elt Ideal) f3) (arg4.view.read (Elt Ideal) f4) (i 2).val 1 arg8.view _ _ _ (arg3.view.readAt (Elt Ideal) (Rect.unit (s := S1024x256) ![768, 128] S256x128.size inb_S1024x256_S256x128_768_128).toLoadRect f3) (arg4.view.readAt (Elt Ideal) (Rect.unit (s := S16x256x256) (k0_off11 i (BitVec.ofNat 32 3)) S1x128x256.size (k0_off11_inb i ⟨3, by decide⟩)).toLoadRect f4) (q_read arg3.view f3 1 768 256 rfl rfl _) (k_read arg4.view f4 1 (4 * (i 2).val + 3) (by omega) (k0_off11_eq i ⟨3, by decide⟩) _) (arg8.view.readAt (Elt Ideal) (Rect.unit (s := S2x1024x128) ![1, 768, 0] S1x256x128.size inb_S2x1024x128_S1x256x128_1_768_0).toLoadRect (arg8.view.writes (Elt Ideal) arg8.view.junk (body_val.sl.H8_7 c i arg3 arg4 arg8 f3 f4 g8))) (half_read arg8.view (arg8.view.writes (Elt Ideal) arg8.view.junk (body_val.sl.H8_7 c i arg3 arg4 arg8 f3 f4 g8)) 1 768 256 rfl _ _ (m1 _)) rfl m1
      have n0 : ∀ f, Half (arg8.view.read (Elt Ideal) (arg8.view.writes (Elt Ideal) f (body_val.sl.H8_8 c i arg3 arg4 arg8 f3 f4 g8))) 0 (lmax (arg3.view.read (Elt Ideal) f3) (arg4.view.read (Elt Ideal) f4) (i 2).val 0 (4 * (i 2).val + 4)) := fun f => half_other arg8.view f _ 1 0 768 256 0 (by decide) _ _ _ (m0 f)
      clear m0 m1
      have m0 := n0
      have m1 := n1
      clear n0 n1
      have r0 : ∀ f, Half (arg8.view.read (Elt Ideal) (arg8.view.writes (Elt Ideal) f (body_val.sl.H8_9 c i arg3 arg4 arg8 f3 f4 g8))) 0 (fun r _ => rmax (arg3.view.read (Elt Ideal) f3) (arg4.view.read (Elt Ideal) f4) (i 2).val 0 r) := st_rmax (arg3.view.read (Elt Ideal) f3) (arg4.view.read (Elt Ideal) f4) (i 2).val 0 arg8.view _ _ _ (arg8.view.readAt (Elt Ideal) (Rect.unit (s := S2x1024x128) ![0, 0, 0] S1x1024x128.size inb_S2x1024x128_S1x1024x128_0_0_0).toLoadRect (arg8.view.writes (Elt Ideal) arg8.view.junk (body_val.sl.H8_8 c i arg3 arg4 arg8 f3 f4 g8))) (half_read arg8.view (arg8.view.writes (Elt Ideal) arg8.view.junk (body_val.sl.H8_8 c i arg3 arg4 arg8 f3 f4 g8)) 0 0 1024 rfl _ _ (m0 _)) rfl
      have n1 : ∀ f, Half (arg8.view.read (Elt Ideal) (arg8.view.writes (Elt Ideal) f (body_val.sl.H8_9 c i arg3 arg4 arg8 f3 f4 g8))) 1 (lmax (arg3.view.read (Elt Ideal) f3) (arg4.view.read (Elt Ideal) f4) (i 2).val 1 (4 * (i 2).val + 4)) := fun f => half_other arg8.view f _ 0 0 0 1024 1 (by decide) _ _ _ (m1 f)
      have r1 : ∀ f, Half (arg8.view.read (Elt Ideal) (arg8.view.writes (Elt Ideal) f (body_val.sl.H8_10 c i arg3 arg4 arg8 f3 f4 g8))) 1 (fun r _ => rmax (arg3.view.read (Elt Ideal) f3) (arg4.view.read (Elt Ideal) f4) (i 2).val 1 r) := st_rmax (arg3.view.read (Elt Ideal) f3) (arg4.view.read (Elt Ideal) f4) (i 2).val 1 arg8.view _ _ _ (arg8.view.readAt (Elt Ideal) (Rect.unit (s := S2x1024x128) ![1, 0, 0] S1x1024x128.size inb_S2x1024x128_S1x1024x128_1_0_0).toLoadRect (arg8.view.writes (Elt Ideal) arg8.view.junk (body_val.sl.H8_9 c i arg3 arg4 arg8 f3 f4 g8))) (half_read arg8.view (arg8.view.writes (Elt Ideal) arg8.view.junk (body_val.sl.H8_9 c i arg3 arg4 arg8 f3 f4 g8)) 1 0 1024 rfl _ _ (n1 _)) rfl
      have r0' : ∀ f, Half (arg8.view.read (Elt Ideal) (arg8.view.writes (Elt Ideal) f (body_val.sl.H8_10 c i arg3 arg4 arg8 f3 f4 g8))) 0 (fun r _ => rmax (arg3.view.read (Elt Ideal) f3) (arg4.view.read (Elt Ideal) f4) (i 2).val 0 r) := fun f => half_other arg8.view f _ 1 0 0 1024 0 (by decide) _ _ _ (r0 f)
      refine ⟨⟨fun h => ?_, fun h => ?_⟩, fun h => ?_, fun h => ?_⟩
      · match h with
        | 0 => exact (tiles_other (i 2).val arg7.view _ _ 1 0 (by decide) (4 * (i 2).val + 3) 768 256 _ (k0_off18_eq i) _ _ _ (st_tile_d256 (arg3.view.read (Elt Ideal) f3) (arg4.view.read (Elt Ideal) f4) (i 2).val 0 arg7.view _ _ (arg3.view.readAt (Elt Ideal) (Rect.unit (s := S1024x256) ![768, 0] S256x128.size inb_S1024x256_S256x128_768_0).toLoadRect f3) (arg4.view.readAt (Elt Ideal) (Rect.unit (s := S16x256x256) (k0_off9 i (BitVec.ofNat 32 3)) S1x128x256.size (k0_off9_inb i ⟨3, by decide⟩)).toLoadRect f4) (q_read arg3.view f3 0 768 256 rfl rfl _) (k_read arg4.view f4 0 (4 * (i 2).val + 3) (by omega) (k0_off9_eq i ⟨3, by decide⟩) _) (k0_off17_eq i) _ _ rfl (tiles_other (i 2).val arg7.view _ _ 1 0 (by decide) (4 * (i 2).val + 2) 512 512 _ (k0_off16_eq i) _ _ _ (st_tile_d512 (arg3.view.read (Elt Ideal) f3) (arg4.view.read (Elt Ideal) f4) (i 2).val 0 arg7.view _ _ (arg3.view.readAt (Elt Ideal) (Rect.unit (s := S1024x256) ![512, 0] S512x128.size inb_S1024x256_S512x128_512_0).toLoadRect f3) (arg4.view.readAt (Elt Ideal) (Rect.unit (s := S16x256x256) (k0_off9 i (BitVec.ofNat 32 2)) S1x128x256.size (k0_off9_inb i ⟨2, by decide⟩)).toLoadRect f4) (q_read arg3.view f3 0 512 512 rfl rfl _) (k_read arg4.view f4 0 (4 * (i 2).val + 2) (by omega) (k0_off9_eq i ⟨2, by decide⟩) _) (k0_off15_eq i) _ _ rfl (tiles_other (i 2).val arg7.view _ _ 1 0 (by decide) (4 * (i 2).val + 1) 256 768 _ (k0_off14_eq i) _ _ _ (st_tile_d768 (arg3.view.read (Elt Ideal) f3) (arg4.view.read (Elt Ideal) f4) (i 2).val 0 arg7.view _ _ (arg3.view.readAt (Elt Ideal) (Rect.unit (s := S1024x256) ![256, 0] S768x128.size inb_S1024x256_S768x128_256_0).toLoadRect f3) (arg4.view.readAt (Elt Ideal) (Rect.unit (s := S16x256x256) (k0_off9 i (BitVec.ofNat 32 1)) S1x128x256.size (k0_off9_inb i ⟨1, by decide⟩)).toLoadRect f4) (q_read arg3.view f3 0 256 768 rfl rfl _) (k_read arg4.view f4 0 (4 * (i 2).val + 1) (by omega) (k0_off9_eq i ⟨1, by decide⟩) _) (k0_off13_eq i) _ _ rfl (tiles_other (i 2).val arg7.view _ _ 1 0 (by decide) (4 * (i 2).val + 0) 0 1024 _ (k0_off12_eq i) _ _ _ (st_tile_d1024 (arg3.view.read (Elt Ideal) f3) (arg4.view.read (Elt Ideal) f4) (i 2).val 0 arg7.view _ _ (arg3.view.readAt (Elt Ideal) (Rect.unit (s := S1024x256) ![0, 0] S1024x128.size inb_S1024x256_S1024x128_0_0).toLoadRect f3) (arg4.view.readAt (Elt Ideal) (Rect.unit (s := S16x256x256) (k0_off9 i (BitVec.ofNat 32 0)) S1x128x256.size (k0_off9_inb i ⟨0, by decide⟩)).toLoadRect f4) (q_read arg3.view f3 0 0 1024 rfl rfl _) (k_read arg4.view f4 0 (4 * (i 2).val + 0) (by omega) (k0_off9_eq i ⟨0, by decide⟩) _) (k0_off10_eq i) _ _ rfl (hT 0)))))))))
        | 1 => exact (st_tile_d256 (arg3.view.read (Elt Ideal) f3) (arg4.view.read (Elt Ideal) f4) (i 2).val 1 arg7.view _ _ (arg3.view.readAt (Elt Ideal) (Rect.unit (s := S1024x256) ![768, 128] S256x128.size inb_S1024x256_S256x128_768_128).toLoadRect f3) (arg4.view.readAt (Elt Ideal) (Rect.unit (s := S16x256x256) (k0_off11 i (BitVec.ofNat 32 3)) S1x128x256.size (k0_off11_inb i ⟨3, by decide⟩)).toLoadRect f4) (q_read arg3.view f3 1 768 256 rfl rfl _) (k_read arg4.view f4 1 (4 * (i 2).val + 3) (by omega) (k0_off11_eq i ⟨3, by decide⟩) _) (k0_off18_eq i) _ _ rfl (tiles_other (i 2).val arg7.view _ _ 0 1 (by decide) (4 * (i 2).val + 3) 768 256 _ (k0_off17_eq i) _ _ _ (st_tile_d512 (arg3.view.read (Elt Ideal) f3) (arg4.view.read (Elt Ideal) f4) (i 2).val 1 arg7.view _ _ (arg3.view.readAt (Elt Ideal) (Rect.unit (s := S1024x256) ![512, 128] S512x128.size inb_S1024x256_S512x128_512_128).toLoadRect f3) (arg4.view.readAt (Elt Ideal) (Rect.unit (s := S16x256x256) (k0_off11 i (BitVec.ofNat 32 2)) S1x128x256.size (k0_off11_inb i ⟨2, by decide⟩)).toLoadRect f4) (q_read arg3.view f3 1 512 512 rfl rfl _) (k_read arg4.view f4 1 (4 * (i 2).val + 2) (by omega) (k0_off11_eq i ⟨2, by decide⟩) _) (k0_off16_eq i) _ _ rfl (tiles_other (i 2).val arg7.view _ _ 0 1 (by decide) (4 * (i 2).val + 2) 512 512 _ (k0_off15_eq i) _ _ _ (st_tile_d768 (arg3.view.read (Elt Ideal) f3) (arg4.view.read (Elt Ideal) f4) (i 2).val 1 arg7.view _ _ (arg3.view.readAt (Elt Ideal) (Rect.unit (s := S1024x256) ![256, 128] S768x128.size inb_S1024x256_S768x128_256_128).toLoadRect f3) (arg4.view.readAt (Elt Ideal) (Rect.unit (s := S16x256x256) (k0_off11 i (BitVec.ofNat 32 1)) S1x128x256.size (k0_off11_inb i ⟨1, by decide⟩)).toLoadRect f4) (q_read arg3.view f3 1 256 768 rfl rfl _) (k_read arg4.view f4 1 (4 * (i 2).val + 1) (by omega) (k0_off11_eq i ⟨1, by decide⟩) _) (k0_off14_eq i) _ _ rfl (tiles_other (i 2).val arg7.view _ _ 0 1 (by decide) (4 * (i 2).val + 1) 256 768 _ (k0_off13_eq i) _ _ _ (st_tile_d1024 (arg3.view.read (Elt Ideal) f3) (arg4.view.read (Elt Ideal) f4) (i 2).val 1 arg7.view _ _ (arg3.view.readAt (Elt Ideal) (Rect.unit (s := S1024x256) ![0, 128] S1024x128.size inb_S1024x256_S1024x128_0_128).toLoadRect f3) (arg4.view.readAt (Elt Ideal) (Rect.unit (s := S16x256x256) (k0_off11 i (BitVec.ofNat 32 0)) S1x128x256.size (k0_off11_inb i ⟨0, by decide⟩)).toLoadRect f4) (q_read arg3.view f3 1 0 1024 rfl rfl _) (k_read arg4.view f4 1 (4 * (i 2).val + 0) (by omega) (k0_off11_eq i ⟨0, by decide⟩) _) (k0_off12_eq i) _ _ rfl (tiles_other (i 2).val arg7.view _ _ 0 1 (by decide) (4 * (i 2).val + 0) 0 1024 _ (k0_off10_eq i) _ _ _ (hT 1)))))))))
      · match h with
        | 0 => exact r0' _
        | 1 => exact r1 _
      · exact half_fill arg9.view _ _ h _ _ _ fun r l => pay_zero h r l
      · exact half_fill arg10.view _ _ h _ _ _ fun r l => pay_zero h r l
  iintro %acc' HL
  unfold inv_t3 Idealize.ShloMosaic.LoopInv.inv
  icases HL with ⟨H5, ⟨%e7, ⟨%e8, ⟨%e9, ⟨%e10, ⟨%hB, ⟨H7, H8, H9, H10⟩⟩⟩⟩⟩⟩⟩
  sl_exec
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; swap; · iexact H6
                  ipureintro
                  have hi : (i 2).val < 4 := (i 2).isLt
                  subst hf3 hf4 hf5
                  obtain ⟨⟨h7, h8⟩, hB'⟩ := hB
                  have hB2 : PassB i (arg3.view.read (Elt Ideal) f3) (arg4.view.read (Elt Ideal) f4) (arg5.view.read (Elt Ideal) f5) ((k0_t3_loop i).trips) e9 e10 := hB'
                  rw [trips_t3 i] at hB2
                  obtain ⟨h9, h10⟩ := hB2
                  have b0 := h9 0
                  have b1 := h9 1
                  have m1 : ∀ f, Half (arg9.view.read (Elt Ideal) (arg9.view.writes (Elt Ideal) f (body_val.sl.H9_2 i arg7 arg8 arg9 e7 e8 e9))) 1 (lsum (arg3.view.read (Elt Ideal) f3) (arg4.view.read (Elt Ideal) f4) (i 2).val 1 (4 * (i 2).val + 1)) := st_sum_d1024 (arg3.view.read (Elt Ideal) f3) (arg4.view.read (Elt Ideal) f4) (i 2).val 1 arg9.view _ _ _ (arg7.view.readAt (Elt Ideal) (Rect.unit (s := S2x16x1024x256) (k0_off12 i) S1x1x1024x256.size (k0_off12_inb i)).toLoadRect e7) (arg8.view.readAt (Elt Ideal) (Rect.unit (s := S2x1024x128) ![1, 0, 0] S1x1024x128.size inb_S2x1024x128_S1x1024x128_1_0_0).toLoadRect e8) (arg9.view.readAt (Elt Ideal) (Rect.unit (s := S2x1024x128) ![1, 0, 0] S1x1024x128.size inb_S2x1024x128_S1x1024x128_1_0_0).toLoadRect e9) (tiles_read (i 2).val arg7.view e7 1 (4 * (i 2).val + 0) 0 1024 _ rfl (by omega) (by omega) (by omega) (k0_off12_eq i) _ _ (h7 1)) (half_read arg8.view e8 1 0 1024 rfl _ _ (h8 1)) (half_read arg9.view e9 1 0 1024 rfl _ _ (b1)) rfl
                  have m0 : ∀ f, Half (arg9.view.read (Elt Ideal) (arg9.view.writes (Elt Ideal) f (body_val.sl.H9_2 i arg7 arg8 arg9 e7 e8 e9))) 0 (lsum (arg3.view.read (Elt Ideal) f3) (arg4.view.read (Elt Ideal) f4) (i 2).val 0 (4 * (i 2).val + 1)) := fun f => half_other arg9.view f _ 1 0 0 1024 0 (by decide) _ _ _ ((st_sum_d1024 (arg3.view.read (Elt Ideal) f3) (arg4.view.read (Elt Ideal) f4) (i 2).val 0 arg9.view _ _ _ (arg7.view.readAt (Elt Ideal) (Rect.unit (s := S2x16x1024x256) (k0_off10 i) S1x1x1024x256.size (k0_off10_inb i)).toLoadRect e7) (arg8.view.readAt (Elt Ideal) (Rect.unit (s := S2x1024x128) ![0, 0, 0] S1x1024x128.size inb_S2x1024x128_S1x1024x128_0_0_0).toLoadRect e8) (arg9.view.readAt (Elt Ideal) (Rect.unit (s := S2x1024x128) ![0, 0, 0] S1x1024x128.size inb_S2x1024x128_S1x1024x128_0_0_0).toLoadRect e9) (tiles_read (i 2).val arg7.view e7 0 (4 * (i 2).val + 0) 0 1024 _ rfl (by omega) (by omega) (by omega) (k0_off10_eq i) _ _ (h7 0)) (half_read arg8.view e8 0 0 1024 rfl _ _ (h8 0)) (half_read arg9.view e9 0 0 1024 rfl _ _ (b0)) rfl ) f)
                  have n0 : ∀ f, Half (arg9.view.read (Elt Ideal) (arg9.view.writes (Elt Ideal) f (body_val.sl.H9_3 i arg7 arg8 arg9 e7 e8 e9))) 0 (lsum (arg3.view.read (Elt Ideal) f3) (arg4.view.read (Elt Ideal) f4) (i 2).val 0 (4 * (i 2).val + 2)) := st_sum_d768 (arg3.view.read (Elt Ideal) f3) (arg4.view.read (Elt Ideal) f4) (i 2).val 0 arg9.view _ _ _ (arg7.view.readAt (Elt Ideal) (Rect.unit (s := S2x16x1024x256) (k0_off13 i) S1x1x768x256.size (k0_off13_inb i)).toLoadRect e7) (arg8.view.readAt (Elt Ideal) (Rect.unit (s := S2x1024x128) ![0, 256, 0] S1x768x128.size inb_S2x1024x128_S1x768x128_0_256_0).toLoadRect e8) (arg9.view.readAt (Elt Ideal) (Rect.unit (s := S2x1024x128) ![0, 256, 0] S1x768x128.size inb_S2x1024x128_S1x768x128_0_256_0).toLoadRect (arg9.view.writes (Elt Ideal) arg9.view.junk (body_val.sl.H9_2 i arg7 arg8 arg9 e7 e8 e9))) (tiles_read (i 2).val arg7.view e7 0 (4 * (i 2).val + 1) 256 768 _ rfl (by omega) (by omega) (by omega) (k0_off13_eq i) _ _ (h7 0)) (half_read arg8.view e8 0 256 768 rfl _ _ (h8 0)) (half_read arg9.view (arg9.view.writes (Elt Ideal) arg9.view.junk (body_val.sl.H9_2 i arg7 arg8 arg9 e7 e8 e9)) 0 256 768 rfl _ _ (m0 _)) rfl m0
                  have n1 : ∀ f, Half (arg9.view.read (Elt Ideal) (arg9.view.writes (Elt Ideal) f (body_val.sl.H9_3 i arg7 arg8 arg9 e7 e8 e9))) 1 (lsum (arg3.view.read (Elt Ideal) f3) (arg4.view.read (Elt Ideal) f4) (i 2).val 1 (4 * (i 2).val + 1)) := fun f => half_other arg9.view f _ 0 0 256 768 1 (by decide) _ _ _ (m1 f)
                  clear m0 m1
                  have m0 := n0
                  have m1 := n1
                  clear n0 n1
                  have n1 : ∀ f, Half (arg9.view.read (Elt Ideal) (arg9.view.writes (Elt Ideal) f (body_val.sl.H9_4 i arg7 arg8 arg9 e7 e8 e9))) 1 (lsum (arg3.view.read (Elt Ideal) f3) (arg4.view.read (Elt Ideal) f4) (i 2).val 1 (4 * (i 2).val + 2)) := st_sum_d768 (arg3.view.read (Elt Ideal) f3) (arg4.view.read (Elt Ideal) f4) (i 2).val 1 arg9.view _ _ _ (arg7.view.readAt (Elt Ideal) (Rect.unit (s := S2x16x1024x256) (k0_off14 i) S1x1x768x256.size (k0_off14_inb i)).toLoadRect e7) (arg8.view.readAt (Elt Ideal) (Rect.unit (s := S2x1024x128) ![1, 256, 0] S1x768x128.size inb_S2x1024x128_S1x768x128_1_256_0).toLoadRect e8) (arg9.view.readAt (Elt Ideal) (Rect.unit (s := S2x1024x128) ![1, 256, 0] S1x768x128.size inb_S2x1024x128_S1x768x128_1_256_0).toLoadRect (arg9.view.writes (Elt Ideal) arg9.view.junk (body_val.sl.H9_3 i arg7 arg8 arg9 e7 e8 e9))) (tiles_read (i 2).val arg7.view e7 1 (4 * (i 2).val + 1) 256 768 _ rfl (by omega) (by omega) (by omega) (k0_off14_eq i) _ _ (h7 1)) (half_read arg8.view e8 1 256 768 rfl _ _ (h8 1)) (half_read arg9.view (arg9.view.writes (Elt Ideal) arg9.view.junk (body_val.sl.H9_3 i arg7 arg8 arg9 e7 e8 e9)) 1 256 768 rfl _ _ (m1 _)) rfl m1
                  have n0 : ∀ f, Half (arg9.view.read (Elt Ideal) (arg9.view.writes (Elt Ideal) f (body_val.sl.H9_4 i arg7 arg8 arg9 e7 e8 e9))) 0 (lsum (arg3.view.read (Elt Ideal) f3) (arg4.view.read (Elt Ideal) f4) (i 2).val 0 (4 * (i 2).val + 2)) := fun f => half_other arg9.view f _ 1 0 256 768 0 (by decide) _ _ _ (m0 f)
                  clear m0 m1
                  have m0 := n0
                  have m1 := n1
                  clear n0 n1
                  have n0 : ∀ f, Half (arg9.view.read (Elt Ideal) (arg9.view.writes (Elt Ideal) f (body_val.sl.H9_5 i arg7 arg8 arg9 e7 e8 e9))) 0 (lsum (arg3.view.read (Elt Ideal) f3) (arg4.view.read (Elt Ideal) f4) (i 2).val 0 (4 * (i 2).val + 3)) := st_sum_d512 (arg3.view.read (Elt Ideal) f3) (arg4.view.read (Elt Ideal) f4) (i 2).val 0 arg9.view _ _ _ (arg7.view.readAt (Elt Ideal) (Rect.unit (s := S2x16x1024x256) (k0_off15 i) S1x1x512x256.size (k0_off15_inb i)).toLoadRect e7) (arg8.view.readAt (Elt Ideal) (Rect.unit (s := S2x1024x128) ![0, 512, 0] S1x512x128.size inb_S2x1024x128_S1x512x128_0_512_0).toLoadRect e8) (arg9.view.readAt (Elt Ideal) (Rect.unit (s := S2x1024x128) ![0, 512, 0] S1x512x128.size inb_S2x1024x128_S1x512x128_0_512_0).toLoadRect (arg9.view.writes (Elt Ideal) arg9.view.junk (body_val.sl.H9_4 i arg7 arg8 arg9 e7 e8 e9))) (tiles_read (i 2).val arg7.view e7 0 (4 * (i 2).val + 2) 512 512 _ rfl (by omega) (by omega) (by omega) (k0_off15_eq i) _ _ (h7 0)) (half_read arg8.view e8 0 512 512 rfl _ _ (h8 0)) (half_read arg9.view (arg9.view.writes (Elt Ideal) arg9.view.junk (body_val.sl.H9_4 i arg7 arg8 arg9 e7 e8 e9)) 0 512 512 rfl _ _ (m0 _)) rfl m0
                  have n1 : ∀ f, Half (arg9.view.read (Elt Ideal) (arg9.view.writes (Elt Ideal) f (body_val.sl.H9_5 i arg7 arg8 arg9 e7 e8 e9))) 1 (lsum (arg3.view.read (Elt Ideal) f3) (arg4.view.read (Elt Ideal) f4) (i 2).val 1 (4 * (i 2).val + 2)) := fun f => half_other arg9.view f _ 0 0 512 512 1 (by decide) _ _ _ (m1 f)
                  clear m0 m1
                  have m0 := n0
                  have m1 := n1
                  clear n0 n1
                  have n1 : ∀ f, Half (arg9.view.read (Elt Ideal) (arg9.view.writes (Elt Ideal) f (body_val.sl.H9_6 i arg7 arg8 arg9 e7 e8 e9))) 1 (lsum (arg3.view.read (Elt Ideal) f3) (arg4.view.read (Elt Ideal) f4) (i 2).val 1 (4 * (i 2).val + 3)) := st_sum_d512 (arg3.view.read (Elt Ideal) f3) (arg4.view.read (Elt Ideal) f4) (i 2).val 1 arg9.view _ _ _ (arg7.view.readAt (Elt Ideal) (Rect.unit (s := S2x16x1024x256) (k0_off16 i) S1x1x512x256.size (k0_off16_inb i)).toLoadRect e7) (arg8.view.readAt (Elt Ideal) (Rect.unit (s := S2x1024x128) ![1, 512, 0] S1x512x128.size inb_S2x1024x128_S1x512x128_1_512_0).toLoadRect e8) (arg9.view.readAt (Elt Ideal) (Rect.unit (s := S2x1024x128) ![1, 512, 0] S1x512x128.size inb_S2x1024x128_S1x512x128_1_512_0).toLoadRect (arg9.view.writes (Elt Ideal) arg9.view.junk (body_val.sl.H9_5 i arg7 arg8 arg9 e7 e8 e9))) (tiles_read (i 2).val arg7.view e7 1 (4 * (i 2).val + 2) 512 512 _ rfl (by omega) (by omega) (by omega) (k0_off16_eq i) _ _ (h7 1)) (half_read arg8.view e8 1 512 512 rfl _ _ (h8 1)) (half_read arg9.view (arg9.view.writes (Elt Ideal) arg9.view.junk (body_val.sl.H9_5 i arg7 arg8 arg9 e7 e8 e9)) 1 512 512 rfl _ _ (m1 _)) rfl m1
                  have n0 : ∀ f, Half (arg9.view.read (Elt Ideal) (arg9.view.writes (Elt Ideal) f (body_val.sl.H9_6 i arg7 arg8 arg9 e7 e8 e9))) 0 (lsum (arg3.view.read (Elt Ideal) f3) (arg4.view.read (Elt Ideal) f4) (i 2).val 0 (4 * (i 2).val + 3)) := fun f => half_other arg9.view f _ 1 0 512 512 0 (by decide) _ _ _ (m0 f)
                  clear m0 m1
                  have m0 := n0
                  have m1 := n1
                  clear n0 n1
                  have n0 : ∀ f, Half (arg9.view.read (Elt Ideal) (arg9.view.writes (Elt Ideal) f (body_val.sl.H9_7 i arg7 arg8 arg9 e7 e8 e9))) 0 (lsum (arg3.view.read (Elt Ideal) f3) (arg4.view.read (Elt Ideal) f4) (i 2).val 0 (4 * (i 2).val + 4)) := st_sum_d256 (arg3.view.read (Elt Ideal) f3) (arg4.view.read (Elt Ideal) f4) (i 2).val 0 arg9.view _ _ _ (arg7.view.readAt (Elt Ideal) (Rect.unit (s := S2x16x1024x256) (k0_off17 i) S1x1x256x256.size (k0_off17_inb i)).toLoadRect e7) (arg8.view.readAt (Elt Ideal) (Rect.unit (s := S2x1024x128) ![0, 768, 0] S1x256x128.size inb_S2x1024x128_S1x256x128_0_768_0).toLoadRect e8) (arg9.view.readAt (Elt Ideal) (Rect.unit (s := S2x1024x128) ![0, 768, 0] S1x256x128.size inb_S2x1024x128_S1x256x128_0_768_0).toLoadRect (arg9.view.writes (Elt Ideal) arg9.view.junk (body_val.sl.H9_6 i arg7 arg8 arg9 e7 e8 e9))) (tiles_read (i 2).val arg7.view e7 0 (4 * (i 2).val + 3) 768 256 _ rfl (by omega) (by omega) (by omega) (k0_off17_eq i) _ _ (h7 0)) (half_read arg8.view e8 0 768 256 rfl _ _ (h8 0)) (half_read arg9.view (arg9.view.writes (Elt Ideal) arg9.view.junk (body_val.sl.H9_6 i arg7 arg8 arg9 e7 e8 e9)) 0 768 256 rfl _ _ (m0 _)) rfl m0
                  have n1 : ∀ f, Half (arg9.view.read (Elt Ideal) (arg9.view.writes (Elt Ideal) f (body_val.sl.H9_7 i arg7 arg8 arg9 e7 e8 e9))) 1 (lsum (arg3.view.read (Elt Ideal) f3) (arg4.view.read (Elt Ideal) f4) (i 2).val 1 (4 * (i 2).val + 3)) := fun f => half_other arg9.view f _ 0 0 768 256 1 (by decide) _ _ _ (m1 f)
                  clear m0 m1
                  have m0 := n0
                  have m1 := n1
                  clear n0 n1
                  have n1 : ∀ f, Half (arg9.view.read (Elt Ideal) (arg9.view.writes (Elt Ideal) f (body_val.sl.H9_8 i arg7 arg8 arg9 e7 e8 e9))) 1 (lsum (arg3.view.read (Elt Ideal) f3) (arg4.view.read (Elt Ideal) f4) (i 2).val 1 (4 * (i 2).val + 4)) := st_sum_d256 (arg3.view.read (Elt Ideal) f3) (arg4.view.read (Elt Ideal) f4) (i 2).val 1 arg9.view _ _ _ (arg7.view.readAt (Elt Ideal) (Rect.unit (s := S2x16x1024x256) (k0_off18 i) S1x1x256x256.size (k0_off18_inb i)).toLoadRect e7) (arg8.view.readAt (Elt Ideal) (Rect.unit (s := S2x1024x128) ![1, 768, 0] S1x256x128.size inb_S2x1024x128_S1x256x128_1_768_0).toLoadRect e8) (arg9.view.readAt (Elt Ideal) (Rect.unit (s := S2x1024x128) ![1, 768, 0] S1x256x128.size inb_S2x1024x128_S1x256x128_1_768_0).toLoadRect (arg9.view.writes (Elt Ideal) arg9.view.junk (body_val.sl.H9_7 i arg7 arg8 arg9 e7 e8 e9))) (tiles_read (i 2).val arg7.view e7 1 (4 * (i 2).val + 3) 768 256 _ rfl (by omega) (by omega) (by omega) (k0_off18_eq i) _ _ (h7 1)) (half_read arg8.view e8 1 768 256 rfl _ _ (h8 1)) (half_read arg9.view (arg9.view.writes (Elt Ideal) arg9.view.junk (body_val.sl.H9_7 i arg7 arg8 arg9 e7 e8 e9)) 1 768 256 rfl _ _ (m1 _)) rfl m1
                  have n0 : ∀ f, Half (arg9.view.read (Elt Ideal) (arg9.view.writes (Elt Ideal) f (body_val.sl.H9_8 i arg7 arg8 arg9 e7 e8 e9))) 0 (lsum (arg3.view.read (Elt Ideal) f3) (arg4.view.read (Elt Ideal) f4) (i 2).val 0 (4 * (i 2).val + 4)) := fun f => half_other arg9.view f _ 1 0 768 256 0 (by decide) _ _ _ (m0 f)
                  clear m0 m1
                  have m0 := n0
                  have m1 := n1
                  clear n0 n1
                  have l0 := m0
                  have l1 := m1
                  clear m0 m1 b0 b1
                  have b0 := h10 0
                  have b1 := h10 1
                  have m1 : ∀ f, Half (arg10.view.read (Elt Ideal) (arg10.view.writes (Elt Ideal) f (body_val.sl.H10_2 c i arg5 arg7 arg8 arg10 f5 e7 e8 e10))) 1 (wsum (arg3.view.read (Elt Ideal) f3) (arg4.view.read (Elt Ideal) f4) (arg5.view.read (Elt Ideal) f5) (i 2).val 1 (4 * (i 2).val + 1)) := st_acc_d1024 (arg3.view.read (Elt Ideal) f3) (arg4.view.read (Elt Ideal) f4) (arg5.view.read (Elt Ideal) f5) (i 2).val 1 arg10.view _ _ _ (arg7.view.readAt (Elt Ideal) (Rect.unit (s := S2x16x1024x256) (k0_off12 i) S1x1x1024x256.size (k0_off12_inb i)).toLoadRect e7) (arg8.view.readAt (Elt Ideal) (Rect.unit (s := S2x1024x128) ![1, 0, 0] S1x1024x128.size inb_S2x1024x128_S1x1024x128_1_0_0).toLoadRect e8) (arg10.view.readAt (Elt Ideal) (Rect.unit (s := S2x1024x128) ![1, 0, 0] S1x1024x128.size inb_S2x1024x128_S1x1024x128_1_0_0).toLoadRect e10) (tiles_read (i 2).val arg7.view e7 1 (4 * (i 2).val + 0) 0 1024 _ rfl (by omega) (by omega) (by omega) (k0_off12_eq i) _ _ (h7 1)) (half_read arg8.view e8 1 0 1024 rfl _ _ (h8 1)) (half_read arg10.view e10 1 0 1024 rfl _ _ (b1)) (arg5.view.readAt (Elt Ideal) (Rect.unit (s := S4096x128) (k0_off25 i (BitVec.ofNat 32 0)) S256x128.size (k0_off25_inb i ⟨0, by decide⟩)).toLoadRect f5) (1024 * (i 2).val + 256 * 0) (by omega) hi (v_read arg5.view f5 (1024 * (i 2).val + 256 * 0) 256 (by omega) (k0_off25_eq i ⟨0, by decide⟩) _) rfl
                  have m0 : ∀ f, Half (arg10.view.read (Elt Ideal) (arg10.view.writes (Elt Ideal) f (body_val.sl.H10_2 c i arg5 arg7 arg8 arg10 f5 e7 e8 e10))) 0 (wsum (arg3.view.read (Elt Ideal) f3) (arg4.view.read (Elt Ideal) f4) (arg5.view.read (Elt Ideal) f5) (i 2).val 0 (4 * (i 2).val + 1)) := fun f => half_other arg10.view f _ 1 0 0 1024 0 (by decide) _ _ _ ((st_acc_d1024 (arg3.view.read (Elt Ideal) f3) (arg4.view.read (Elt Ideal) f4) (arg5.view.read (Elt Ideal) f5) (i 2).val 0 arg10.view _ _ _ (arg7.view.readAt (Elt Ideal) (Rect.unit (s := S2x16x1024x256) (k0_off10 i) S1x1x1024x256.size (k0_off10_inb i)).toLoadRect e7) (arg8.view.readAt (Elt Ideal) (Rect.unit (s := S2x1024x128) ![0, 0, 0] S1x1024x128.size inb_S2x1024x128_S1x1024x128_0_0_0).toLoadRect e8) (arg10.view.readAt (Elt Ideal) (Rect.unit (s := S2x1024x128) ![0, 0, 0] S1x1024x128.size inb_S2x1024x128_S1x1024x128_0_0_0).toLoadRect e10) (tiles_read (i 2).val arg7.view e7 0 (4 * (i 2).val + 0) 0 1024 _ rfl (by omega) (by omega) (by omega) (k0_off10_eq i) _ _ (h7 0)) (half_read arg8.view e8 0 0 1024 rfl _ _ (h8 0)) (half_read arg10.view e10 0 0 1024 rfl _ _ (b0)) (arg5.view.readAt (Elt Ideal) (Rect.unit (s := S4096x128) (k0_off25 i (BitVec.ofNat 32 0)) S256x128.size (k0_off25_inb i ⟨0, by decide⟩)).toLoadRect f5) (1024 * (i 2).val + 256 * 0) (by omega) hi (v_read arg5.view f5 (1024 * (i 2).val + 256 * 0) 256 (by omega) (k0_off25_eq i ⟨0, by decide⟩) _) rfl ) f)
                  have n0 : ∀ f, Half (arg10.view.read (Elt Ideal) (arg10.view.writes (Elt Ideal) f (body_val.sl.H10_3 c i arg5 arg7 arg8 arg10 f5 e7 e8 e10))) 0 (wsum (arg3.view.read (Elt Ideal) f3) (arg4.view.read (Elt Ideal) f4) (arg5.view.read (Elt Ideal) f5) (i 2).val 0 (4 * (i 2).val + 2)) := st_acc_d768 (arg3.view.read (Elt Ideal) f3) (arg4.view.read (Elt Ideal) f4) (arg5.view.read (Elt Ideal) f5) (i 2).val 0 arg10.view _ _ _ (arg7.view.readAt (Elt Ideal) (Rect.unit (s := S2x16x1024x256) (k0_off13 i) S1x1x768x256.size (k0_off13_inb i)).toLoadRect e7) (arg8.view.readAt (Elt Ideal) (Rect.unit (s := S2x1024x128) ![0, 256, 0] S1x768x128.size inb_S2x1024x128_S1x768x128_0_256_0).toLoadRect e8) (arg10.view.readAt (Elt Ideal) (Rect.unit (s := S2x1024x128) ![0, 256, 0] S1x768x128.size inb_S2x1024x128_S1x768x128_0_256_0).toLoadRect (arg10.view.writes (Elt Ideal) arg10.view.junk (body_val.sl.H10_2 c i arg5 arg7 arg8 arg10 f5 e7 e8 e10))) (tiles_read (i 2).val arg7.view e7 0 (4 * (i 2).val + 1) 256 768 _ rfl (by omega) (by omega) (by omega) (k0_off13_eq i) _ _ (h7 0)) (half_read arg8.view e8 0 256 768 rfl _ _ (h8 0)) (half_read arg10.view (arg10.view.writes (Elt Ideal) arg10.view.junk (body_val.sl.H10_2 c i arg5 arg7 arg8 arg10 f5 e7 e8 e10)) 0 256 768 rfl _ _ (m0 _)) (arg5.view.readAt (Elt Ideal) (Rect.unit (s := S4096x128) (k0_off25 i (BitVec.ofNat 32 1)) S256x128.size (k0_off25_inb i ⟨1, by decide⟩)).toLoadRect f5) (1024 * (i 2).val + 256 * 1) (by omega) hi (v_read arg5.view f5 (1024 * (i 2).val + 256 * 1) 256 (by omega) (k0_off25_eq i ⟨1, by decide⟩) _) rfl m0
                  have n1 : ∀ f, Half (arg10.view.read (Elt Ideal) (arg10.view.writes (Elt Ideal) f (body_val.sl.H10_3 c i arg5 arg7 arg8 arg10 f5 e7 e8 e10))) 1 (wsum (arg3.view.read (Elt Ideal) f3) (arg4.view.read (Elt Ideal) f4) (arg5.view.read (Elt Ideal) f5) (i 2).val 1 (4 * (i 2).val + 1)) := fun f => half_other arg10.view f _ 0 0 256 768 1 (by decide) _ _ _ (m1 f)
                  clear m0 m1
                  have m0 := n0
                  have m1 := n1
                  clear n0 n1
                  have n1 : ∀ f, Half (arg10.view.read (Elt Ideal) (arg10.view.writes (Elt Ideal) f (body_val.sl.H10_4 c i arg5 arg7 arg8 arg10 f5 e7 e8 e10))) 1 (wsum (arg3.view.read (Elt Ideal) f3) (arg4.view.read (Elt Ideal) f4) (arg5.view.read (Elt Ideal) f5) (i 2).val 1 (4 * (i 2).val + 2)) := st_acc_d768 (arg3.view.read (Elt Ideal) f3) (arg4.view.read (Elt Ideal) f4) (arg5.view.read (Elt Ideal) f5) (i 2).val 1 arg10.view _ _ _ (arg7.view.readAt (Elt Ideal) (Rect.unit (s := S2x16x1024x256) (k0_off14 i) S1x1x768x256.size (k0_off14_inb i)).toLoadRect e7) (arg8.view.readAt (Elt Ideal) (Rect.unit (s := S2x1024x128) ![1, 256, 0] S1x768x128.size inb_S2x1024x128_S1x768x128_1_256_0).toLoadRect e8) (arg10.view.readAt (Elt Ideal) (Rect.unit (s := S2x1024x128) ![1, 256, 0] S1x768x128.size inb_S2x1024x128_S1x768x128_1_256_0).toLoadRect (arg10.view.writes (Elt Ideal) arg10.view.junk (body_val.sl.H10_3 c i arg5 arg7 arg8 arg10 f5 e7 e8 e10))) (tiles_read (i 2).val arg7.view e7 1 (4 * (i 2).val + 1) 256 768 _ rfl (by omega) (by omega) (by omega) (k0_off14_eq i) _ _ (h7 1)) (half_read arg8.view e8 1 256 768 rfl _ _ (h8 1)) (half_read arg10.view (arg10.view.writes (Elt Ideal) arg10.view.junk (body_val.sl.H10_3 c i arg5 arg7 arg8 arg10 f5 e7 e8 e10)) 1 256 768 rfl _ _ (m1 _)) (arg5.view.readAt (Elt Ideal) (Rect.unit (s := S4096x128) (k0_off25 i (BitVec.ofNat 32 1)) S256x128.size (k0_off25_inb i ⟨1, by decide⟩)).toLoadRect f5) (1024 * (i 2).val + 256 * 1) (by omega) hi (v_read arg5.view f5 (1024 * (i 2).val + 256 * 1) 256 (by omega) (k0_off25_eq i ⟨1, by decide⟩) _) rfl m1
                  have n0 : ∀ f, Half (arg10.view.read (Elt Ideal) (arg10.view.writes (Elt Ideal) f (body_val.sl.H10_4 c i arg5 arg7 arg8 arg10 f5 e7 e8 e10))) 0 (wsum (arg3.view.read (Elt Ideal) f3) (arg4.view.read (Elt Ideal) f4) (arg5.view.read (Elt Ideal) f5) (i 2).val 0 (4 * (i 2).val + 2)) := fun f => half_other arg10.view f _ 1 0 256 768 0 (by decide) _ _ _ (m0 f)
                  clear m0 m1
                  have m0 := n0
                  have m1 := n1
                  clear n0 n1
                  have n0 : ∀ f, Half (arg10.view.read (Elt Ideal) (arg10.view.writes (Elt Ideal) f (body_val.sl.H10_5 c i arg5 arg7 arg8 arg10 f5 e7 e8 e10))) 0 (wsum (arg3.view.read (Elt Ideal) f3) (arg4.view.read (Elt Ideal) f4) (arg5.view.read (Elt Ideal) f5) (i 2).val 0 (4 * (i 2).val + 3)) := st_acc_d512 (arg3.view.read (Elt Ideal) f3) (arg4.view.read (Elt Ideal) f4) (arg5.view.read (Elt Ideal) f5) (i 2).val 0 arg10.view _ _ _ (arg7.view.readAt (Elt Ideal) (Rect.unit (s := S2x16x1024x256) (k0_off15 i) S1x1x512x256.size (k0_off15_inb i)).toLoadRect e7) (arg8.view.readAt (Elt Ideal) (Rect.unit (s := S2x1024x128) ![0, 512, 0] S1x512x128.size inb_S2x1024x128_S1x512x128_0_512_0).toLoadRect e8) (arg10.view.readAt (Elt Ideal) (Rect.unit (s := S2x1024x128) ![0, 512, 0] S1x512x128.size inb_S2x1024x128_S1x512x128_0_512_0).toLoadRect (arg10.view.writes (Elt Ideal) arg10.view.junk (body_val.sl.H10_4 c i arg5 arg7 arg8 arg10 f5 e7 e8 e10))) (tiles_read (i 2).val arg7.view e7 0 (4 * (i 2).val + 2) 512 512 _ rfl (by omega) (by omega) (by omega) (k0_off15_eq i) _ _ (h7 0)) (half_read arg8.view e8 0 512 512 rfl _ _ (h8 0)) (half_read arg10.view (arg10.view.writes (Elt Ideal) arg10.view.junk (body_val.sl.H10_4 c i arg5 arg7 arg8 arg10 f5 e7 e8 e10)) 0 512 512 rfl _ _ (m0 _)) (arg5.view.readAt (Elt Ideal) (Rect.unit (s := S4096x128) (k0_off25 i (BitVec.ofNat 32 2)) S256x128.size (k0_off25_inb i ⟨2, by decide⟩)).toLoadRect f5) (1024 * (i 2).val + 256 * 2) (by omega) hi (v_read arg5.view f5 (1024 * (i 2).val + 256 * 2) 256 (by omega) (k0_off25_eq i ⟨2, by decide⟩) _) rfl m0
                  have n1 : ∀ f, Half (arg10.view.read (Elt Ideal) (arg10.view.writes (Elt Ideal) f (body_val.sl.H10_5 c i arg5 arg7 arg8 arg10 f5 e7 e8 e10))) 1 (wsum (arg3.view.read (Elt Ideal) f3) (arg4.view.read (Elt Ideal) f4) (arg5.view.read (Elt Ideal) f5) (i 2).val 1 (4 * (i 2).val + 2)) := fun f => half_other arg10.view f _ 0 0 512 512 1 (by decide) _ _ _ (m1 f)
                  clear m0 m1
                  have m0 := n0
                  have m1 := n1
                  clear n0 n1
                  have n1 : ∀ f, Half (arg10.view.read (Elt Ideal) (arg10.view.writes (Elt Ideal) f (body_val.sl.H10_6 c i arg5 arg7 arg8 arg10 f5 e7 e8 e10))) 1 (wsum (arg3.view.read (Elt Ideal) f3) (arg4.view.read (Elt Ideal) f4) (arg5.view.read (Elt Ideal) f5) (i 2).val 1 (4 * (i 2).val + 3)) := st_acc_d512 (arg3.view.read (Elt Ideal) f3) (arg4.view.read (Elt Ideal) f4) (arg5.view.read (Elt Ideal) f5) (i 2).val 1 arg10.view _ _ _ (arg7.view.readAt (Elt Ideal) (Rect.unit (s := S2x16x1024x256) (k0_off16 i) S1x1x512x256.size (k0_off16_inb i)).toLoadRect e7) (arg8.view.readAt (Elt Ideal) (Rect.unit (s := S2x1024x128) ![1, 512, 0] S1x512x128.size inb_S2x1024x128_S1x512x128_1_512_0).toLoadRect e8) (arg10.view.readAt (Elt Ideal) (Rect.unit (s := S2x1024x128) ![1, 512, 0] S1x512x128.size inb_S2x1024x128_S1x512x128_1_512_0).toLoadRect (arg10.view.writes (Elt Ideal) arg10.view.junk (body_val.sl.H10_5 c i arg5 arg7 arg8 arg10 f5 e7 e8 e10))) (tiles_read (i 2).val arg7.view e7 1 (4 * (i 2).val + 2) 512 512 _ rfl (by omega) (by omega) (by omega) (k0_off16_eq i) _ _ (h7 1)) (half_read arg8.view e8 1 512 512 rfl _ _ (h8 1)) (half_read arg10.view (arg10.view.writes (Elt Ideal) arg10.view.junk (body_val.sl.H10_5 c i arg5 arg7 arg8 arg10 f5 e7 e8 e10)) 1 512 512 rfl _ _ (m1 _)) (arg5.view.readAt (Elt Ideal) (Rect.unit (s := S4096x128) (k0_off25 i (BitVec.ofNat 32 2)) S256x128.size (k0_off25_inb i ⟨2, by decide⟩)).toLoadRect f5) (1024 * (i 2).val + 256 * 2) (by omega) hi (v_read arg5.view f5 (1024 * (i 2).val + 256 * 2) 256 (by omega) (k0_off25_eq i ⟨2, by decide⟩) _) rfl m1
                  have n0 : ∀ f, Half (arg10.view.read (Elt Ideal) (arg10.view.writes (Elt Ideal) f (body_val.sl.H10_6 c i arg5 arg7 arg8 arg10 f5 e7 e8 e10))) 0 (wsum (arg3.view.read (Elt Ideal) f3) (arg4.view.read (Elt Ideal) f4) (arg5.view.read (Elt Ideal) f5) (i 2).val 0 (4 * (i 2).val + 3)) := fun f => half_other arg10.view f _ 1 0 512 512 0 (by decide) _ _ _ (m0 f)
                  clear m0 m1
                  have m0 := n0
                  have m1 := n1
                  clear n0 n1
                  have n0 : ∀ f, Half (arg10.view.read (Elt Ideal) (arg10.view.writes (Elt Ideal) f (body_val.sl.H10_7 c i arg5 arg7 arg8 arg10 f5 e7 e8 e10))) 0 (wsum (arg3.view.read (Elt Ideal) f3) (arg4.view.read (Elt Ideal) f4) (arg5.view.read (Elt Ideal) f5) (i 2).val 0 (4 * (i 2).val + 4)) := st_acc_d256 (arg3.view.read (Elt Ideal) f3) (arg4.view.read (Elt Ideal) f4) (arg5.view.read (Elt Ideal) f5) (i 2).val 0 arg10.view _ _ _ (arg7.view.readAt (Elt Ideal) (Rect.unit (s := S2x16x1024x256) (k0_off17 i) S1x1x256x256.size (k0_off17_inb i)).toLoadRect e7) (arg8.view.readAt (Elt Ideal) (Rect.unit (s := S2x1024x128) ![0, 768, 0] S1x256x128.size inb_S2x1024x128_S1x256x128_0_768_0).toLoadRect e8) (arg10.view.readAt (Elt Ideal) (Rect.unit (s := S2x1024x128) ![0, 768, 0] S1x256x128.size inb_S2x1024x128_S1x256x128_0_768_0).toLoadRect (arg10.view.writes (Elt Ideal) arg10.view.junk (body_val.sl.H10_6 c i arg5 arg7 arg8 arg10 f5 e7 e8 e10))) (tiles_read (i 2).val arg7.view e7 0 (4 * (i 2).val + 3) 768 256 _ rfl (by omega) (by omega) (by omega) (k0_off17_eq i) _ _ (h7 0)) (half_read arg8.view e8 0 768 256 rfl _ _ (h8 0)) (half_read arg10.view (arg10.view.writes (Elt Ideal) arg10.view.junk (body_val.sl.H10_6 c i arg5 arg7 arg8 arg10 f5 e7 e8 e10)) 0 768 256 rfl _ _ (m0 _)) (arg5.view.readAt (Elt Ideal) (Rect.unit (s := S4096x128) (k0_off25 i (BitVec.ofNat 32 3)) S256x128.size (k0_off25_inb i ⟨3, by decide⟩)).toLoadRect f5) (1024 * (i 2).val + 256 * 3) (by omega) hi (v_read arg5.view f5 (1024 * (i 2).val + 256 * 3) 256 (by omega) (k0_off25_eq i ⟨3, by decide⟩) _) rfl m0
                  have n1 : ∀ f, Half (arg10.view.read (Elt Ideal) (arg10.view.writes (Elt Ideal) f (body_val.sl.H10_7 c i arg5 arg7 arg8 arg10 f5 e7 e8 e10))) 1 (wsum (arg3.view.read (Elt Ideal) f3) (arg4.view.read (Elt Ideal) f4) (arg5.view.read (Elt Ideal) f5) (i 2).val 1 (4 * (i 2).val + 3)) := fun f => half_other arg10.view f _ 0 0 768 256 1 (by decide) _ _ _ (m1 f)
                  clear m0 m1
                  have m0 := n0
                  have m1 := n1
                  clear n0 n1
                  have n1 : ∀ f, Half (arg10.view.read (Elt Ideal) (arg10.view.writes (Elt Ideal) f (body_val.sl.H10_8 c i arg5 arg7 arg8 arg10 f5 e7 e8 e10))) 1 (wsum (arg3.view.read (Elt Ideal) f3) (arg4.view.read (Elt Ideal) f4) (arg5.view.read (Elt Ideal) f5) (i 2).val 1 (4 * (i 2).val + 4)) := st_acc_d256 (arg3.view.read (Elt Ideal) f3) (arg4.view.read (Elt Ideal) f4) (arg5.view.read (Elt Ideal) f5) (i 2).val 1 arg10.view _ _ _ (arg7.view.readAt (Elt Ideal) (Rect.unit (s := S2x16x1024x256) (k0_off18 i) S1x1x256x256.size (k0_off18_inb i)).toLoadRect e7) (arg8.view.readAt (Elt Ideal) (Rect.unit (s := S2x1024x128) ![1, 768, 0] S1x256x128.size inb_S2x1024x128_S1x256x128_1_768_0).toLoadRect e8) (arg10.view.readAt (Elt Ideal) (Rect.unit (s := S2x1024x128) ![1, 768, 0] S1x256x128.size inb_S2x1024x128_S1x256x128_1_768_0).toLoadRect (arg10.view.writes (Elt Ideal) arg10.view.junk (body_val.sl.H10_7 c i arg5 arg7 arg8 arg10 f5 e7 e8 e10))) (tiles_read (i 2).val arg7.view e7 1 (4 * (i 2).val + 3) 768 256 _ rfl (by omega) (by omega) (by omega) (k0_off18_eq i) _ _ (h7 1)) (half_read arg8.view e8 1 768 256 rfl _ _ (h8 1)) (half_read arg10.view (arg10.view.writes (Elt Ideal) arg10.view.junk (body_val.sl.H10_7 c i arg5 arg7 arg8 arg10 f5 e7 e8 e10)) 1 768 256 rfl _ _ (m1 _)) (arg5.view.readAt (Elt Ideal) (Rect.unit (s := S4096x128) (k0_off25 i (BitVec.ofNat 32 3)) S256x128.size (k0_off25_inb i ⟨3, by decide⟩)).toLoadRect f5) (1024 * (i 2).val + 256 * 3) (by omega) hi (v_read arg5.view f5 (1024 * (i 2).val + 256 * 3) 256 (by omega) (k0_off25_eq i ⟨3, by decide⟩) _) rfl m1
                  have n0 : ∀ f, Half (arg10.view.read (Elt Ideal) (arg10.view.writes (Elt Ideal) f (body_val.sl.H10_8 c i arg5 arg7 arg8 arg10 f5 e7 e8 e10))) 0 (wsum (arg3.view.read (Elt Ideal) f3) (arg4.view.read (Elt Ideal) f4) (arg5.view.read (Elt Ideal) f5) (i 2).val 0 (4 * (i 2).val + 4)) := fun f => half_other arg10.view f _ 1 0 768 256 0 (by decide) _ _ _ (m0 f)
                  clear m0 m1
                  have m0 := n0
                  have m1 := n1
                  clear n0 n1
                  funext y
                  obtain ⟨r, n, rfl⟩ : ∃ r n, y = ix2 r n := ⟨y 0, y 1, funext fun a => by match a with | ⟨0, _⟩ => rfl | ⟨1, _⟩ => rfl⟩
                  refine (View.read_writes_cons_unit_of_mem arg6.view f6 _ _ [] (ix2 r n) (ix2 r n) rfl fun a => ?_).trans ?_
                  · match a with
                    | ⟨0, _⟩ => exact (Nat.zero_add _).symm
                    | ⟨1, _⟩ => exact (Nat.zero_add _).symm
                  have e : (⟨0 + r.val, by omega⟩ : Fin 1024) = r := Fin.ext (Nat.zero_add _)
                  refine (pay_out (arg10.view.readAt (Elt Ideal) (Rect.unit (s := S2x1024x128) ![0, 0, 0] S1x1024x128.size inb_S2x1024x128_S1x1024x128_0_0_0).toLoadRect (arg10.view.writes (Elt Ideal) arg10.view.junk (body_val.sl.H10_8 c i arg5 arg7 arg8 arg10 f5 e7 e8 e10))) (arg9.view.readAt (Elt Ideal) (Rect.unit (s := S2x1024x128) ![0, 0, 0] S1x1024x128.size inb_S2x1024x128_S1x1024x128_0_0_0).toLoadRect (arg9.view.writes (Elt Ideal) arg9.view.junk (body_val.sl.H9_8 i arg7 arg8 arg9 e7 e8 e9))) (arg10.view.readAt (Elt Ideal) (Rect.unit (s := S2x1024x128) ![1, 0, 0] S1x1024x128.size inb_S2x1024x128_S1x1024x128_1_0_0).toLoadRect (arg10.view.writes (Elt Ideal) arg10.view.junk (body_val.sl.H10_8 c i arg5 arg7 arg8 arg10 f5 e7 e8 e10))) (arg9.view.readAt (Elt Ideal) (Rect.unit (s := S2x1024x128) ![1, 0, 0] S1x1024x128.size inb_S2x1024x128_S1x1024x128_1_0_0).toLoadRect (arg9.view.writes (Elt Ideal) arg9.view.junk (body_val.sl.H9_8 i arg7 arg8 arg9 e7 e8 e9))) r n).trans ?_
                  have w0 := (half_read arg10.view (arg10.view.writes (Elt Ideal) arg10.view.junk (body_val.sl.H10_8 c i arg5 arg7 arg8 arg10 f5 e7 e8 e10)) 0 0 1024 rfl inb_S2x1024x128_S1x1024x128_0_0_0 _ (m0 _) r n).trans (congrArg (fun x => wsum (arg3.view.read (Elt Ideal) f3) (arg4.view.read (Elt Ideal) f4) (arg5.view.read (Elt Ideal) f5) (i 2).val 0 (4 * (i 2).val + 4) x n) e)
                  have w1 := (half_read arg10.view (arg10.view.writes (Elt Ideal) arg10.view.junk (body_val.sl.H10_8 c i arg5 arg7 arg8 arg10 f5 e7 e8 e10)) 1 0 1024 rfl inb_S2x1024x128_S1x1024x128_1_0_0 _ (m1 _) r n).trans (congrArg (fun x => wsum (arg3.view.read (Elt Ideal) f3) (arg4.view.read (Elt Ideal) f4) (arg5.view.read (Elt Ideal) f5) (i 2).val 1 (4 * (i 2).val + 4) x n) e)
                  have s0 := Finset.sum_congr (rfl : (Finset.univ : Finset (Fin 128)) = Finset.univ) fun l _ => (half_read arg9.view (arg9.view.writes (Elt Ideal) arg9.view.junk (body_val.sl.H9_8 i arg7 arg8 arg9 e7 e8 e9)) 0 0 1024 rfl inb_S2x1024x128_S1x1024x128_0_0_0 _ (l0 _) r l).trans (congrArg (fun x => lsum (arg3.view.read (Elt Ideal) f3) (arg4.view.read (Elt Ideal) f4) (i 2).val 0 (4 * (i 2).val + 4) x l) e)
                  have s1 := Finset.sum_congr (rfl : (Finset.univ : Finset (Fin 128)) = Finset.univ) fun l _ => (half_read arg9.view (arg9.view.writes (Elt Ideal) arg9.view.junk (body_val.sl.H9_8 i arg7 arg8 arg9 e7 e8 e9)) 1 0 1024 rfl inb_S2x1024x128_S1x1024x128_1_0_0 _ (l1 _) r l).trans (congrArg (fun x => lsum (arg3.view.read (Elt Ideal) f3) (arg4.view.read (Elt Ideal) f4) (i 2).val 1 (4 * (i 2).val + 4) x l) e)
                  show _ = outv (arg3.view.read (Elt Ideal) f3) (arg4.view.read (Elt Ideal) f4) (arg5.view.read (Elt Ideal) f5) (i 2).val r n
                  unfold outv
                  exact if_congr Iff.rfl (congrArg₂ Ideal.div w0 s0) (congrArg₂ Ideal.div w1 s1)
  isplitl [H7]; · iexists _; iexists _; isplitr; swap; · iexact H7
                  ipureintro; rfl
  isplitl [H8]; · iexists _; iexists _; isplitr; swap; · iexact H8
                  ipureintro; rfl
  isplitl [H9]; · iexists _; iexists _; isplitr; swap; · iexact H9
                  ipureintro; rfl
  iexists _; iexists _; isplitr; swap; · iexact H10
  ipureintro; rfl

end Cert.Kernel3Ideal.Attn
-- ==== Proof.AttnRun.lean ====
/-
  The attention's launch at the extended reals: what every block's output tile holds, and the array the launch leaves.
-/
module

public import proofs.«01_k».proof.Proof.AttnValue
public import Idealize.ShloMosaic.Lib.Pipeline.ValueKit

@[expose] public section

set_option maxRecDepth 16384

noncomputable section

namespace Cert.Kernel3Ideal.AttnRun

open Cert.Kernel3Ideal.Gen Cert.Kernel3Ideal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The four scratch buffers, whole. -/
abbrev b0 : Memref sig .tc .vmem S2x16x1024x256 .f32 := Memref.whole cc0_scratch0
abbrev b1 : Memref sig .tc .vmem S2x1024x128 .f32 := Memref.whole cc0_scratch1
abbrev b2 : Memref sig .tc .vmem S2x1024x128 .f32 := Memref.whole cc0_scratch2
abbrev b3 : Memref sig .tc .vmem S2x1024x128 .f32 := Memref.whole cc0_scratch3

/-- Between points: each scratch buffer at some contents, the generator register at some state. -/
theorem between (c : Dev nD) :
    (Pipeline.ΦA spec0 c : sProp 𝕄)
      = iprop(iprop((∃ d, owns (c : Thread nD τ) b0 fullShare d) ∗ (∃ d, owns (c : Thread nD τ) b1 fullShare d)
        ∗ (∃ d, owns (c : Thread nD τ) b2 fullShare d) ∗ (∃ d, owns (c : Thread nD τ) b3 fullShare d)) ∗ (∃ r, prngReg c r)) := by
  unfold Pipeline.ΦA; rw [scopedRest0_eq]; simp only [b0, b1, b2, b3, owns_whole]; try rfl

/-- What the body leaves in the output tile at point `t`. -/
def left (c : Dev nD) (t : Fin cfg0.N) : Vec Ideal S1024x128 .bf16 :=
  fun y => outv (iblk m c 0 t) (iblk m c 1 t) (iblk m c 2 t) (grid0.coords t 2).val (y 0) (y 1)

/-- The launch's data: the arrays as found, each input's block kept, the output tile at `left`. -/
def vals (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q _ := fullShare
  owed _ := 0

theorem vals_A (c : Dev nD) (w : Fin cfg0.W) : (vals m 0 c).A w = V m c (Pipeline.arrRef spec0 w) := by dsimp only [vals]
theorem vals_0 (c : Dev nD) (t : Fin cfg0.N) : (vals m 0 c).after 0 t = iblk m c 0 t := by dsimp only [vals]
theorem vals_1 (c : Dev nD) (t : Fin cfg0.N) : (vals m 0 c).after 1 t = iblk m c 1 t := by dsimp only [vals]
theorem vals_2 (c : Dev nD) (t : Fin cfg0.N) : (vals m 0 c).after 2 t = iblk m c 2 t := by dsimp only [vals]
theorem vals_3 (c : Dev nD) (t : Fin cfg0.N) : (vals m 0 c).after 3 t = left m c t := by dsimp only [vals]
theorem found_0 (c : Dev nD) (t : Fin cfg0.N) (d) : (vals m 0 c).before 0 t d = iblk m c 0 t :=
  before0_0_of m (vals m 0 c) (vals_A m c 0) (vals_0 m c) t d
theorem found_1 (c : Dev nD) (t : Fin cfg0.N) (d) : (vals m 0 c).before 1 t d = iblk m c 1 t :=
  before0_1_of m (vals m 0 c) (vals_A m c 1) (vals_1 m c) t d
theorem found_2 (c : Dev nD) (t : Fin cfg0.N) (d) : (vals m 0 c).before 2 t d = iblk m c 2 t :=
  before0_2_of m (vals m 0 c) (vals_A m c 2) (vals_2 m c) t d

theorem body_row (t : Fin cfg0.N) : defs₀ (F := Ideal) .tc cfg0.body (cfg0.bodyArgs t (cfg0.slots t)) = bodyAt0 t := by
  unfold defs₀; rw [Defs.onTc_tc]

set_option maxHeartbeats 1600000 in
/-- One point: the inputs' blocks are kept, the output tile is at `left`. -/
theorem at_point (c : Dev nD) (t : Fin cfg0.N) :
    iprop((vals m 0 c).Φ t.castSucc ∗ (vals m 0 c).owesAt () t.castSucc
      ∗ (∃ d, owns (c : Thread nD τ) (st0_0 t) fullShare ((vals m 0 c).before 0 t d))
      ∗ (∃ d, owns (c : Thread nD τ) (st0_1 t) fullShare ((vals m 0 c).before 1 t d))
      ∗ (∃ d, owns (c : Thread nD τ) (st0_2 t) fullShare ((vals m 0 c).before 2 t d))
      ∗ (∃ d, owns (c : Thread nD τ) (st0_3 t) fullShare ((vals m 0 c).before 3 t d)))
    ⊢ wp frame (wpE (defs₀ (F := Ideal)) Variants.none c none) Set.univ (bodyAt0 t) (fun _ =>
      iprop((vals m 0 c).Φ t.succ ∗ (vals m 0 c).owesAt () t.succ
      ∗ owns (c : Thread nD τ) (st0_0 t) fullShare ((vals m 0 c).after 0 t)
      ∗ owns (c : Thread nD τ) (st0_1 t) fullShare ((vals m 0 c).after 1 t)
      ∗ owns (c : Thread nD τ) (st0_2 t) fullShare ((vals m 0 c).after 2 t)
      ∗ owns (c : Thread nD τ) (st0_3 t) fullShare ((vals m 0 c).after 3 t))) := by
  unfold bodyAt0
  simp only [found_0, found_1, found_2]
  rw [show (vals m 0 c).owesAt () t.succ = (vals m 0 c).owesAt () t.castSucc from rfl, vals_0, vals_1, vals_2, vals_3,
    show (vals m 0 c).Φ t.succ = Pipeline.ΦA spec0 c from rfl, show (vals m 0 c).Φ t.castSucc = Pipeline.ΦA spec0 c from rfl, between]
  iintro ⟨⟨⟨H7, H8, H9, H10⟩, Hg⟩, Ho, ⟨%d0, H0⟩, ⟨%d1, H1⟩, ⟨%d2, H2⟩, ⟨%d3, H3⟩⟩
  iapply (body_val c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  isplitl [H10]; · iexact H10
  iintro ⟨H0, H1, H2, H3, H7, H8, H9, H10⟩
  isplitl [H7 H8 H9 H10 Hg]
  · isplitl [H7 H8 H9 H10]
    · isplitl [H7]; · iexact H7
      isplitl [H8]; · iexact H8
      isplitl [H9]; · iexact H9
      iexact H10
    · iexact Hg
  isplitl [Ho]; · iexact Ho
  isplitl [H0]; · iexact H0
  isplitl [H1]; · iexact H1
  isplitl [H2]; · iexact H2
  iexact H3

theorem bodies (c : Dev nD) : BodyObligation (vals m 0 c) (defs₀ (F := Ideal)) Variants.none () Set.univ := fun t => by
  rw [bigSep_W0, bigSep_W0, body_row]
  exact triple_restated (at_point m c t) rfl .rfl fun _ => .rfl

/-- The launch ends with the output array written back tile by tile and the arguments unchanged. -/
theorem run : θ_run defs (onTc (τ := τ) (main (F := Ideal))) ⟨m, fun _ => 0, ρ⟩ (fun r => ∀ c : Dev nD,
      r.2.mem ((c.tc : Thread nD τ).loc main_v0) = (vals m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame (Q' := _) cfgs (vals m) (0 : Fin 1) launch0 defs₀ Variants.none m ρ main
    (hbody := fun c => (bodies m c).loose) (hshare := fun c => (vals m 0 c).share_full fun _ => rfl)
    (howed := fun _ _ => rfl) (V := V m) (hmain := hmain m Variants.none) (hA := vals_A m) (hΦ := fun _ _ => rfl)
    (hQ' := fun _ h c => ⟨h.1.out_eq c 3, (h.1.in_eq c 0 rfl).trans ((vals_A m c 0).trans (V_main_arg0 m c)),
      (h.1.in_eq c 1 rfl).trans ((vals_A m c 1).trans (V_main_arg1 m c)),
      (h.1.in_eq c 2 rfl).trans ((vals_A m c 2).trans (V_main_arg2 m c))⟩)

/-! ## The array left -/

/-- Query block, key tiles and values of the block of rows `rb`, batch `b` and pair of heads `p`. -/
def qb (A : Vec Ideal S16384x2048 .bf16) (rb : Fin 16) (p : Fin 8) : Vec Ideal S1024x256 .bf16 := fun y =>
  A (ix2 (⟨1024 * rb.val + (y 0).val, by have := (y 0).isLt; have e : S1024x256.size 0 = 1024 := rfl; omega⟩ : Fin 16384)
    (⟨256 * p.val + (y 1).val, by have := (y 1).isLt; have e : S1024x256.size 1 = 256 := rfl; omega⟩ : Fin 2048))
def kb (K : Vec Ideal S64x2048x256 .bf16) (b : Fin 4) (p : Fin 8) : Vec Ideal S16x256x256 .bf16 := fun y =>
  K (ix3 (⟨16 * b.val + (y 0).val, by have := (y 0).isLt; have e : S16x256x256.size 0 = 16 := rfl; omega⟩ : Fin 64)
    (⟨256 * p.val + (y 1).val, by have := (y 1).isLt; have e : S16x256x256.size 1 = 256 := rfl; omega⟩ : Fin 2048) (y 2))
def vb (W : Vec Ideal S16384x1024 .bf16) (b : Fin 4) (p : Fin 8) : Vec Ideal S4096x128 .bf16 := fun y =>
  W (ix2 (⟨4096 * b.val + (y 0).val, by have := (y 0).isLt; have e : S4096x128.size 0 = 4096 := rfl; omega⟩ : Fin 16384)
    (⟨128 * p.val + (y 1).val, by have := (y 1).isLt; have e : S4096x128.size 1 = 128 := rfl; omega⟩ : Fin 1024))

/-- Row `R`, column `C` of the result. -/
def cell (A : Vec Ideal S16384x2048 .bf16) (K : Vec Ideal S64x2048x256 .bf16) (W : Vec Ideal S16384x1024 .bf16) (R : Fin 16384) (C : Fin 1024) : EReal :=
  outv (qb A ⟨R.val / 1024, by have := R.isLt; omega⟩ ⟨C.val / 128, by have := C.isLt; omega⟩)
    (kb K ⟨R.val / 4096, by have := R.isLt; omega⟩ ⟨C.val / 128, by have := C.isLt; omega⟩)
    (vb W ⟨R.val / 4096, by have := R.isLt; omega⟩ ⟨C.val / 128, by have := C.isLt; omega⟩)
    (R.val / 1024 % 4) ⟨R.val % 1024, Nat.mod_lt _ (by decide)⟩ ⟨C.val % 128, Nat.mod_lt _ (by decide)⟩

def Out (c : Dev nD) : S16384x1024.Idx → EReal := fun y =>
  cell (m ((c : Thread nD τ).loc main_arg0)) (m ((c : Thread nD τ).loc main_arg1)) (m ((c : Thread nD τ).loc main_arg2)) (y 0) (y 1)

/-- Batch, pair of heads and query block of point `t`. -/
def pb (t : Fin cfg0.N) : Fin 4 := ⟨t.val / 32, by have := t.isLt; have e : cfg0.N = 128 := rfl; omega⟩
def pp (t : Fin cfg0.N) : Fin 8 := ⟨t.val / 4 % 8, Nat.mod_lt _ (by decide)⟩
def pq (t : Fin cfg0.N) : Fin 4 := ⟨t.val % 4, Nat.mod_lt _ (by decide)⟩

theorem idx (t : Fin cfg0.N) : (cfg0.win 0).index t = ![4 * (pb t).val + (pq t).val, (pp t).val] ∧ (cfg0.win 1).index t = ![(pb t).val, (pp t).val, 0]
    ∧ (cfg0.win 2).index t = ![(pb t).val, (pp t).val] ∧ (cfg0.win 3).index t = ![4 * (pb t).val + (pq t).val, (pp t).val] ∧ (grid0.coords t 2).val = (pq t).val :=
  (by decide +kernel : ∀ t : Fin grid0.N, win0_0.index t = ![4 * (t.val / 32) + t.val % 4, t.val / 4 % 8] ∧ win0_1.index t = ![t.val / 32, t.val / 4 % 8, 0]
    ∧ win0_2.index t = ![t.val / 32, t.val / 4 % 8] ∧ win0_3.index t = ![4 * (t.val / 32) + t.val % 4, t.val / 4 % 8] ∧ (grid0.coords t 2).val = t.val % 4) t

/-- The block of rows of point `t`. -/
def pr (t : Fin cfg0.N) : Fin 16 := ⟨4 * (pb t).val + (pq t).val, by have := (pb t).isLt; have := (pq t).isLt; omega⟩

theorem q_at (c : Dev nD) (t : Fin cfg0.N) : iblk m c 0 t = qb (m ((c : Thread nD τ).loc main_arg0)) (pr t) (pp t) := by
  funext y
  obtain ⟨a, b, rfl⟩ : ∃ (a : Fin 1024) (b : Fin 256), y = ix2 a b := ⟨y 0, y 1, eq_ix2 y⟩
  unfold qb pr
  rw [← V_main_arg0 m c]
  blk_ext [iblk, idx t]
theorem k_at (c : Dev nD) (t : Fin cfg0.N) : iblk m c 1 t = kb (m ((c : Thread nD τ).loc main_arg1)) (pb t) (pp t) := by
  funext y
  obtain ⟨a, b, d, rfl⟩ : ∃ (a : Fin 16) (b : Fin 256) (d : Fin 256), y = ix3 a b d := ⟨y 0, y 1, y 2, eq_ix3 y⟩
  unfold kb
  rw [← V_main_arg1 m c]
  blk_ext [iblk, idx t]
theorem v_at (c : Dev nD) (t : Fin cfg0.N) : iblk m c 2 t = vb (m ((c : Thread nD τ).loc main_arg2)) (pb t) (pp t) := by
  funext y
  obtain ⟨a, b, rfl⟩ : ∃ (a : Fin 4096) (b : Fin 128), y = ix2 a b := ⟨y 0, y 1, eq_ix2 y⟩
  unfold vb
  rw [← V_main_arg2 m c]
  blk_ext [iblk, idx t]

theorem cell_at (A : Vec Ideal S16384x2048 .bf16) (K : Vec Ideal S64x2048x256 .bf16) (W : Vec Ideal S16384x1024 .bf16) (b : Fin 4) (q : Fin 4) (p : Fin 8)
    (r : Fin 1024) (n : Fin 128) (rb : Fin 16) (hrb : rb.val = 4 * b.val + q.val) (R : Fin 16384) (C : Fin 1024) (hR : R.val = 1024 * rb.val + r.val) (hC : C.val = 128 * p.val + n.val) :
    cell A K W R C = outv (qb A rb p) (kb K b p) (vb W b p) q.val r n := by
  have e1 : (⟨R.val / 1024, by have := R.isLt; omega⟩ : Fin 16) = rb := Fin.ext (by show R.val / 1024 = _; omega)
  have e2 : (⟨R.val / 4096, by have := R.isLt; omega⟩ : Fin 4) = b := Fin.ext (by show R.val / 4096 = _; omega)
  have e3 : (⟨C.val / 128, by have := C.isLt; omega⟩ : Fin 8) = p := Fin.ext (by show C.val / 128 = _; omega)
  have e4 : (⟨R.val % 1024, Nat.mod_lt _ (by decide)⟩ : Fin 1024) = r := Fin.ext (by show R.val % 1024 = _; omega)
  have e5 : (⟨C.val % 128, Nat.mod_lt _ (by decide)⟩ : Fin 128) = n := Fin.ext (by show C.val % 128 = _; omega)
  have e6 : R.val / 1024 % 4 = q.val := by omega
  unfold cell
  rw [e1, e2, e3, e4, e5, e6]

theorem final (c : Dev nD) : (vals m 0 c).arrAt 3 cfg0.N = Out m c := by
  refine (vals m 0 c).arrAt_eq_of_covers 3 _ (by decide +kernel) fun t hf y => ?_
  blk_simp
  rw [vals_3]
  have e : (win0_3.blk t).view.emb y = ix2 (⟨1024 * (pr t).val + (y 0).val, by have := (pr t).isLt; have : (y 0).val < 1024 := (y 0).isLt; omega⟩ : Fin 16384)
      (⟨128 * (pp t).val + (y 1).val, by have := (pp t).isLt; have : (y 1).val < 128 := (y 1).isLt; omega⟩ : Fin 1024) := by blk_ext [pr, idx t]
  rw [e]
  unfold left
  rw [q_at, k_at, v_at, (idx t).2.2.2.2]
  exact (cell_at _ _ _ (pb t) (pq t) (pp t) (y 0) (y 1) (pr t) rfl _ _ rfl rfl).symm

end Cert.Kernel3Ideal.AttnRun

end
-- ==== Proof.AttnAgree.lean ====
/-
  The launch's array is the reference's: under finite queries and keys each cell is the softmax-weighted sum of the values.
-/
module

public import proofs.«01_k».proof.Pre_finite_q_k
public import proofs.«01_k».proof.Proof.AttnRef
public import proofs.«01_k».proof.Proof.AttnRun
public import Idealize.ShloMosaic.Lib.ReduceAll

@[expose] public section

set_option maxRecDepth 16384

noncomputable section

namespace Cert.Proof.Attn

open Idealize.ShloMosaic Idealize.ShloMosaic.TcCoe
open Cert.Kernel3Ideal.Attn Cert.Kernel3Ideal.AttnRun
open Cert.Kernel3Ideal

instance preFinite : Cert.Pre_finite_q_k.Facts where
  bitsLt_bf16_f32 := by decide
  bcast_S_S16384x2048 := by decide
  reducesTo_S16384x2048_S_d0_1 := by decide
  h_S_ := by decide
  bcast_S_S64x2048x256 := by decide
  reducesTo_S64x2048x256_S_d0_1_2 := by decide

/-- A number whose absolute value is below infinity is a real. -/
theorem real_of_lt (x : EReal) (h : (FloatOps.cmpf (F := Ideal) (φ := .f32) .olt (FloatOps.absf (F := Ideal) (φ := .f32) x) (Ideal.ofBits .f32 0x7F800000#32) : BitVec 1) = 1#1) :
    ∃ r : ℝ, x = r := by
  have e : Ideal.ofBits .f32 0x7F800000#32 = ⊤ := by simp [Ideal.ofBits, Ideal.ieee]
  rw [e] at h
  have h' : BitVec.ofBool (decide (max x (-x) < (⊤ : EReal))) = 1#1 := h
  have hlt : max x (-x) < (⊤ : EReal) := by
    by_contra hn
    rw [decide_eq_false hn] at h'
    exact absurd h' (by decide)
  induction x with
  | bot => exact absurd hlt (by simp)
  | top => exact absurd hlt (by simp)
  | coe r => exact ⟨r, rfl⟩

instance : Subsingleton Cert.Pre_finite_q_k.S_.Idx := ⟨fun _ _ => funext fun k => k.elim0⟩

/-- The precondition, read element by element. -/
theorem real_of_pre (A : Vec Ideal S16384x2048 .bf16) (K : Vec Ideal S64x2048x256 .bf16) (W : Vec Ideal S16384x1024 .bf16)
    (h : Cert.Pre_finite_q_k.fn (F := Ideal) A K W = fun _ => 1#1) : (∀ y, ∃ r : ℝ, A y = r) ∧ ∀ y, ∃ r : ℝ, K y = r := by
  have h0 := congrFun h (fun k => k.elim0)
  dsimp only [Cert.Pre_finite_q_k.fn] at h0
  obtain ⟨hA, hK⟩ := IntOp.andi_eq_one.1 h0
  exact ⟨fun y => real_of_lt _ (Host.reduce_andi_all _ _ _ _ _ hA y), fun y => real_of_lt _ (Host.reduce_andi_all _ _ _ _ _ hK y)⟩

/-- A block's masked scores are the reference's. -/
theorem full_eq (A : Vec Ideal S16384x2048 .bf16) (K : Vec Ideal S64x2048x256 .bf16) (R : Fin 16384) (C : Fin 1024) (k : Fin 4096) :
    full (qb A ⟨R.val / 1024, by have := R.isLt; omega⟩ ⟨C.val / 128, by have := C.isLt; omega⟩) (kb K ⟨R.val / 4096, by have := R.isLt; omega⟩ ⟨C.val / 128, by have := C.isLt; omega⟩)
        (R.val / 1024 % 4) (head ⟨C.val % 128, Nat.mod_lt _ (by decide)⟩) ⟨R.val % 1024, Nat.mod_lt _ (by decide)⟩ k
      = Cert.Reference3Ideal.Attn.sc A K ⟨R.val / 4096, by have := R.isLt; omega⟩ ⟨C.val / 64, by have := C.isLt; omega⟩ ⟨R.val % 4096, Nat.mod_lt _ (by decide)⟩ k := by
  have hh : (head ⟨C.val % 128, Nat.mod_lt _ (by decide)⟩).val = C.val % 128 / 64 := by
    unfold head
    by_cases h : C.val % 128 < 64
    · rw [if_pos h]; show 0 = _; omega
    · rw [if_neg h]; show 1 = _; omega
  unfold full Cert.Reference3Ideal.Attn.sc
  have hm : (k.val ≤ 1024 * (R.val / 1024 % 4) + R.val % 1024) ↔ k.val ≤ R.val % 4096 := by omega
  refine if_congr hm (Finset.sum_congr rfl fun d _ => ?_) rfl
  have hc : 256 * (C.val / 128) + (128 * (head ⟨C.val % 128, Nat.mod_lt _ (by decide)⟩).val + d.val) = C.val / 64 * 128 + d.val := by rw [hh]; omega
  have e1 : qb A ⟨R.val / 1024, by have := R.isLt; omega⟩ ⟨C.val / 128, by have := C.isLt; omega⟩ (ix2 ⟨R.val % 1024, Nat.mod_lt _ (by decide)⟩ (col (head ⟨C.val % 128, Nat.mod_lt _ (by decide)⟩) d))
      = A (ix2 (⟨R.val / 4096 * 4096 + R.val % 4096, by have := R.isLt; omega⟩ : Fin 16384) (⟨C.val / 64 * 128 + d.val, by have := C.isLt; have := d.isLt; omega⟩ : Fin 2048)) := by
    unfold qb
    refine congrArg A (congrArg₂ ix2 (Fin.ext ?_) (Fin.ext hc))
    show 1024 * (R.val / 1024) + R.val % 1024 = R.val / 4096 * 4096 + R.val % 4096
    omega
  have e2 : kb K ⟨R.val / 4096, by have := R.isLt; omega⟩ ⟨C.val / 128, by have := C.isLt; omega⟩
        (ix3 (⟨k.val / 256, by have := k.isLt; omega⟩ : Fin 16) (col (head ⟨C.val % 128, Nat.mod_lt _ (by decide)⟩) d) (⟨k.val % 256, Nat.mod_lt _ (by decide)⟩ : Fin 256))
      = K (ix3 (⟨R.val / 4096 * 16 + k.val / 256, by have := R.isLt; have := k.isLt; omega⟩ : Fin 64) (⟨C.val / 64 * 128 + d.val, by have := C.isLt; have := d.isLt; omega⟩ : Fin 2048)
          (⟨k.val % 256, Nat.mod_lt _ (by decide)⟩ : Fin 256)) := by
    unfold kb
    have a1 : (⟨16 * (R.val / 4096) + k.val / 256, by have := R.isLt; have := k.isLt; omega⟩ : Fin 64) = ⟨R.val / 4096 * 16 + k.val / 256, by have := R.isLt; have := k.isLt; omega⟩ :=
      Fin.ext (by show 16 * (R.val / 4096) + k.val / 256 = R.val / 4096 * 16 + k.val / 256; omega)
    have a2 : (⟨256 * (C.val / 128) + (128 * (head ⟨C.val % 128, Nat.mod_lt _ (by decide)⟩).val + d.val), by have := C.isLt; have := d.isLt; omega⟩ : Fin 2048)
        = ⟨C.val / 64 * 128 + d.val, by have := C.isLt; have := d.isLt; omega⟩ := Fin.ext hc
    exact congrArg K (congrArg₂ (fun a b => ix3 a b (⟨k.val % 256, Nat.mod_lt _ (by decide)⟩ : Fin 256)) a1 a2)
  exact congrArg₂ (· * ·) e1 e2

/-- Each cell of the launch's array is the reference's. -/
theorem cell_eq (A : Vec Ideal S16384x2048 .bf16) (K : Vec Ideal S64x2048x256 .bf16) (W : Vec Ideal S16384x1024 .bf16)
    (hA : ∀ y, ∃ r : ℝ, A y = r) (hK : ∀ y, ∃ r : ℝ, K y = r) (R : Fin 16384) (C : Fin 1024) :
    cell A K W R C = Cert.Reference3Ideal.Attn.res A K W (ix2 R C) := by
  rw [Cert.Reference3Ideal.Attn.res_at]
  unfold cell
  obtain ⟨ht, hb⟩ := full_real (qb A ⟨R.val / 1024, by have := R.isLt; omega⟩ ⟨C.val / 128, by have := C.isLt; omega⟩)
    (kb K ⟨R.val / 4096, by have := R.isLt; omega⟩ ⟨C.val / 128, by have := C.isLt; omega⟩) (R.val / 1024 % 4) (head ⟨C.val % 128, Nat.mod_lt _ (by decide)⟩)
    ⟨R.val % 1024, Nat.mod_lt _ (by decide)⟩ (fun y => hA _) (fun y => hK _)
  rw [outv_eq _ _ _ _ (Nat.mod_lt _ (by decide)) _ _ ht hb]
  refine congrArg₂ attn (funext fun k => full_eq A K R C k) (funext fun k => ?_)
  unfold vb
  refine congrArg W (congrArg₂ ix2 (Fin.ext ?_) (Fin.ext ?_))
  · show 4096 * (R.val / 4096) + k.val = R.val / 4096 * 4096 + k.val
    omega
  · show 128 * (C.val / 128) + C.val % 128 = C.val
    omega

/-- The reference's array is the launch's. -/
theorem agree (m : (ℓ : Loc nD τ sig) → Buf (Elt Ideal) ℓ) (c : Dev nD) (A : Vec Ideal S16384x2048 .bf16) (K : Vec Ideal S64x2048x256 .bf16) (W : Vec Ideal S16384x1024 .bf16)
    (eA : A = m ((c.tc : Thread nD τ).loc main_arg0)) (eK : K = m ((c.tc : Thread nD τ).loc main_arg1)) (eW : W = m ((c.tc : Thread nD τ).loc main_arg2))
    (h : Cert.Pre_finite_q_k.fn (F := Ideal) A K W = fun _ => 1#1) : Cert.Reference3Ideal.Attn.res A K W = Out m c := by
  obtain ⟨hA, hK⟩ := real_of_pre A K W h
  funext y
  obtain ⟨R, C, rfl⟩ : ∃ (R : Fin 16384) (C : Fin 1024), y = ix2 R C := ⟨y 0, y 1, eq_ix2 y⟩
  refine (cell_eq A K W hA hK R C).symm.trans ?_
  subst eA eK eW
  rfl

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Kernel4
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference4Ideal
public import proofs.«01_k».proof.Proof.Gen.Reference4Ideal.Run
public import proofs.«01_k».proof.Proof.OutValue
public import proofs.«01_k».proof.Proof.ProjValue
public import proofs.«01_k».proof.Proof.SguValue
public import proofs.«01_k».proof.Proof.Gen.Reference3Ideal
public import proofs.«01_k».proof.Proof.Gen.Reference3Ideal.Run
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.AttnFrame
public import proofs.«01_k».proof.Proof.AttnIdealFrame
public import proofs.«01_k».proof.Proof.AttnAgree
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run

@[expose] public section

noncomputable section

namespace Cert.Proof

open Idealize.ShloMosaic Idealize.SL.Sem

/-! ## The side conditions of the reference at the bits and of the precondition -/

instance referenceFacts₀ : Cert.Reference.Facts₀ where
  bcast_S_S2x16384 := Cert.ReferenceIdeal.Gen.bcast_S_S2x16384
  bcast_S2x16384_S2x16384x1_0_1 := Cert.ReferenceIdeal.Gen.bcast_S2x16384_S2x16384x1_0_1
  gather_S49152x512_S2x16384x1_S2x16384x512_2_0_n_n_0_2_1512_wf := Cert.ReferenceIdeal.Gen.gather_S49152x512_S2x16384x1_S2x16384x512_2_0_n_n_0_2_1512_wf
instance referenceFacts : Cert.Reference.Facts where
instance preFacts : Cert.Pre_dest_in_rows.Facts where
  bcast_S_S2x16384 := Cert.ReferenceIdeal.Gen.bcast_S_S2x16384

/-- The precondition, read element by element. -/
theorem ok_of_pre {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_dest_in_rows.fn (F := F) (m (yLoc c)) (m (dLoc c)) = fun _ => 1#1) : PreOK m :=
  fun d j => in_rows _ (congrFun (h d) j)

/-! ## The runs of the kernel and of the reference, at any float values -/

section Any

variable {F : FTy → Type} [FloatOps F] [∀ e, Nonempty (Elt F e)]

/-- The reference's run: its result the gathered rows, its arguments kept, its counters zero. -/
theorem run_reference (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v6)
          = Host.gather gD (m ((c.tc : Thread Cert.ReferenceIdeal.nD Cert.ReferenceIdeal.τ).loc Cert.ReferenceIdeal.main_arg0))
              (refIdx (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨h, Idealize.ShloMosaic.sem_eq_zero_of_no_sems (by decide) r.2⟩)
    (Cert.ReferenceIdeal.Value.run (F := F) m g)

/-- Both runs, their results equal. -/
theorem runs_agree (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (hp : PreOK m)
    (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt F) ((c.tc : Thread Cert.KernelIdeal.nD Cert.KernelIdeal.τ).loc Cert.KernelIdeal.main_v2)),
      θ_run (Cert.KernelIdeal.defs (F := F)) (Cert.KernelIdeal.threads (F := F)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine ⟨fun c => Rw m c, (θ_run Cert.KernelIdeal.defs _ _).mono (fun _ h => h.1) (run_main (F := F) m g hp),
    (θ_run Cert.ReferenceIdeal.defs _ _).mono (fun r h c => ⟨(h.1 c).1.trans ?_, (h.1 c).2⟩) (run_reference (F := F) m' g')⟩
  obtain ⟨e0, e1⟩ := ha c
  rw [e0, e1]
  exact funext fun x => (reference_at _ _ (hp c) x).trans (kernel_at (m (yLoc c)) (m (dLoc c)) _ _ x).symm

end Any

/-! ## The claims -/

theorem frame_kernel : Cert.quiescent_Kernel := fun m g hp =>
  (θ_run Cert.KernelIdeal.defs _ _).mono (fun _ h => ⟨fun c => (h.1 c).2, h.2⟩) (run_main (F := Bits) m g (ok_of_pre m hp))
theorem frame_kernelIdeal : Cert.quiescent_KernelIdeal := fun m g hp =>
  (θ_run Cert.KernelIdeal.defs _ _).mono (fun _ h => ⟨fun c => (h.1 c).2, h.2⟩) (run_main (F := Ideal) m g (ok_of_pre m hp))
theorem frame_referenceIdeal : Cert.quiescent_ReferenceIdeal := fun m g _ =>
  (θ_run Cert.ReferenceIdeal.defs _ _).mono (fun _ h => ⟨fun c => (h.1 c).2, h.2⟩) (run_reference (F := Ideal) m g)
theorem frame_referenceIdeal_pre : Cert.quiescent_ReferenceIdeal_pre_dest_in_rows := fun m g _ =>
  (θ_run Cert.ReferenceIdeal.defs _ _).mono (fun _ h => ⟨fun c => (h.1 c).2, h.2⟩) (run_reference (F := Ideal) m g)
theorem frame_reference : Cert.quiescent_Reference := fun m g _ =>
  (θ_run Cert.ReferenceIdeal.defs _ _).mono (fun _ h => ⟨fun c => (h.1 c).2, h.2⟩) (run_reference (F := Bits) m g)
theorem algebraic : Cert.algebraic_KernelIdeal_ReferenceIdeal := fun m g m' g' hp ha => runs_agree (F := Ideal) m g m' g' (ok_of_pre m hp) ha
theorem bitexact : Cert.bitexact_Kernel_Reference := fun m g m' g' hp ha => runs_agree (F := Bits) m g m' g' (ok_of_pre m hp) ha

/-! ## The gated layer's launch -/

theorem frame_kernel2 : Cert.quiescent_Kernel2 := fun m g _ => Cert.Kernel2.Gen.frame m g
theorem frame_kernel2Ideal : Cert.quiescent_Kernel2Ideal := fun m g _ => Cert.Kernel2Ideal.Gen.frame m g
theorem frame_reference2Ideal : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)
theorem algebraic2 : Cert.algebraic_Kernel2Ideal_Reference2Ideal := fun m g m' g' _ ha => by
  refine ⟨fun c => Sgu.X1 m c,
    (θ_run Cert.Kernel2Ideal.defs _ _).mono (fun r h c => ⟨(h c).1.trans (Sgu.final m c), (h c).2.2⟩) (Cert.Kernel2Ideal.Value.run_blocks m g),
    (θ_run Cert.Reference2Ideal.defs _ _).mono (fun r h c => ⟨(h c).1.trans ?_, (h c).2⟩) (Cert.Reference2Ideal.Value.run (F := Ideal) m' g')⟩
  obtain ⟨e0, e1, e2, e3, e4, e5, e6, e7, _⟩ := ha c
  exact (Sgu.rAll_eq m' c).trans (Sgu.reference_eq m c e0 e1 e2 e3 e4 e5 e6 e7)

/-! ## The attention's launch -/

theorem frame_kernel3 : Cert.quiescent_Kernel3 := fun m g _ => Cert.Kernel3.Attn.frame m g
theorem frame_kernel3Ideal : Cert.quiescent_Kernel3Ideal := fun m g _ => Cert.Kernel3Ideal.Attn.frame m g
theorem frame_reference3Ideal : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

theorem frame_kernel3Ideal_pre : Cert.quiescent_Kernel3Ideal_pre_finite_q_k := fun m g _ => Cert.Kernel3Ideal.Attn.frame m g
theorem frame_reference3Ideal_pre : Cert.quiescent_Reference3Ideal_pre_finite_q_k := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)
theorem algebraic3 : Cert.algebraic_Kernel3Ideal_Reference3Ideal_pre_finite_q_k := fun m g m' g' hp ha => by
  refine ⟨fun c => Cert.Kernel3Ideal.AttnRun.Out m c,
    (θ_run Cert.Kernel3Ideal.defs _ _).mono (fun r h c => ⟨(h c).1.trans (Cert.Kernel3Ideal.AttnRun.final m c), (h c).2⟩) (Cert.Kernel3Ideal.AttnRun.run m g),
    (θ_run Cert.Reference3Ideal.defs _ _).mono (fun r h c => ⟨(h c).1.trans ?_, (h c).2⟩) (Cert.Reference3Ideal.Value.run (F := Ideal) m' g')⟩
  obtain ⟨e0, e1, e2⟩ := ha c
  refine (Cert.Reference3Ideal.Attn.res_eq m' c).trans (Attn.agree m c _ _ _ e0 e1 e2 ?_)
  rw [e0, e1, e2]
  exact hp c

/-! ## The launch after the attention -/

theorem frame_kernel4 : Cert.quiescent_Kernel4 := fun m g _ => Cert.Kernel4.Gen.frame m g
theorem frame_kernel4Ideal : Cert.quiescent_Kernel4Ideal := fun m g _ => Cert.Kernel4Ideal.Gen.frame m g
theorem frame_reference4Ideal : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)
theorem algebraic4 : Cert.algebraic_Kernel4Ideal_Reference4Ideal := fun m g m' g' _ ha => by
  refine ⟨fun c => Out.X3 m c,
    (θ_run Cert.Kernel4Ideal.defs _ _).mono (fun r h c => ⟨(h c).1.trans (Out.final m c), (h c).2.2⟩) (Cert.Kernel4Ideal.Value.run_blocks m g),
    (θ_run Cert.Reference4Ideal.defs _ _).mono (fun r h c => ⟨(h c).1.trans ?_, (h c).2⟩) (Cert.Reference4Ideal.Value.run (F := Ideal) m' g')⟩
  obtain ⟨e0, e1, e2, e3, _⟩ := ha c
  exact Out.ref_eq m c _ _ _ _ e0 e1 e2 e3

/-! ## The projections' launch -/

theorem frame_kernel5 : Cert.quiescent_Kernel5 := fun m g _ => Cert.Kernel5.Gen.frame m g
theorem frame_kernel5Ideal : Cert.quiescent_Kernel5Ideal := fun m g _ => Cert.Kernel5Ideal.Gen.frame m g
theorem frame_reference5Ideal : Cert.quiescent_Reference5Ideal := fun m g _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m g)
theorem algebraic5 : Cert.algebraic_Kernel5Ideal_Reference5Ideal := fun m g m' g' _ ha => by
  refine ⟨fun c => Proj.XA m c, fun c => Proj.VA m c, fun c => Proj.GA m c,
    (θ_run Cert.Kernel5Ideal.defs _ _).mono (fun r h c => ⟨(h c).1.trans (Proj.finalX m c), (h c).2.2.2.1.trans (Proj.finalV m c),
      (h c).2.2.2.2.1.trans (Proj.finalG m c), (h c).2.2.2.2.2⟩) (Cert.Kernel5Ideal.Value.run_blocks m g),
    (θ_run Cert.Reference5Ideal.defs _ _).mono (fun r h c => ?_) (Proj.ref_run m' g')⟩
  obtain ⟨e0, e1, e2, e3, e4, _, _, e7, e8, _⟩ := ha c
  exact ⟨(h c).1.1.trans (Proj.refX m c e0 e1 e2), (h c).1.2.1.trans (Proj.refV m c e0 e1 e2 e3 e4),
    (h c).1.2.2.trans (Proj.refG m c e0 e1 e2 e7 e8), (h c).2⟩

theorem claim : Cert.Claim :=
  ⟨Cert.Kernel.Gen.facts, Cert.KernelIdeal.Gen.facts, Cert.ReferenceIdeal.Gen.facts, referenceFacts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, preFacts, Attn.preFinite,
    frame_kernel, frame_kernelIdeal, frame_referenceIdeal, frame_referenceIdeal_pre, frame_reference, frame_kernel2, frame_kernel2Ideal, frame_reference2Ideal,
    frame_kernel3, frame_kernel3Ideal, frame_kernel3Ideal_pre, frame_reference3Ideal, frame_reference3Ideal_pre, frame_kernel4, frame_kernel4Ideal, frame_reference4Ideal, frame_kernel5, frame_kernel5Ideal, frame_reference5Ideal, trivial, algebraic, bitexact, trivial, algebraic2, trivial, algebraic3, trivial, algebraic4, trivial, algebraic5⟩

end Cert.Proof

end
